-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mixed [hPre_mixed : Cert.Pre_mixed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mixed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mixed [hPre_mixed : Cert.Pre_mixed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mixed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_mixed [hPre_mixed : Cert.Pre_mixed.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_mixed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_mixed [hPre_mixed : Cert.Pre_mixed.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_mixed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_mixed [hKernel4Ideal : Cert.Kernel4Ideal.Facts] [hPre_mixed : Cert.Pre_mixed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mixed m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_mixed [hReference4Ideal : Cert.Reference4Ideal.Facts] [hPre_mixed : Cert.Pre_mixed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mixed m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_mixed [hKernel7Ideal : Cert.Kernel7Ideal.Facts] [hPre_mixed : Cert.Pre_mixed.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_mixed m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_mixed [hReference7Ideal : Cert.Reference7Ideal.Facts] [hPre_mixed : Cert.Pre_mixed.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_mixed m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v58) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_mixed [hKernel4Ideal : Cert.Kernel4Ideal.Facts] [hReference4Ideal : Cert.Reference4Ideal.Facts] [hPre_mixed : Cert.Pre_mixed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mixed m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_v56) = v2 c
          ∧ r.2.mem ((c.tc : Thread Cert.Reference6Ideal.nD Cert.Reference6Ideal.τ).loc Cert.Reference6Ideal.main_v58) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_mixed [hKernel7Ideal : Cert.Kernel7Ideal.Facts] [hReference7Ideal : Cert.Reference7Ideal.Facts] [hPre_mixed : Cert.Pre_mixed.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_mixed m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v26_0)) (v1 : (c : Dev Cert.Kernel7Ideal.nD) → Buf (Elt Ideal) ((c.tc : Thread Cert.Kernel7Ideal.nD Cert.Kernel7Ideal.τ).loc Cert.Kernel7Ideal.main_v26_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26_0) = v0 c
          ∧ r.2.mem ((c.tc : Thread Cert.Kernel7Ideal.nD Cert.Kernel7Ideal.τ).loc Cert.Kernel7Ideal.main_v26_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v60) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_routed : Cert.Pre_routed.Facts) (hPre_mixed : Cert.Pre_mixed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_mixed (hKernel4Ideal := hKernel4Ideal) (hPre_mixed := hPre_mixed)
    ∧ quiescent_Reference4Ideal (hReference4Ideal := hReference4Ideal)
    ∧ quiescent_Reference4Ideal_pre_mixed (hReference4Ideal := hReference4Ideal) (hPre_mixed := hPre_mixed)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_mixed (hKernel7Ideal := hKernel7Ideal) (hPre_mixed := hPre_mixed)
    ∧ quiescent_Reference7Ideal (hReference7Ideal := hReference7Ideal)
    ∧ quiescent_Reference7Ideal_pre_mixed (hReference7Ideal := hReference7Ideal) (hPre_mixed := hPre_mixed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_mixed (hKernel4Ideal := hKernel4Ideal) (hReference4Ideal := hReference4Ideal) (hPre_mixed := hPre_mixed)
    ∧ preserves_Kernel5_Kernel5Ideal
    ∧ algebraic_Kernel5Ideal_Reference5Ideal (hKernel5Ideal := hKernel5Ideal) (hReference5Ideal := hReference5Ideal) (hPre_routed := hPre_routed)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_mixed (hKernel7Ideal := hKernel7Ideal) (hReference7Ideal := hReference7Ideal) (hPre_mixed := hPre_mixed)
-- ==== Pre_finite.lean ====
abbrev S8x4096x2824 : Shape := ⟨3, ![8, 4096, 2824]⟩
abbrev S4x256 : Shape := ⟨2, ![4, 256]⟩
abbrev S256 : Shape := ⟨1, ![256]⟩
abbrev S4x64x64 : Shape := ⟨3, ![4, 64, 64]⟩
abbrev S2x4 : Shape := ⟨2, ![2, 4]⟩
abbrev S_ : Shape := ⟨0, ![]⟩

class Facts : Prop where
  bcast_S_S8x4096x2824 : S_.BroadcastsInDim S8x4096x2824 (![] : Fin 0 → Fin S8x4096x2824.rank)
  reducesTo_S8x4096x2824_S_d0_1_2 : S8x4096x2824.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_arg4 : FVec F S4x64x64 .f32) (main_arg5 : FVec F S4x64x64 .f32) (main_arg6 : FVec F S2x4 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64x64 .f32 := Host.absf main_arg5
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S2x4 .f32 := Host.absf main_arg6
  let main_cst_10 : FVec F S_ .f32 := constant S_ .f32 0x7F800000#32
  let main_v30 : FVec F S2x4 .f32 := broadcastInDim S2x4 ![] bcast_S_S2x4 main_cst_10
  let main_v31 : IVec S2x4 1 := cmpf .olt main_v29 main_v30
  let main_c_11 : IVec S_ 1 := constantI S_ 1 1#1
  let main_v32 : IVec S_ 1 := (fun x v => Host.reduce IntOp.andi x v reducesTo_S2x4_S_d0_1 h_S_) main_v31 main_c_11
  let main_v33 : IVec S_ 1 := andi main_v28 main_v32
  main_v33

def fn {F : FTy → Type} [FloatOps F] (main_arg0 : FVec F S8x4096x2824 .f32) (main_arg1 : FVec F S4x256 .f32) (main_arg2 : FVec F S256 .f32) (main_arg3 : FVec F S4x64x64 .f32) (main_arg4 : FVec F S4x64x64 .f32) (main_arg5 : FVec F S4x64x64 .f32) (main_arg6 : FVec F S2x4 .f32) : IVec S_ 1 :=
  let main_v0 : FVec F S8x4096x2824 .f32 := Host.absf main_arg0
  let main_cst : FVec F S_ .f32 := constant S_ .f32 0x7F800000#32
  let main_v1 : FVec F S8x4096x2824 .f32 := broadcastInDim S8x4096x2824 ![] bcast_S_S8x4096x2824 main_cst
  let main_v2 : IVec S8x4096x2824 1 := cmpf .olt main_v0 main_v1
  let main_c : IVec S_ 1 := constantI S_ 1 1#1
  let main_v3 : IVec S_ 1 := (fun x v => Host.reduce IntOp.andi x v reducesTo_S8x4096x2824_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x64x64 .f32 := Host.absf main_arg3
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg4 main_arg5 main_arg6 main_v13 main_v16
-- ==== Pre_mixed.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S8x6144 : Shape := ⟨2, ![8, 6144]⟩
abbrev S2x1024 : Shape := ⟨2, ![2, 1024]⟩
abbrev S2x1024x1024 : Shape := ⟨3, ![2, 1024, 1024]⟩
abbrev S1024x16 : Shape := ⟨2, ![1024, 16]⟩
abbrev S16 : Shape := ⟨1, ![16]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bitsLt_bf16_f32 : FTy.bits .bf16 < FTy.bits .f32
  bcast_S_S8x4096x384 : S_.BroadcastsInDim S8x4096x384 (![] : Fin 0 → Fin S8x4096x384.rank)
  reducesTo_S8x4096x384_S_d0_1_2 : S8x4096x384.ReducesTo [0, 1, 2] S_

variable [Facts]

def fn {F : FTy → Type} [FloatOps F] (main_arg0 : FVec F S8x4096x1024 .f32) (main_arg1 : FVec F S8x4096x256 .f32) (main_arg2 : FVec F S8x4096x384 .bf16) (main_arg3 : FVec F S8x4096x384 .bf16) (main_arg4 : FVec F S8x6144 .f32) (main_arg5 : FVec F S2x1024 .f32) (main_arg6 : FVec F S2x1024x1024 .f32) (main_arg7 : FVec F S1024x16 .f32) (main_arg8 : FVec F S16 .f32) : IVec S_ 1 :=
  let main_v0 : FVec F S8x4096x256 .f32 := Host.absf main_arg1
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x384 .f32 := (extf .f32 · bitsLt_bf16_f32) main_arg2
  let main_v5 : FVec F S8x4096x384 .f32 := Host.absf main_v4
  let main_cst_0 : FVec F S_ .f32 := constant S_ .f32 0x7F800000#32
  let main_v6 : FVec F S8x4096x384 .f32 := broadcastInDim S8x4096x384 ![] bcast_S_S8x4096x384 main_cst_0
  let main_v7 : IVec S8x4096x384 1 := cmpf .olt main_v5 main_v6
  let main_c_1 : IVec S_ 1 := constantI S_ 1 1#1
  let main_v8 : IVec S_ 1 := (fun x v => Host.reduce IntOp.andi x v reducesTo_S8x4096x384_S_d0_1_2 h_S_) main_v7 main_c_1
  let main_v9 : IVec S_ 1 := andi main_v3 main_v8
  let main_v10 : FVec F S8x4096x384 .f32 := (extf .f32 · bitsLt_bf16_f32) main_arg3
  let main_v11 : FVec F S8x4096x384 .f32 := Host.absf main_v10
  let main_cst_2 : FVec F S_ .f32 := constant S_ .f32 0x7F800000#32
  let main_v12 : FVec F S8x4096x384 .f32 := broadcastInDim S8x4096x384 ![] bcast_S_S8x4096x384 main_cst_2
  let main_v13 : IVec S8x4096x384 1 := cmpf .olt main_v11 main_v12
  let main_c_3 : IVec S_ 1 := constantI S_ 1 1#1
  let main_v14 : IVec S_ 1 := (fun x v => Host.reduce IntOp.andi x v reducesTo_S8x4096x384_S_d0_1_2 h_S_) main_v13 main_c_3
  let main_v15 : IVec S_ 1 := andi main_v9 main_v14
  main_v15
-- ==== Pre_routed.lean ====
abbrev S104448x1024 : Shape := ⟨2, ![104448, 1024]⟩
abbrev S204 : Shape := ⟨1, ![204]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S204 : S_.BroadcastsInDim S204 (![] : Fin 0 → Fin S204.rank)
  reducesTo_S204_S_d0 : S204.ReducesTo [0] S_
  h_S_ : 0 < S_.numel

variable [Facts]

def fn {F : FTy → Type} [FloatOps F] (main_arg0 : FVec F S104448x1024 .f32) (main_arg1 : IVec S204 32) (main_arg2 : IVec S204 32) (main_arg3 : FVec F S2x16x1024x512 .f32) (main_arg4 : FVec F S2x16x1024x512 .f32) (main_arg5 : FVec F S2x16x512x1024 .f32) : IVec S_ 1 :=
  let main_c : IVec S_ 32 := constantI S_ 32 0#32
  let main_v0 : IVec S204 32 := broadcastInDim S204 ![] bcast_S_S204 main_c
  let main_v1 : IVec S204 1 := cmpi .sge main_arg1 main_v0
  let main_c_0 : IVec S_ 32 := constantI S_ 32 16#32
  let main_v2 : IVec S204 32 := broadcastInDim S204 ![] bcast_S_S204 main_c_0
  let main_v3 : IVec S204 1 := cmpi .slt main_arg1 main_v2
  let main_v4 : IVec S204 1 := andi main_v1 main_v3
  let main_c_1 : IVec S_ 1 := constantI S_ 1 1#1
  let main_v5 : IVec S_ 1 := (fun x v => Host.reduce IntOp.andi x v reducesTo_S204_S_d0 h_S_) main_v4 main_c_1
  let main_c_2 : IVec S_ 32 := constantI S_ 32 0#32
  let main_v6 : IVec S204 32 := broadcastInDim S204 ![] bcast_S_S204 main_c_2
  let main_v7 : IVec S204 1 := cmpi .sge main_arg2 main_v6
  let main_c_3 : IVec S_ 32 := constantI S_ 32 2#32
  let main_v8 : IVec S204 32 := broadcastInDim S204 ![] bcast_S_S204 main_c_3
  let main_v9 : IVec S204 1 := cmpi .slt main_arg2 main_v8
  let main_v10 : IVec S204 1 := andi main_v7 main_v9
  let main_c_4 : IVec S_ 1 := constantI S_ 1 1#1
  let main_v11 : IVec S_ 1 := (fun x v => Host.reduce IntOp.andi x v reducesTo_S204_S_d0 h_S_) main_v10 main_c_4
  let main_v12 : IVec S_ 1 := andi main_v5 main_v11
  main_v12
-- ==== Kernel.lean ====
abbrev S8x4096x2824 : Shape := ⟨3, ![8, 4096, 2824]⟩
abbrev S4x256 : Shape := ⟨2, ![4, 256]⟩
abbrev S256 : Shape := ⟨1, ![256]⟩
abbrev S4x64x64 : Shape := ⟨3, ![4, 64, 64]⟩
abbrev S2x4 : Shape := ⟨2, ![2, 4]⟩
abbrev S8x4096x520 : Shape := ⟨3, ![8, 4096, 520]⟩
abbrev S_ : Shape := ⟨0, ![]⟩
abbrev S8x4096x640 : Shape := ⟨3, ![8, 4096, 640]⟩
abbrev S8x4096x8 : Shape := ⟨3, ![8, 4096, 8]⟩
abbrev S8x8x4096 : Shape := ⟨3, ![8, 8, 4096]⟩
abbrev S1x128 : Shape := ⟨2, ![1, 128]⟩
abbrev S8 : Shape := ⟨1, ![8]⟩
abbrev S1 : Shape := ⟨1, ![1]⟩
abbrev S2 : Shape := ⟨1, ![2]⟩
abbrev S8x1 : Shape := ⟨2, ![8, 1]⟩
abbrev S1x256 : Shape := ⟨2, ![1, 256]⟩
abbrev S256x256 : Shape := ⟨2, ![256, 256]⟩
abbrev S1x64x64 : Shape := ⟨3, ![1, 64, 64]⟩
abbrev S64x64 : Shape := ⟨2, ![64, 64]⟩
abbrev S8x4096x256 : Shape := ⟨3, ![8, 4096, 256]⟩
abbrev S2x128x640 : Shape := ⟨3, ![2, 128, 640]⟩
abbrev S2x8x128 : Shape := ⟨3, ![2, 8, 128]⟩
abbrev S2x128x256 : Shape := ⟨3, ![2, 128, 256]⟩
abbrev S2x256x256 : Shape := ⟨3, ![2, 256, 256]⟩
abbrev S2x1x256 : Shape := ⟨3, ![2, 1, 256]⟩
abbrev S128x256 : Shape := ⟨2, ![128, 256]⟩
abbrev S128x128 : Shape := ⟨2, ![128, 128]⟩
abbrev S1x128x640 : Shape := ⟨3, ![1, 128, 640]⟩
abbrev S128x640 : Shape := ⟨2, ![128, 640]⟩
abbrev S1x8x128 : Shape := ⟨3, ![1, 8, 128]⟩
abbrev S8x128 : Shape := ⟨2, ![8, 128]⟩
abbrev S1x128x256 : Shape := ⟨3, ![1, 128, 256]⟩
abbrev S128x1 : Shape := ⟨2, ![128, 1]⟩
abbrev S1x256x256 : Shape := ⟨3, ![1, 256, 256]⟩
abbrev S1x1x256 : Shape := ⟨3, ![1, 1, 256]⟩
abbrev S256x128 : Shape := ⟨2, ![256, 128]⟩
abbrev S1x1 : Shape := ⟨2, ![1, 1]⟩
abbrev S128 : Shape := ⟨1, ![128]⟩

abbrev nBuf : Space → Nat
  | .hbm => 133
  | .vmem => 17
  | .smem => 0
  | _ => 0

abbrev hbmTy0_0 (i : Nat) : BufTy := match i % 128 with
  | 0 => ⟨S8x4096x2824, .f32⟩
  | 1 => ⟨S4x256, .f32⟩
  | 2 => ⟨S256, .f32⟩
  | 3 => ⟨S4x64x64, .f32⟩
  | 4 => ⟨S4x64x64, .f32⟩
  | 5 => ⟨S4x64x64, .f32⟩
  | 6 => ⟨S2x4, .f32⟩
  | 7 => ⟨S8x4096x520, .f32⟩
  | 8 => ⟨S_, .i32⟩
  | 9 => ⟨S_, .f32⟩
  | 10 => ⟨S8x4096x640, .f32⟩
  | 11 => ⟨S8x4096x8, .f32⟩
  | 12 => ⟨S8x8x4096, .f32⟩
  | 13 => ⟨S_, .f32⟩
  | 14 => ⟨S1x128, .f32⟩
  | 15 => ⟨S8, .f32⟩
  | 16 => ⟨S_, .i32⟩
  | 17 => ⟨S1, .i32⟩
  | 18 => ⟨S_, .i32⟩
  | 19 => ⟨S1, .i32⟩
  | 20 => ⟨S2, .i32⟩
  | 21 => ⟨S1x128, .f32⟩
  | 22 => ⟨S8x1, .f32⟩
  | 23 => ⟨S1x256, .f32⟩
  | 24 => ⟨S_, .f32⟩
  | 25 => ⟨S256x256, .f32⟩
  | 26 => ⟨S1x64x64, .f32⟩
  | 27 => ⟨S64x64, .f32⟩
  | 28 => ⟨S_, .i32⟩
  | 29 => ⟨S1, .i32⟩
  | 30 => ⟨S_, .i32⟩
  | 31 => ⟨S1, .i32⟩
  | 32 => ⟨S2, .i32⟩
  | 33 => ⟨S256x256, .f32⟩
  | 34 => ⟨S1x64x64, .f32⟩
  | 35 => ⟨S64x64, .f32⟩
  | 36 => ⟨S_, .i32⟩
  | 37 => ⟨S1, .i32⟩
  | 38 => ⟨S_, .i32⟩
  | 39 => ⟨S1, .i32⟩
  | 40 => ⟨S2, .i32⟩
  | 41 => ⟨S256x256, .f32⟩
  | 42 => ⟨S1x64x64, .f32⟩
  | 43 => ⟨S64x64, .f32⟩
  | 44 => ⟨S_, .i32⟩
  | 45 => ⟨S1, .i32⟩
  | 46 => ⟨S_, .i32⟩
  | 47 => ⟨S1, .i32⟩
  | 48 => ⟨S2, .i32⟩
  | 49 => ⟨S256x256, .f32⟩
  | 50 => ⟨S1x64x64, .f32⟩
  | 51 => ⟨S64x64, .f32⟩
  | 52 => ⟨S_, .i32⟩
  | 53 => ⟨S1, .i32⟩
  | 54 => ⟨S_, .i32⟩
  | 55 => ⟨S1, .i32⟩
  | 56 => ⟨S2, .i32⟩
  | 57 => ⟨S256x256, .f32⟩
  | 58 => ⟨S256x256, .bf16⟩
  | 59 => ⟨S_, .f32⟩
  | 60 => ⟨S256x256, .f32⟩
  | 61 => ⟨S1x64x64, .f32⟩
  | 62 => ⟨S64x64, .f32⟩
  | 63 => ⟨S_, .i32⟩
  | 64 => ⟨S1, .i32⟩
  | 65 => ⟨S_, .i32⟩
  | 66 => ⟨S1, .i32⟩
  | 67 => ⟨S2, .i32⟩
  | 68 => ⟨S256x256, .f32⟩
  | 69 => ⟨S1x64x64, .f32⟩
  | 70 => ⟨S64x64, .f32⟩
  | 71 => ⟨S_, .i32⟩
  | 72 => ⟨S1, .i32⟩
  | 73 => ⟨S_, .i32⟩
  | 74 => ⟨S1, .i32⟩
  | 75 => ⟨S2, .i32⟩
  | 76 => ⟨S256x256, .f32⟩
  | 77 => ⟨S1x64x64, .f32⟩
  | 78 => ⟨S64x64, .f32⟩
  | 79 => ⟨S_, .i32⟩
  | 80 => ⟨S1, .i32⟩
  | 81 => ⟨S_, .i32⟩
  | 82 => ⟨S1, .i32⟩
  | 83 => ⟨S2, .i32⟩
  | 84 => ⟨S256x256, .f32⟩
  | 85 => ⟨S1x64x64, .f32⟩
  | 86 => ⟨S64x64, .f32⟩
  | 87 => ⟨S_, .i32⟩
  | 88 => ⟨S1, .i32⟩
  | 89 => ⟨S_, .i32⟩
  | 90 => ⟨S1, .i32⟩
  | 91 => ⟨S2, .i32⟩
  | 92 => ⟨S256x256, .f32⟩
  | 93 => ⟨S_, .f32⟩
  | 94 => ⟨S256x256, .f32⟩
  | 95 => ⟨S256x256, .f32⟩
  | 96 => ⟨S256x256, .bf16⟩
  | 97 => ⟨S_, .f32⟩
  | 98 => ⟨S256x256, .f32⟩
  | 99 => ⟨S1x64x64, .f32⟩
  | 100 => ⟨S64x64, .f32⟩
  | 101 => ⟨S_, .i32⟩
  | 102 => ⟨S1, .i32⟩
  | 103 => ⟨S_, .i32⟩
  | 104 => ⟨S1, .i32⟩
  | 105 => ⟨S2, .i32⟩
  | 106 => ⟨S256x256, .f32⟩
  | 107 => ⟨S1x64x64, .f32⟩
  | 108 => ⟨S64x64, .f32⟩
  | 109 => ⟨S_, .i32⟩
  | 110 => ⟨S1, .i32⟩
  | 111 => ⟨S_, .i32⟩
  | 112 => ⟨S1, .i32⟩
  | 113 => ⟨S2, .i32⟩
  | 114 => ⟨S256x256, .f32⟩
  | 115 => ⟨S1x64x64, .f32⟩
  | 116 => ⟨S64x64, .f32⟩
  | 117 => ⟨S_, .i32⟩
  | 118 => ⟨S1, .i32⟩
  | 119 => ⟨S_, .i32⟩
  | 120 => ⟨S1, .i32⟩
  | 121 => ⟨S2, .i32⟩
  | 122 => ⟨S256x256, .f32⟩
  | 123 => ⟨S1x64x64, .f32⟩
  | 124 => ⟨S64x64, .f32⟩
  | 125 => ⟨S_, .i32⟩
  | 126 => ⟨S1, .i32⟩
  | 127 => ⟨S_, .i32⟩
  | _ => ⟨S8x4096x2824, .f32⟩

abbrev hbmTy0_1 (i : Nat) : BufTy := match i % 128 with
  | 0 => ⟨S1, .i32⟩
  | 1 => ⟨S2, .i32⟩
  | 2 => ⟨S256x256, .f32⟩
  | 3 => ⟨S256x256, .bf16⟩
  | 4 => ⟨S8x4096x256, .f32⟩
  | _ => ⟨S8x4096x2824, .f32⟩

abbrev hbmTy (i : Nat) : BufTy := match i / 128 with
  | 0 => hbmTy0_0 i
  | 1 => hbmTy0_1 i
  | _ => ⟨S8x4096x2824, .f32⟩

abbrev bufTy : (tb : Table) → Fin (tcTables nBuf tb) → BufTy
  | .hbm, ⟨i, _⟩ => hbmTy i
  | .local _ .vmem, ⟨0, _⟩ => ⟨S2x128x640, .f32⟩
  | .local _ .vmem, ⟨1, _⟩ => ⟨S2x128x640, .f32⟩
  | .local _ .vmem, ⟨2, _⟩ => ⟨S2x8x128, .f32⟩
  | .local _ .vmem, ⟨3, _⟩ => ⟨S2x8x128, .f32⟩
  | .local _ .vmem, ⟨4, _⟩ => ⟨S4x256, .f32⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x128, .f32⟩
  | .local _ .vmem, ⟨10, _⟩ => ⟨S8x1, .f32⟩
  | .local _ .vmem, ⟨11, _⟩ => ⟨S2x128x256, .f32⟩
  | .local _ .vmem, ⟨12, _⟩ => ⟨S2x128x256, .f32⟩
  | .local _ .vmem, ⟨13, _⟩ => ⟨S2x128x256, .f32⟩
  | .local _ .vmem, ⟨14, _⟩ => ⟨S2x256x256, .f32⟩
  | .local _ .vmem, ⟨15, _⟩ => ⟨S2x1x256, .f32⟩
  | .local _ .vmem, ⟨16, _⟩ => ⟨S2x1x256, .f32⟩
  | _, _ => ⟨S8x4096x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_c_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_14 : Ref sig .tc := ⟨.hbm, 71, rfl⟩
abbrev main_v47 : Ref sig .tc := ⟨.hbm, 72, rfl⟩
abbrev main_c_15 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_c_17 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_18 : Ref sig .tc := ⟨.hbm, 87, rfl⟩
abbrev main_v59 : Ref sig .tc := ⟨.hbm, 88, rfl⟩
abbrev main_c_19 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_20 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_21 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_22 : Ref sig .tc := ⟨.hbm, 101, rfl⟩
abbrev main_v69 : Ref sig .tc := ⟨.hbm, 102, rfl⟩
abbrev main_c_23 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_24 : Ref sig .tc := ⟨.hbm, 109, rfl⟩
abbrev main_v75 : Ref sig .tc := ⟨.hbm, 110, rfl⟩
abbrev main_c_25 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_26 : Ref sig .tc := ⟨.hbm, 117, rfl⟩
abbrev main_v81 : Ref sig .tc := ⟨.hbm, 118, rfl⟩
abbrev main_c_27 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_28 : Ref sig .tc := ⟨.hbm, 125, rfl⟩
abbrev main_v87 : Ref sig .tc := ⟨.hbm, 126, rfl⟩
abbrev main_c_29 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x2824 : Shape := ⟨3, ![8, 4096, 2824]⟩
abbrev S4x256 : Shape := ⟨2, ![4, 256]⟩
abbrev S256 : Shape := ⟨1, ![256]⟩
abbrev S4x64x64 : Shape := ⟨3, ![4, 64, 64]⟩
abbrev S2x4 : Shape := ⟨2, ![2, 4]⟩
abbrev S8x4096x256 : Shape := ⟨3, ![8, 4096, 256]⟩
abbrev S_ : Shape := ⟨0, ![]⟩
abbrev S8x4099x256 : Shape := ⟨3, ![8, 4099, 256]⟩
abbrev S1x256 : Shape := ⟨2, ![1, 256]⟩
abbrev S1x1x256 : Shape := ⟨3, ![1, 1, 256]⟩
abbrev S8x4096x4x64 : Shape := ⟨4, ![8, 4096, 4, 64]⟩
abbrev S8x4x4096x64 : Shape := ⟨4, ![8, 4, 4096, 64]⟩
abbrev S4x64x8x4096 : Shape := ⟨4, ![4, 64, 8, 4096]⟩
abbrev S8x4096x4 : Shape := ⟨3, ![8, 4096, 4]⟩
abbrev S1x4 : Shape := ⟨2, ![1, 4]⟩
abbrev S4 : Shape := ⟨1, ![4]⟩
abbrev S1x1x4 : Shape := ⟨3, ![1, 1, 4]⟩
abbrev S8x4x4096 : Shape := ⟨3, ![8, 4, 4096]⟩
abbrev S128x128 : Shape := ⟨2, ![128, 128]⟩
abbrev S8x4x64x64 : Shape := ⟨4, ![8, 4, 64, 64]⟩
abbrev S8x4x64 : Shape := ⟨3, ![8, 4, 64]⟩
abbrev S8x4 : Shape := ⟨2, ![8, 4]⟩
abbrev S8x4x32x128x64 : Shape := ⟨5, ![8, 4, 32, 128, 64]⟩
abbrev S32x8x4x128x64 : Shape := ⟨5, ![32, 8, 4, 128, 64]⟩
abbrev S8x4x32x128 : Shape := ⟨4, ![8, 4, 32, 128]⟩
abbrev S32x8x4x128 : Shape := ⟨4, ![32, 8, 4, 128]⟩
abbrev S1x8x4x128x64 : Shape := ⟨5, ![1, 8, 4, 128, 64]⟩
abbrev S8x4x128x64 : Shape := ⟨4, ![8, 4, 128, 64]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x4x1 : Shape := ⟨3, ![8, 4, 1]⟩
abbrev S8x4x1x1 : Shape := ⟨4, ![8, 4, 1, 1]⟩

abbrev nBuf : Space → Nat
  | .hbm => 261
  | .vmem => 0
  | .smem => 0
  | _ => 0

abbrev hbmTy0_0 (i : Nat) : BufTy := match i % 128 with
  | 0 => ⟨S8x4096x2824, .f32⟩
  | 1 => ⟨S4x256, .f32⟩
  | 2 => ⟨S256, .f32⟩
  | 3 => ⟨S4x64x64, .f32⟩
  | 4 => ⟨S4x64x64, .f32⟩
  | 5 => ⟨S4x64x64, .f32⟩
  | 6 => ⟨S2x4, .f32⟩
  | 7 => ⟨S8x4096x256, .f32⟩
  | 8 => ⟨S_, .i32⟩
  | 9 => ⟨S_, .f32⟩
  | 10 => ⟨S8x4099x256, .f32⟩
  | 11 => ⟨S8x4096x256, .f32⟩
  | 12 => ⟨S1x256, .f32⟩
  | 13 => ⟨S256, .f32⟩
  | 14 => ⟨S1x1x256, .f32⟩
  | 15 => ⟨S8x4096x256, .f32⟩
  | 16 => ⟨S8x4096x256, .f32⟩
  | 17 => ⟨S_, .f32⟩
  | 18 => ⟨S8x4096x256, .f32⟩
  | 19 => ⟨S8x4096x256, .f32⟩
  | 20 => ⟨S8x4096x256, .f32⟩
  | 21 => ⟨S1x256, .f32⟩
  | 22 => ⟨S256, .f32⟩
  | 23 => ⟨S1x1x256, .f32⟩
  | 24 => ⟨S8x4096x256, .f32⟩
  | 25 => ⟨S8x4096x256, .f32⟩
  | 26 => ⟨S8x4096x256, .f32⟩
  | 27 => ⟨S8x4096x256, .f32⟩
  | 28 => ⟨S1x256, .f32⟩
  | 29 => ⟨S256, .f32⟩
  | 30 => ⟨S1x1x256, .f32⟩
  | 31 => ⟨S8x4096x256, .f32⟩
  | 32 => ⟨S8x4096x256, .f32⟩
  | 33 => ⟨S8x4096x256, .f32⟩
  | 34 => ⟨S8x4096x256, .f32⟩
  | 35 => ⟨S1x256, .f32⟩
  | 36 => ⟨S256, .f32⟩
  | 37 => ⟨S1x1x256, .f32⟩
  | 38 => ⟨S8x4096x256, .f32⟩
  | 39 => ⟨S8x4096x256, .f32⟩
  | 40 => ⟨S8x4096x256, .f32⟩
  | 41 => ⟨S1x1x256, .f32⟩
  | 42 => ⟨S8x4096x256, .f32⟩
  | 43 => ⟨S8x4096x256, .f32⟩
  | 44 => ⟨S8x4096x256, .f32⟩
  | 45 => ⟨S8x4096x256, .f32⟩
  | 46 => ⟨S_, .f32⟩
  | 47 => ⟨S8x4096x256, .f32⟩
  | 48 => ⟨S8x4096x256, .f32⟩
  | 49 => ⟨S_, .f32⟩
  | 50 => ⟨S8x4096x256, .f32⟩
  | 51 => ⟨S8x4096x256, .f32⟩
  | 52 => ⟨S8x4096x256, .f32⟩
  | 53 => ⟨S8x4096x4x64, .f32⟩
  | 54 => ⟨S8x4x4096x64, .f32⟩
  | 55 => ⟨S4x64x8x4096, .f32⟩
  | 56 => ⟨S8x4x4096x64, .f32⟩
  | 57 => ⟨S4x64x8x4096, .f32⟩
  | 58 => ⟨S8x4x4096x64, .f32⟩
  | 59 => ⟨S_, .f32⟩
  | 60 => ⟨S8x4x4096x64, .f32⟩
  | 61 => ⟨S8x4x4096x64, .f32⟩
  | 62 => ⟨S8x4096x4x64, .f32⟩
  | 63 => ⟨S8x4x4096x64, .f32⟩
  | 64 => ⟨S4x64x8x4096, .f32⟩
  | 65 => ⟨S8x4x4096x64, .f32⟩
  | 66 => ⟨S8x4096x4, .f32⟩
  | 67 => ⟨S1x4, .f32⟩
  | 68 => ⟨S4, .f32⟩
  | 69 => ⟨S1x1x4, .f32⟩
  | 70 => ⟨S8x4096x4, .f32⟩
  | 71 => ⟨S8x4096x4, .f32⟩
  | 72 => ⟨S8x4x4096, .f32⟩
  | 73 => ⟨S8x4096x4, .f32⟩
  | 74 => ⟨S1x4, .f32⟩
  | 75 => ⟨S4, .f32⟩
  | 76 => ⟨S1x1x4, .f32⟩
  | 77 => ⟨S8x4096x4, .f32⟩
  | 78 => ⟨S8x4096x4, .f32⟩
  | 79 => ⟨S8x4096x4, .f32⟩
  | 80 => ⟨S_, .f32⟩
  | 81 => ⟨S8x4096x4, .f32⟩
  | 82 => ⟨S8x4096x4, .f32⟩
  | 83 => ⟨S8x4096x4, .f32⟩
  | 84 => ⟨S8x4096x4, .f32⟩
  | 85 => ⟨S8x4096x4, .i1⟩
  | 86 => ⟨S8x4096x4, .f32⟩
  | 87 => ⟨S8x4096x4, .f32⟩
  | 88 => ⟨S8x4096x4, .f32⟩
  | 89 => ⟨S8x4096x4, .f32⟩
  | 90 => ⟨S8x4096x4, .f32⟩
  | 91 => ⟨S8x4096x4, .f32⟩
  | 92 => ⟨S8x4096x4, .f32⟩
  | 93 => ⟨S8x4096x4, .f32⟩
  | 94 => ⟨S8x4096x4, .f32⟩
  | 95 => ⟨S8x4x4096, .f32⟩
  | 96 => ⟨S128x128, .i32⟩
  | 97 => ⟨S128x128, .i32⟩
  | 98 => ⟨S128x128, .i1⟩
  | 99 => ⟨S_, .f32⟩
  | 100 => ⟨S8x4x64x64, .f32⟩
  | 101 => ⟨S_, .f32⟩
  | 102 => ⟨S8x4x64, .f32⟩
  | 103 => ⟨S_, .f32⟩
  | 104 => ⟨S8x4, .f32⟩
  | 105 => ⟨S8x4x32x128x64, .f32⟩
  | 106 => ⟨S32x8x4x128x64, .f32⟩
  | 107 => ⟨S8x4x32x128x64, .f32⟩
  | 108 => ⟨S32x8x4x128x64, .f32⟩
  | 109 => ⟨S8x4x32x128x64, .f32⟩
  | 110 => ⟨S32x8x4x128x64, .f32⟩
  | 111 => ⟨S8x4x32x128, .f32⟩
  | 112 => ⟨S32x8x4x128, .f32⟩
  | 113 => ⟨S8x4x32x128, .f32⟩
  | 114 => ⟨S32x8x4x128, .f32⟩
  | 115 => ⟨S_, .f32⟩
  | 116 => ⟨S32x8x4x128x64, .f32⟩
  | 117 => ⟨S_, .i32⟩
  | 118 => ⟨S32x8x4x128x64, .f32⟩
  | 119 => ⟨S32x8x4x128x64, .f32⟩
  | 120 => ⟨S32x8x4x128x64, .f32⟩
  | 121 => ⟨S32x8x4x128, .f32⟩
  | 122 => ⟨S32x8x4x128, .f32⟩
  | 123 => ⟨S128x128, .i1⟩
  | 124 => ⟨S_, .i32⟩
  | 125 => ⟨S8x4x64x64, .f32⟩
  | 126 => ⟨S8x4x64, .f32⟩
  | 127 => ⟨S8x4, .f32⟩
  | _ => ⟨S8x4096x2824, .f32⟩

abbrev hbmTy0_1 (i : Nat) : BufTy := match i % 128 with
  | 0 => ⟨S32x8x4x128x64, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S1x8x4x128x64, .f32⟩
  | 8 => ⟨S8x4x128x64, .f32⟩
  | 9 => ⟨S_, .i32⟩
  | 10 => ⟨S_, .i32⟩
  | 11 => ⟨S_, .i32⟩
  | 12 => ⟨S_, .i32⟩
  | 13 => ⟨S1x8x4x128x64, .f32⟩
  | 14 => ⟨S8x4x128x64, .f32⟩
  | 15 => ⟨S_, .i32⟩
  | 16 => ⟨S_, .i32⟩
  | 17 => ⟨S_, .i32⟩
  | 18 => ⟨S_, .i32⟩
  | 19 => ⟨S1x8x4x128x64, .f32⟩
  | 20 => ⟨S8x4x128x64, .f32⟩
  | 21 => ⟨S_, .i32⟩
  | 22 => ⟨S_, .i32⟩
  | 23 => ⟨S_, .i32⟩
  | 24 => ⟨S1x8x4x128, .f32⟩
  | 25 => ⟨S8x4x128, .f32⟩
  | 26 => ⟨S_, .i32⟩
  | 27 => ⟨S_, .i32⟩
  | 28 => ⟨S_, .i32⟩
  | 29 => ⟨S1x8x4x128, .f32⟩
  | 30 => ⟨S8x4x128, .f32⟩
  | 31 => ⟨S_, .f32⟩
  | 32 => ⟨S_, .f32⟩
  | 33 => ⟨S8x4x128, .f32⟩
  | 34 => ⟨S8x4x128x1, .f32⟩
  | 35 => ⟨S8x4x1x128, .f32⟩
  | 36 => ⟨S8x4x128x128, .f32⟩
  | 37 => ⟨S8x4x128x128, .f32⟩
  | 38 => ⟨S8x4x128x128, .f32⟩
  | 39 => ⟨S8x4x1x128, .f32⟩
  | 40 => ⟨S8x4x128x128, .f32⟩
  | 41 => ⟨S8x4x128x128, .f32⟩
  | 42 => ⟨S_, .f32⟩
  | 43 => ⟨S_, .f32⟩
  | 44 => ⟨S8x4x128x128, .i1⟩
  | 45 => ⟨S8x4x128x128, .f32⟩
  | 46 => ⟨S8x4x128x128, .f32⟩
  | 47 => ⟨S8x4x1, .f32⟩
  | 48 => ⟨S8x4x128, .f32⟩
  | 49 => ⟨S8x4x128, .f32⟩
  | 50 => ⟨S_, .f32⟩
  | 51 => ⟨S8x4x128, .f32⟩
  | 52 => ⟨S8x4x128, .f32⟩
  | 53 => ⟨S8x4x128x1, .f32⟩
  | 54 => ⟨S8x4x128x128, .f32⟩
  | 55 => ⟨S8x4x128x128, .f32⟩
  | 56 => ⟨S8x4x128x128, .f32⟩
  | 57 => ⟨S8x4x128, .f32⟩
  | 58 => ⟨S8x4x128, .f32⟩
  | 59 => ⟨S8x4x128x128, .f32⟩
  | 60 => ⟨S8x4x128x128, .f32⟩
  | 61 => ⟨S8x4x128x1, .f32⟩
  | 62 => ⟨S8x4x128x64, .f32⟩
  | 63 => ⟨S8x4x128x64, .f32⟩
  | 64 => ⟨S8x4x128x64, .f32⟩
  | 65 => ⟨S8x4x128x64, .f32⟩
  | 66 => ⟨S8x4x128x64, .f32⟩
  | 67 => ⟨S8x4x128, .f32⟩
  | 68 => ⟨S8x4x128, .f32⟩
  | 69 => ⟨S_, .f32⟩
  | 70 => ⟨S8x4x128, .f32⟩
  | 71 => ⟨S8x4x128, .f32⟩
  | 72 => ⟨S8x4x128, .f32⟩
  | 73 => ⟨S8x4x128, .f32⟩
  | 74 => ⟨S8x4x128, .f32⟩
  | 75 => ⟨S8x4x128, .f32⟩
  | 76 => ⟨S8x4x128x1, .f32⟩
  | 77 => ⟨S8x4x128x64, .f32⟩
  | 78 => ⟨S8x4x128x64, .f32⟩
  | 79 => ⟨S8x4x1, .f32⟩
  | 80 => ⟨S8x4, .f32⟩
  | 81 => ⟨S8x4x1, .f32⟩
  | 82 => ⟨S8x4x128, .f32⟩
  | 83 => ⟨S8x4x128, .f32⟩
  | 84 => ⟨S8x4x128, .f32⟩
  | 85 => ⟨S8x4, .f32⟩
  | 86 => ⟨S_, .f32⟩
  | 87 => ⟨S8x4, .f32⟩
  | 88 => ⟨S8x4, .f32⟩
  | 89 => ⟨S8x4x1, .f32⟩
  | 90 => ⟨S8x4x128, .f32⟩
  | 91 => ⟨S8x4x128, .f32⟩
  | 92 => ⟨S8x4x128, .f32⟩
  | 93 => ⟨S8x4, .f32⟩
  | 94 => ⟨S8x4, .f32⟩
  | 95 => ⟨S8x4, .f32⟩
  | 96 => ⟨S8x4x1x1, .f32⟩
  | 97 => ⟨S8x4x64x64, .f32⟩
  | 98 => ⟨S8x4x64x64, .f32⟩
  | 99 => ⟨S8x4x128x1, .f32⟩
  | 100 => ⟨S8x4x128x64, .f32⟩
  | 101 => ⟨S8x4x128x64, .f32⟩
  | 102 => ⟨S8x4x64x64, .f32⟩
  | 103 => ⟨S8x4x64x64, .f32⟩
  | 104 => ⟨S8x4x1, .f32⟩
  | 105 => ⟨S8x4x64, .f32⟩
  | 106 => ⟨S8x4x64, .f32⟩
  | 107 => ⟨S8x4x64, .f32⟩
  | 108 => ⟨S8x4x64, .f32⟩
  | 109 => ⟨S1x8x4x128x64, .f32⟩
  | 110 => ⟨S_, .i32⟩
  | 111 => ⟨S_, .i32⟩
  | 112 => ⟨S_, .i32⟩
  | 113 => ⟨S_, .i32⟩
  | 114 => ⟨S32x8x4x128x64, .f32⟩
  | 115 => ⟨S_, .i32⟩
  | 116 => ⟨S_, .i32⟩
  | 117 => ⟨S8x4x32x128x64, .f32⟩
  | 118 => ⟨S8x4x4096x64, .f32⟩
  | 119 => ⟨S8x4096x256, .f32⟩
  | 120 => ⟨S8x4096x4x64, .f32⟩
  | 121 => ⟨S8x4x4096x64, .f32⟩
  | 122 => ⟨S8x4x4096x64, .f32⟩
  | 123 => ⟨S8x4x4096x64, .f32⟩
  | 124 => ⟨S_, .f32⟩
  | 125 => ⟨S8x4x4096x64, .f32⟩
  | 126 => ⟨S8x4x4096x64, .f32⟩
  | 127 => ⟨S_, .f32⟩
  | _ => ⟨S8x4096x2824, .f32⟩

abbrev hbmTy0_2 (i : Nat) : BufTy := match i % 128 with
  | 0 => ⟨S8x4x4096x64, .f32⟩
  | 1 => ⟨S8x4x4096x64, .f32⟩
  | 2 => ⟨S8x4x4096x64, .f32⟩
  | 3 => ⟨S8x4096x4x64, .f32⟩
  | 4 => ⟨S8x4096x256, .f32⟩
  | _ => ⟨S8x4096x2824, .f32⟩

abbrev hbmTy (i : Nat) : BufTy := match i / 128 with
  | 0 => hbmTy0_0 i
  | 1 => hbmTy0_1 i
  | 2 => hbmTy0_2 i
  | _ => ⟨S8x4096x2824, .f32⟩

abbrev bufTy : (tb : Table) → Fin (tcTables nBuf tb) → BufTy
  | .hbm, ⟨i, _⟩ => hbmTy i
  | _, _ => ⟨S8x4096x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call2_v0 : Ref sig .tc := ⟨.hbm, 79, rfl⟩
abbrev main_call2_call0_cst : Ref sig .tc := ⟨.hbm, 80, rfl⟩
abbrev main_call2_call0_v0 : Ref sig .tc := ⟨.hbm, 81, rfl⟩
abbrev main_call2_call0_v1 : Ref sig .tc := ⟨.hbm, 82, rfl⟩
abbrev main_call2_call0_v2 : Ref sig .tc := ⟨.hbm, 83, rfl⟩
abbrev main_call2_call0_v3 : Ref sig .tc := ⟨.hbm, 84, rfl⟩
abbrev main_call2_call0_v4 : Ref sig .tc := ⟨.hbm, 85, rfl⟩
abbrev main_call2_call0_v5 : Ref sig .tc := ⟨.hbm, 86, rfl⟩
abbrev main_call2_call0_v6 : Ref sig .tc := ⟨.hbm, 87, rfl⟩
abbrev main_call2_call0_v7 : Ref sig .tc := ⟨.hbm, 88, rfl⟩
abbrev main_call2_call0_v8 : Ref sig .tc := ⟨.hbm, 89, rfl⟩
abbrev main_call2_call0_v9 : Ref sig .tc := ⟨.hbm, 90, rfl⟩
abbrev main_call2_call0_v10 : Ref sig .tc := ⟨.hbm, 91, rfl⟩
abbrev main_call2_call0_v11 : Ref sig .tc := ⟨.hbm, 92, rfl⟩
abbrev main_call2_v1 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_1 : Ref sig .tc := ⟨.hbm, 99, rfl⟩
abbrev main_v65 : Ref sig .tc := ⟨.hbm, 100, rfl⟩
abbrev main_cst_2 : Ref sig .tc := ⟨.hbm, 101, rfl⟩
abbrev main_v66 : Ref sig .tc := ⟨.hbm, 102, rfl⟩
abbrev main_cst_3 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_4 : Ref sig .tc := ⟨.hbm, 115, rfl⟩
abbrev main_v78 : Ref sig .tc := ⟨.hbm, 116, rfl⟩
abbrev main_c_5 : Ref sig .tc := ⟨.hbm, 117, rfl⟩
abbrev main_v79_0 : Ref sig .tc := ⟨.hbm, 118, rfl⟩
abbrev main_v79_1 : Ref sig .tc := ⟨.hbm, 119, rfl⟩
abbrev main_v79_2 : Ref sig .tc := ⟨.hbm, 120, rfl⟩
abbrev main_v79_3 : Ref sig .tc := ⟨.hbm, 121, rfl⟩
abbrev main_v79_4 : Ref sig .tc := ⟨.hbm, 122, rfl⟩
abbrev main_v79_5 : Ref sig .tc := ⟨.hbm, 123, rfl⟩
abbrev main_v79_6 : Ref sig .tc := ⟨.hbm, 124, rfl⟩
abbrev main_v79_7 : Ref sig .tc := ⟨.hbm, 125, rfl⟩
abbrev main_v79_8 : Ref sig .tc := ⟨.hbm, 126, rfl⟩
abbrev main_v79_9 : Ref sig .tc := ⟨.hbm, 127, rfl⟩
abbrev main_v79_10 : Ref sig .tc := ⟨.hbm, 128, rfl⟩
abbrev main_while0c_c_18 : Ref sig .tc := ⟨.hbm, 129, rfl⟩
abbrev main_while0c_v94 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_c_1 : Ref sig .tc := ⟨.hbm, 133, rfl⟩
abbrev main_while0b_call3_c_2 : Ref sig .tc := ⟨.hbm, 134, rfl⟩
abbrev main_while0b_call3_v0 : Ref sig .tc := ⟨.hbm, 135, rfl⟩
abbrev main_while0b_v94 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_call4_c_1 : Ref sig .tc := ⟨.hbm, 139, rfl⟩
abbrev main_while0b_call4_c_2 : Ref sig .tc := ⟨.hbm, 140, rfl⟩
abbrev main_while0b_call4_v0 : Ref sig .tc := ⟨.hbm, 141, rfl⟩
abbrev main_while0b_v95 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_c_2 : Ref sig .tc := ⟨.hbm, 146, rfl⟩
abbrev main_while0b_call5_v0 : Ref sig .tc := ⟨.hbm, 147, rfl⟩
abbrev main_while0b_v96 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_c_1 : Ref sig .tc := ⟨.hbm, 151, rfl⟩
abbrev main_while0b_call6_v0 : Ref sig .tc := ⟨.hbm, 152, rfl⟩
abbrev main_while0b_v97 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_c_1 : Ref sig .tc := ⟨.hbm, 156, rfl⟩
abbrev main_while0b_call7_v0 : Ref sig .tc := ⟨.hbm, 157, rfl⟩
abbrev main_while0b_v98 : Ref sig .tc := ⟨.hbm, 158, rfl⟩
abbrev main_while0b_call8_call0_cst : Ref sig .tc := ⟨.hbm, 159, rfl⟩
abbrev main_while0b_call8_call0_v0 : Ref sig .tc := ⟨.hbm, 160, rfl⟩
abbrev main_while0b_v99 : Ref sig .tc := ⟨.hbm, 161, rfl⟩
abbrev main_while0b_v100 : Ref sig .tc := ⟨.hbm, 162, rfl⟩
abbrev main_while0b_v101 : Ref sig .tc := ⟨.hbm, 163, rfl⟩
abbrev main_while0b_v102 : Ref sig .tc := ⟨.hbm, 164, rfl⟩
abbrev main_while0b_v103 : Ref sig .tc := ⟨.hbm, 165, rfl⟩
abbrev main_while0b_v104 : Ref sig .tc := ⟨.hbm, 166, rfl⟩
abbrev main_while0b_v105 : Ref sig .tc := ⟨.hbm, 167, rfl⟩
abbrev main_while0b_v106 : Ref sig .tc := ⟨.hbm, 168, rfl⟩
abbrev main_while0b_v107 : Ref sig .tc := ⟨.hbm, 169, rfl⟩
abbrev main_while0b_cst_18 : Ref sig .tc := ⟨.hbm, 170, rfl⟩
abbrev main_while0b_call9_v0 : Ref sig .tc := ⟨.hbm, 171, rfl⟩
abbrev main_while0b_call9_v1 : Ref sig .tc := ⟨.hbm, 172, rfl⟩
abbrev main_while0b_call9_v2 : Ref sig .tc := ⟨.hbm, 173, rfl⟩
abbrev main_while0b_v108 : Ref sig .tc := ⟨.hbm, 174, rfl⟩
abbrev main_while0b_v109 : Ref sig .tc := ⟨.hbm, 175, rfl⟩
abbrev main_while0b_v110 : Ref sig .tc := ⟨.hbm, 176, rfl⟩
abbrev main_while0b_v111 : Ref sig .tc := ⟨.hbm, 177, rfl⟩
abbrev main_while0b_cst_19 : Ref sig .tc := ⟨.hbm, 178, rfl⟩
abbrev main_while0b_v112 : Ref sig .tc := ⟨.hbm, 179, rfl⟩
abbrev main_while0b_v113 : Ref sig .tc := ⟨.hbm, 180, rfl⟩
abbrev main_while0b_v114 : Ref sig .tc := ⟨.hbm, 181, rfl⟩
abbrev main_while0b_v115 : Ref sig .tc := ⟨.hbm, 182, rfl⟩
abbrev main_while0b_v116 : Ref sig .tc := ⟨.hbm, 183, rfl⟩
abbrev main_while0b_v117 : Ref sig .tc := ⟨.hbm, 184, rfl⟩
abbrev main_while0b_v118 : Ref sig .tc := ⟨.hbm, 185, rfl⟩
abbrev main_while0b_v119 : Ref sig .tc := ⟨.hbm, 186, rfl⟩
abbrev main_while0b_v120 : Ref sig .tc := ⟨.hbm, 187, rfl⟩
abbrev main_while0b_v121 : Ref sig .tc := ⟨.hbm, 188, rfl⟩
abbrev main_while0b_v122 : Ref sig .tc := ⟨.hbm, 189, rfl⟩
abbrev main_while0b_v123 : Ref sig .tc := ⟨.hbm, 190, rfl⟩
abbrev main_while0b_v124 : Ref sig .tc := ⟨.hbm, 191, rfl⟩
abbrev main_while0b_v125 : Ref sig .tc := ⟨.hbm, 192, rfl⟩
abbrev main_while0b_v126 : Ref sig .tc := ⟨.hbm, 193, rfl⟩
abbrev main_while0b_v127 : Ref sig .tc := ⟨.hbm, 194, rfl⟩
abbrev main_while0b_v128 : Ref sig .tc := ⟨.hbm, 195, rfl⟩
abbrev main_while0b_v129 : Ref sig .tc := ⟨.hbm, 196, rfl⟩
abbrev main_while0b_cst_20 : Ref sig .tc := ⟨.hbm, 197, rfl⟩
abbrev main_while0b_v130 : Ref sig .tc := ⟨.hbm, 198, rfl⟩
abbrev main_while0b_v131 : Ref sig .tc := ⟨.hbm, 199, rfl⟩
abbrev main_while0b_v132 : Ref sig .tc := ⟨.hbm, 200, rfl⟩
abbrev main_while0b_v133 : Ref sig .tc := ⟨.hbm, 201, rfl⟩
abbrev main_while0b_v134 : Ref sig .tc := ⟨.hbm, 202, rfl⟩
abbrev main_while0b_v135 : Ref sig .tc := ⟨.hbm, 203, rfl⟩
abbrev main_while0b_v136 : Ref sig .tc := ⟨.hbm, 204, rfl⟩
abbrev main_while0b_v137 : Ref sig .tc := ⟨.hbm, 205, rfl⟩
abbrev main_while0b_v138 : Ref sig .tc := ⟨.hbm, 206, rfl⟩
abbrev main_while0b_v139 : Ref sig .tc := ⟨.hbm, 207, rfl⟩
abbrev main_while0b_v140 : Ref sig .tc := ⟨.hbm, 208, rfl⟩
abbrev main_while0b_v141 : Ref sig .tc := ⟨.hbm, 209, rfl⟩
abbrev main_while0b_v142 : Ref sig .tc := ⟨.hbm, 210, rfl⟩
abbrev main_while0b_v143 : Ref sig .tc := ⟨.hbm, 211, rfl⟩
abbrev main_while0b_v144 : Ref sig .tc := ⟨.hbm, 212, rfl⟩
abbrev main_while0b_v145 : Ref sig .tc := ⟨.hbm, 213, rfl⟩
abbrev main_while0b_cst_21 : Ref sig .tc := ⟨.hbm, 214, rfl⟩
abbrev main_while0b_v146 : Ref sig .tc := ⟨.hbm, 215, rfl⟩
abbrev main_while0b_v147 : Ref sig .tc := ⟨.hbm, 216, rfl⟩
abbrev main_while0b_v148 : Ref sig .tc := ⟨.hbm, 217, rfl⟩
abbrev main_while0b_v149 : Ref sig .tc := ⟨.hbm, 218, rfl⟩
abbrev main_while0b_v150 : Ref sig .tc := ⟨.hbm, 219, rfl⟩
abbrev main_while0b_v151 : Ref sig .tc := ⟨.hbm, 220, rfl⟩
abbrev main_while0b_v152 : Ref sig .tc := ⟨.hbm, 221, rfl⟩
abbrev main_while0b_v153 : Ref sig .tc := ⟨.hbm, 222, rfl⟩
abbrev main_while0b_v154 : Ref sig .tc := ⟨.hbm, 223, rfl⟩
abbrev main_while0b_v155 : Ref sig .tc := ⟨.hbm, 224, rfl⟩
abbrev main_while0b_v156 : Ref sig .tc := ⟨.hbm, 225, rfl⟩
abbrev main_while0b_v157 : Ref sig .tc := ⟨.hbm, 226, rfl⟩
abbrev main_while0b_v158 : Ref sig .tc := ⟨.hbm, 227, rfl⟩
abbrev main_while0b_v159 : Ref sig .tc := ⟨.hbm, 228, rfl⟩
abbrev main_while0b_v160 : Ref sig .tc := ⟨.hbm, 229, rfl⟩
abbrev main_while0b_v161 : Ref sig .tc := ⟨.hbm, 230, rfl⟩
abbrev main_while0b_v162 : Ref sig .tc := ⟨.hbm, 231, rfl⟩
abbrev main_while0b_v163 : Ref sig .tc := ⟨.hbm, 232, rfl⟩
abbrev main_while0b_v164 : Ref sig .tc := ⟨.hbm, 233, rfl⟩
abbrev main_while0b_v165 : Ref sig .tc := ⟨.hbm, 234, rfl⟩
abbrev main_while0b_v166 : Ref sig .tc := ⟨.hbm, 235, rfl⟩
abbrev main_while0b_v167 : Ref sig .tc := ⟨.hbm, 236, rfl⟩
abbrev main_while0b_call10_v0 : Ref sig .tc := ⟨.hbm, 237, rfl⟩
abbrev main_while0b_call10_c : Ref sig .tc := ⟨.hbm, 238, rfl⟩
abbrev main_while0b_call10_c_0 : Ref sig .tc := ⟨.hbm, 239, rfl⟩
abbrev main_while0b_call10_c_1 : Ref sig .tc := ⟨.hbm, 240, rfl⟩
abbrev main_while0b_call10_c_2 : Ref sig .tc := ⟨.hbm, 241, rfl⟩
abbrev main_while0b_v168 : Ref sig .tc := ⟨.hbm, 242, rfl⟩
abbrev main_while0b_c_22 : Ref sig .tc := ⟨.hbm, 243, rfl⟩
abbrev main_while0b_v169 : Ref sig .tc := ⟨.hbm, 244, rfl⟩
abbrev main_v80 : Ref sig .tc := ⟨.hbm, 245, rfl⟩
abbrev main_v81 : Ref sig .tc := ⟨.hbm, 246, rfl⟩
abbrev main_v82 : Ref sig .tc := ⟨.hbm, 247, rfl⟩
abbrev main_v83 : Ref sig .tc := ⟨.hbm, 248, rfl⟩
abbrev main_v84 : Ref sig .tc := ⟨.hbm, 249, rfl⟩
abbrev main_v85 : Ref sig .tc := ⟨.hbm, 250, rfl⟩
abbrev main_v86 : Ref sig .tc := ⟨.hbm, 251, rfl⟩
abbrev main_cst_6 : Ref sig .tc := ⟨.hbm, 252, rfl⟩
abbrev main_v87 : Ref sig .tc := ⟨.hbm, 253, rfl⟩
abbrev main_v88 : Ref sig .tc := ⟨.hbm, 254, rfl⟩
abbrev main_cst_7 : Ref sig .tc := ⟨.hbm, 255, rfl⟩
abbrev main_v89 : Ref sig .tc := ⟨.hbm, 256, rfl⟩
abbrev main_v90 : Ref sig .tc := ⟨.hbm, 257, rfl⟩
abbrev main_v91 : Ref sig .tc := ⟨.hbm, 258, rfl⟩
abbrev main_v92 : Ref sig .tc := ⟨.hbm, 259, rfl⟩
abbrev main_v93 : Ref sig .tc := ⟨.hbm, 260, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S104448x1024 : Shape := ⟨2, ![104448, 1024]⟩
abbrev S204 : Shape := ⟨1, ![204]⟩
abbrev S2x16x1024x512 : Shape := ⟨4, ![2, 16, 1024, 512]⟩
abbrev S2x16x512x1024 : Shape := ⟨4, ![2, 16, 512, 1024]⟩
abbrev S512x1024 : Shape := ⟨2, ![512, 1024]⟩
abbrev S1 : Shape := ⟨1, ![1]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 10
  | .smem => 2
  | _ => 0

abbrev bufTy : (tb : Table) → Fin (tcTables nBuf tb) → BufTy
  | .hbm, ⟨0, _⟩ => ⟨S104448x1024, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S104448x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .smem, ⟨0, _⟩ => ⟨S204, .i32⟩
  | .local _ .smem, ⟨1, _⟩ => ⟨S204, .i32⟩
  | _, _ => ⟨S104448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![204], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S204.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S204) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S204.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S204) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S204.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S204) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S204.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S204) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S104448x1024 : Shape := ⟨2, ![104448, 1024]⟩
abbrev S204 : Shape := ⟨1, ![204]⟩
abbrev S2x16x1024x512 : Shape := ⟨4, ![2, 16, 1024, 512]⟩
abbrev S2x16x512x1024 : Shape := ⟨4, ![2, 16, 512, 1024]⟩
abbrev S204x1 : Shape := ⟨2, ![204, 1]⟩
abbrev S_ : Shape := ⟨0, ![]⟩
abbrev S1x16 : Shape := ⟨2, ![1, 16]⟩
abbrev S204x16 : Shape := ⟨2, ![204, 16]⟩
abbrev S204x1x16 : Shape := ⟨3, ![204, 1, 16]⟩
abbrev S204x512x16 : Shape := ⟨3, ![204, 512, 16]⟩
abbrev S104448x16 : Shape := ⟨2, ![104448, 16]⟩
abbrev S1x16x1024x512 : Shape := ⟨4, ![1, 16, 1024, 512]⟩
abbrev S16x1024x512 : Shape := ⟨3, ![16, 1024, 512]⟩
abbrev S16x512x104448 : Shape := ⟨3, ![16, 512, 104448]⟩
abbrev S16x104448x512 : Shape := ⟨3, ![16, 104448, 512]⟩
abbrev S1x16x512x1024 : Shape := ⟨4, ![1, 16, 512, 1024]⟩
abbrev S16x512x1024 : Shape := ⟨3, ![16, 512, 1024]⟩
abbrev S16x104448x1024 : Shape := ⟨3, ![16, 104448, 1024]⟩

abbrev nBuf : Space → Nat
  | .hbm => 46
  | .vmem => 0
  | .smem => 0
  | _ => 0

abbrev bufTy : (tb : Table) → Fin (tcTables nBuf tb) → BufTy
  | .hbm, ⟨0, _⟩ => ⟨S104448x1024, .f32⟩
  | .hbm, ⟨1, _⟩ => ⟨S204, .i32⟩
  | .hbm, ⟨2, _⟩ => ⟨S204, .i32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S204x1, .i32⟩
  | .hbm, ⟨7, _⟩ => ⟨S_, .i32⟩
  | .hbm, ⟨8, _⟩ => ⟨S204x1, .i32⟩
  | .hbm, ⟨9, _⟩ => ⟨S204x1, .i1⟩
  | .hbm, ⟨10, _⟩ => ⟨S204x1, .i32⟩
  | .hbm, ⟨11, _⟩ => ⟨S1x16, .i32⟩
  | .hbm, ⟨12, _⟩ => ⟨S204x16, .i32⟩
  | .hbm, ⟨13, _⟩ => ⟨S204x16, .i32⟩
  | .hbm, ⟨14, _⟩ => ⟨S204x16, .i1⟩
  | .hbm, ⟨15, _⟩ => ⟨S204x16, .f32⟩
  | .hbm, ⟨16, _⟩ => ⟨S_, .f32⟩
  | .hbm, ⟨17, _⟩ => ⟨S_, .f32⟩
  | .hbm, ⟨18, _⟩ => ⟨S204x16, .i1⟩
  | .hbm, ⟨19, _⟩ => ⟨S204x16, .f32⟩
  | .hbm, ⟨20, _⟩ => ⟨S204x16, .f32⟩
  | .hbm, ⟨21, _⟩ => ⟨S204x1x16, .f32⟩
  | .hbm, ⟨22, _⟩ => ⟨S204x512x16, .f32⟩
  | .hbm, ⟨23, _⟩ => ⟨S104448x16, .f32⟩
  | .hbm, ⟨24, _⟩ => ⟨S1x16x1024x512, .f32⟩
  | .hbm, ⟨25, _⟩ => ⟨S16x1024x512, .f32⟩
  | .hbm, ⟨26, _⟩ => ⟨S16x512x104448, .f32⟩
  | .hbm, ⟨27, _⟩ => ⟨S16x104448x512, .f32⟩
  | .hbm, ⟨28, _⟩ => ⟨S16x104448x512, .f32⟩
  | .hbm, ⟨29, _⟩ => ⟨S16x104448x512, .f32⟩
  | .hbm, ⟨30, _⟩ => ⟨S_, .f32⟩
  | .hbm, ⟨31, _⟩ => ⟨S16x104448x512, .f32⟩
  | .hbm, ⟨32, _⟩ => ⟨S16x104448x512, .f32⟩
  | .hbm, ⟨33, _⟩ => ⟨S_, .f32⟩
  | .hbm, ⟨34, _⟩ => ⟨S16x104448x512, .f32⟩
  | .hbm, ⟨35, _⟩ => ⟨S16x104448x512, .f32⟩
  | .hbm, ⟨36, _⟩ => ⟨S16x104448x512, .f32⟩
  | .hbm, ⟨37, _⟩ => ⟨S1x16x1024x512, .f32⟩
  | .hbm, ⟨38, _⟩ => ⟨S16x1024x512, .f32⟩
  | .hbm, ⟨39, _⟩ => ⟨S16x512x104448, .f32⟩
  | .hbm, ⟨40, _⟩ => ⟨S16x104448x512, .f32⟩
  | .hbm, ⟨41, _⟩ => ⟨S16x104448x512, .f32⟩
  | .hbm, ⟨42, _⟩ => ⟨S1x16x512x1024, .f32⟩
  | .hbm, ⟨43, _⟩ => ⟨S16x512x1024, .f32⟩
  | .hbm, ⟨44, _⟩ => ⟨S16x104448x1024, .f32⟩
  | .hbm, ⟨45, _⟩ => ⟨S104448x1024, .f32⟩
  | _, _ => ⟨S104448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1024 : Shape := ⟨2, ![8, 1024]⟩
abbrev S2x1024x2824 : Shape := ⟨3, ![2, 1024, 2824]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩
abbrev S2x8x6x1024 : Shape := ⟨4, ![2, 8, 6, 1024]⟩
abbrev S2x1024x640 : Shape := ⟨3, ![2, 1024, 640]⟩
abbrev S2x1024x1152 : Shape := ⟨3, ![2, 1024, 1152]⟩
abbrev S1x256x2824 : Shape := ⟨3, ![1, 256, 2824]⟩
abbrev S1x256x640 : Shape := ⟨3, ![1, 256, 640]⟩
abbrev S1x256x1152 : Shape := ⟨3, ![1, 256, 1152]⟩
abbrev S256x2824 : Shape := ⟨2, ![256, 2824]⟩
abbrev S256x640 : Shape := ⟨2, ![256, 640]⟩
abbrev S1x640 : Shape := ⟨2, ![1, 640]⟩
abbrev S1x1152 : Shape := ⟨2, ![1, 1152]⟩
abbrev S256x1152 : Shape := ⟨2, ![256, 1152]⟩
abbrev S1x8x6x1024 : Shape := ⟨4, ![1, 8, 6, 1024]⟩
abbrev S8x6x1024 : Shape := ⟨3, ![8, 6, 1024]⟩
abbrev S1x1024x640 : Shape := ⟨3, ![1, 1024, 640]⟩
abbrev S1024x640 : Shape := ⟨2, ![1024, 640]⟩
abbrev S1x1024x1152 : Shape := ⟨3, ![1, 1024, 1152]⟩
abbrev S1024x1152 : Shape := ⟨2, ![1024, 1152]⟩
abbrev S8x4096x640 : Shape := ⟨3, ![8, 4096, 640]⟩
abbrev S8x4096x1152 : Shape := ⟨3, ![8, 4096, 1152]⟩
abbrev S8x8x4096 : Shape := ⟨3, ![8, 8, 4096]⟩
abbrev S1x512x1024 : Shape := ⟨3, ![1, 512, 1024]⟩
abbrev S1x6x1024 : Shape := ⟨3, ![1, 6, 1024]⟩
abbrev S1x512x640 : Shape := ⟨3, ![1, 512, 640]⟩
abbrev S1x512x1152 : Shape := ⟨3, ![1, 512, 1152]⟩
abbrev S1x8x512 : Shape := ⟨3, ![1, 8, 512]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S512x640 : Shape := ⟨2, ![512, 640]⟩
abbrev S512x1152 : Shape := ⟨2, ![512, 1152]⟩
abbrev S512x128 : Shape := ⟨2, ![512, 128]⟩
abbrev S128x512 : Shape := ⟨2, ![128, 512]⟩
abbrev S8x512 : Shape := ⟨2, ![8, 512]⟩

abbrev nBuf : Space → Nat
  | .hbm => 23
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S2x1024x2824, .f32⟩
  | .hbm, ⟨3, _⟩ => ⟨S2x1024x6144, .f32⟩
  | .hbm, ⟨4, _⟩ => ⟨S2x6144, .f32⟩
  | .hbm, ⟨5, _⟩ => ⟨S2x1x6144, .f32⟩
  | .hbm, ⟨6, _⟩ => ⟨S2x8x6144, .f32⟩
  | .hbm, ⟨7, _⟩ => ⟨S2x8x6x1024, .f32⟩
  | .hbm, ⟨8, _⟩ => ⟨S2x1024x640, .bf16⟩
  | .hbm, ⟨9, _⟩ => ⟨S2x1024x1152, .bf16⟩
  | .hbm, ⟨10, _⟩ => ⟨S2x1024x1152, .bf16⟩
  | .hbm, ⟨11, _⟩ => ⟨S1x8x6x1024, .f32⟩
  | .hbm, ⟨12, _⟩ => ⟨S8x6x1024, .f32⟩
  | .hbm, ⟨13, _⟩ => ⟨S1x1024x640, .bf16⟩
  | .hbm, ⟨14, _⟩ => ⟨S1024x640, .bf16⟩
  | .hbm, ⟨15, _⟩ => ⟨S1x1024x1152, .bf16⟩
  | .hbm, ⟨16, _⟩ => ⟨S1024x1152, .bf16⟩
  | .hbm, ⟨17, _⟩ => ⟨S1x1024x1152, .bf16⟩
  | .hbm, ⟨18, _⟩ => ⟨S1024x1152, .bf16⟩
  | .hbm, ⟨19, _⟩ => ⟨S8x4096x640, .f32⟩
  | .hbm, ⟨20, _⟩ => ⟨S8x4096x1152, .f32⟩
  | .hbm, ⟨21, _⟩ => ⟨S8x4096x1152, .bf16⟩
  | .hbm, ⟨22, _⟩ => ⟨S8x8x4096, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x256x2824, .f32⟩
  | .local _ .vmem, ⟨8, _⟩ => ⟨S1x256x2824, .f32⟩
  | .local _ .vmem, ⟨9, _⟩ => ⟨S1x256x640, .bf16⟩
  | .local _ .vmem, ⟨10, _⟩ => ⟨S1x256x640, .bf16⟩
  | .local _ .vmem, ⟨11, _⟩ => ⟨S1x256x1152, .bf16⟩
  | .local _ .vmem, ⟨12, _⟩ => ⟨S1x256x1152, .bf16⟩
  | .local _ .vmem, ⟨13, _⟩ => ⟨S1x256x1152, .bf16⟩
  | .local _ .vmem, ⟨14, _⟩ => ⟨S1x256x1152, .bf16⟩
  | .local _ .vmem, ⟨15, _⟩ => ⟨S1x512x1024, .f32⟩
  | .local _ .vmem, ⟨16, _⟩ => ⟨S1x512x1024, .f32⟩
  | .local _ .vmem, ⟨17, _⟩ => ⟨S1x6x1024, .f32⟩
  | .local _ .vmem, ⟨18, _⟩ => ⟨S1x6x1024, .f32⟩
  | .local _ .vmem, ⟨19, _⟩ => ⟨S1024x640, .bf16⟩
  | .local _ .vmem, ⟨20, _⟩ => ⟨S1024x1152, .bf16⟩
  | .local _ .vmem, ⟨21, _⟩ => ⟨S1024x1152, .bf16⟩
  | .local _ .vmem, ⟨22, _⟩ => ⟨S1x512x640, .f32⟩
  | .local _ .vmem, ⟨23, _⟩ => ⟨S1x512x640, .f32⟩
  | .local _ .vmem, ⟨24, _⟩ => ⟨S1x512x1152, .f32⟩
  | .local _ .vmem, ⟨25, _⟩ => ⟨S1x512x1152, .f32⟩
  | .local _ .vmem, ⟨26, _⟩ => ⟨S1x512x1152, .bf16⟩
  | .local _ .vmem, ⟨27, _⟩ => ⟨S1x512x1152, .bf16⟩
  | .local _ .vmem, ⟨28, _⟩ => ⟨S1x8x512, .f32⟩
  | .local _ .vmem, ⟨29, _⟩ => ⟨S1x8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2824 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1152 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1152 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x6x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024x640 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x1152 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x1152 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x640 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512x1152 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512x1152 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x8x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== Reference3Ideal.lean ====
abbrev S8x4096x1024 : Shape := ⟨3, ![8, 4096, 1024]⟩
abbrev S8x1024 : Shape := ⟨2, ![8, 1024]⟩
abbrev S2x1024x2824 : Shape := ⟨3, ![2, 1024, 2824]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S8x1x1024 : Shape := ⟨3, ![8, 1, 1024]⟩
abbrev S8x4096 : Shape := ⟨2, ![8, 4096]⟩
abbrev S8x4096x1 : Shape := ⟨3, ![8, 4096, 1]⟩
abbrev S1x1024x2824 : Shape := ⟨3, ![1, 1024, 2824]⟩
abbrev S1024x2824 : Shape := ⟨2, ![1024, 2824]⟩
abbrev S8x4096x2824 : Shape := ⟨3, ![8, 4096, 2824]⟩
abbrev S8x4096x520 : Shape := ⟨3, ![8, 4096, 520]⟩
abbrev S8x4096x640 : Shape := ⟨3, ![8, 4096, 640]⟩
abbrev S8x4096x1152 : Shape := ⟨3, ![8, 4096, 1152]⟩
abbrev S8x4096x384 : Shape := ⟨3, ![8, 4096, 384]⟩
abbrev S8x4096x8 : Shape := ⟨3, ![8, 4096, 8]⟩
abbrev S8x8x4096 : Shape := ⟨3, ![8, 8, 4096]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S2x1024x2824, .f32⟩
  | .hbm, ⟨3, _⟩ => ⟨S2x1024x6144, .f32⟩
  | .hbm, ⟨4, _⟩ => ⟨S2x6144, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024x6144, .f32⟩
  | .hbm, ⟨15, _⟩ => ⟨S1024x6144, .f32⟩
  | .hbm, ⟨16, _⟩ => ⟨S8x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S8x6144, .f32⟩
  | .hbm, ⟨21, _⟩ => ⟨S8x6144, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S8x1x1024, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S1x1024x2824, .f32⟩
  | .hbm, ⟨55, _⟩ => ⟨S1024x2824, .f32⟩
  | .hbm, ⟨56, _⟩ => ⟨S8x4096x2824, .f32⟩
  | .hbm, ⟨57, _⟩ => ⟨S8x4096x520, .f32⟩
  | .hbm, ⟨58, _⟩ => ⟨S_, .i32⟩
  | .hbm, ⟨59, _⟩ => ⟨S_, .f32⟩
  | .hbm, ⟨60, _⟩ => ⟨S8x4096x640, .f32⟩
  | .hbm, ⟨61, _⟩ => ⟨S8x4096x1152, .f32⟩
  | .hbm, ⟨62, _⟩ => ⟨S8x4096x384, .f32⟩
  | .hbm, ⟨63, _⟩ => ⟨S8x4096x384, .f32⟩
  | .hbm, ⟨64, _⟩ => ⟨S8x4096x384, .f32⟩
  | .hbm, ⟨65, _⟩ => ⟨S_, .f32⟩
  | .hbm, ⟨66, _⟩ => ⟨S8x4096x384, .f32⟩
  | .hbm, ⟨67, _⟩ => ⟨S8x4096x384, .f32⟩
  | .hbm, ⟨68, _⟩ => ⟨S8x4096x1152, .f32⟩
  | .hbm, ⟨69, _⟩ => ⟨S8x4096x1152, .f32⟩
  | .hbm, ⟨70, _⟩ => ⟨S8x4096x384, .f32⟩
  | .hbm, ⟨71, _⟩ => ⟨S8x4096x384, .f32⟩
  | .hbm, ⟨72, _⟩ => ⟨S8x4096x384, .f32⟩
  | .hbm, ⟨73, _⟩ => ⟨S_, .f32⟩
  | .hbm, ⟨74, _⟩ => ⟨S8x4096x384, .f32⟩
  | .hbm, ⟨75, _⟩ => ⟨S8x4096x384, .f32⟩
  | .hbm, ⟨76, _⟩ => ⟨S8x4096x1152, .f32⟩
  | .hbm, ⟨77, _⟩ => ⟨S8x4096x1152, .bf16⟩
  | .hbm, ⟨78, _⟩ => ⟨S8x4096x8, .f32⟩
  | .hbm, ⟨79, _⟩ => ⟨S8x8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call1_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S8x6144 : Shape := ⟨2, ![8, 6144]⟩
abbrev S2x1024 : Shape := ⟨2, ![2, 1024]⟩
abbrev S2x1024x1024 : Shape := ⟨3, ![2, 1024, 1024]⟩
abbrev S1024x16 : Shape := ⟨2, ![1024, 16]⟩
abbrev S16 : Shape := ⟨1, ![16]⟩
abbrev S_ : Shape := ⟨0, ![]⟩
abbrev S1024x16x8 : Shape := ⟨3, ![1024, 16, 8]⟩
abbrev S1024x4x4 : Shape := ⟨3, ![1024, 4, 4]⟩
abbrev S1 : Shape := ⟨1, ![1]⟩
abbrev S2 : Shape := ⟨1, ![2]⟩
abbrev S1024x128 : Shape := ⟨2, ![1024, 128]⟩
abbrev S4x8x128 : Shape := ⟨3, ![4, 8, 128]⟩
abbrev S4x4 : Shape := ⟨2, ![4, 4]⟩
abbrev S4x4x1 : Shape := ⟨3, ![4, 4, 1]⟩
abbrev S4x4x128 : Shape := ⟨3, ![4, 4, 128]⟩
abbrev S8x6x1024 : Shape := ⟨3, ![8, 6, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S16x32768 : Shape := ⟨2, ![16, 32768]⟩
abbrev S8x32768 : Shape := ⟨2, ![8, 32768]⟩
abbrev S1x512x1024 : Shape := ⟨3, ![1, 512, 1024]⟩
abbrev S1x512x256 : Shape := ⟨3, ![1, 512, 256]⟩
abbrev S1x512x384 : Shape := ⟨3, ![1, 512, 384]⟩
abbrev S1x6x1024 : Shape := ⟨3, ![1, 6, 1024]⟩
abbrev S16x512 : Shape := ⟨2, ![16, 512]⟩
abbrev S8x512 : Shape := ⟨2, ![8, 512]⟩
abbrev S6x1024 : Shape := ⟨2, ![6, 1024]⟩
abbrev S512x256 : Shape := ⟨2, ![512, 256]⟩
abbrev S512x384 : Shape := ⟨2, ![512, 384]⟩
abbrev S512x1024 : Shape := ⟨2, ![512, 1024]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x8x128 : Shape := ⟨3, ![1, 8, 128]⟩
abbrev S8x128 : Shape := ⟨2, ![8, 128]⟩
abbrev S8x1 : Shape := ⟨2, ![8, 1]⟩
abbrev S1x512 : Shape := ⟨2, ![1, 512]⟩
abbrev S16x8 : Shape := ⟨2, ![16, 8]⟩

abbrev nBuf : Space → Nat
  | .hbm => 44
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x384, .bf16⟩
  | .hbm, ⟨3, _⟩ => ⟨S8x4096x384, .bf16⟩
  | .hbm, ⟨4, _⟩ => ⟨S8x6144, .f32⟩
  | .hbm, ⟨5, _⟩ => ⟨S2x1024, .f32⟩
  | .hbm, ⟨6, _⟩ => ⟨S2x1024x1024, .f32⟩
  | .hbm, ⟨7, _⟩ => ⟨S1024x16, .f32⟩
  | .hbm, ⟨8, _⟩ => ⟨S16, .f32⟩
  | .hbm, ⟨9, _⟩ => ⟨S_, .f32⟩
  | .hbm, ⟨10, _⟩ => ⟨S1024x16x8, .f32⟩
  | .hbm, ⟨11, _⟩ => ⟨S1024x4x4, .f32⟩
  | .hbm, ⟨12, _⟩ => ⟨S1024x4x4, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1024x16x8, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S_, .f32⟩
  | .hbm, ⟨25, _⟩ => ⟨S4x8x128, .f32⟩
  | .hbm, ⟨26, _⟩ => ⟨S4x4, .f32⟩
  | .hbm, ⟨27, _⟩ => ⟨S4x4, .f32⟩
  | .hbm, ⟨28, _⟩ => ⟨S4x4x1, .f32⟩
  | .hbm, ⟨29, _⟩ => ⟨S4x4x128, .f32⟩
  | .hbm, ⟨30, _⟩ => ⟨S_, .i32⟩
  | .hbm, ⟨31, _⟩ => ⟨S1, .i32⟩
  | .hbm, ⟨32, _⟩ => ⟨S4x8x128, .f32⟩
  | .hbm, ⟨33, _⟩ => ⟨S8x6x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024x1024, .f32⟩
  | .hbm, ⟨38, _⟩ => ⟨S1024x1024, .f32⟩
  | .hbm, ⟨39, _⟩ => ⟨S1024x1024, .bf16⟩
  | .hbm, ⟨40, _⟩ => ⟨S8x4096x1024, .f32⟩
  | .hbm, ⟨41, _⟩ => ⟨S8x4096x1024, .f32⟩
  | .hbm, ⟨42, _⟩ => ⟨S16x32768, .bf16⟩
  | .hbm, ⟨43, _⟩ => ⟨S8x32768, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x384, .bf16⟩
  | .local _ .vmem, ⟨5, _⟩ => ⟨S1x512x384, .bf16⟩
  | .local _ .vmem, ⟨6, _⟩ => ⟨S1x512x384, .bf16⟩
  | .local _ .vmem, ⟨7, _⟩ => ⟨S1x512x384, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S4x8x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S16x512, .bf16⟩
  | .local _ .vmem, ⟨20, _⟩ => ⟨S16x512, .bf16⟩
  | .local _ .vmem, ⟨21, _⟩ => ⟨S8x512, .f32⟩
  | .local _ .vmem, ⟨22, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S8x6144 : Shape := ⟨2, ![8, 6144]⟩
abbrev S2x1024 : Shape := ⟨2, ![2, 1024]⟩
abbrev S2x1024x1024 : Shape := ⟨3, ![2, 1024, 1024]⟩
abbrev S1024x16 : Shape := ⟨2, ![1024, 16]⟩
abbrev S16 : Shape := ⟨1, ![16]⟩
abbrev S8x1024 : Shape := ⟨2, ![8, 1024]⟩
abbrev S8x1x1024 : Shape := ⟨3, ![8, 1, 1024]⟩
abbrev S8x4096x4x64 : Shape := ⟨4, ![8, 4096, 4, 64]⟩
abbrev S8x4x4096x64 : Shape := ⟨4, ![8, 4, 4096, 64]⟩
abbrev S8x4096x6x64 : Shape := ⟨4, ![8, 4096, 6, 64]⟩
abbrev S8x6x4096x64 : Shape := ⟨4, ![8, 6, 4096, 64]⟩
abbrev S8x16x4096x64 : Shape := ⟨4, ![8, 16, 4096, 64]⟩
abbrev S_ : Shape := ⟨0, ![]⟩
abbrev S8x16x4096 : Shape := ⟨3, ![8, 16, 4096]⟩
abbrev S8x16x4096x1 : Shape := ⟨4, ![8, 16, 4096, 1]⟩
abbrev S1x1024 : Shape := ⟨2, ![1, 1024]⟩
abbrev S1024 : Shape := ⟨1, ![1024]⟩
abbrev S16x1x64 : Shape := ⟨3, ![16, 1, 64]⟩
abbrev S1x16x1x64 : Shape := ⟨4, ![1, 16, 1, 64]⟩
abbrev S8x4096x16x64 : Shape := ⟨4, ![8, 4096, 16, 64]⟩
abbrev S1x1024x1024 : Shape := ⟨3, ![1, 1024, 1024]⟩
abbrev S1024x1024 : Shape := ⟨2, ![1024, 1024]⟩
abbrev S8x4096 : Shape := ⟨2, ![8, 4096]⟩
abbrev S8x4096x1 : Shape := ⟨3, ![8, 4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x384, .bf16⟩
  | .hbm, ⟨3, _⟩ => ⟨S8x4096x384, .bf16⟩
  | .hbm, ⟨4, _⟩ => ⟨S8x6144, .f32⟩
  | .hbm, ⟨5, _⟩ => ⟨S2x1024, .f32⟩
  | .hbm, ⟨6, _⟩ => ⟨S2x1024x1024, .f32⟩
  | .hbm, ⟨7, _⟩ => ⟨S1024x16, .f32⟩
  | .hbm, ⟨8, _⟩ => ⟨S16, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x4096x4x64, .f32⟩
  | .hbm, ⟨22, _⟩ => ⟨S8x4x4096x64, .f32⟩
  | .hbm, ⟨23, _⟩ => ⟨S8x4096x384, .f32⟩
  | .hbm, ⟨24, _⟩ => ⟨S8x4096x6x64, .f32⟩
  | .hbm, ⟨25, _⟩ => ⟨S8x6x4096x64, .f32⟩
  | .hbm, ⟨26, _⟩ => ⟨S8x4096x384, .f32⟩
  | .hbm, ⟨27, _⟩ => ⟨S8x4096x6x64, .f32⟩
  | .hbm, ⟨28, _⟩ => ⟨S8x6x4096x64, .f32⟩
  | .hbm, ⟨29, _⟩ => ⟨S8x16x4096x64, .f32⟩
  | .hbm, ⟨30, _⟩ => ⟨S8x16x4096x64, .f32⟩
  | .hbm, ⟨31, _⟩ => ⟨S_, .f32⟩
  | .hbm, ⟨32, _⟩ => ⟨S8x16x4096, .f32⟩
  | .hbm, ⟨33, _⟩ => ⟨S8x16x4096x1, .f32⟩
  | .hbm, ⟨34, _⟩ => ⟨S_, .f32⟩
  | .hbm, ⟨35, _⟩ => ⟨S8x16x4096x1, .f32⟩
  | .hbm, ⟨36, _⟩ => ⟨S8x16x4096x1, .f32⟩
  | .hbm, ⟨37, _⟩ => ⟨S_, .f32⟩
  | .hbm, ⟨38, _⟩ => ⟨S8x16x4096x1, .f32⟩
  | .hbm, ⟨39, _⟩ => ⟨S8x16x4096x1, .f32⟩
  | .hbm, ⟨40, _⟩ => ⟨S8x16x4096x1, .f32⟩
  | .hbm, ⟨41, _⟩ => ⟨S8x16x4096x64, .f32⟩
  | .hbm, ⟨42, _⟩ => ⟨S8x16x4096x64, .f32⟩
  | .hbm, ⟨43, _⟩ => ⟨S1x1024, .f32⟩
  | .hbm, ⟨44, _⟩ => ⟨S1024, .f32⟩
  | .hbm, ⟨45, _⟩ => ⟨S16x1x64, .f32⟩
  | .hbm, ⟨46, _⟩ => ⟨S1x16x1x64, .f32⟩
  | .hbm, ⟨47, _⟩ => ⟨S8x16x4096x64, .f32⟩
  | .hbm, ⟨48, _⟩ => ⟨S8x16x4096x64, .f32⟩
  | .hbm, ⟨49, _⟩ => ⟨S8x4096x16x64, .f32⟩
  | .hbm, ⟨50, _⟩ => ⟨S8x4096x1024, .f32⟩
  | .hbm, ⟨51, _⟩ => ⟨S1x1024x1024, .f32⟩
  | .hbm, ⟨52, _⟩ => ⟨S1024x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x1x1024, .f32⟩
  | .hbm, ⟨72, _⟩ => ⟨S8x1x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel5.lean ====
abbrev S104448x1024 : Shape := ⟨2, ![104448, 1024]⟩
abbrev S204 : Shape := ⟨1, ![204]⟩
abbrev S2x16x1024x512 : Shape := ⟨4, ![2, 16, 1024, 512]⟩
abbrev S2x16x512x1024 : Shape := ⟨4, ![2, 16, 512, 1024]⟩
abbrev S512x1024 : Shape := ⟨2, ![512, 1024]⟩
abbrev S1 : Shape := ⟨1, ![1]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 10
  | .smem => 2
  | _ => 0

abbrev bufTy : (tb : Table) → Fin (tcTables nBuf tb) → BufTy
  | .hbm, ⟨0, _⟩ => ⟨S104448x1024, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S104448x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .smem, ⟨0, _⟩ => ⟨S204, .i32⟩
  | .local _ .smem, ⟨1, _⟩ => ⟨S204, .i32⟩
  | _, _ => ⟨S104448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![204], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S204.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S204) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S204.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S204) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S204.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S204) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S204.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S204) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S104448x1024 : Shape := ⟨2, ![104448, 1024]⟩
abbrev S204 : Shape := ⟨1, ![204]⟩
abbrev S2x16x1024x512 : Shape := ⟨4, ![2, 16, 1024, 512]⟩
abbrev S2x16x512x1024 : Shape := ⟨4, ![2, 16, 512, 1024]⟩
abbrev S204x1 : Shape := ⟨2, ![204, 1]⟩
abbrev S_ : Shape := ⟨0, ![]⟩
abbrev S1x16 : Shape := ⟨2, ![1, 16]⟩
abbrev S204x16 : Shape := ⟨2, ![204, 16]⟩
abbrev S204x1x16 : Shape := ⟨3, ![204, 1, 16]⟩
abbrev S204x512x16 : Shape := ⟨3, ![204, 512, 16]⟩
abbrev S104448x16 : Shape := ⟨2, ![104448, 16]⟩
abbrev S1x16x1024x512 : Shape := ⟨4, ![1, 16, 1024, 512]⟩
abbrev S16x1024x512 : Shape := ⟨3, ![16, 1024, 512]⟩
abbrev S16x512x104448 : Shape := ⟨3, ![16, 512, 104448]⟩
abbrev S16x104448x512 : Shape := ⟨3, ![16, 104448, 512]⟩
abbrev S1x16x512x1024 : Shape := ⟨4, ![1, 16, 512, 1024]⟩
abbrev S16x512x1024 : Shape := ⟨3, ![16, 512, 1024]⟩
abbrev S16x104448x1024 : Shape := ⟨3, ![16, 104448, 1024]⟩

abbrev nBuf : Space → Nat
  | .hbm => 46
  | .vmem => 0
  | .smem => 0
  | _ => 0

abbrev bufTy : (tb : Table) → Fin (tcTables nBuf tb) → BufTy
  | .hbm, ⟨0, _⟩ => ⟨S104448x1024, .f32⟩
  | .hbm, ⟨1, _⟩ => ⟨S204, .i32⟩
  | .hbm, ⟨2, _⟩ => ⟨S204, .i32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S204x1, .i32⟩
  | .hbm, ⟨7, _⟩ => ⟨S_, .i32⟩
  | .hbm, ⟨8, _⟩ => ⟨S204x1, .i32⟩
  | .hbm, ⟨9, _⟩ => ⟨S204x1, .i1⟩
  | .hbm, ⟨10, _⟩ => ⟨S204x1, .i32⟩
  | .hbm, ⟨11, _⟩ => ⟨S1x16, .i32⟩
  | .hbm, ⟨12, _⟩ => ⟨S204x16, .i32⟩
  | .hbm, ⟨13, _⟩ => ⟨S204x16, .i32⟩
  | .hbm, ⟨14, _⟩ => ⟨S204x16, .i1⟩
  | .hbm, ⟨15, _⟩ => ⟨S204x16, .f32⟩
  | .hbm, ⟨16, _⟩ => ⟨S_, .f32⟩
  | .hbm, ⟨17, _⟩ => ⟨S_, .f32⟩
  | .hbm, ⟨18, _⟩ => ⟨S204x16, .i1⟩
  | .hbm, ⟨19, _⟩ => ⟨S204x16, .f32⟩
  | .hbm, ⟨20, _⟩ => ⟨S204x16, .f32⟩
  | .hbm, ⟨21, _⟩ => ⟨S204x1x16, .f32⟩
  | .hbm, ⟨22, _⟩ => ⟨S204x512x16, .f32⟩
  | .hbm, ⟨23, _⟩ => ⟨S104448x16, .f32⟩
  | .hbm, ⟨24, _⟩ => ⟨S1x16x1024x512, .f32⟩
  | .hbm, ⟨25, _⟩ => ⟨S16x1024x512, .f32⟩
  | .hbm, ⟨26, _⟩ => ⟨S16x512x104448, .f32⟩
  | .hbm, ⟨27, _⟩ => ⟨S16x104448x512, .f32⟩
  | .hbm, ⟨28, _⟩ => ⟨S16x104448x512, .f32⟩
  | .hbm, ⟨29, _⟩ => ⟨S16x104448x512, .f32⟩
  | .hbm, ⟨30, _⟩ => ⟨S_, .f32⟩
  | .hbm, ⟨31, _⟩ => ⟨S16x104448x512, .f32⟩
  | .hbm, ⟨32, _⟩ => ⟨S16x104448x512, .f32⟩
  | .hbm, ⟨33, _⟩ => ⟨S_, .f32⟩
  | .hbm, ⟨34, _⟩ => ⟨S16x104448x512, .f32⟩
  | .hbm, ⟨35, _⟩ => ⟨S16x104448x512, .f32⟩
  | .hbm, ⟨36, _⟩ => ⟨S16x104448x512, .f32⟩
  | .hbm, ⟨37, _⟩ => ⟨S1x16x1024x512, .f32⟩
  | .hbm, ⟨38, _⟩ => ⟨S16x1024x512, .f32⟩
  | .hbm, ⟨39, _⟩ => ⟨S16x512x104448, .f32⟩
  | .hbm, ⟨40, _⟩ => ⟨S16x104448x512, .f32⟩
  | .hbm, ⟨41, _⟩ => ⟨S16x104448x512, .f32⟩
  | .hbm, ⟨42, _⟩ => ⟨S1x16x512x1024, .f32⟩
  | .hbm, ⟨43, _⟩ => ⟨S16x512x1024, .f32⟩
  | .hbm, ⟨44, _⟩ => ⟨S16x104448x1024, .f32⟩
  | .hbm, ⟨45, _⟩ => ⟨S104448x1024, .f32⟩
  | _, _ => ⟨S104448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x1024 : Shape := ⟨2, ![8, 1024]⟩
abbrev S2x1024x2824 : Shape := ⟨3, ![2, 1024, 2824]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩
abbrev S2x8x6x1024 : Shape := ⟨4, ![2, 8, 6, 1024]⟩
abbrev S2x1024x640 : Shape := ⟨3, ![2, 1024, 640]⟩
abbrev S2x1024x1152 : Shape := ⟨3, ![2, 1024, 1152]⟩
abbrev S1x256x2824 : Shape := ⟨3, ![1, 256, 2824]⟩
abbrev S1x256x640 : Shape := ⟨3, ![1, 256, 640]⟩
abbrev S1x256x1152 : Shape := ⟨3, ![1, 256, 1152]⟩
abbrev S256x2824 : Shape := ⟨2, ![256, 2824]⟩
abbrev S256x640 : Shape := ⟨2, ![256, 640]⟩
abbrev S1x640 : Shape := ⟨2, ![1, 640]⟩
abbrev S1x1152 : Shape := ⟨2, ![1, 1152]⟩
abbrev S256x1152 : Shape := ⟨2, ![256, 1152]⟩
abbrev S1x8x6x1024 : Shape := ⟨4, ![1, 8, 6, 1024]⟩
abbrev S8x6x1024 : Shape := ⟨3, ![8, 6, 1024]⟩
abbrev S1x1024x640 : Shape := ⟨3, ![1, 1024, 640]⟩
abbrev S1024x640 : Shape := ⟨2, ![1024, 640]⟩
abbrev S1x1024x1152 : Shape := ⟨3, ![1, 1024, 1152]⟩
abbrev S1024x1152 : Shape := ⟨2, ![1024, 1152]⟩
abbrev S8x4096x640 : Shape := ⟨3, ![8, 4096, 640]⟩
abbrev S8x4096x1152 : Shape := ⟨3, ![8, 4096, 1152]⟩
abbrev S8x8x4096 : Shape := ⟨3, ![8, 8, 4096]⟩
abbrev S1x512x1024 : Shape := ⟨3, ![1, 512, 1024]⟩
abbrev S1x6x1024 : Shape := ⟨3, ![1, 6, 1024]⟩
abbrev S1x512x640 : Shape := ⟨3, ![1, 512, 640]⟩
abbrev S1x512x1152 : Shape := ⟨3, ![1, 512, 1152]⟩
abbrev S1x8x512 : Shape := ⟨3, ![1, 8, 512]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S512x640 : Shape := ⟨2, ![512, 640]⟩
abbrev S512x1152 : Shape := ⟨2, ![512, 1152]⟩
abbrev S512x128 : Shape := ⟨2, ![512, 128]⟩
abbrev S128x512 : Shape := ⟨2, ![128, 512]⟩
abbrev S8x512 : Shape := ⟨2, ![8, 512]⟩

abbrev nBuf : Space → Nat
  | .hbm => 23
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S2x1024x2824, .f32⟩
  | .hbm, ⟨3, _⟩ => ⟨S2x1024x6144, .f32⟩
  | .hbm, ⟨4, _⟩ => ⟨S2x6144, .f32⟩
  | .hbm, ⟨5, _⟩ => ⟨S2x1x6144, .f32⟩
  | .hbm, ⟨6, _⟩ => ⟨S2x8x6144, .f32⟩
  | .hbm, ⟨7, _⟩ => ⟨S2x8x6x1024, .f32⟩
  | .hbm, ⟨8, _⟩ => ⟨S2x1024x640, .bf16⟩
  | .hbm, ⟨9, _⟩ => ⟨S2x1024x1152, .bf16⟩
  | .hbm, ⟨10, _⟩ => ⟨S2x1024x1152, .bf16⟩
  | .hbm, ⟨11, _⟩ => ⟨S1x8x6x1024, .f32⟩
  | .hbm, ⟨12, _⟩ => ⟨S8x6x1024, .f32⟩
  | .hbm, ⟨13, _⟩ => ⟨S1x1024x640, .bf16⟩
  | .hbm, ⟨14, _⟩ => ⟨S1024x640, .bf16⟩
  | .hbm, ⟨15, _⟩ => ⟨S1x1024x1152, .bf16⟩
  | .hbm, ⟨16, _⟩ => ⟨S1024x1152, .bf16⟩
  | .hbm, ⟨17, _⟩ => ⟨S1x1024x1152, .bf16⟩
  | .hbm, ⟨18, _⟩ => ⟨S1024x1152, .bf16⟩
  | .hbm, ⟨19, _⟩ => ⟨S8x4096x640, .f32⟩
  | .hbm, ⟨20, _⟩ => ⟨S8x4096x1152, .f32⟩
  | .hbm, ⟨21, _⟩ => ⟨S8x4096x1152, .bf16⟩
  | .hbm, ⟨22, _⟩ => ⟨S8x8x4096, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x256x2824, .f32⟩
  | .local _ .vmem, ⟨8, _⟩ => ⟨S1x256x2824, .f32⟩
  | .local _ .vmem, ⟨9, _⟩ => ⟨S1x256x640, .bf16⟩
  | .local _ .vmem, ⟨10, _⟩ => ⟨S1x256x640, .bf16⟩
  | .local _ .vmem, ⟨11, _⟩ => ⟨S1x256x1152, .bf16⟩
  | .local _ .vmem, ⟨12, _⟩ => ⟨S1x256x1152, .bf16⟩
  | .local _ .vmem, ⟨13, _⟩ => ⟨S1x256x1152, .bf16⟩
  | .local _ .vmem, ⟨14, _⟩ => ⟨S1x256x1152, .bf16⟩
  | .local _ .vmem, ⟨15, _⟩ => ⟨S1x512x1024, .f32⟩
  | .local _ .vmem, ⟨16, _⟩ => ⟨S1x512x1024, .f32⟩
  | .local _ .vmem, ⟨17, _⟩ => ⟨S1x6x1024, .f32⟩
  | .local _ .vmem, ⟨18, _⟩ => ⟨S1x6x1024, .f32⟩
  | .local _ .vmem, ⟨19, _⟩ => ⟨S1024x640, .bf16⟩
  | .local _ .vmem, ⟨20, _⟩ => ⟨S1024x1152, .bf16⟩
  | .local _ .vmem, ⟨21, _⟩ => ⟨S1024x1152, .bf16⟩
  | .local _ .vmem, ⟨22, _⟩ => ⟨S1x512x640, .f32⟩
  | .local _ .vmem, ⟨23, _⟩ => ⟨S1x512x640, .f32⟩
  | .local _ .vmem, ⟨24, _⟩ => ⟨S1x512x1152, .f32⟩
  | .local _ .vmem, ⟨25, _⟩ => ⟨S1x512x1152, .f32⟩
  | .local _ .vmem, ⟨26, _⟩ => ⟨S1x512x1152, .bf16⟩
  | .local _ .vmem, ⟨27, _⟩ => ⟨S1x512x1152, .bf16⟩
  | .local _ .vmem, ⟨28, _⟩ => ⟨S1x8x512, .f32⟩
  | .local _ .vmem, ⟨29, _⟩ => ⟨S1x8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2824 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1152 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1152 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x6x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024x640 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x1152 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x1152 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x640 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512x1152 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512x1152 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x8x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== Reference6Ideal.lean ====
abbrev S8x4096x1024 : Shape := ⟨3, ![8, 4096, 1024]⟩
abbrev S8x1024 : Shape := ⟨2, ![8, 1024]⟩
abbrev S2x1024x2824 : Shape := ⟨3, ![2, 1024, 2824]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S8x1x1024 : Shape := ⟨3, ![8, 1, 1024]⟩
abbrev S8x4096 : Shape := ⟨2, ![8, 4096]⟩
abbrev S8x4096x1 : Shape := ⟨3, ![8, 4096, 1]⟩
abbrev S1x1024x2824 : Shape := ⟨3, ![1, 1024, 2824]⟩
abbrev S1024x2824 : Shape := ⟨2, ![1024, 2824]⟩
abbrev S8x4096x2824 : Shape := ⟨3, ![8, 4096, 2824]⟩
abbrev S8x4096x520 : Shape := ⟨3, ![8, 4096, 520]⟩
abbrev S8x4096x640 : Shape := ⟨3, ![8, 4096, 640]⟩
abbrev S8x4096x1152 : Shape := ⟨3, ![8, 4096, 1152]⟩
abbrev S8x4096x384 : Shape := ⟨3, ![8, 4096, 384]⟩
abbrev S8x4096x8 : Shape := ⟨3, ![8, 4096, 8]⟩
abbrev S8x8x4096 : Shape := ⟨3, ![8, 8, 4096]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S2x1024x2824, .f32⟩
  | .hbm, ⟨3, _⟩ => ⟨S2x1024x6144, .f32⟩
  | .hbm, ⟨4, _⟩ => ⟨S2x6144, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024x6144, .f32⟩
  | .hbm, ⟨15, _⟩ => ⟨S1024x6144, .f32⟩
  | .hbm, ⟨16, _⟩ => ⟨S8x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S8x6144, .f32⟩
  | .hbm, ⟨21, _⟩ => ⟨S8x6144, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S8x1x1024, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S1x1024x2824, .f32⟩
  | .hbm, ⟨55, _⟩ => ⟨S1024x2824, .f32⟩
  | .hbm, ⟨56, _⟩ => ⟨S8x4096x2824, .f32⟩
  | .hbm, ⟨57, _⟩ => ⟨S8x4096x520, .f32⟩
  | .hbm, ⟨58, _⟩ => ⟨S_, .i32⟩
  | .hbm, ⟨59, _⟩ => ⟨S_, .f32⟩
  | .hbm, ⟨60, _⟩ => ⟨S8x4096x640, .f32⟩
  | .hbm, ⟨61, _⟩ => ⟨S8x4096x1152, .f32⟩
  | .hbm, ⟨62, _⟩ => ⟨S8x4096x384, .f32⟩
  | .hbm, ⟨63, _⟩ => ⟨S8x4096x384, .f32⟩
  | .hbm, ⟨64, _⟩ => ⟨S8x4096x384, .f32⟩
  | .hbm, ⟨65, _⟩ => ⟨S_, .f32⟩
  | .hbm, ⟨66, _⟩ => ⟨S8x4096x384, .f32⟩
  | .hbm, ⟨67, _⟩ => ⟨S8x4096x384, .f32⟩
  | .hbm, ⟨68, _⟩ => ⟨S8x4096x1152, .f32⟩
  | .hbm, ⟨69, _⟩ => ⟨S8x4096x1152, .f32⟩
  | .hbm, ⟨70, _⟩ => ⟨S8x4096x384, .f32⟩
  | .hbm, ⟨71, _⟩ => ⟨S8x4096x384, .f32⟩
  | .hbm, ⟨72, _⟩ => ⟨S8x4096x384, .f32⟩
  | .hbm, ⟨73, _⟩ => ⟨S_, .f32⟩
  | .hbm, ⟨74, _⟩ => ⟨S8x4096x384, .f32⟩
  | .hbm, ⟨75, _⟩ => ⟨S8x4096x384, .f32⟩
  | .hbm, ⟨76, _⟩ => ⟨S8x4096x1152, .f32⟩
  | .hbm, ⟨77, _⟩ => ⟨S8x4096x1152, .bf16⟩
  | .hbm, ⟨78, _⟩ => ⟨S8x4096x8, .f32⟩
  | .hbm, ⟨79, _⟩ => ⟨S8x8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call1_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S8x6144 : Shape := ⟨2, ![8, 6144]⟩
abbrev S2x1024 : Shape := ⟨2, ![2, 1024]⟩
abbrev S2x1024x1024 : Shape := ⟨3, ![2, 1024, 1024]⟩
abbrev S1024x16 : Shape := ⟨2, ![1024, 16]⟩
abbrev S16 : Shape := ⟨1, ![16]⟩
abbrev S_ : Shape := ⟨0, ![]⟩
abbrev S1024x16x8 : Shape := ⟨3, ![1024, 16, 8]⟩
abbrev S1024x4x4 : Shape := ⟨3, ![1024, 4, 4]⟩
abbrev S1 : Shape := ⟨1, ![1]⟩
abbrev S2 : Shape := ⟨1, ![2]⟩
abbrev S1024x128 : Shape := ⟨2, ![1024, 128]⟩
abbrev S4x8x128 : Shape := ⟨3, ![4, 8, 128]⟩
abbrev S4x4 : Shape := ⟨2, ![4, 4]⟩
abbrev S4x4x1 : Shape := ⟨3, ![4, 4, 1]⟩
abbrev S4x4x128 : Shape := ⟨3, ![4, 4, 128]⟩
abbrev S8x6x1024 : Shape := ⟨3, ![8, 6, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S16x32768 : Shape := ⟨2, ![16, 32768]⟩
abbrev S8x32768 : Shape := ⟨2, ![8, 32768]⟩
abbrev S1x512x1024 : Shape := ⟨3, ![1, 512, 1024]⟩
abbrev S1x512x256 : Shape := ⟨3, ![1, 512, 256]⟩
abbrev S1x512x384 : Shape := ⟨3, ![1, 512, 384]⟩
abbrev S1x6x1024 : Shape := ⟨3, ![1, 6, 1024]⟩
abbrev S16x512 : Shape := ⟨2, ![16, 512]⟩
abbrev S8x512 : Shape := ⟨2, ![8, 512]⟩
abbrev S6x1024 : Shape := ⟨2, ![6, 1024]⟩
abbrev S512x256 : Shape := ⟨2, ![512, 256]⟩
abbrev S512x384 : Shape := ⟨2, ![512, 384]⟩
abbrev S512x1024 : Shape := ⟨2, ![512, 1024]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x8x128 : Shape := ⟨3, ![1, 8, 128]⟩
abbrev S8x128 : Shape := ⟨2, ![8, 128]⟩
abbrev S8x1 : Shape := ⟨2, ![8, 1]⟩
abbrev S1x512 : Shape := ⟨2, ![1, 512]⟩
abbrev S16x8 : Shape := ⟨2, ![16, 8]⟩

abbrev nBuf : Space → Nat
  | .hbm => 44
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x384, .bf16⟩
  | .hbm, ⟨3, _⟩ => ⟨S8x4096x384, .bf16⟩
  | .hbm, ⟨4, _⟩ => ⟨S8x6144, .f32⟩
  | .hbm, ⟨5, _⟩ => ⟨S2x1024, .f32⟩
  | .hbm, ⟨6, _⟩ => ⟨S2x1024x1024, .f32⟩
  | .hbm, ⟨7, _⟩ => ⟨S1024x16, .f32⟩
  | .hbm, ⟨8, _⟩ => ⟨S16, .f32⟩
  | .hbm, ⟨9, _⟩ => ⟨S_, .f32⟩
  | .hbm, ⟨10, _⟩ => ⟨S1024x16x8, .f32⟩
  | .hbm, ⟨11, _⟩ => ⟨S1024x4x4, .f32⟩
  | .hbm, ⟨12, _⟩ => ⟨S1024x4x4, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1024x16x8, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S_, .f32⟩
  | .hbm, ⟨25, _⟩ => ⟨S4x8x128, .f32⟩
  | .hbm, ⟨26, _⟩ => ⟨S4x4, .f32⟩
  | .hbm, ⟨27, _⟩ => ⟨S4x4, .f32⟩
  | .hbm, ⟨28, _⟩ => ⟨S4x4x1, .f32⟩
  | .hbm, ⟨29, _⟩ => ⟨S4x4x128, .f32⟩
  | .hbm, ⟨30, _⟩ => ⟨S_, .i32⟩
  | .hbm, ⟨31, _⟩ => ⟨S1, .i32⟩
  | .hbm, ⟨32, _⟩ => ⟨S4x8x128, .f32⟩
  | .hbm, ⟨33, _⟩ => ⟨S8x6x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024x1024, .f32⟩
  | .hbm, ⟨38, _⟩ => ⟨S1024x1024, .f32⟩
  | .hbm, ⟨39, _⟩ => ⟨S1024x1024, .bf16⟩
  | .hbm, ⟨40, _⟩ => ⟨S8x4096x1024, .f32⟩
  | .hbm, ⟨41, _⟩ => ⟨S8x4096x1024, .f32⟩
  | .hbm, ⟨42, _⟩ => ⟨S16x32768, .bf16⟩
  | .hbm, ⟨43, _⟩ => ⟨S8x32768, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x384, .bf16⟩
  | .local _ .vmem, ⟨5, _⟩ => ⟨S1x512x384, .bf16⟩
  | .local _ .vmem, ⟨6, _⟩ => ⟨S1x512x384, .bf16⟩
  | .local _ .vmem, ⟨7, _⟩ => ⟨S1x512x384, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S4x8x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S16x512, .bf16⟩
  | .local _ .vmem, ⟨20, _⟩ => ⟨S16x512, .bf16⟩
  | .local _ .vmem, ⟨21, _⟩ => ⟨S8x512, .f32⟩
  | .local _ .vmem, ⟨22, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference7Ideal.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S8x6144 : Shape := ⟨2, ![8, 6144]⟩
abbrev S2x1024 : Shape := ⟨2, ![2, 1024]⟩
abbrev S2x1024x1024 : Shape := ⟨3, ![2, 1024, 1024]⟩
abbrev S1024x16 : Shape := ⟨2, ![1024, 16]⟩
abbrev S16 : Shape := ⟨1, ![16]⟩
abbrev S8x1024 : Shape := ⟨2, ![8, 1024]⟩
abbrev S8x1x1024 : Shape := ⟨3, ![8, 1, 1024]⟩
abbrev S8x4096x4x64 : Shape := ⟨4, ![8, 4096, 4, 64]⟩
abbrev S8x4x4096x64 : Shape := ⟨4, ![8, 4, 4096, 64]⟩
abbrev S8x4096x6x64 : Shape := ⟨4, ![8, 4096, 6, 64]⟩
abbrev S8x6x4096x64 : Shape := ⟨4, ![8, 6, 4096, 64]⟩
abbrev S8x16x4096x64 : Shape := ⟨4, ![8, 16, 4096, 64]⟩
abbrev S_ : Shape := ⟨0, ![]⟩
abbrev S8x16x4096 : Shape := ⟨3, ![8, 16, 4096]⟩
abbrev S8x16x4096x1 : Shape := ⟨4, ![8, 16, 4096, 1]⟩
abbrev S1x1024 : Shape := ⟨2, ![1, 1024]⟩
abbrev S1024 : Shape := ⟨1, ![1024]⟩
abbrev S16x1x64 : Shape := ⟨3, ![16, 1, 64]⟩
abbrev S1x16x1x64 : Shape := ⟨4, ![1, 16, 1, 64]⟩
abbrev S8x4096x16x64 : Shape := ⟨4, ![8, 4096, 16, 64]⟩
abbrev S1x1024x1024 : Shape := ⟨3, ![1, 1024, 1024]⟩
abbrev S1024x1024 : Shape := ⟨2, ![1024, 1024]⟩
abbrev S8x4096 : Shape := ⟨2, ![8, 4096]⟩
abbrev S8x4096x1 : Shape := ⟨3, ![8, 4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x384, .bf16⟩
  | .hbm, ⟨3, _⟩ => ⟨S8x4096x384, .bf16⟩
  | .hbm, ⟨4, _⟩ => ⟨S8x6144, .f32⟩
  | .hbm, ⟨5, _⟩ => ⟨S2x1024, .f32⟩
  | .hbm, ⟨6, _⟩ => ⟨S2x1024x1024, .f32⟩
  | .hbm, ⟨7, _⟩ => ⟨S1024x16, .f32⟩
  | .hbm, ⟨8, _⟩ => ⟨S16, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x4096x4x64, .f32⟩
  | .hbm, ⟨22, _⟩ => ⟨S8x4x4096x64, .f32⟩
  | .hbm, ⟨23, _⟩ => ⟨S8x4096x384, .f32⟩
  | .hbm, ⟨24, _⟩ => ⟨S8x4096x6x64, .f32⟩
  | .hbm, ⟨25, _⟩ => ⟨S8x6x4096x64, .f32⟩
  | .hbm, ⟨26, _⟩ => ⟨S8x4096x384, .f32⟩
  | .hbm, ⟨27, _⟩ => ⟨S8x4096x6x64, .f32⟩
  | .hbm, ⟨28, _⟩ => ⟨S8x6x4096x64, .f32⟩
  | .hbm, ⟨29, _⟩ => ⟨S8x16x4096x64, .f32⟩
  | .hbm, ⟨30, _⟩ => ⟨S8x16x4096x64, .f32⟩
  | .hbm, ⟨31, _⟩ => ⟨S_, .f32⟩
  | .hbm, ⟨32, _⟩ => ⟨S8x16x4096, .f32⟩
  | .hbm, ⟨33, _⟩ => ⟨S8x16x4096x1, .f32⟩
  | .hbm, ⟨34, _⟩ => ⟨S_, .f32⟩
  | .hbm, ⟨35, _⟩ => ⟨S8x16x4096x1, .f32⟩
  | .hbm, ⟨36, _⟩ => ⟨S8x16x4096x1, .f32⟩
  | .hbm, ⟨37, _⟩ => ⟨S_, .f32⟩
  | .hbm, ⟨38, _⟩ => ⟨S8x16x4096x1, .f32⟩
  | .hbm, ⟨39, _⟩ => ⟨S8x16x4096x1, .f32⟩
  | .hbm, ⟨40, _⟩ => ⟨S8x16x4096x1, .f32⟩
  | .hbm, ⟨41, _⟩ => ⟨S8x16x4096x64, .f32⟩
  | .hbm, ⟨42, _⟩ => ⟨S8x16x4096x64, .f32⟩
  | .hbm, ⟨43, _⟩ => ⟨S1x1024, .f32⟩
  | .hbm, ⟨44, _⟩ => ⟨S1024, .f32⟩
  | .hbm, ⟨45, _⟩ => ⟨S16x1x64, .f32⟩
  | .hbm, ⟨46, _⟩ => ⟨S1x16x1x64, .f32⟩
  | .hbm, ⟨47, _⟩ => ⟨S8x16x4096x64, .f32⟩
  | .hbm, ⟨48, _⟩ => ⟨S8x16x4096x64, .f32⟩
  | .hbm, ⟨49, _⟩ => ⟨S8x4096x16x64, .f32⟩
  | .hbm, ⟨50, _⟩ => ⟨S8x4096x1024, .f32⟩
  | .hbm, ⟨51, _⟩ => ⟨S1x1024x1024, .f32⟩
  | .hbm, ⟨52, _⟩ => ⟨S1024x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x1x1024, .f32⟩
  | .hbm, ⟨72, _⟩ => ⟨S8x1x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Chain.lean ====
/- The computation of one row of a grid point, written once. The kernel body treats its two rows the same way and its
   four heads the same way; the definitions here take the row's loaded vectors and, per head, the lane mask and the
   offsets, so that every later statement about the body is made once and not eight times. -/
module

public import proofs.«01_k».proof.Proof.Gen.KernelIdeal.Value

@[expose] public section

set_option maxRecDepth 16384

noncomputable section

namespace Cert.Mlstm

open Cert.KernelIdeal Cert.KernelIdeal.Gen Idealize.ShloMosaic Idealize.SL.Sem

variable {F : FTy → Type} [FloatOps F]

/-! ## The windows and gates of a row -/

def xmV (U : Vec F S1x128x640 .f32) : FVec F S128x256 .f32 :=
  extractStridedSlice S128x256 ![0, 0] (shapeCast S128x640 U shapeCasts_S1x128x640_S128x640) slices_S128x640_o0_0_S128x256

def ogV (U : Vec F S1x128x640 .f32) : FVec F S128x256 .f32 :=
  extractStridedSlice S128x256 ![0, 256] (shapeCast S128x640 U shapeCasts_S1x128x640_S128x640) slices_S128x640_o0_256_S128x256

def gcolV (U : Vec F S1x128x640 .f32) (gbc : Vec F S1x128 .f32) : FVec F S128x128 .f32 :=
  addf (extractStridedSlice S128x128 ![0, 512] (shapeCast S128x640 U shapeCasts_S1x128x640_S128x640) slices_S128x640_o0_512_S128x128)
    (broadcastTo S128x128 (shapeCast S1x128 gbc shapeCasts_S1x128_S1x128) broadcasts_S1x128_S128x128)

def growV (GR : Vec F S1x8x128 .f32) (gbr : Vec F S8x1 .f32) : FVec F S8x128 .f32 :=
  addf (shapeCast S8x128 GR shapeCasts_S1x8x128_S8x128) (broadcastTo S8x128 (shapeCast S8x1 gbr shapeCasts_S8x1_S8x1) broadcasts_S8x1_S8x128)

def prevV (PV : Vec F S1x128x256 .f32) : FVec F S128x256 .f32 := shapeCast S128x256 PV shapeCasts_S1x128x256_S128x256

/-- One tap of the causal convolution: the rows moved down by `s`, the first `s` taken from the chunk before. -/
def tapV (s : BitVec 32) (o : Nat) (xm pv : FVec F S128x256 .f32) (W2 : Vec F S4x256 .f32) (ho : S4x256.Slices ![o, 0] S1x256) : FVec F S128x256 .f32 :=
  mulf (select (cmpi .slt (iota .tc S128x256 32 [0] iota_S128x256_d0_w32) (broadcast S128x256 s)) (dynamicRotate 0 s none pv rotates_S128x256_d0)
      (dynamicRotate 0 s none xm rotates_S128x256_d0)) (broadcastTo S128x256 (extractStridedSlice S1x256 ![o, 0] W2 ho) broadcasts_S1x256_S128x256)

def convV (xm pv : FVec F S128x256 .f32) (W2 : Vec F S4x256 .f32) (B3 : Vec F S1x256 .f32) : FVec F S128x256 .f32 :=
  addf (addf (addf (addf (mulf xm (broadcastTo S128x256 (extractStridedSlice S1x256 ![3, 0] W2 slices_S4x256_o3_0_S1x256) broadcasts_S1x256_S128x256))
      (tapV 1#32 2 xm pv W2 slices_S4x256_o2_0_S1x256)) (tapV 2#32 1 xm pv W2 slices_S4x256_o1_0_S1x256)) (tapV 3#32 0 xm pv W2 slices_S4x256_o0_0_S1x256))
    (broadcastTo S128x256 (shapeCast S1x256 B3 shapeCasts_S1x256_S1x256) broadcasts_S1x256_S128x256)

def xcV (xm pv : FVec F S128x256 .f32) (W2 : Vec F S4x256 .f32) (B3 : Vec F S1x256 .f32) : FVec F S128x256 .bf16 :=
  truncf .bf16 (mulf (convV xm pv W2 B3) (logistic (convV xm pv W2 B3))) bitsLt_bf16_f32

/-- A projection by a 256 x 256 matrix. -/
def projV (x : FVec F S128x256 .bf16) (W : Vec F S256x256 .bf16) : FVec F S128x256 .f32 :=
  matmul dot_S128x256_S256x256_S128x256_1_0_0_1_n_n none x (shapeCast S256x256 W shapeCasts_S256x256_S256x256) (constant S128x256 .f32 0x00000000#32)

/-! ## The gates of a head, spread over the lanes -/

def lsColV (o : Nat) (ho : S128x128.Slices ![0, o] S128x1) (g : FVec F S128x128 .f32) : FVec F S128x128 .f32 :=
  broadcastTo S128x128 (shapeCast S128x1 (subf (minimumf (extractStridedSlice S128x1 ![0, o] g ho) (broadcast S128x1 (Scalar.ofBits .f32 0x00000000#32)))
    (log1p (exp (subf (broadcast S128x1 (Scalar.ofBits .f32 0x00000000#32)) (absf (extractStridedSlice S128x1 ![0, o] g ho)))))) shapeCasts_S128x1_S128x1)
    broadcasts_S128x1_S128x128

def igWideV (o : Nat) (ho : S128x128.Slices ![0, o] S128x1) (g : FVec F S128x128 .f32) : FVec F S128x128 .f32 :=
  broadcastTo S128x128 (shapeCast S128x1 (extractStridedSlice S128x1 ![0, o] g ho) shapeCasts_S128x1_S128x1) broadcasts_S128x1_S128x128

def hiV {s : Shape} (x : FVec F s .f32) : FVec F s .bf16 := truncf .bf16 x bitsLt_bf16_f32
def loV {s : Shape} (x : FVec F s .f32) : FVec F s .bf16 := truncf .bf16 (subf x (extf .f32 (hiV x) bitsLt_bf16_f32)) bitsLt_bf16_f32

/-- The running sums down the rows. -/
def cumV (ls : FVec F S128x128 .f32) : FVec F S128x128 .f32 :=
  addf (matmul dot_S128x128_S128x128_S128x128_1_0_0_1_n_n none k0_pay5 (hiV ls) (constant S128x128 .f32 0x00000000#32))
    (matmul dot_S128x128_S128x128_S128x128_1_0_0_1_n_n none k0_pay5 (loV ls) (constant S128x128 .f32 0x00000000#32))

def lsRowV (g : FVec F S8x128 .f32) : FVec F S8x128 .f32 :=
  subf (minimumf g (broadcast S8x128 (Scalar.ofBits .f32 0x00000000#32)))
    (log1p (exp (subf (broadcast S8x128 (Scalar.ofBits .f32 0x00000000#32)) (absf g))))

/-- The running sums along the lanes. -/
def cumRowV (g : FVec F S8x128 .f32) : FVec F S8x128 .f32 :=
  addf (matmul dot_S8x128_S128x128_S8x128_1_0_0_1_n_n none (hiV (lsRowV g)) k0_pay6 (constant S8x128 .f32 0x00000000#32))
    (matmul dot_S8x128_S128x128_S8x128_1_0_0_1_n_n none (loV (lsRowV g)) k0_pay6 (constant S8x128 .f32 0x00000000#32))

/-! ## One head -/

def rowMask (mk : IVec S1x256 1) : IVec S128x256 1 := broadcastTo S128x256 (shapeCast S1x256 mk shapeCasts_S1x256_S1x256) broadcasts_S1x256_S128x256

def twiceV (a : FVec F S128x128 .f32) : FVec F S128x256 .f32 :=
  concatenate S128x256 1 [⟨S128x128, a⟩, ⟨S128x128, a⟩] concatenates_S128x128_S128x128_S128x256_d1

def twice1V (a : FVec F S1x128 .f32) : FVec F S1x256 .f32 :=
  concatenate S1x256 1 [⟨S1x128, a⟩, ⟨S1x128, a⟩] concatenates_S1x128_S1x128_S1x256_d1

def qhV (mk : IVec S1x256 1) (q : FVec F S128x256 .f32) : FVec F S128x256 .f32 :=
  select (rowMask mk) q (broadcast S128x256 (Scalar.ofBits .f32 0x00000000#32))

def qkV (qh : FVec F S128x256 .f32) (kb : FVec F S128x256 .bf16) : FVec F S128x128 .f32 :=
  matmul dot_S128x256_S128x256_S128x128_1_1_0_0_n_n none (truncf .bf16 qh bitsLt_bf16_f32) kb (constant S128x128 .f32 0x00000000#32)

def qcV (qh : FVec F S128x256 .f32) (cst : FVec F S256x256 .f32) : FVec F S128x256 .f32 :=
  matmul dot_S128x256_S256x256_S128x256_1_0_0_1_n_n none (truncf .bf16 qh bitsLt_bf16_f32) (truncf .bf16 cst bitsLt_bf16_f32) (constant S128x256 .f32 0x00000000#32)

def qnV (qh : FVec F S128x256 .f32) (nst : FVec F S1x256 .f32) : FVec F S128x128 .f32 :=
  addf (matmul dot_S128x256_S256x128_S128x128_1_0_0_1_n_n none (hiV (mulf qh (broadcastTo S128x256 nst broadcasts_S1x256_S128x256)))
      (broadcast S256x128 (Scalar.ofBits .bf16 0x3F80#16)) (constant S128x128 .f32 0x00000000#32))
    (matmul dot_S128x256_S256x128_S128x128_1_0_0_1_n_n none (loV (mulf qh (broadcastTo S128x256 nst broadcasts_S1x256_S128x256)))
      (broadcast S256x128 (Scalar.ofBits .bf16 0x3F80#16)) (constant S128x128 .f32 0x00000000#32))

def m1V (o : Nat) (ho : S1x256.Slices ![0, o] S1x1) (mst : FVec F S1x256 .f32) : FVec F S1x1 .f32 := extractStridedSlice S1x1 ![0, o] mst ho

def logdV (o4 o : Nat) (h4 : S8x128.Slices ![o4, 0] S1x128) (ho : S8x128.Slices ![o, 0] S1x128) (gr : FVec F S8x128 .f32) (cum : FVec F S128x128 .f32)
    (cr : FVec F S8x128 .f32) : FVec F S128x128 .f32 :=
  select k0_pay7 (addf (subf cum (broadcastTo S128x128 (extractStridedSlice S1x128 ![o4, 0] cr h4) broadcasts_S1x128_S128x128))
      (broadcastTo S128x128 (extractStridedSlice S1x128 ![o, 0] gr ho) broadcasts_S1x128_S128x128)) (broadcast S128x128 (Scalar.ofBits .f32 0xFF800000#32))

def linterV (cum : FVec F S128x128 .f32) (m1 : FVec F S1x1 .f32) : FVec F S128x128 .f32 :=
  addf cum (broadcastTo S128x128 m1 broadcasts_S1x1_S128x128)

def mtV (ld li : FVec F S128x128 .f32) : FVec F S128x128 .f32 :=
  maximumf li (broadcastTo S128x128 (shapeCast S128x1 (multiReduction .maximumf [1] S128 ld 0xFF800000#32 reduces_S128x128_S128 (.inl rfl) rfl)
    shapeCasts_S128_S128x1) broadcasts_S128x1_S128x128)

def interV (li mt : FVec F S128x128 .f32) : FVec F S128x128 .f32 := exp (subf li mt)

def swV (qk ld mt : FVec F S128x128 .f32) : FVec F S128x128 .f32 := mulf qk (exp (subf ld mt))

def lastV (cum : FVec F S128x128 .f32) : FVec F S1x128 .f32 := extractStridedSlice S1x128 ![127, 0] cum slices_S128x128_o127_0_S1x128

def logwV (cum igw : FVec F S128x128 .f32) : FVec F S128x128 .f32 :=
  addf (subf (broadcastTo S128x128 (lastV cum) broadcasts_S1x128_S128x128) cum) igw

def lpmV (cum : FVec F S128x128 .f32) (m1 : FVec F S1x1 .f32) : FVec F S1x128 .f32 := addf (lastV cum) (broadcastTo S1x128 m1 broadcasts_S1x1_S1x128)

def mnewV (cum igw : FVec F S128x128 .f32) (m1 : FVec F S1x1 .f32) : FVec F S1x128 .f32 :=
  maximumf (lpmV cum m1) (shapeCast S1x128 (multiReduction .maximumf [0] S128 (logwV cum igw) 0xFF800000#32 reduces_S128x128_S128_2 (.inl rfl) rfl)
    shapeCasts_S128_S1x128)

def wV (cum igw : FVec F S128x128 .f32) (m1 : FVec F S1x1 .f32) : FVec F S128x128 .f32 :=
  exp (subf (logwV cum igw) (broadcastTo S128x128 (mnewV cum igw m1) broadcasts_S1x128_S128x128))

def decV (cum igw : FVec F S128x128 .f32) (m1 : FVec F S1x1 .f32) : FVec F S1x128 .f32 := exp (subf (lpmV cum m1) (mnewV cum igw m1))

def swvV (sw : FVec F S128x128 .f32) (vb : FVec F S128x256 .bf16) : FVec F S128x256 .f32 :=
  matmul dot_S128x128_S128x256_S128x256_1_0_0_1_n_n none (hiV sw) vb (constant S128x256 .f32 0x00000000#32)

def swsumV (sw : FVec F S128x128 .f32) : FVec F S128x128 .f32 :=
  addf (matmul dot_S128x128_S128x128_S128x128_1_0_0_1_n_n none (hiV sw) (broadcast S128x128 (Scalar.ofBits .bf16 0x3F80#16)) (constant S128x128 .f32 0x00000000#32))
    (matmul dot_S128x128_S128x128_S128x128_1_0_0_1_n_n none (loV sw) (broadcast S128x128 (Scalar.ofBits .bf16 0x3F80#16)) (constant S128x128 .f32 0x00000000#32))

def houtV (inter mt qn sws : FVec F S128x128 .f32) (qc swv : FVec F S128x256 .f32) : FVec F S128x256 .f32 :=
  divf (addf (mulf (twiceV inter) qc) swv)
    (twiceV (maximumf (absf (addf (mulf inter qn) sws)) (exp (subf (broadcast S128x128 (Scalar.ofBits .f32 0x00000000#32)) mt))))

/-! ## A row: the four heads put together

`hG`, `hR`, `hS` hold what one head takes of the gates: the running sum, the widened input gate, the state's scale. -/

/-- What a row knows before it comes to the heads. -/
structure RowIn (F : FTy → Type) where
  U : Vec F S1x128x640 .f32
  GR : Vec F S1x8x128 .f32
  PV : Vec F S1x128x256 .f32
  CB : Vec F S1x256x256 .f32
  NB : Vec F S1x1x256 .f32
  MB : Vec F S1x1x256 .f32
  W2 : Vec F S4x256 .f32
  B3 : Vec F S1x256 .f32
  Wq : Vec F S256x256 .bf16
  Wk : Vec F S256x256 .bf16
  Wv : Vec F S256x256 .bf16
  gbc : Vec F S1x128 .f32
  gbr : Vec F S8x1 .f32

namespace RowIn

variable (R : RowIn F)

def xm : FVec F S128x256 .f32 := xmV R.U
def gcol : FVec F S128x128 .f32 := gcolV R.U R.gbc
def grow : FVec F S8x128 .f32 := growV R.GR R.gbr
def xc : FVec F S128x256 .bf16 := xcV R.xm (prevV R.PV) R.W2 R.B3
def q : FVec F S128x256 .f32 := projV R.xc R.Wq
def k : FVec F S128x256 .f32 := projV R.xc R.Wk
def v : FVec F S128x256 .bf16 := truncf .bf16 (projV (truncf .bf16 R.xm bitsLt_bf16_f32) R.Wv) bitsLt_bf16_f32
def cr : FVec F S8x128 .f32 := cumRowV R.grow
def cst : FVec F S256x256 .f32 := shapeCast S256x256 R.CB shapeCasts_S1x256x256_S256x256
def nst : FVec F S1x256 .f32 := shapeCast S1x256 R.NB shapeCasts_S1x1x256_S1x256
def mst : FVec F S1x256 .f32 := shapeCast S1x256 R.MB shapeCasts_S1x1x256_S1x256

/-- The running sum, the widened input gate and the state's scale of a head. -/
def cum (o4 : Nat) (h : S128x128.Slices ![0, o4] S128x1) : FVec F S128x128 .f32 := cumV (lsColV o4 h R.gcol)
def igw (o : Nat) (h : S128x128.Slices ![0, o] S128x1) : FVec F S128x128 .f32 := igWideV o h R.gcol
def m1 (o : Nat) (h : S1x256.Slices ![0, o] S1x1) : FVec F S1x1 .f32 := m1V o h R.mst

/-- A head's output, its two lanes side by side, before the mask. -/
def hd (cum : FVec F S128x128 .f32) (ld : FVec F S128x128 .f32) (m1 : FVec F S1x1 .f32) (mk : IVec S1x256 1) : FVec F S128x256 .f32 :=
  houtV (interV (linterV cum m1) (mtV ld (linterV cum m1))) (mtV ld (linterV cum m1)) (qnV (qhV mk R.q) R.nst)
    (swsumV (swV (qkV (qhV mk R.q) (truncf .bf16 R.k bitsLt_bf16_f32)) ld (mtV ld (linterV cum m1)))) (qcV (qhV mk R.q) R.cst)
    (swvV (swV (qkV (qhV mk R.q) (truncf .bf16 R.k bitsLt_bf16_f32)) ld (mtV ld (linterV cum m1))) R.v)

def cum0 := R.cum 4 slices_S128x128_o0_4_S128x1
def cum1 := R.cum 5 slices_S128x128_o0_5_S128x1
def cum2 := R.cum 6 slices_S128x128_o0_6_S128x1
def cum3 := R.cum 7 slices_S128x128_o0_7_S128x1
def igw0 := R.igw 0 slices_S128x128_o0_0_S128x1
def igw1 := R.igw 1 slices_S128x128_o0_1_S128x1
def igw2 := R.igw 2 slices_S128x128_o0_2_S128x1
def igw3 := R.igw 3 slices_S128x128_o0_3_S128x1
def ms0 := R.m1 0 slices_S1x256_o0_0_S1x1
def ms1 := R.m1 64 slices_S1x256_o0_64_S1x1
def ms2 := R.m1 128 slices_S1x256_o0_128_S1x1
def ms3 := R.m1 192 slices_S1x256_o0_192_S1x1
def ld0 := logdV 4 0 slices_S8x128_o4_0_S1x128 slices_S8x128_o0_0_S1x128 R.grow R.cum0 R.cr
def ld1 := logdV 5 1 slices_S8x128_o5_0_S1x128 slices_S8x128_o1_0_S1x128 R.grow R.cum1 R.cr
def ld2 := logdV 6 2 slices_S8x128_o6_0_S1x128 slices_S8x128_o2_0_S1x128 R.grow R.cum2 R.cr
def ld3 := logdV 7 3 slices_S8x128_o7_0_S1x128 slices_S8x128_o3_0_S1x128 R.grow R.cum3 R.cr

def hmix : FVec F S128x256 .f32 :=
  select (rowMask k0_pay11) (R.hd R.cum3 R.ld3 R.ms3 k0_pay11) (select (rowMask k0_pay10) (R.hd R.cum2 R.ld2 R.ms2 k0_pay10)
    (select (rowMask k0_pay9) (R.hd R.cum1 R.ld1 R.ms1 k0_pay9) (select (rowMask k0_pay8) (R.hd R.cum0 R.ld0 R.ms0 k0_pay8)
      (broadcast S128x256 (Scalar.ofBits .f32 0x00000000#32)))))

def wfull : FVec F S128x256 .f32 :=
  select (rowMask k0_pay11) (twiceV (wV R.cum3 R.igw3 R.ms3)) (select (rowMask k0_pay10) (twiceV (wV R.cum2 R.igw2 R.ms2))
    (select (rowMask k0_pay9) (twiceV (wV R.cum1 R.igw1 R.ms1)) (select (rowMask k0_pay8) (twiceV (wV R.cum0 R.igw0 R.ms0))
      (broadcast S128x256 (Scalar.ofBits .f32 0x00000000#32)))))

def decl : FVec F S1x256 .f32 :=
  select k0_pay11 (twice1V (decV R.cum3 R.igw3 R.ms3)) (select k0_pay10 (twice1V (decV R.cum2 R.igw2 R.ms2))
    (select k0_pay9 (twice1V (decV R.cum1 R.igw1 R.ms1)) (select k0_pay8 (twice1V (decV R.cum0 R.igw0 R.ms0))
      (broadcast S1x256 (Scalar.ofBits .f32 0x00000000#32)))))

def mnewl : FVec F S1x256 .f32 :=
  select k0_pay11 (twice1V (mnewV R.cum3 R.igw3 R.ms3)) (select k0_pay10 (twice1V (mnewV R.cum2 R.igw2 R.ms2))
    (select k0_pay9 (twice1V (mnewV R.cum1 R.igw1 R.ms1)) (select k0_pay8 (twice1V (mnewV R.cum0 R.igw0 R.ms0))
      (broadcast S1x256 (Scalar.ofBits .f32 0x00000000#32)))))

def kw : FVec F S128x256 .f32 := mulf R.k R.wfull

/-- Which entries of the 256 x 256 memory belong to one head. -/
def sameHead : IVec S256x256 1 := k0_pay15 kernelRun0_B.sl.v65 kernelRun0_B.sl.v90

/-- What a row writes: the output, the window kept for the next chunk, the memory, the normaliser, the scale. -/
def yOut : FVec F S1x128x256 .f32 := shapeCast S1x128x256 (mulf (logistic (ogV R.U)) R.hmix) shapeCasts_S128x256_S1x128x256
def pOut : FVec F S1x128x256 .f32 := shapeCast S1x128x256 R.xm shapeCasts_S128x256_S1x128x256
def cOut : FVec F S1x256x256 .f32 :=
  shapeCast S1x256x256 (addf (mulf (broadcastTo S256x256 R.decl broadcasts_S1x256_S256x256) R.cst)
    (select sameHead (matmul dot_S128x256_S128x256_S256x256_0_0_1_1_n_n none (truncf .bf16 R.kw bitsLt_bf16_f32) R.v (constant S256x256 .f32 0x00000000#32))
      (broadcast S256x256 (Scalar.ofBits .f32 0x00000000#32)))) shapeCasts_S256x256_S1x256x256
def nOut : FVec F S1x1x256 .f32 :=
  shapeCast S1x1x256 (addf (mulf R.decl R.nst) (shapeCast S1x256 (multiReduction .add [0] S256 R.kw 0x00000000#32 reduces_S128x256_S256 (.inl rfl) rfl)
    shapeCasts_S256_S1x256)) shapeCasts_S1x256_S1x1x256
def mOut : FVec F S1x1x256 .f32 := shapeCast S1x1x256 R.mnewl shapeCasts_S1x256_S1x1x256

end RowIn

end Cert.Mlstm
end
end
-- ==== Proof.Model.lean ====
/- The recurrence of one head on one chunk, over the extended reals, and the values it keeps finite. -/
module

public import Idealize.ShloMosaic.PureOps.Ideal
public import Idealize.ShloMosaic.PureOps.Ideal.Laws

@[expose] public section

noncomputable section

namespace Cert.Mlstm

open Idealize.ShloMosaic

/-! ## One head, one chunk -/

/-- The log of the logistic, in the form that does not overflow. -/
def lsg (t : EReal) : EReal := min t 0 - Ideal.log1p (Ideal.exp (0 - max t (-t)))

/-- The running sum of the log forget gates. -/
def cum (lf : Fin 128 → EReal) (t : Fin 128) : EReal := ∑ s : Fin 128, if s ≤ t then lf s else 0

/-- The log weight of position `s` for the query at `t`. -/
def logd (lf ig : Fin 128 → EReal) (t s : Fin 128) : EReal := if s ≤ t then (cum lf t - cum lf s) + ig s else ⊥

/-- The scale of a query. -/
def mt (lf ig : Fin 128 → EReal) (M : EReal) (t : Fin 128) : EReal :=
  max (cum lf t + M) (Finset.univ.fold max ⊥ fun s => logd lf ig t s)

/-- The weight of the state the chunk starts from. -/
def inter (lf ig : Fin 128 → EReal) (M : EReal) (t : Fin 128) : EReal := Ideal.exp ((cum lf t + M) - mt lf ig M t)

/-- The weighted scores. -/
def sw (lf ig : Fin 128 → EReal) (q k : Fin 128 → Fin 64 → EReal) (M : EReal) (t s : Fin 128) : EReal :=
  (∑ d, q t d * k s d) * Ideal.exp (logd lf ig t s - mt lf ig M t)

def num (lf ig : Fin 128 → EReal) (q k v : Fin 128 → Fin 64 → EReal) (C : Fin 64 → Fin 64 → EReal) (M : EReal) (t : Fin 128) (e : Fin 64) : EReal :=
  inter lf ig M t * (∑ d, q t d * C d e) + ∑ s, sw lf ig q k M t s * v s e

def den (lf ig : Fin 128 → EReal) (q k : Fin 128 → Fin 64 → EReal) (N : Fin 64 → EReal) (M : EReal) (t : Fin 128) : EReal :=
  inter lf ig M t * (∑ d, q t d * N d) + ∑ s, sw lf ig q k M t s

/-- The output of a head. -/
def hout (lf ig : Fin 128 → EReal) (q k v : Fin 128 → Fin 64 → EReal) (C : Fin 64 → Fin 64 → EReal) (N : Fin 64 → EReal) (M : EReal)
    (t : Fin 128) (e : Fin 64) : EReal :=
  Ideal.div (num lf ig q k v C M t e)
    (max (max (den lf ig q k N M t) (-(den lf ig q k N M t))) (Ideal.exp (-(mt lf ig M t))))

/-- The log weight with which position `s` enters the next state. -/
def logw (lf ig : Fin 128 → EReal) (s : Fin 128) : EReal := (cum lf 127 - cum lf s) + ig s

/-- The next state: its scale, the weights, the decay, the memory, the normaliser. -/
def mnew (lf ig : Fin 128 → EReal) (M : EReal) : EReal := max (cum lf 127 + M) (Finset.univ.fold max ⊥ fun s => logw lf ig s)
def wgt (lf ig : Fin 128 → EReal) (M : EReal) (s : Fin 128) : EReal := Ideal.exp (logw lf ig s - mnew lf ig M)
def dec (lf ig : Fin 128 → EReal) (M : EReal) : EReal := Ideal.exp ((cum lf 127 + M) - mnew lf ig M)
def cnew (lf ig : Fin 128 → EReal) (k v : Fin 128 → Fin 64 → EReal) (C : Fin 64 → Fin 64 → EReal) (M : EReal) (d e : Fin 64) : EReal :=
  dec lf ig M * C d e + ∑ s, (wgt lf ig M s * k s d) * v s e
def nnew (lf ig : Fin 128 → EReal) (k : Fin 128 → Fin 64 → EReal) (N : Fin 64 → EReal) (M : EReal) (d : Fin 64) : EReal :=
  dec lf ig M * N d + ∑ s, wgt lf ig M s * k s d

/-! ## Finite values -/

/-- A value that is a real number. -/
def IsR (x : EReal) : Prop := ∃ r : ℝ, x = (r : EReal)

namespace IsR

theorem coe (r : ℝ) : IsR (r : EReal) := ⟨r, rfl⟩
theorem zero : IsR 0 := ⟨0, rfl⟩
theorem add {x y : EReal} : IsR x → IsR y → IsR (x + y)
  | ⟨a, ha⟩, ⟨b, hb⟩ => ⟨a + b, by rw [ha, hb, EReal.coe_add]⟩
theorem sub {x y : EReal} : IsR x → IsR y → IsR (x - y)
  | ⟨a, ha⟩, ⟨b, hb⟩ => ⟨a - b, by rw [ha, hb, EReal.coe_sub]⟩
theorem mul {x y : EReal} : IsR x → IsR y → IsR (x * y)
  | ⟨a, ha⟩, ⟨b, hb⟩ => ⟨a * b, by rw [ha, hb, EReal.coe_mul]⟩
theorem neg {x : EReal} : IsR x → IsR (-x)
  | ⟨a, ha⟩ => ⟨-a, by rw [ha, EReal.coe_neg]⟩
theorem max {x y : EReal} (hx : IsR x) (hy : IsR y) : IsR (max x y) := by
  rcases max_choice x y with h | h <;> rw [h] <;> assumption
theorem min {x y : EReal} (hx : IsR x) (hy : IsR y) : IsR (min x y) := by
  rcases min_choice x y with h | h <;> rw [h] <;> assumption
theorem exp {x : EReal} : IsR x → IsR (Ideal.exp x)
  | ⟨a, ha⟩ => ⟨Real.exp a, by rw [ha]; rfl⟩
theorem sum {ι : Type} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact (h a (by simp)).add (ih fun i hi => h i (by simp [hi]))
theorem sumU {n : Nat} (f : Fin n → EReal) (h : ∀ i, IsR (f i)) : IsR (∑ i, f i) := sum _ _ fun i _ => h i
theorem sub_self {x : EReal} : IsR x → x - x = 0
  | ⟨a, ha⟩ => by rw [ha, ← EReal.coe_sub, _root_.sub_self]; rfl
theorem ite {p : Prop} [Decidable p] {x y : EReal} (hx : IsR x) (hy : IsR y) : IsR (if p then x else y) := by
  split <;> assumption

/-- A value below the top whose maximum with a real is taken is a real. -/
theorem max_fold {x : EReal} (hx : IsR x) {n : Nat} (f : Fin n → EReal) (h : ∀ i, f i ≠ ⊤) :
    IsR (Max.max x (Finset.univ.fold Max.max ⊥ f)) := by
  have hf : Finset.univ.fold Max.max ⊥ f ≠ ⊤ := by
    apply ne_of_lt
    rw [Finset.fold_max_lt]
    exact ⟨bot_lt_top, fun i _ => lt_top_iff_ne_top.mpr (h i)⟩
  obtain ⟨r, hr⟩ := hx
  have h1 : Max.max x (Finset.univ.fold Max.max ⊥ f) ≠ ⊤ := by
    rcases max_choice x (Finset.univ.fold Max.max ⊥ f) with e | e <;> rw [e]
    · rw [hr]; exact EReal.coe_ne_top r
    · exact hf
  have h2 : Max.max x (Finset.univ.fold Max.max ⊥ f) ≠ ⊥ := by
    apply ne_of_gt
    exact lt_of_lt_of_le (by rw [hr]; exact EReal.bot_lt_coe r) (le_max_left _ _)
  exact ⟨_, (EReal.coe_toReal h1 h2).symm⟩

theorem ne_top {x : EReal} : IsR x → x ≠ ⊤
  | ⟨a, ha⟩ => by rw [ha]; exact EReal.coe_ne_top a

theorem log1p_exp {x : EReal} : IsR x → IsR (Ideal.log1p (Ideal.exp x))
  | ⟨a, ha⟩ => by
    refine ⟨Real.log (1 + Real.exp a), ?_⟩
    rw [ha]
    show Ideal.log (1 + ((Real.exp a : ℝ) : EReal)) = _
    rw [← EReal.coe_one, ← EReal.coe_add]
    show (if 1 + Real.exp a ≤ 0 then (⊥ : EReal) else ((Real.log (1 + Real.exp a) : ℝ) : EReal)) = _
    rw [if_neg (not_le.mpr (by have := Real.exp_pos a; linarith))]

end IsR

variable {lf ig : Fin 128 → EReal} {q k v : Fin 128 → Fin 64 → EReal} {N : Fin 64 → EReal} {M : EReal}

theorem lsg_isR {t : EReal} (h : IsR t) : IsR (lsg t) :=
  (h.min .zero).sub (IsR.log1p_exp (IsR.zero.sub (h.max h.neg)))

theorem cum_isR (h : ∀ s, IsR (lf s)) (t : Fin 128) : IsR (cum lf t) := IsR.sumU _ fun s => (h s).ite .zero

theorem logd_ne_top (h : ∀ s, IsR (lf s)) (hi : ∀ s, IsR (ig s)) (t s : Fin 128) : logd lf ig t s ≠ ⊤ := by
  unfold logd
  split
  · exact (((cum_isR h t).sub (cum_isR h s)).add (hi s)).ne_top
  · exact bot_ne_top

theorem mt_isR (h : ∀ s, IsR (lf s)) (hi : ∀ s, IsR (ig s)) (hM : IsR M) (t : Fin 128) : IsR (mt lf ig M t) :=
  IsR.max_fold ((cum_isR h t).add hM) _ fun s => logd_ne_top h hi t s

theorem exp_logd_isR (h : ∀ s, IsR (lf s)) (hi : ∀ s, IsR (ig s)) (hM : IsR M) (t s : Fin 128) :
    IsR (Ideal.exp (logd lf ig t s - mt lf ig M t)) := by
  unfold logd
  split
  · exact ((((cum_isR h t).sub (cum_isR h s)).add (hi s)).sub (mt_isR h hi hM t)).exp
  · obtain ⟨r, hr⟩ := mt_isR (M := M) h hi hM t
    rw [hr]
    refine ⟨0, ?_⟩
    rw [EReal.bot_sub]
    rfl

theorem sw_isR (h : ∀ s, IsR (lf s)) (hi : ∀ s, IsR (ig s)) (hq : ∀ t d, IsR (q t d)) (hk : ∀ t d, IsR (k t d)) (hM : IsR M) (t s : Fin 128) :
    IsR (sw lf ig q k M t s) :=
  (IsR.sumU _ fun d => (hq t d).mul (hk s d)).mul (exp_logd_isR h hi hM t s)

theorem logw_isR (h : ∀ s, IsR (lf s)) (hi : ∀ s, IsR (ig s)) (s : Fin 128) : IsR (logw lf ig s) :=
  ((cum_isR h _).sub (cum_isR h s)).add (hi s)

theorem mnew_isR (h : ∀ s, IsR (lf s)) (hi : ∀ s, IsR (ig s)) (hM : IsR M) : IsR (mnew lf ig M) :=
  IsR.max_fold ((cum_isR h _).add hM) _ fun s => (logw_isR h hi s).ne_top

theorem wgt_isR (h : ∀ s, IsR (lf s)) (hi : ∀ s, IsR (ig s)) (hM : IsR M) (s : Fin 128) : IsR (wgt lf ig M s) :=
  ((logw_isR h hi s).sub (mnew_isR h hi hM)).exp

theorem nnew_isR (h : ∀ s, IsR (lf s)) (hi : ∀ s, IsR (ig s)) (hk : ∀ t d, IsR (k t d)) (hM : IsR M) (hN : ∀ d, IsR (N d)) (d : Fin 64) :
    IsR (nnew lf ig k N M d) :=
  ((((cum_isR h _).add hM).sub (mnew_isR h hi hM)).exp.mul (hN d)).add (IsR.sumU _ fun s => (wgt_isR h hi hM s).mul (hk s d))

end Cert.Mlstm
end
end
-- ==== Proof.ChainVal.lean ====
/- What the definitions of a row hold at each index, over the extended reals: the running sums, the log weights, the
   scores, and the output and the next state of a head, all as the recurrence of one head names them. -/
module

public import proofs.«01_k».proof.Proof.Chain
public import proofs.«01_k».proof.Proof.Model
public import Idealize.ShloMosaic.Lib.Pointwise

@[expose] public section

set_option maxRecDepth 16384

noncomputable section

namespace Cert.Mlstm

open Cert.KernelIdeal Cert.KernelIdeal.Gen Idealize.ShloMosaic Idealize.SL.Sem

/-! ## Masks and constants -/

theorem sle128 : ∀ s t : Fin 128, IntOp.cmpi .sle (BitVec.ofNat 32 s.val) (BitVec.ofNat 32 t.val) = if s ≤ t then 1#1 else 0#1 := by
  decide +kernel

theorem negInf : Ideal.ofBits .f32 0xFF800000#32 = ⊥ := by
  simp [Ideal.ofBits, Ideal.ieee]

theorem sitofp_one : FloatOps.sitofp (F := Ideal) .f32 (1#32) = (1 : EReal) := by
  show ((((1#32 : BitVec 32).toInt : ℝ)) : EReal) = 1
  simp

theorem sitofp_zero : FloatOps.sitofp (F := Ideal) .f32 (0#32) = (0 : EReal) := by
  show ((((0#32 : BitVec 32).toInt : ℝ)) : EReal) = 0
  simp

theorem ltri (t s : Fin 128) : k0_pay5 (F := Ideal) (ix2 t s) = if s ≤ t then (1 : EReal) else 0 := by
  pointwise [k0_pay5]
  rw [sle128]
  split
  · exact sitofp_one
  · exact sitofp_zero

theorem utri (s t : Fin 128) : k0_pay6 (F := Ideal) (ix2 s t) = if s ≤ t then (1 : EReal) else 0 := by
  pointwise [k0_pay6]
  rw [sle128]
  split
  · exact sitofp_one
  · exact sitofp_zero

/-- The lane of entry `d` of head `h`. -/
def lane (h : Fin 4) (d : Fin 64) : Fin 256 := ⟨64 * h.val + d.val, by omega⟩

theorem lane_div (h : Fin 4) (d : Fin 64) : (lane h d).val / 64 = h.val := by
  show (64 * h.val + d.val) / 64 = h.val
  omega

theorem lane_surj (l : Fin 256) : ∃ h d, l = lane h d :=
  ⟨⟨l.val / 64, by omega⟩, ⟨l.val % 64, by omega⟩, Fin.ext (by show l.val = 64 * (l.val / 64) + l.val % 64; omega)⟩

theorem mask0 : ∀ l : Fin 256, k0_pay8 (ix2 0 l) = if l.val / 64 = (0 : Fin 4).val then 1#1 else 0#1 := by decide +kernel
theorem mask1 : ∀ l : Fin 256, k0_pay9 (ix2 0 l) = if l.val / 64 = (1 : Fin 4).val then 1#1 else 0#1 := by decide +kernel
theorem mask2 : ∀ l : Fin 256, k0_pay10 (ix2 0 l) = if l.val / 64 = (2 : Fin 4).val then 1#1 else 0#1 := by decide +kernel
theorem mask3 : ∀ l : Fin 256, k0_pay11 (ix2 0 l) = if l.val / 64 = (3 : Fin 4).val then 1#1 else 0#1 := by decide +kernel

theorem v65_eq : ∀ l : Fin 256, kernelRun0_B.sl.v65 (ix2 l 0) = BitVec.ofNat 32 (l.val / 64) := by decide +kernel
theorem v90_eq : ∀ l : Fin 256, kernelRun0_B.sl.v90 (ix2 0 l) = BitVec.ofNat 32 (l.val / 64) := by decide +kernel
theorem v65_row (l m : Fin 256) : kernelRun0_B.sl.v65 (ix2 l m) = kernelRun0_B.sl.v65 (ix2 l 0) := rfl
theorem v90_col (l m : Fin 256) : kernelRun0_B.sl.v90 (ix2 l m) = kernelRun0_B.sl.v90 (ix2 0 m) := rfl

theorem sameHead_apply (h h' : Fin 4) (d e : Fin 64) : RowIn.sameHead (ix2 (lane h d) (lane h' e)) = if h = h' then 1#1 else 0#1 := by
  show IntOp.cmpi .eq (kernelRun0_B.sl.v65 (ix2 (lane h d) (lane h' e))) (kernelRun0_B.sl.v90 (ix2 (lane h d) (lane h' e))) = _
  rw [v65_row, v90_col, v65_eq, v90_eq, lane_div, lane_div]
  revert h h'
  decide +kernel

/-- A sum over the lanes of which one head only counts. -/
theorem sum_head (h : Fin 4) (f : Fin 256 → EReal) (hf : ∀ l : Fin 256, l.val / 64 ≠ h.val → f l = 0) : ∑ l, f l = ∑ d, f (lane h d) := by
  symm
  apply Finset.sum_of_injOn (fun d => lane h d)
  · intro a _ b _ hab
    have := congrArg Fin.val hab
    exact Fin.ext (by simp only [lane] at this; omega)
  · intro d _
    exact Finset.mem_coe.mpr (Finset.mem_univ _)
  · intro l _ hl
    apply hf
    intro hh
    apply hl
    refine ⟨⟨l.val % 64, by omega⟩, by simp, Fin.ext ?_⟩
    show 64 * h.val + l.val % 64 = l.val
    omega
  · intro d _
    rfl

/-! ## The gates -/

theorem lsColV_apply (o : Fin 128) (ho : S128x128.Slices ![0, o.val] S128x1) (g : FVec Ideal S128x128 .f32) (t l : Fin 128) :
    lsColV o.val ho g (ix2 t l) = lsg (g (ix2 t o)) := by
  pointwise [lsColV]
  rfl

theorem igWideV_apply (o : Fin 128) (ho : S128x128.Slices ![0, o.val] S128x1) (g : FVec Ideal S128x128 .f32) (t l : Fin 128) :
    igWideV o.val ho g (ix2 t l) = g (ix2 t o) := by
  pointwise [igWideV]

theorem cumV_apply (ls : FVec Ideal S128x128 .f32) (lf : Fin 128 → EReal) (h : ∀ s l, ls (ix2 s l) = lf s) (hf : ∀ s, IsR (lf s)) (t l : Fin 128) :
    cumV ls (ix2 t l) = cum lf t := by
  pointwise [cumV, hiV, loV]
  simp only [h, (hf _).sub_self, ltri, mul_zero, Finset.sum_const_zero, add_zero, cum, ite_mul, one_mul, zero_mul]

theorem cumRowV_apply (g : FVec Ideal S8x128 .f32) (r : Fin 8) (lf : Fin 128 → EReal) (h : ∀ s, lsg (g (ix2 r s)) = lf s) (hf : ∀ s, IsR (lf s)) (t : Fin 128) :
    cumRowV g (ix2 r t) = cum lf t := by
  have e : ∀ s, lsRowV g (ix2 r s) = lf s := fun s => by
    rw [← h]
    pointwise [lsRowV]
    rfl
  pointwise [cumRowV, hiV, loV]
  simp only [e, (hf _).sub_self, utri, zero_mul, Finset.sum_const_zero, add_zero, cum, mul_ite, mul_one, mul_zero, ite_self]

/-! ## One head -/

theorem rowMask_apply (mk : IVec S1x256 1) (t : Fin 128) (l : Fin 256) : rowMask mk (ix2 t l) = mk (ix2 0 l) := by
  pointwise [rowMask]

theorem select_ite {α : Type} (p : Prop) [Decidable p] (a b : α) : Scalar.select (if p then 1#1 else 0#1) a b = if p then a else b := by
  split <;> rfl

theorem twiceV_apply (a : FVec Ideal S128x128 .f32) (x : EReal) (t : Fin 128) (h : ∀ l, a (ix2 t l) = x) (l : Fin 256) : twiceV a (ix2 t l) = x := by
  pointwise [twiceV]
  simp only [h, dite_eq_ite, ite_self]

theorem twice1V_apply (a : FVec Ideal S1x128 .f32) (x : EReal) (h : ∀ l, a (ix2 0 l) = x) (l : Fin 256) : twice1V a (ix2 0 l) = x := by
  pointwise [twice1V]
  simp only [h, dite_eq_ite, ite_self]

section Head

variable {mk : IVec S1x256 1} {h : Fin 4} (hmk : ∀ l : Fin 256, mk (ix2 0 l) = if l.val / 64 = h.val then 1#1 else 0#1)
  {q : FVec Ideal S128x256 .f32}

include hmk

theorem qhV_apply (t : Fin 128) (l : Fin 256) : qhV mk q (ix2 t l) = if l.val / 64 = h.val then q (ix2 t l) else 0 := by
  have e : qhV mk q (ix2 t l) = Scalar.select (rowMask mk (ix2 t l)) (q (ix2 t l)) (0 : EReal) := by
    pointwise [qhV]
  rw [e, rowMask_apply, hmk, select_ite]

theorem qkV_apply (kb : FVec Ideal S128x256 .bf16) (t s : Fin 128) :
    qkV (qhV mk q) kb (ix2 t s) = ∑ d, q (ix2 t (lane h d)) * kb (ix2 s (lane h d)) := by
  pointwise [qkV]
  rw [sum_head h]
  · refine Finset.sum_congr rfl fun d _ => ?_
    rw [qhV_apply hmk, if_pos (lane_div h d)]
  · intro l hl
    rw [qhV_apply hmk, if_neg hl, zero_mul]

theorem qcV_apply (cst : FVec Ideal S256x256 .f32) (t : Fin 128) (l : Fin 256) :
    qcV (qhV mk q) cst (ix2 t l) = ∑ d, q (ix2 t (lane h d)) * cst (ix2 (lane h d) l) := by
  pointwise [qcV]
  rw [sum_head h]
  · refine Finset.sum_congr rfl fun d _ => ?_
    rw [qhV_apply hmk, if_pos (lane_div h d)]
  · intro l hl
    rw [qhV_apply hmk, if_neg hl, zero_mul]

theorem qnV_apply (nst : FVec Ideal S1x256 .f32) (t l : Fin 128) (hq : ∀ d, IsR (q (ix2 t (lane h d)))) (hn : ∀ d, IsR (nst (ix2 0 (lane h d)))) :
    qnV (qhV mk q) nst (ix2 t l) = ∑ d, q (ix2 t (lane h d)) * nst (ix2 0 (lane h d)) := by
  pointwise [qnV, hiV, loV]
  have z : ∀ x : Fin 256, qhV mk q (ix2 t x) * nst (ix2 0 x) - qhV mk q (ix2 t x) * nst (ix2 0 x) = 0 := fun x => by
    rw [qhV_apply hmk]
    split
    · rename_i hx
      obtain ⟨h', d, rfl⟩ := lane_surj x
      rw [lane_div] at hx
      obtain rfl : h' = h := Fin.ext hx
      exact ((hq d).mul (hn d)).sub_self
    · simp
  simp only [z, Finset.sum_const_zero, add_zero]
  rw [sum_head h]
  · refine Finset.sum_congr rfl fun d _ => ?_
    rw [qhV_apply hmk, if_pos (lane_div h d)]
  · intro l hl
    rw [qhV_apply hmk, if_neg hl, zero_mul]

end Head

theorem logdV_apply (o4 o : Fin 8) (h4 : S8x128.Slices ![o4.val, 0] S1x128) (ho : S8x128.Slices ![o.val, 0] S1x128) (gr cr : FVec Ideal S8x128 .f32)
    (cu : FVec Ideal S128x128 .f32) (t s : Fin 128) :
    logdV o4.val o.val h4 ho gr cu cr (ix2 t s) = if s ≤ t then (cu (ix2 t s) - cr (ix2 o4 s)) + gr (ix2 o s) else ⊥ := by
  pointwise [logdV, k0_pay7]
  rw [sle128, select_ite, negInf]

theorem mtV_apply (ld li : FVec Ideal S128x128 .f32) (t l : Fin 128) :
    mtV ld li (ix2 t l) = max (li (ix2 t l)) (Finset.univ.fold max ⊥ fun s => ld (ix2 t s)) := by
  pointwise [mtV]
  rw [negInf]

theorem linterV_apply (cu : FVec Ideal S128x128 .f32) (m1 : FVec Ideal S1x1 .f32) (t l : Fin 128) : linterV cu m1 (ix2 t l) = cu (ix2 t l) + m1 (ix2 0 0) := by
  pointwise [linterV]

theorem swvV_apply (s : FVec Ideal S128x128 .f32) (vb : FVec Ideal S128x256 .bf16) (t : Fin 128) (l : Fin 256) :
    swvV s vb (ix2 t l) = ∑ x, s (ix2 t x) * vb (ix2 x l) := by
  pointwise [swvV, hiV]

theorem swsumV_apply (s : FVec Ideal S128x128 .f32) (t l : Fin 128) (h : ∀ x, IsR (s (ix2 t x))) : swsumV s (ix2 t l) = ∑ x, s (ix2 t x) := by
  pointwise [swsumV, hiV, loV]
  simp only [(h _).sub_self, Finset.sum_const_zero, add_zero]

theorem lastV_apply (cu : FVec Ideal S128x128 .f32) (l : Fin 128) : lastV cu (ix2 0 l) = cu (ix2 127 l) := by
  pointwise [lastV]

theorem logwV_apply (cu ig : FVec Ideal S128x128 .f32) (s l : Fin 128) : logwV cu ig (ix2 s l) = (cu (ix2 127 l) - cu (ix2 s l)) + ig (ix2 s l) := by
  have e : logwV cu ig (ix2 s l) = (lastV cu (ix2 0 l) - cu (ix2 s l)) + ig (ix2 s l) := by
    pointwise [logwV]
  rw [e, lastV_apply]

theorem lpmV_apply (cu : FVec Ideal S128x128 .f32) (m1 : FVec Ideal S1x1 .f32) (l : Fin 128) : lpmV cu m1 (ix2 0 l) = cu (ix2 127 l) + m1 (ix2 0 0) := by
  have e : lpmV cu m1 (ix2 0 l) = lastV cu (ix2 0 l) + m1 (ix2 0 0) := by
    pointwise [lpmV]
  rw [e, lastV_apply]

theorem mnewV_apply (cu ig : FVec Ideal S128x128 .f32) (m1 : FVec Ideal S1x1 .f32) (l : Fin 128) :
    mnewV cu ig m1 (ix2 0 l) = max (cu (ix2 127 l) + m1 (ix2 0 0)) (Finset.univ.fold max ⊥ fun s => (cu (ix2 127 l) - cu (ix2 s l)) + ig (ix2 s l)) := by
  have e : mnewV cu ig m1 (ix2 0 l) = max (lpmV cu m1 (ix2 0 l)) (Finset.univ.fold max (Ideal.ofBits .f32 0xFF800000#32) fun s => logwV cu ig (ix2 s l)) := by
    pointwise [mnewV]
  rw [e, negInf, lpmV_apply]
  simp only [logwV_apply]

theorem wV_apply (cu ig : FVec Ideal S128x128 .f32) (m1 : FVec Ideal S1x1 .f32) (s l : Fin 128) :
    wV cu ig m1 (ix2 s l) = Ideal.exp (((cu (ix2 127 l) - cu (ix2 s l)) + ig (ix2 s l)) - mnewV cu ig m1 (ix2 0 l)) := by
  have e : wV cu ig m1 (ix2 s l) = Ideal.exp (logwV cu ig (ix2 s l) - mnewV cu ig m1 (ix2 0 l)) := by
    pointwise [wV]
  rw [e, logwV_apply]

theorem decV_apply (cu ig : FVec Ideal S128x128 .f32) (m1 : FVec Ideal S1x1 .f32) (l : Fin 128) :
    decV cu ig m1 (ix2 0 l) = Ideal.exp ((cu (ix2 127 l) + m1 (ix2 0 0)) - mnewV cu ig m1 (ix2 0 l)) := by
  have e : decV cu ig m1 (ix2 0 l) = Ideal.exp (lpmV cu m1 (ix2 0 l) - mnewV cu ig m1 (ix2 0 l)) := by
    pointwise [decV]
  rw [e, lpmV_apply]

end Cert.Mlstm
end
end
-- ==== Proof.RowVal.lean ====
/- What a row of a grid point writes: per head, the output and the next state of the recurrence. -/
module

public import proofs.«01_k».proof.Proof.ChainVal

@[expose] public section

set_option maxRecDepth 16384

noncomputable section

namespace Cert.Mlstm

open Cert.KernelIdeal Cert.KernelIdeal.Gen Idealize.ShloMosaic Idealize.SL.Sem

/-- A head's output is the recurrence's. -/
theorem hd_apply (R : RowIn Ideal) {cu ld : FVec Ideal S128x128 .f32} {m1 : FVec Ideal S1x1 .f32} {mk : IVec S1x256 1} {h : Fin 4}
    (hmk : ∀ l : Fin 256, mk (ix2 0 l) = if l.val / 64 = h.val then 1#1 else 0#1)
    {lf ig : Fin 128 → EReal} {q k v : Fin 128 → Fin 64 → EReal} {C : Fin 64 → Fin 64 → EReal} {N : Fin 64 → EReal} {M : EReal}
    (hcu : ∀ t l, cu (ix2 t l) = cum lf t) (hld : ∀ t s, ld (ix2 t s) = logd lf ig t s) (hm : m1 (ix2 0 0) = M)
    (hq : ∀ t d, R.q (ix2 t (lane h d)) = q t d) (hk : ∀ t d, R.k (ix2 t (lane h d)) = k t d) (hv : ∀ t d, R.v (ix2 t (lane h d)) = v t d)
    (hC : ∀ d e, R.cst (ix2 (lane h d) (lane h e)) = C d e) (hN : ∀ d, R.nst (ix2 0 (lane h d)) = N d)
    (fl : ∀ s, IsR (lf s)) (fi : ∀ s, IsR (ig s)) (fq : ∀ t d, IsR (q t d)) (fk : ∀ t d, IsR (k t d)) (fN : ∀ d, IsR (N d)) (fM : IsR M)
    (t : Fin 128) (e : Fin 64) : R.hd cu ld m1 mk (ix2 t (lane h e)) = hout lf ig q k v C N M t e := by
  have hmt : ∀ t l, mtV ld (linterV cu m1) (ix2 t l) = mt lf ig M t := fun t l => by
    rw [mtV_apply, linterV_apply, hcu, hm]
    simp only [hld]
    rfl
  have hin : ∀ t l, interV (linterV cu m1) (mtV ld (linterV cu m1)) (ix2 t l) = inter lf ig M t := fun t l => by
    show Ideal.exp (linterV cu m1 (ix2 t l) - mtV ld (linterV cu m1) (ix2 t l)) = _
    rw [hmt, linterV_apply, hcu, hm]
    rfl
  have hsw : ∀ t s, swV (qkV (qhV mk R.q) (truncf .bf16 R.k bitsLt_bf16_f32)) ld (mtV ld (linterV cu m1)) (ix2 t s) = sw lf ig q k M t s := fun t s => by
    show qkV (qhV mk R.q) (truncf .bf16 R.k bitsLt_bf16_f32) (ix2 t s) * Ideal.exp (ld (ix2 t s) - mtV ld (linterV cu m1) (ix2 t s)) = _
    rw [hmt, hld, qkV_apply hmk]
    have e : ∀ d, R.q (ix2 t (lane h d)) * (truncf .bf16 R.k bitsLt_bf16_f32 : FVec Ideal S128x256 .bf16) (ix2 s (lane h d)) = q t d * k s d := fun d => by
      rw [← hq, ← hk]; rfl
    simp only [e]
    rfl
  have hden : ∀ l, addf (mulf (interV (linterV cu m1) (mtV ld (linterV cu m1))) (qnV (qhV mk R.q) R.nst))
      (swsumV (swV (qkV (qhV mk R.q) (truncf .bf16 R.k bitsLt_bf16_f32)) ld (mtV ld (linterV cu m1)))) (ix2 t l) = den lf ig q k N M t := fun l => by
    show interV (linterV cu m1) (mtV ld (linterV cu m1)) (ix2 t l) * qnV (qhV mk R.q) R.nst (ix2 t l)
      + swsumV (swV (qkV (qhV mk R.q) (truncf .bf16 R.k bitsLt_bf16_f32)) ld (mtV ld (linterV cu m1))) (ix2 t l) = _
    rw [hin, qnV_apply hmk R.nst t l (fun d => by rw [hq]; exact fq t d) (fun d => by rw [hN]; exact fN d),
      swsumV_apply _ t l (fun x => by rw [hsw]; exact sw_isR fl fi fq fk fM t x)]
    simp only [hsw, hq, hN]
    rfl
  unfold RowIn.hd houtV
  show Ideal.div (twiceV (F := Ideal) _ (ix2 t (lane h e)) * qcV (F := Ideal) _ _ (ix2 t (lane h e)) + swvV (F := Ideal) _ _ (ix2 t (lane h e))) (twiceV (F := Ideal) _ (ix2 t (lane h e))) = _
  rw [twiceV_apply _ (inter lf ig M t) t (hin t), qcV_apply hmk, swvV_apply]
  rw [twiceV_apply _ (max (max (den lf ig q k N M t) (-(den lf ig q k N M t))) (Ideal.exp (-(mt lf ig M t)))) t]
  · simp only [hq, hC, hsw, hv]
    rfl
  · intro l
    show max (max (addf (F := Ideal) (φ := .f32) _ _ (ix2 t l) : EReal) (-(addf (F := Ideal) (φ := .f32) _ _ (ix2 t l) : EReal))) (Ideal.exp (Ideal.ofBits .f32 0#32 - mtV ld (linterV cu m1) (ix2 t l))) = _
    rw [hden, hmt, Ideal.ofBits_zero, zero_sub]

namespace RowIn

/-- The column of a head's forget gate, and its row. -/
def fCol (h : Fin 4) : Fin 128 := ⟨4 + h.val, by omega⟩
def iCol (h : Fin 4) : Fin 128 := ⟨h.val, by omega⟩
def fRow (h : Fin 4) : Fin 8 := ⟨4 + h.val, by omega⟩
def iRow (h : Fin 4) : Fin 8 := ⟨h.val, by omega⟩

variable (R : RowIn Ideal)

def lf (h : Fin 4) (s : Fin 128) : EReal := lsg (R.gcol (ix2 s (fCol h)))
def ig (h : Fin 4) (s : Fin 128) : EReal := R.gcol (ix2 s (iCol h))
def qh (h : Fin 4) (t : Fin 128) (d : Fin 64) : EReal := R.q (ix2 t (lane h d))
def kh (h : Fin 4) (t : Fin 128) (d : Fin 64) : EReal := R.k (ix2 t (lane h d))
def vh (h : Fin 4) (t : Fin 128) (d : Fin 64) : EReal := R.v (ix2 t (lane h d))

/-- The row's two copies of the gates agree, its values are finite, and its state is the given one. -/
structure Ok (C : Fin 4 → Fin 64 → Fin 64 → EReal) (N : Fin 4 → Fin 64 → EReal) (M : Fin 4 → EReal) : Prop where
  rowF : ∀ h s, R.grow (ix2 (fRow h) s) = R.gcol (ix2 s (fCol h))
  rowI : ∀ h s, R.grow (ix2 (iRow h) s) = R.gcol (ix2 s (iCol h))
  finF : ∀ h s, IsR (R.gcol (ix2 s (fCol h)))
  finI : ∀ h s, IsR (R.gcol (ix2 s (iCol h)))
  finQ : ∀ h t d, IsR (R.qh h t d)
  finK : ∀ h t d, IsR (R.kh h t d)
  finN : ∀ h d, IsR (N h d)
  finM : ∀ h, IsR (M h)
  cst : ∀ h h' d e, R.cst (ix2 (lane h d) (lane h' e)) = if h = h' then C h d e else 0
  nst : ∀ h d, R.nst (ix2 0 (lane h d)) = N h d
  mst : ∀ h d, R.mst (ix2 0 (lane h d)) = M h

variable {R} {C : Fin 4 → Fin 64 → Fin 64 → EReal} {N : Fin 4 → Fin 64 → EReal} {M : Fin 4 → EReal} (ok : R.Ok C N M)

namespace Ok
include ok

theorem finL (h : Fin 4) (s : Fin 128) : IsR (R.lf h s) := lsg_isR (ok.finF h s)

theorem cum_at (h : Fin 4) (hs : S128x128.Slices ![0, (fCol h).val] S128x1) (t l : Fin 128) : R.cum (fCol h).val hs (ix2 t l) = Mlstm.cum (R.lf h) t :=
  cumV_apply _ _ (fun s l => lsColV_apply (fCol h) hs R.gcol s l) (ok.finL h) t l

theorem igw_at (h : Fin 4) (hs : S128x128.Slices ![0, (iCol h).val] S128x1) (t l : Fin 128) : R.igw (iCol h).val hs (ix2 t l) = R.ig h t :=
  igWideV_apply (iCol h) hs R.gcol t l

theorem m1_at (h : Fin 4) (hs : S1x256.Slices ![0, (lane h 0).val] S1x1) : R.m1 (lane h 0).val hs (ix2 0 0) = M h := by
  rw [← ok.mst h 0]
  unfold m1 m1V
  generalize R.mst = x
  have e : ∀ (o : Fin 256) (hs : S1x256.Slices ![0, o.val] S1x1), extractStridedSlice S1x1 ![0, o.val] x hs (ix2 0 0) = x (ix2 0 o) := fun o hs => by
    pointwise []
  exact e _ hs

theorem cr_at (h : Fin 4) (s : Fin 128) : R.cr (ix2 (fRow h) s) = Mlstm.cum (R.lf h) s :=
  cumRowV_apply R.grow (fRow h) (R.lf h) (fun s => by rw [ok.rowF]; rfl) (ok.finL h) s

theorem ld_at (h : Fin 4) (cu : FVec Ideal S128x128 .f32) (h4) (ho) (hcu : ∀ t l, cu (ix2 t l) = Mlstm.cum (R.lf h) t) (t s : Fin 128) :
    logdV (fRow h).val (iRow h).val h4 ho R.grow cu R.cr (ix2 t s) = logd (R.lf h) (R.ig h) t s := by
  rw [logdV_apply (fRow h) (iRow h), hcu, ok.cr_at, ok.rowI]
  rfl

theorem hd_at (h : Fin 4) {mk : IVec S1x256 1} (hmk : ∀ l : Fin 256, mk (ix2 0 l) = if l.val / 64 = h.val then 1#1 else 0#1)
    {cu ld : FVec Ideal S128x128 .f32} {m1 : FVec Ideal S1x1 .f32}
    (hcu : ∀ t l, cu (ix2 t l) = Mlstm.cum (R.lf h) t) (hld : ∀ t s, ld (ix2 t s) = logd (R.lf h) (R.ig h) t s) (hm : m1 (ix2 0 0) = M h)
    (t : Fin 128) (e : Fin 64) :
    R.hd cu ld m1 mk (ix2 t (lane h e)) = hout (R.lf h) (R.ig h) (R.qh h) (R.kh h) (R.vh h) (C h) (N h) (M h) t e :=
  hd_apply R hmk hcu hld hm (fun _ _ => rfl) (fun _ _ => rfl) (fun _ _ => rfl) (fun d e => (ok.cst h h d e).trans (if_pos rfl)) (ok.nst h)
    (ok.finL h) (ok.finI h) (ok.finQ h) (ok.finK h) (ok.finN h) (ok.finM h) t e

theorem mnew_at (h : Fin 4) {cu ig : FVec Ideal S128x128 .f32} {m1 : FVec Ideal S1x1 .f32} (hcu : ∀ t l, cu (ix2 t l) = Mlstm.cum (R.lf h) t)
    (hig : ∀ t l, ig (ix2 t l) = R.ig h t) (hm : m1 (ix2 0 0) = M h) (l : Fin 128) : mnewV cu ig m1 (ix2 0 l) = mnew (R.lf h) (R.ig h) (M h) := by
  rw [mnewV_apply]
  simp only [hcu, hig, hm]
  rfl

theorem w_at (h : Fin 4) {cu ig : FVec Ideal S128x128 .f32} {m1 : FVec Ideal S1x1 .f32} (hcu : ∀ t l, cu (ix2 t l) = Mlstm.cum (R.lf h) t)
    (hig : ∀ t l, ig (ix2 t l) = R.ig h t) (hm : m1 (ix2 0 0) = M h) (s l : Fin 128) : wV cu ig m1 (ix2 s l) = wgt (R.lf h) (R.ig h) (M h) s := by
  rw [wV_apply, ok.mnew_at h hcu hig hm]
  simp only [hcu, hig]
  rfl

theorem dec_at (h : Fin 4) {cu ig : FVec Ideal S128x128 .f32} {m1 : FVec Ideal S1x1 .f32} (hcu : ∀ t l, cu (ix2 t l) = Mlstm.cum (R.lf h) t)
    (hig : ∀ t l, ig (ix2 t l) = R.ig h t) (hm : m1 (ix2 0 0) = M h) (l : Fin 128) : decV cu ig m1 (ix2 0 l) = dec (R.lf h) (R.ig h) (M h) := by
  rw [decV_apply, ok.mnew_at h hcu hig hm]
  simp only [hcu, hm]
  rfl

theorem cum0_at (t l : Fin 128) : R.cum0 (ix2 t l) = Mlstm.cum (R.lf 0) t := ok.cum_at 0 _ t l
theorem igw0_at (t l : Fin 128) : R.igw0 (ix2 t l) = R.ig 0 t := ok.igw_at 0 _ t l
theorem ms0_at : R.ms0 (ix2 0 0) = M 0 := ok.m1_at 0 _
theorem ld0_at (t s : Fin 128) : R.ld0 (ix2 t s) = logd (R.lf 0) (R.ig 0) t s := ok.ld_at 0 _ _ _ ok.cum0_at t s

theorem cum1_at (t l : Fin 128) : R.cum1 (ix2 t l) = Mlstm.cum (R.lf 1) t := ok.cum_at 1 _ t l
theorem igw1_at (t l : Fin 128) : R.igw1 (ix2 t l) = R.ig 1 t := ok.igw_at 1 _ t l
theorem ms1_at : R.ms1 (ix2 0 0) = M 1 := ok.m1_at 1 _
theorem ld1_at (t s : Fin 128) : R.ld1 (ix2 t s) = logd (R.lf 1) (R.ig 1) t s := ok.ld_at 1 _ _ _ ok.cum1_at t s

theorem cum2_at (t l : Fin 128) : R.cum2 (ix2 t l) = Mlstm.cum (R.lf 2) t := ok.cum_at 2 _ t l
theorem igw2_at (t l : Fin 128) : R.igw2 (ix2 t l) = R.ig 2 t := ok.igw_at 2 _ t l
theorem ms2_at : R.ms2 (ix2 0 0) = M 2 := ok.m1_at 2 _
theorem ld2_at (t s : Fin 128) : R.ld2 (ix2 t s) = logd (R.lf 2) (R.ig 2) t s := ok.ld_at 2 _ _ _ ok.cum2_at t s

theorem cum3_at (t l : Fin 128) : R.cum3 (ix2 t l) = Mlstm.cum (R.lf 3) t := ok.cum_at 3 _ t l
theorem igw3_at (t l : Fin 128) : R.igw3 (ix2 t l) = R.ig 3 t := ok.igw_at 3 _ t l
theorem ms3_at : R.ms3 (ix2 0 0) = M 3 := ok.m1_at 3 _
theorem ld3_at (t s : Fin 128) : R.ld3 (ix2 t s) = logd (R.lf 3) (R.ig 3) t s := ok.ld_at 3 _ _ _ ok.cum3_at t s

end Ok

/-- Of four nested choices by head, the one of the lane's own head. -/
theorem pick4 (h : Fin 4) (d : Fin 64) (x0 x1 x2 x3 z : EReal) :
    Scalar.select (k0_pay11 (ix2 0 (lane h d))) x3 (Scalar.select (k0_pay10 (ix2 0 (lane h d))) x2
      (Scalar.select (k0_pay9 (ix2 0 (lane h d))) x1 (Scalar.select (k0_pay8 (ix2 0 (lane h d))) x0 z))) = ![x0, x1, x2, x3] h := by
  rw [mask0, mask1, mask2, mask3, lane_div]
  fin_cases h <;> rfl

namespace Ok
include ok

theorem hmix_at (h : Fin 4) (t : Fin 128) (e : Fin 64) :
    R.hmix (ix2 t (lane h e)) = hout (R.lf h) (R.ig h) (R.qh h) (R.kh h) (R.vh h) (C h) (N h) (M h) t e := by
  unfold hmix
  show Scalar.select (rowMask _ _) _ (Scalar.select (rowMask _ _) _ (Scalar.select (rowMask _ _) _ (Scalar.select (rowMask _ _) _ _))) = _
  rw [rowMask_apply, rowMask_apply, rowMask_apply, rowMask_apply, pick4]
  fin_cases h
  · exact ok.hd_at 0 mask0 ok.cum0_at ok.ld0_at ok.ms0_at t e
  · exact ok.hd_at 1 mask1 ok.cum1_at ok.ld1_at ok.ms1_at t e
  · exact ok.hd_at 2 mask2 ok.cum2_at ok.ld2_at ok.ms2_at t e
  · exact ok.hd_at 3 mask3 ok.cum3_at ok.ld3_at ok.ms3_at t e

theorem wfull_at (h : Fin 4) (s : Fin 128) (d : Fin 64) : R.wfull (ix2 s (lane h d)) = wgt (R.lf h) (R.ig h) (M h) s := by
  unfold wfull
  show Scalar.select (rowMask _ _) _ (Scalar.select (rowMask _ _) _ (Scalar.select (rowMask _ _) _ (Scalar.select (rowMask _ _) _ _))) = _
  rw [rowMask_apply, rowMask_apply, rowMask_apply, rowMask_apply, pick4]
  fin_cases h
  · exact twiceV_apply _ _ s (ok.w_at 0 ok.cum0_at ok.igw0_at ok.ms0_at s) _
  · exact twiceV_apply _ _ s (ok.w_at 1 ok.cum1_at ok.igw1_at ok.ms1_at s) _
  · exact twiceV_apply _ _ s (ok.w_at 2 ok.cum2_at ok.igw2_at ok.ms2_at s) _
  · exact twiceV_apply _ _ s (ok.w_at 3 ok.cum3_at ok.igw3_at ok.ms3_at s) _

theorem decl_at (h : Fin 4) (d : Fin 64) : R.decl (ix2 0 (lane h d)) = dec (R.lf h) (R.ig h) (M h) := by
  unfold decl
  show Scalar.select _ _ (Scalar.select _ _ (Scalar.select _ _ (Scalar.select _ _ _))) = _
  rw [pick4]
  fin_cases h
  · exact twice1V_apply _ _ (ok.dec_at 0 ok.cum0_at ok.igw0_at ok.ms0_at) _
  · exact twice1V_apply _ _ (ok.dec_at 1 ok.cum1_at ok.igw1_at ok.ms1_at) _
  · exact twice1V_apply _ _ (ok.dec_at 2 ok.cum2_at ok.igw2_at ok.ms2_at) _
  · exact twice1V_apply _ _ (ok.dec_at 3 ok.cum3_at ok.igw3_at ok.ms3_at) _

theorem mnewl_at (h : Fin 4) (d : Fin 64) : R.mnewl (ix2 0 (lane h d)) = mnew (R.lf h) (R.ig h) (M h) := by
  unfold mnewl
  show Scalar.select _ _ (Scalar.select _ _ (Scalar.select _ _ (Scalar.select _ _ _))) = _
  rw [pick4]
  fin_cases h
  · exact twice1V_apply _ _ (ok.mnew_at 0 ok.cum0_at ok.igw0_at ok.ms0_at) _
  · exact twice1V_apply _ _ (ok.mnew_at 1 ok.cum1_at ok.igw1_at ok.ms1_at) _
  · exact twice1V_apply _ _ (ok.mnew_at 2 ok.cum2_at ok.igw2_at ok.ms2_at) _
  · exact twice1V_apply _ _ (ok.mnew_at 3 ok.cum3_at ok.igw3_at ok.ms3_at) _

/-- The output window. -/
theorem yOut_at (h : Fin 4) (t : Fin 128) (e : Fin 64) :
    R.yOut (ix3 0 t (lane h e)) = Ideal.logistic (R.U (ix3 0 t ⟨256 + (lane h e).val, by omega⟩))
      * hout (R.lf h) (R.ig h) (R.qh h) (R.kh h) (R.vh h) (C h) (N h) (M h) t e := by
  rw [← ok.hmix_at]
  pointwise [yOut, ogV]

theorem cOut_at (h h' : Fin 4) (d e : Fin 64) :
    R.cOut (ix3 0 (lane h d) (lane h' e)) = if h = h' then cnew (R.lf h) (R.ig h) (R.kh h) (R.vh h) (C h) (M h) d e else 0 := by
  have e1 : R.cOut (ix3 0 (lane h d) (lane h' e)) = R.decl (ix2 0 (lane h' e)) * R.cst (ix2 (lane h d) (lane h' e))
      + Scalar.select (sameHead (ix2 (lane h d) (lane h' e))) (∑ s, R.kw (ix2 s (lane h d)) * R.v (ix2 s (lane h' e))) 0 := by
    pointwise [cOut]
  rw [e1, ok.decl_at, ok.cst, sameHead_apply, select_ite]
  by_cases hh : h = h'
  · subst hh
    rw [if_pos rfl, if_pos rfl, if_pos rfl]
    have e2 : ∀ s, R.kw (ix2 s (lane h d)) * R.v (ix2 s (lane h e)) = (wgt (R.lf h) (R.ig h) (M h) s * R.kh h s d) * R.vh h s e := fun s => by
      rw [← ok.wfull_at h s d, mul_comm (R.wfull _)]
      rfl
    simp only [e2]
    rfl
  · rw [if_neg hh, if_neg hh, if_neg hh, mul_zero, add_zero]

theorem nOut_at (h : Fin 4) (d : Fin 64) : R.nOut (ix3 0 0 (lane h d)) = nnew (R.lf h) (R.ig h) (R.kh h) (N h) (M h) d := by
  have e1 : R.nOut (ix3 0 0 (lane h d)) = R.decl (ix2 0 (lane h d)) * R.nst (ix2 0 (lane h d)) + ∑ s, R.kw (ix2 s (lane h d)) := by
    pointwise [nOut]
  rw [e1, ok.decl_at, ok.nst]
  have e2 : ∀ s, R.kw (ix2 s (lane h d)) = wgt (R.lf h) (R.ig h) (M h) s * R.kh h s d := fun s => by
    rw [← ok.wfull_at h s d, mul_comm (R.wfull _)]
    rfl
  simp only [e2]
  rfl

theorem mOut_at (h : Fin 4) (d : Fin 64) : R.mOut (ix3 0 0 (lane h d)) = mnew (R.lf h) (R.ig h) (M h) := by
  rw [← ok.mnewl_at h d]
  pointwise [mOut]

end Ok

theorem pOut_at (t : Fin 128) (l : Fin 256) : R.pOut (ix3 0 t l) = R.xm (ix2 t l) := by
  pointwise [pOut]

end RowIn

end Cert.Mlstm
end
end
-- ==== Proof.Args.lean ====
/- The layer's mLSTM as a function of its arrays: the convolution, the projections, the gates, and the recurrence over
   the chunks of a sequence, one head at a time. -/
module

public import proofs.«01_k».proof.Proof.ChainVal

@[expose] public section

noncomputable section

namespace Cert.Mlstm

open Idealize.ShloMosaic

/-- The arrays the layer takes. -/
structure Args where
  u : Fin 8 → Fin 4096 → Fin 2824 → EReal
  cw : Fin 4 → Fin 256 → EReal
  cb : Fin 256 → EReal
  wq : Fin 4 → Fin 64 → Fin 64 → EReal
  wk : Fin 4 → Fin 64 → Fin 64 → EReal
  wv : Fin 4 → Fin 64 → Fin 64 → EReal
  gb : Fin 2 → Fin 4 → EReal

/-- The arrays hold finite values. -/
structure Args.Finite (A : Args) : Prop where
  u : ∀ b s l, IsR (A.u b s l)
  cw : ∀ i l, IsR (A.cw i l)
  cb : ∀ l, IsR (A.cb l)
  wq : ∀ h d e, IsR (A.wq h d e)
  wk : ∀ h d e, IsR (A.wk h d e)
  wv : ∀ h d e, IsR (A.wv h d e)
  gb : ∀ i h, IsR (A.gb i h)

/-- Position `t` of chunk `k`. -/
def pos (k : ℕ) (t : Fin 128) : Fin 4096 := ⟨(128 * k + t.val) % 4096, Nat.mod_lt _ (by decide)⟩

/-- The scale of the keys. -/
def kscale : EReal := Ideal.ofBits .f32 0x3E000000#32

namespace Args

variable (A : Args)

def xm (b : Fin 8) (s : Fin 4096) (l : Fin 256) : EReal := A.u b s ⟨l.val, by omega⟩
/-- The value `i` positions back, zero before the start. -/
def back (b : Fin 8) (s : Fin 4096) (l : Fin 256) (i : ℕ) : EReal := if h : i ≤ s.val then A.xm b ⟨s.val - i, by omega⟩ l else 0
def conv (b : Fin 8) (s : Fin 4096) (l : Fin 256) : EReal :=
  (((A.xm b s l * A.cw 3 l + A.back b s l 1 * A.cw 2 l) + A.back b s l 2 * A.cw 1 l) + A.back b s l 3 * A.cw 0 l) + A.cb l
def xc (b : Fin 8) (s : Fin 4096) (l : Fin 256) : EReal := A.conv b s l * Ideal.logistic (A.conv b s l)
def q (b : Fin 8) (h : Fin 4) (s : Fin 4096) (e : Fin 64) : EReal := ∑ d, A.xc b s (lane h d) * A.wq h d e
def k (b : Fin 8) (h : Fin 4) (s : Fin 4096) (e : Fin 64) : EReal := ∑ d, A.xc b s (lane h d) * (A.wk h d e * kscale)
def v (b : Fin 8) (h : Fin 4) (s : Fin 4096) (e : Fin 64) : EReal := ∑ d, A.xm b s (lane h d) * A.wv h d e
def ig (b : Fin 8) (h : Fin 4) (s : Fin 4096) : EReal := A.u b s ⟨512 + h.val, by omega⟩ + A.gb 0 h
def fg (b : Fin 8) (h : Fin 4) (s : Fin 4096) : EReal := A.u b s ⟨516 + h.val, by omega⟩ + A.gb 1 h
def lf (b : Fin 8) (h : Fin 4) (s : Fin 4096) : EReal := lsg (A.fg b h s)

/-- The state of a head: its memory, its normaliser, its scale. -/
structure St where
  C : Fin 64 → Fin 64 → EReal
  N : Fin 64 → EReal
  M : EReal

/-- The state a head is in before chunk `n`. -/
def st (A : Args) (b : Fin 8) (h : Fin 4) : ℕ → St
  | 0 => ⟨fun _ _ => 0, fun _ => 0, 0⟩
  | n + 1 =>
    ⟨cnew (fun t => A.lf b h (pos n t)) (fun t => A.ig b h (pos n t)) (fun t => A.k b h (pos n t)) (fun t => A.v b h (pos n t)) (A.st b h n).C (A.st b h n).M,
      nnew (fun t => A.lf b h (pos n t)) (fun t => A.ig b h (pos n t)) (fun t => A.k b h (pos n t)) (A.st b h n).N (A.st b h n).M,
      mnew (fun t => A.lf b h (pos n t)) (fun t => A.ig b h (pos n t)) (A.st b h n).M⟩

theorem st_C (b : Fin 8) (h : Fin 4) (n : ℕ) : (A.st b h (n + 1)).C =
    cnew (fun t => A.lf b h (pos n t)) (fun t => A.ig b h (pos n t)) (fun t => A.k b h (pos n t)) (fun t => A.v b h (pos n t)) (A.st b h n).C (A.st b h n).M := by
  rw [st]
theorem st_N (b : Fin 8) (h : Fin 4) (n : ℕ) : (A.st b h (n + 1)).N =
    nnew (fun t => A.lf b h (pos n t)) (fun t => A.ig b h (pos n t)) (fun t => A.k b h (pos n t)) (A.st b h n).N (A.st b h n).M := by
  rw [st]
theorem st_M (b : Fin 8) (h : Fin 4) (n : ℕ) : (A.st b h (n + 1)).M =
    mnew (fun t => A.lf b h (pos n t)) (fun t => A.ig b h (pos n t)) (A.st b h n).M := by
  rw [st]

/-- The output of a head in chunk `n`. -/
def ho (b : Fin 8) (h : Fin 4) (n : ℕ) (t : Fin 128) (e : Fin 64) : EReal :=
  hout (fun t => A.lf b h (pos n t)) (fun t => A.ig b h (pos n t)) (fun t => A.q b h (pos n t)) (fun t => A.k b h (pos n t)) (fun t => A.v b h (pos n t))
    (A.st b h n).C (A.st b h n).N (A.st b h n).M t e

/-- The layer's output at position `t` of chunk `n`, lane `e` of head `h`. -/
def out (b : Fin 8) (h : Fin 4) (n : ℕ) (t : Fin 128) (e : Fin 64) : EReal :=
  Ideal.logistic (A.u b (pos n t) ⟨256 + (lane h e).val, by omega⟩) * A.ho b h n t e

end Args

/-! ## The two orders of summation, the two ways to scale the keys, the two ways to write the gate -/

theorem kscale_val : kscale = ((0.125 : ℝ) : EReal) := by
  unfold kscale
  simp [Ideal.ofBits, Ideal.ieee]
  norm_num
  rw [← EReal.coe_mul]
  congr 1
  norm_num

theorem kscale_isR : IsR kscale := ⟨_, kscale_val⟩

theorem sum_scale {n : ℕ} (f : Fin n → EReal) : (∑ i, f i) * kscale = ∑ i, f i * kscale := by
  have h0 : (0 : EReal) ≤ kscale := by rw [kscale_val]; exact_mod_cast (by norm_num : (0 : ℝ) ≤ 0.125)
  have h1 : kscale ≠ ⊤ := kscale_isR.ne_top
  induction (Finset.univ : Finset (Fin n)) using Finset.induction_on with
  | empty => simp
  | insert a s ha ih => rw [Finset.sum_insert ha, Finset.sum_insert ha, EReal.right_distrib_of_nonneg_of_ne_top h0 h1, ih]

theorem lsg_other {t : EReal} (h : IsR t) : -(max (-t) 0 + Ideal.log1p (Ideal.exp (-(max (-t) (-(-t)))))) = lsg t := by
  unfold lsg
  rw [zero_sub, neg_neg, max_comm (-t) t]
  obtain ⟨l, hl⟩ := IsR.log1p_exp (h.max h.neg).neg
  obtain ⟨r, rfl⟩ := h
  rw [hl]
  have e1 : max (-(r : EReal)) 0 = ((max (-r) 0 : ℝ) : EReal) := by
    rw [← EReal.coe_neg, ← EReal.coe_zero]; exact (EReal.coe_strictMono.monotone.map_max).symm
  have e2 : min (r : EReal) 0 = ((min r 0 : ℝ) : EReal) := by
    rw [← EReal.coe_zero]; exact (EReal.coe_strictMono.monotone.map_min).symm
  rw [e1, e2, ← EReal.coe_add, ← EReal.coe_neg, ← EReal.coe_sub]
  congr 1
  have : max (-r) 0 = -(min r 0) := by
    have := max_neg_neg r 0
    rwa [neg_zero] at this
  rw [this]; ring

theorem conv_other (A : Args) (b : Fin 8) (s l : ℕ) (hs : s < 4096) (hl : l < 256) (z : EReal) (hz : z = 0) :
    ((((if h : (3 ≤ s ∧ s - 3 < 4096) ∧ l < 256 then A.u b ⟨s - 3, h.1.2⟩ ⟨l, by omega⟩ else z) * A.cw 0 ⟨l, hl⟩
      + (if h : (3 ≤ 1 + s ∧ 1 + s - 3 < 4096) ∧ l < 256 then A.u b ⟨1 + s - 3, h.1.2⟩ ⟨l, by omega⟩ else z) * A.cw 1 ⟨l, hl⟩)
      + (if h : (3 ≤ 2 + s ∧ 2 + s - 3 < 4096) ∧ l < 256 then A.u b ⟨2 + s - 3, h.1.2⟩ ⟨l, by omega⟩ else z) * A.cw 2 ⟨l, hl⟩)
      + (if h : l < 256 then A.u b ⟨s, hs⟩ ⟨l, by omega⟩ else z) * A.cw 3 ⟨l, hl⟩) + A.cb ⟨l, hl⟩ = A.conv b ⟨s, hs⟩ ⟨l, hl⟩ := by
  subst hz
  have e3 : (if h : (3 ≤ s ∧ s - 3 < 4096) ∧ l < 256 then A.u b ⟨s - 3, h.1.2⟩ ⟨l, by omega⟩ else 0) = A.back b ⟨s, hs⟩ ⟨l, hl⟩ 3 := by
    unfold Args.back
    by_cases h : 3 ≤ s
    · rw [dif_pos (show (3 ≤ s ∧ s - 3 < 4096) ∧ l < 256 by omega), dif_pos h]; rfl
    · rw [dif_neg (show ¬((3 ≤ s ∧ s - 3 < 4096) ∧ l < 256) by omega), dif_neg h]
  have e2 : (if h : (3 ≤ 1 + s ∧ 1 + s - 3 < 4096) ∧ l < 256 then A.u b ⟨1 + s - 3, h.1.2⟩ ⟨l, by omega⟩ else 0) = A.back b ⟨s, hs⟩ ⟨l, hl⟩ 2 := by
    unfold Args.back
    by_cases h : 2 ≤ s
    · rw [dif_pos (show (3 ≤ 1 + s ∧ 1 + s - 3 < 4096) ∧ l < 256 by omega), dif_pos h]
      exact congrArg (fun y => A.u b y _) (Fin.ext (by show 1 + s - 3 = s - 2; omega))
    · rw [dif_neg (show ¬((3 ≤ 1 + s ∧ 1 + s - 3 < 4096) ∧ l < 256) by omega), dif_neg h]
  have e1 : (if h : (3 ≤ 2 + s ∧ 2 + s - 3 < 4096) ∧ l < 256 then A.u b ⟨2 + s - 3, h.1.2⟩ ⟨l, by omega⟩ else 0) = A.back b ⟨s, hs⟩ ⟨l, hl⟩ 1 := by
    unfold Args.back
    by_cases h : 1 ≤ s
    · rw [dif_pos (show (3 ≤ 2 + s ∧ 2 + s - 3 < 4096) ∧ l < 256 by omega), dif_pos h]
      exact congrArg (fun y => A.u b y _) (Fin.ext (by show 2 + s - 3 = s - 1; omega))
    · rw [dif_neg (show ¬((3 ≤ 2 + s ∧ 2 + s - 3 < 4096) ∧ l < 256) by omega), dif_neg h]
  rw [e1, e2, e3, dif_pos hl]
  unfold Args.conv
  show _ + A.xm b ⟨s, hs⟩ ⟨l, hl⟩ * A.cw 3 ⟨l, hl⟩ + A.cb ⟨l, hl⟩ = _
  congr 1
  ac_rfl

/-! ## Finite values -/

theorem IsR.logistic {x : EReal} : IsR x → IsR (Ideal.logistic x)
  | ⟨a, ha⟩ => by
    refine ⟨1 / (1 + Real.exp (-a)), ?_⟩
    rw [ha]
    unfold Ideal.logistic
    rw [← EReal.coe_neg]
    show Ideal.div 1 (1 + ((Real.exp (-a) : ℝ) : EReal)) = _
    rw [show (1 : EReal) + ((Real.exp (-a) : ℝ) : EReal) = ((1 + Real.exp (-a) : ℝ) : EReal) by push_cast; rfl]
    have hp := Real.exp_pos (-a)
    rw [show (1 : EReal) = ((1 : ℝ) : EReal) from rfl]
    rw [Ideal.div_coe (ne_of_gt (by linarith)), ← EReal.coe_mul, one_mul]

namespace Args

variable {A : Args} (hA : A.Finite)
include hA

theorem xm_isR (b s l) : IsR (A.xm b s l) := hA.u _ _ _
theorem back_isR (b s l i) : IsR (A.back b s l i) := by
  unfold back
  split
  · exact xm_isR hA _ _ _
  · exact .zero
theorem conv_isR (b s l) : IsR (A.conv b s l) :=
  (((((xm_isR hA _ _ _).mul (hA.cw _ _)).add ((back_isR hA _ _ _ _).mul (hA.cw _ _))).add ((back_isR hA _ _ _ _).mul (hA.cw _ _))).add
    ((back_isR hA _ _ _ _).mul (hA.cw _ _))).add (hA.cb _)
theorem xc_isR (b s l) : IsR (A.xc b s l) := (conv_isR hA _ _ _).mul (conv_isR hA _ _ _).logistic
theorem q_isR (b h s e) : IsR (A.q b h s e) := .sumU _ fun d => (xc_isR hA _ _ _).mul (hA.wq _ _ _)
theorem k_isR (b h s e) : IsR (A.k b h s e) := .sumU _ fun d => (xc_isR hA _ _ _).mul ((hA.wk _ _ _).mul kscale_isR)
theorem v_isR (b h s e) : IsR (A.v b h s e) := .sumU _ fun d => (xm_isR hA _ _ _).mul (hA.wv _ _ _)
theorem ig_isR (b h s) : IsR (A.ig b h s) := (hA.u _ _ _).add (hA.gb _ _)
theorem fg_isR (b h s) : IsR (A.fg b h s) := (hA.u _ _ _).add (hA.gb _ _)
theorem lf_isR (b h s) : IsR (A.lf b h s) := lsg_isR (fg_isR hA _ _ _)

theorem st_isR (b : Fin 8) (h : Fin 4) (n : ℕ) : (∀ d, IsR ((A.st b h n).N d)) ∧ IsR (A.st b h n).M := by
  induction n with
  | zero => exact ⟨fun _ => .zero, .zero⟩
  | succ n ih =>
    constructor
    · intro d
      rw [st_N]
      exact nnew_isR (fun _ => lf_isR hA _ _ _) (fun _ => ig_isR hA _ _ _) (fun _ _ => k_isR hA _ _ _ _) ih.2 ih.1 d
    · rw [st_M]
      exact mnew_isR (fun _ => lf_isR hA _ _ _) (fun _ => ig_isR hA _ _ _) ih.2

end Args

end Cert.Mlstm
end
end
-- ==== Proof.InVal.lean ====
/- What a row of a grid point reads: the projections and gates of its chunk. -/
module
public import proofs.«01_k».proof.Proof.RowVal
public import proofs.«01_k».proof.Proof.Args
public import Idealize.ShloMosaic.Lib.Pointwise
@[expose] public section

set_option maxRecDepth 16384
noncomputable section

namespace Cert.Mlstm
open Cert.KernelIdeal Cert.KernelIdeal.Gen Idealize.ShloMosaic Idealize.SL.Sem

theorem xmV_apply (U : Vec Ideal S1x128x640 .f32) (t : Fin 128) (l : Fin 256) : xmV U (ix2 t l) = U (ix3 0 t ⟨l.val, by omega⟩) := by
  pointwise [xmV]
theorem gcolV_apply (U : Vec Ideal S1x128x640 .f32) (g : Vec Ideal S1x128 .f32) (t : Fin 128) (l : Fin 128) :
    gcolV U g (ix2 t l) = U (ix3 0 t ⟨512 + l.val, by omega⟩) + g (ix2 0 l) := by
  pointwise [gcolV]
theorem growV_apply (G : Vec Ideal S1x8x128 .f32) (g : Vec Ideal S8x1 .f32) (j : Fin 8) (t : Fin 128) :
    growV G g (ix2 j t) = G (ix3 0 j t) + g (ix2 j 0) := by
  pointwise [growV]
theorem prevV_apply (P : Vec Ideal S1x128x256 .f32) (t : Fin 128) (l : Fin 256) : prevV P (ix2 t l) = P (ix3 0 t l) := by
  pointwise [prevV]
theorem projV_apply (x : FVec Ideal S128x256 .bf16) (W : Vec Ideal S256x256 .bf16) (t : Fin 128) (l : Fin 256) :
    projV x W (ix2 t l) = ∑ c : Fin 256, x (ix2 t c) * W (ix2 c l) := by
  pointwise [projV]

theorem slt1 : ∀ t : Fin 128, IntOp.cmpi CmpIPredicate.slt (BitVec.ofNat 32 t.val) 1#32 = if t.val < 1 then 1#1 else 0#1 := by decide
theorem tap1_apply (xm pv : FVec Ideal S128x256 .f32) (W : Vec Ideal S4x256 .f32) (ho) (t : Fin 128) (l : Fin 256) :
    tapV 1#32 2 xm pv W ho (ix2 t l) = (if h : t.val < 1 then pv (ix2 ⟨128 - 1 + t.val, by omega⟩ l) else xm (ix2 ⟨t.val - 1, by omega⟩ l)) * W (ix2 2 l) := by
  pointwise [tapV]
  refine congrArg₂ (fun x y : EReal => x * y) ?_ rfl
  rw [slt1]
  by_cases h : t.val < 1
  · rw [if_pos h, dif_pos h]
    exact congrArg (fun r => pv (ix2 r l)) (Fin.ext (by show (t.val + 128 - 1) % 128 = 128 - 1 + t.val; omega))
  · rw [if_neg h, dif_neg h]
    exact congrArg (fun r => xm (ix2 r l)) (Fin.ext (by show (t.val + 128 - 1) % 128 = t.val - 1; omega))

theorem slt2 : ∀ t : Fin 128, IntOp.cmpi CmpIPredicate.slt (BitVec.ofNat 32 t.val) 2#32 = if t.val < 2 then 1#1 else 0#1 := by decide
theorem tap2_apply (xm pv : FVec Ideal S128x256 .f32) (W : Vec Ideal S4x256 .f32) (ho) (t : Fin 128) (l : Fin 256) :
    tapV 2#32 1 xm pv W ho (ix2 t l) = (if h : t.val < 2 then pv (ix2 ⟨128 - 2 + t.val, by omega⟩ l) else xm (ix2 ⟨t.val - 2, by omega⟩ l)) * W (ix2 1 l) := by
  pointwise [tapV]
  refine congrArg₂ (fun x y : EReal => x * y) ?_ rfl
  rw [slt2]
  by_cases h : t.val < 2
  · rw [if_pos h, dif_pos h]
    exact congrArg (fun r => pv (ix2 r l)) (Fin.ext (by show (t.val + 128 - 2) % 128 = 128 - 2 + t.val; omega))
  · rw [if_neg h, dif_neg h]
    exact congrArg (fun r => xm (ix2 r l)) (Fin.ext (by show (t.val + 128 - 2) % 128 = t.val - 2; omega))

theorem slt3 : ∀ t : Fin 128, IntOp.cmpi CmpIPredicate.slt (BitVec.ofNat 32 t.val) 3#32 = if t.val < 3 then 1#1 else 0#1 := by decide
theorem tap3_apply (xm pv : FVec Ideal S128x256 .f32) (W : Vec Ideal S4x256 .f32) (ho) (t : Fin 128) (l : Fin 256) :
    tapV 3#32 0 xm pv W ho (ix2 t l) = (if h : t.val < 3 then pv (ix2 ⟨128 - 3 + t.val, by omega⟩ l) else xm (ix2 ⟨t.val - 3, by omega⟩ l)) * W (ix2 0 l) := by
  pointwise [tapV]
  refine congrArg₂ (fun x y : EReal => x * y) ?_ rfl
  rw [slt3]
  by_cases h : t.val < 3
  · rw [if_pos h, dif_pos h]
    exact congrArg (fun r => pv (ix2 r l)) (Fin.ext (by show (t.val + 128 - 3) % 128 = 128 - 3 + t.val; omega))
  · rw [if_neg h, dif_neg h]
    exact congrArg (fun r => xm (ix2 r l)) (Fin.ext (by show (t.val + 128 - 3) % 128 = t.val - 3; omega))

theorem convV_apply (xm pv : FVec Ideal S128x256 .f32) (W : Vec Ideal S4x256 .f32) (B : Vec Ideal S1x256 .f32) (t : Fin 128) (l : Fin 256) :
    convV xm pv W B (ix2 t l) = (((xm (ix2 t l) * W (ix2 3 l) + tapV 1#32 2 xm pv W slices_S4x256_o2_0_S1x256 (ix2 t l))
      + tapV 2#32 1 xm pv W slices_S4x256_o1_0_S1x256 (ix2 t l)) + tapV 3#32 0 xm pv W slices_S4x256_o0_0_S1x256 (ix2 t l)) + B (ix2 0 l) := by
  pointwise [convV]

/-- A row whose blocks are those of batch element `b`, chunk `k`, and whose scratch is what the chunks before leave. -/
structure Src (A : Args) (b : Fin 8) (k : ℕ) (R : RowIn Ideal) : Prop where
  U : ∀ (t : Fin 128) (l : ℕ) (h : l < 520), R.U (ix3 0 t ⟨l, by omega⟩) = A.u b (pos k t) ⟨l, by omega⟩
  GR : ∀ (j : Fin 8) (t : Fin 128), R.GR (ix3 0 j t) = A.u b (pos k t) ⟨512 + j.val, by omega⟩
  PV : ∀ (t : Fin 128) (l : Fin 256), R.PV (ix3 0 t l) = if k = 0 then 0 else A.xm b (pos (k - 1) t) l
  W2 : ∀ (i : Fin 4) (l : Fin 256), R.W2 (ix2 i l) = A.cw i l
  B3 : ∀ l : Fin 256, R.B3 (ix2 0 l) = A.cb l
  Wq : ∀ h h' d e, R.Wq (ix2 (lane h d) (lane h' e)) = if h = h' then A.wq h d e else 0
  Wk : ∀ h h' d e, R.Wk (ix2 (lane h d) (lane h' e)) = if h = h' then A.wk h d e * kscale else 0
  Wv : ∀ h h' d e, R.Wv (ix2 (lane h d) (lane h' e)) = if h = h' then A.wv h d e else 0
  gbcI : ∀ h : Fin 4, R.gbc (ix2 0 ⟨h.val, by omega⟩) = A.gb 0 h
  gbcF : ∀ h : Fin 4, R.gbc (ix2 0 ⟨4 + h.val, by omega⟩) = A.gb 1 h
  gbrI : ∀ h : Fin 4, R.gbr (ix2 ⟨h.val, by omega⟩ 0) = A.gb 0 h
  gbrF : ∀ h : Fin 4, R.gbr (ix2 ⟨4 + h.val, by omega⟩ 0) = A.gb 1 h
  CB : ∀ h h' d e, R.CB (ix3 0 (lane h d) (lane h' e)) = if h = h' then (A.st b h k).C d e else 0
  NB : ∀ h d, R.NB (ix3 0 0 (lane h d)) = (A.st b h k).N d
  MB : ∀ h d, R.MB (ix3 0 0 (lane h d)) = (A.st b h k).M

theorem pos_val {k : ℕ} (hk : k < 32) (t : Fin 128) : (pos k t).val = 128 * k + t.val := by
  show (128 * k + t.val) % 4096 = _
  omega

theorem back_pos (A : Args) (b : Fin 8) {k : ℕ} (hk : k < 32) (t : Fin 128) (l : Fin 256) (i : ℕ) (hi : i ≤ 128) (hi0 : 0 < i) :
    A.back b (pos k t) l i = if h : t.val < i then (if k = 0 then 0 else A.xm b (pos (k - 1) ⟨128 - i + t.val, by omega⟩) l)
      else A.xm b (pos k ⟨t.val - i, by omega⟩) l := by
  unfold Args.back
  have hp := pos_val hk t
  by_cases h : t.val < i
  · rw [dif_pos h]
    by_cases h0 : k = 0
    · rw [if_pos h0, dif_neg (by omega)]
    · rw [if_neg h0, dif_pos (by omega)]
      refine congrArg (fun r => A.xm b r l) (Fin.ext ?_)
      refine Eq.trans ?_ (pos_val (by omega) _).symm
      show (pos k t).val - i = 128 * (k - 1) + (128 - i + t.val)
      omega
  · rw [dif_neg h, dif_pos (by omega)]
    refine congrArg (fun r => A.xm b r l) (Fin.ext ?_)
    refine Eq.trans ?_ (pos_val hk _).symm
    show (pos k t).val - i = 128 * k + (t.val - i)
    omega

namespace Src
variable {A : Args} {b : Fin 8} {k : ℕ} {R : RowIn Ideal} (S : Src A b k R)
include S

theorem xm (t : Fin 128) (l : Fin 256) : R.xm (ix2 t l) = A.xm b (pos k t) l := (xmV_apply R.U t l).trans (S.U t l.val (by omega))

theorem tap (hk : k < 32) (t : Fin 128) (l : Fin 256) (i : ℕ) (hi : i ≤ 128) (hi0 : 0 < i) :
    (if h : t.val < i then prevV R.PV (ix2 ⟨128 - i + t.val, by omega⟩ l) else R.xm (ix2 ⟨t.val - i, by omega⟩ l)) = A.back b (pos k t) l i := by
  rw [back_pos A b hk t l i hi hi0]
  split
  · rw [prevV_apply, S.PV]
  · rw [S.xm]

theorem conv (hk : k < 32) (t : Fin 128) (l : Fin 256) : convV R.xm (prevV R.PV) R.W2 R.B3 (ix2 t l) = A.conv b (pos k t) l := by
  rw [convV_apply, tap1_apply, tap2_apply, tap3_apply]
  unfold Args.conv
  rw [← S.tap hk t l 1 (by omega) (by omega), ← S.tap hk t l 2 (by omega) (by omega), ← S.tap hk t l 3 (by omega) (by omega)]
  rw [S.xm, S.W2, S.W2, S.W2, S.W2, S.B3]

theorem xc (hk : k < 32) (t : Fin 128) (l : Fin 256) : R.xc (ix2 t l) = A.xc b (pos k t) l := by
  show convV R.xm (prevV R.PV) R.W2 R.B3 (ix2 t l) * Ideal.logistic (convV R.xm (prevV R.PV) R.W2 R.B3 (ix2 t l)) = _
  rw [S.conv hk]
  rfl

theorem qh (hk : k < 32) (h : Fin 4) (t : Fin 128) (d : Fin 64) : R.qh h t d = A.q b h (pos k t) d := by
  show projV R.xc R.Wq (ix2 t (lane h d)) = _
  rw [projV_apply, sum_head h]
  · exact Finset.sum_congr rfl fun x _ => by rw [S.xc hk, S.Wq, if_pos rfl]
  · intro l hl
    obtain ⟨h', d', rfl⟩ := lane_surj l
    rw [lane_div] at hl
    rw [S.Wq, if_neg (fun e => hl (congrArg Fin.val e)), mul_zero]

theorem kh (hk : k < 32) (h : Fin 4) (t : Fin 128) (d : Fin 64) : R.kh h t d = A.k b h (pos k t) d := by
  show projV R.xc R.Wk (ix2 t (lane h d)) = _
  rw [projV_apply, sum_head h]
  · exact Finset.sum_congr rfl fun x _ => by rw [S.xc hk, S.Wk, if_pos rfl]
  · intro l hl
    obtain ⟨h', d', rfl⟩ := lane_surj l
    rw [lane_div] at hl
    rw [S.Wk, if_neg (fun e => hl (congrArg Fin.val e)), mul_zero]

theorem vh (h : Fin 4) (t : Fin 128) (d : Fin 64) : R.vh h t d = A.v b h (pos k t) d := by
  show projV (truncf .bf16 R.xm bitsLt_bf16_f32) R.Wv (ix2 t (lane h d)) = _
  rw [projV_apply, sum_head h]
  · refine Finset.sum_congr rfl fun x _ => ?_
    rw [S.Wv, if_pos rfl]
    exact congrArg (fun z : EReal => z * _) (S.xm t (lane h x))
  · intro l hl
    obtain ⟨h', d', rfl⟩ := lane_surj l
    rw [lane_div] at hl
    rw [S.Wv, if_neg (fun e => hl (congrArg Fin.val e)), mul_zero]

theorem gI (h : Fin 4) (t : Fin 128) : R.gcol (ix2 t (RowIn.iCol h)) = A.ig b h (pos k t) := by
  refine (gcolV_apply R.U R.gbc t _).trans ?_
  exact congrArg₂ (fun x y : EReal => x + y) (S.U t (512 + h.val) (by omega)) (S.gbcI h)
theorem gF (h : Fin 4) (t : Fin 128) : R.gcol (ix2 t (RowIn.fCol h)) = A.fg b h (pos k t) := by
  refine (gcolV_apply R.U R.gbc t _).trans ?_
  refine congrArg₂ (fun x y : EReal => x + y) ?_ (S.gbcF h)
  exact (congrArg (fun l => R.U (ix3 0 t l)) (Fin.ext (by show 512 + (4 + h.val) = 516 + h.val; omega))).trans (S.U t (516 + h.val) (by omega))
theorem rI (h : Fin 4) (t : Fin 128) : R.grow (ix2 (RowIn.iRow h) t) = A.ig b h (pos k t) := by
  refine (growV_apply R.GR R.gbr _ t).trans ?_
  exact congrArg₂ (fun x y : EReal => x + y) (S.GR _ t) (S.gbrI h)
theorem rF (h : Fin 4) (t : Fin 128) : R.grow (ix2 (RowIn.fRow h) t) = A.fg b h (pos k t) := by
  refine (growV_apply R.GR R.gbr _ t).trans ?_
  refine congrArg₂ (fun x y : EReal => x + y) ((S.GR _ t).trans ?_) (S.gbrF h)
  exact congrArg (fun l => A.u b (pos k t) l) (Fin.ext (by show 512 + (4 + h.val) = 516 + h.val; omega))

theorem ok (hA : A.Finite) (hk : k < 32) : R.Ok (fun h => (A.st b h k).C) (fun h => (A.st b h k).N) (fun h => (A.st b h k).M) where
  rowF h s := (S.rF h s).trans (S.gF h s).symm
  rowI h s := (S.rI h s).trans (S.gI h s).symm
  finF h s := by rw [S.gF]; exact Args.fg_isR hA _ _ _
  finI h s := by rw [S.gI]; exact Args.ig_isR hA _ _ _
  finQ h t d := by rw [S.qh hk]; exact Args.q_isR hA _ _ _ _
  finK h t d := by rw [S.kh hk]; exact Args.k_isR hA _ _ _ _
  finN h d := (Args.st_isR hA b h k).1 d
  finM h := (Args.st_isR hA b h k).2
  cst h h' d e := by
    refine Eq.trans ?_ (S.CB h h' d e)
    pointwise [RowIn.cst]
  nst h d := by
    refine Eq.trans ?_ (S.NB h d)
    pointwise [RowIn.nst]
  mst h d := by
    refine Eq.trans ?_ (S.MB h d)
    pointwise [RowIn.mst]

theorem lfE (h : Fin 4) : R.lf h = fun t => A.lf b h (pos k t) := funext fun t => congrArg lsg (S.gF h t)
theorem igE (h : Fin 4) : R.ig h = fun t => A.ig b h (pos k t) := funext fun t => S.gI h t
theorem qE (hk : k < 32) (h : Fin 4) : R.qh h = fun t => A.q b h (pos k t) := funext fun t => funext fun d => S.qh hk h t d
theorem kE (hk : k < 32) (h : Fin 4) : R.kh h = fun t => A.k b h (pos k t) := funext fun t => funext fun d => S.kh hk h t d
theorem vE (h : Fin 4) : R.vh h = fun t => A.v b h (pos k t) := funext fun t => funext fun d => S.vh h t d

theorem yOut (hA : A.Finite) (hk : k < 32) (t : Fin 128) (h : Fin 4) (e : Fin 64) : R.yOut (ix3 0 t (lane h e)) = A.out b h k t e := by
  refine ((S.ok hA hk).yOut_at h t e).trans ?_
  rw [S.lfE, S.igE, S.qE hk, S.kE hk, S.vE]
  exact congrArg (fun z : EReal => Ideal.logistic z * _) (S.U t (256 + (lane h e).val) (by have := (lane h e).isLt; omega))
theorem pOut (t : Fin 128) (l : Fin 256) : R.pOut (ix3 0 t l) = A.xm b (pos k t) l := (RowIn.pOut_at t l).trans (S.xm t l)
theorem cOut (hA : A.Finite) (hk : k < 32) (h h' : Fin 4) (d e : Fin 64) :
    R.cOut (ix3 0 (lane h d) (lane h' e)) = if h = h' then (A.st b h (k + 1)).C d e else 0 := by
  refine ((S.ok hA hk).cOut_at h h' d e).trans ?_
  rw [S.lfE, S.igE, S.kE hk, S.vE, Args.st_C]
theorem nOut (hA : A.Finite) (hk : k < 32) (h : Fin 4) (d : Fin 64) : R.nOut (ix3 0 0 (lane h d)) = (A.st b h (k + 1)).N d := by
  refine ((S.ok hA hk).nOut_at h d).trans ?_
  rw [S.lfE, S.igE, S.kE hk, Args.st_N]
theorem mOut (hA : A.Finite) (hk : k < 32) (h : Fin 4) (d : Fin 64) : R.mOut (ix3 0 0 (lane h d)) = (A.st b h (k + 1)).M := by
  refine ((S.ok hA hk).mOut_at h d).trans ?_
  rw [S.lfE, S.igE, Args.st_M]

end Src

end Cert.Mlstm

end

end
-- ==== Proof.HostVal.lean ====
/- What the kernel's blocks hold: the host's preparations of the arrays, block by block. -/
module
public import proofs.«01_k».proof.Proof.InVal
public import Idealize.ShloMosaic.Lib.StableHlo.ReadAt
public import Idealize.ShloMosaic.Lib.Routing.OpsSet
@[expose] public section
set_option maxRecDepth 16384
noncomputable section
namespace Cert.Mlstm.Ker
open Cert.KernelIdeal Cert.KernelIdeal.Gen Idealize.ShloMosaic Idealize.ShloMosaic.StableHlo Idealize.SL.Sem

theorem toInt64 : ∀ h : Fin 4, (BitVec.ofNat 32 (64 * h.val)).toInt = 64 * (h.val : Int) := by decide

/-- Where an entry of a 64 x 64 block lands. -/
theorem diag_idx (idx : IVec S2 32) (h : Fin 4) (hi : ∀ a, idx a = BitVec.ofNat 32 (64 * h.val)) (j : S64x64.Idx) :
    scatter_S256x256_S2_S64x64_01_n_01_0.resultIdx? j idx = some (ix2 (lane h (j 0)) (lane h (j 1))) := by
  have s : ∀ a, scatter_S256x256_S2_S64x64_01_n_01_0.start j idx a = 64 * (h.val : Int) := fun a => by
    unfold ScatterDims.start
    rw [dif_pos (by revert a; decide), hi, toInt64]
  have w0 : scatter_S256x256_S2_S64x64_01_n_01_0.window j 0 = (j 0).val := rfl
  have w1 : scatter_S256x256_S2_S64x64_01_n_01_0.window j 1 = (j 1).val := rfl
  have hj0 : (j 0).val < 64 := (j 0).isLt
  have hj1 : (j 1).val < 64 := (j 1).isLt
  unfold ScatterDims.resultIdx?
  rw [dif_pos]
  · refine congrArg some (funext fun a => ?_)
    apply Fin.ext
    fin_cases a
    · show (scatter_S256x256_S2_S64x64_01_n_01_0.start j idx 0 + scatter_S256x256_S2_S64x64_01_n_01_0.window j 0).toNat = 64 * h.val + (j 0).val
      rw [s, w0]; omega
    · show (scatter_S256x256_S2_S64x64_01_n_01_0.start j idx 1 + scatter_S256x256_S2_S64x64_01_n_01_0.window j 1).toNat = 64 * h.val + (j 1).val
      rw [s, w1]; omega
  · intro a
    fin_cases a
    · show 0 ≤ scatter_S256x256_S2_S64x64_01_n_01_0.start j idx 0 + scatter_S256x256_S2_S64x64_01_n_01_0.window j 0
        ∧ scatter_S256x256_S2_S64x64_01_n_01_0.start j idx 0 + scatter_S256x256_S2_S64x64_01_n_01_0.window j 0 < 256
      rw [s, w0]; omega
    · show 0 ≤ scatter_S256x256_S2_S64x64_01_n_01_0.start j idx 1 + scatter_S256x256_S2_S64x64_01_n_01_0.window j 1
        ∧ scatter_S256x256_S2_S64x64_01_n_01_0.start j idx 1 + scatter_S256x256_S2_S64x64_01_n_01_0.window j 1 < 256
      rw [s, w1]; omega

theorem lane_inj {h h' : Fin 4} {d d' : Fin 64} (e : lane h d = lane h' d') : h = h' ∧ d = d' := by
  have e' : 64 * h.val + d.val = 64 * h'.val + d'.val := congrArg Fin.val e
  exact ⟨Fin.ext (by omega), Fin.ext (by omega)⟩

/-- A block written on the diagonal. -/
theorem diag_set (x : FVec Ideal S256x256 .f32) (idx : IVec S2 32) (u : FVec Ideal S64x64 .f32) (g : Fin 4) (hi : ∀ a, idx a = BitVec.ofNat 32 (64 * g.val)) (h h' : Fin 4) (d e : Fin 64) :
    Host.scatter scatter_S256x256_S2_S64x64_01_n_01_0 (fun _ b => b) x idx u (ix2 (lane h d) (lane h' e))
      = if h = g ∧ h' = g then u (ix2 d e) else x (ix2 (lane h d) (lane h' e)) := by
  by_cases hg : h = g ∧ h' = g
  · rw [if_pos hg]
    obtain ⟨e1, e2⟩ := hg
    subst e1
    subst e2
    refine Routing.scatter_set_hit _ x idx u _ _ (fun k hk => ?_) (ix2 d e) (diag_idx idx h' hi _)
    rw [diag_idx idx h' hi, Option.some.injEq] at hk
    have k0 : k 0 = d := (lane_inj (congrFun hk 0)).2
    have k1 : k 1 = e := (lane_inj (congrFun hk 1)).2
    exact congrArg u (funext fun a => by fin_cases a; exacts [k0, k1])
  · rw [if_neg hg]
    refine Routing.scatter_set_miss _ x idx u _ fun k hk => hg ?_
    rw [diag_idx idx g hi, Option.some.injEq] at hk
    exact ⟨(lane_inj (congrFun hk 0)).1.symm, (lane_inj (congrFun hk 1)).1.symm⟩

theorem gate_idx (idx : IVec S2 32) (hi : ∀ a, idx a = 0#32) (j : S8.Idx) :
    scatter_S1x128_S2_S8_0_0_01_0.resultIdx? j idx = some (ix2 0 ⟨(j 0).val, by have : (j 0).val < 8 := (j 0).isLt; omega⟩) := by
  have s : ∀ a, scatter_S1x128_S2_S8_0_0_01_0.start j idx a = 0 := fun a => by
    unfold ScatterDims.start
    rw [dif_pos (by revert a; decide), hi]
    rfl
  have w0 : scatter_S1x128_S2_S8_0_0_01_0.window j 0 = 0 := rfl
  have w1 : scatter_S1x128_S2_S8_0_0_01_0.window j 1 = (j 0).val := rfl
  have hj0 : (j 0).val < 8 := (j 0).isLt
  unfold ScatterDims.resultIdx?
  rw [dif_pos]
  · refine congrArg some (funext fun a => ?_)
    apply Fin.ext
    fin_cases a
    · show (scatter_S1x128_S2_S8_0_0_01_0.start j idx 0 + scatter_S1x128_S2_S8_0_0_01_0.window j 0).toNat = 0
      rw [s, w0]; rfl
    · show (scatter_S1x128_S2_S8_0_0_01_0.start j idx 1 + scatter_S1x128_S2_S8_0_0_01_0.window j 1).toNat = (j 0).val
      rw [s, w1]; omega
  · intro a
    fin_cases a
    · show 0 ≤ scatter_S1x128_S2_S8_0_0_01_0.start j idx 0 + scatter_S1x128_S2_S8_0_0_01_0.window j 0
        ∧ scatter_S1x128_S2_S8_0_0_01_0.start j idx 0 + scatter_S1x128_S2_S8_0_0_01_0.window j 0 < 1
      rw [s, w0]; omega
    · show 0 ≤ scatter_S1x128_S2_S8_0_0_01_0.start j idx 1 + scatter_S1x128_S2_S8_0_0_01_0.window j 1
        ∧ scatter_S1x128_S2_S8_0_0_01_0.start j idx 1 + scatter_S1x128_S2_S8_0_0_01_0.window j 1 < 128
      rw [s, w1]; omega

theorem gate_set (x : FVec Ideal S1x128 .f32) (idx : IVec S2 32) (u : FVec Ideal S8 .f32) (hi : ∀ a, idx a = 0#32) (j : Fin 8) :
    Host.scatter scatter_S1x128_S2_S8_0_0_01_0 (fun _ b => b) x idx u (ix2 0 ⟨j.val, by omega⟩) = u (ix1 j) := by
  refine Routing.scatter_set_hit _ x idx u _ _ (fun k hk => ?_) (ix1 j) (gate_idx idx hi _)
  rw [gate_idx idx hi, Option.some.injEq] at hk
  have k1 : (k 0).val = j.val := congrArg (fun i : S1x128.Idx => (i 1).val) hk
  exact congrArg u (funext fun a => by fin_cases a; exact Fin.ext k1)

theorem cat_const (a b : IVec S1 32) (v : BitVec 32) (ha : ∀ i, a i = v) (hb : ∀ i, b i = v) (i : S2.Idx) :
    concatenate S2 0 [⟨S1, a⟩, ⟨S1, b⟩] concatenates_S1_S1_S2_d0 i = v := by
  pointwise
  split
  · exact ha _
  · exact hb _

/-- Four blocks on the diagonal of a zero matrix. -/
theorem diag4 (x : FVec Ideal S256x256 .f32) (hx : ∀ i, x i = 0) (i0 i1 i2 i3 : IVec S2 32) (u0 u1 u2 u3 : FVec Ideal S64x64 .f32) (W : Fin 4 → Fin 64 → Fin 64 → EReal)
    (h0 : ∀ a, i0 a = 0#32) (h1 : ∀ a, i1 a = 64#32) (h2 : ∀ a, i2 a = 128#32) (h3 : ∀ a, i3 a = 192#32)
    (e0 : ∀ d e, u0 (ix2 d e) = W 0 d e) (e1 : ∀ d e, u1 (ix2 d e) = W 1 d e) (e2 : ∀ d e, u2 (ix2 d e) = W 2 d e) (e3 : ∀ d e, u3 (ix2 d e) = W 3 d e)
    (h h' : Fin 4) (d e : Fin 64) :
    Host.scatter scatter_S256x256_S2_S64x64_01_n_01_0 (fun _ b => b) (Host.scatter scatter_S256x256_S2_S64x64_01_n_01_0 (fun _ b => b)
      (Host.scatter scatter_S256x256_S2_S64x64_01_n_01_0 (fun _ b => b) (Host.scatter scatter_S256x256_S2_S64x64_01_n_01_0 (fun _ b => b) x i0 u0) i1 u1) i2 u2) i3 u3
      (ix2 (lane h d) (lane h' e)) = if h = h' then W h d e else 0 := by
  rw [diag_set _ i3 u3 3 h3, diag_set _ i2 u2 2 h2, diag_set _ i1 u1 1 h1, diag_set _ i0 u0 0 h0, hx, e0, e1, e2, e3]
  fin_cases h <;> fin_cases h' <;> rfl

variable (m : (ℓ : Loc nD τ sig) → Buf (Elt Ideal) ℓ)

/-- The arrays the program is started on. -/
def args (c : Dev nD) : Args where
  u b s l := m (c, Proc.devRef .tc main_arg0) (ix3 b s l)
  cw i l := m (c, Proc.devRef .tc main_arg1) (ix2 i l)
  cb l := m (c, Proc.devRef .tc main_arg2) (ix1 l)
  wq h d e := m (c, Proc.devRef .tc main_arg3) (ix3 h d e)
  wk h d e := m (c, Proc.devRef .tc main_arg4) (ix3 h d e)
  wv h d e := m (c, Proc.devRef .tc main_arg5) (ix3 h d e)
  gb i h := m (c, Proc.devRef .tc main_arg6) (ix2 i h)

theorem v1_read (c : Dev nD) (b : Fin 8) (s : Fin 4096) (l : ℕ) (hl : l < 520) :
    (V m c main_v1 : S8x4096x640.Idx → EReal) (ix3 b s ⟨l, by omega⟩) = (args m c).u b s ⟨l, by omega⟩ := by
  unfold V
  after_reads_simp
  simp -implicitDefEqProofs only [StableHlo.TRef.toBuf, StableHlo.TRef.ofBuf, cast_cast, cast_eq, id_eq]
  clean_types
  pointwise
  rw [dif_pos hl]
  rfl

theorem v3_read (c : Dev nD) (b j : Fin 8) (s : Fin 4096) :
    (V m c main_v3 : S8x8x4096.Idx → EReal) (ix3 b j s) = (args m c).u b s ⟨512 + j.val, by omega⟩ := by
  unfold V
  after_reads_simp
  clean_types
  pointwise
  rfl

theorem v10_read (c : Dev nD) (j : Fin 8) :
    (V m c main_v10 : S8x1.Idx → EReal) (ix2 j 0) = (args m c).gb ⟨j.val / 4, by omega⟩ ⟨j.val % 4, by omega⟩ := by
  unfold V
  after_reads_simp
  clean_types
  pointwise
  rfl

theorem v9_read (c : Dev nD) (j : Fin 8) :
    (V m c main_v9 : S1x128.Idx → EReal) (ix2 0 ⟨j.val, by omega⟩) = (args m c).gb ⟨j.val / 4, by omega⟩ ⟨j.val % 4, by omega⟩ := by
  unfold V
  after_reads_simp
  clean_types
  refine (gate_set _ _ _ ?_ j).trans ?_
  · exact cat_const _ _ _ (fun i => by after_reads_simp; rfl) (fun i => by after_reads_simp; rfl)
  · pointwise
    rfl

theorem v11_read (c : Dev nD) (l : Fin 256) : (V m c main_v11 : S1x256.Idx → EReal) (ix2 0 l) = (args m c).cb l := by
  unfold V
  after_reads_simp
  clean_types
  pointwise
  rfl

theorem v37_read (c : Dev nD) (h h' : Fin 4) (d e : Fin 64) :
    (V m c main_v37 : S256x256.Idx → EReal) (ix2 (lane h d) (lane h' e)) = if h = h' then (args m c).wq h d e else 0 := by
  unfold V
  after_reads_simp
  clean_types
  pointwise
  refine diag4 _ (fun i => ?_) _ _ _ _ _ _ _ _ (args m c).wq (cat_const _ _ _ (fun i => ?_) (fun i => ?_)) (cat_const _ _ _ (fun i => ?_) (fun i => ?_))
    (cat_const _ _ _ (fun i => ?_) (fun i => ?_)) (cat_const _ _ _ (fun i => ?_) (fun i => ?_)) (fun _ _ => rfl) (fun _ _ => rfl) (fun _ _ => rfl) (fun _ _ => rfl) h h' d e
  · exact (Ideal.ofBits_zero .f32 : Ideal.ofBits .f32 0#32 = 0)
  all_goals
    after_reads_simp
    rfl

theorem v91_read (c : Dev nD) (h h' : Fin 4) (d e : Fin 64) :
    (V m c main_v91 : S256x256.Idx → EReal) (ix2 (lane h d) (lane h' e)) = if h = h' then (args m c).wv h d e else 0 := by
  unfold V
  after_reads_simp
  clean_types
  pointwise
  refine diag4 _ (fun i => ?_) _ _ _ _ _ _ _ _ (args m c).wv (cat_const _ _ _ (fun i => ?_) (fun i => ?_)) (cat_const _ _ _ (fun i => ?_) (fun i => ?_))
    (cat_const _ _ _ (fun i => ?_) (fun i => ?_)) (cat_const _ _ _ (fun i => ?_) (fun i => ?_)) (fun _ _ => rfl) (fun _ _ => rfl) (fun _ _ => rfl) (fun _ _ => rfl) h h' d e
  · exact (Ideal.ofBits_zero .f32 : Ideal.ofBits .f32 0#32 = 0)
  all_goals
    after_reads_simp
    rfl

theorem v65_read (c : Dev nD) (h h' : Fin 4) (d e : Fin 64) :
    (V m c main_v65 : S256x256.Idx → EReal) (ix2 (lane h d) (lane h' e)) = if h = h' then (args m c).wk h d e * kscale else 0 := by
  unfold V
  after_reads_simp
  clean_types
  pointwise
  refine (congrArg (fun y : EReal => y * kscale) (diag4 _ (fun i => ?_) _ _ _ _ _ _ _ _ (args m c).wk (cat_const _ _ _ (fun i => ?_) (fun i => ?_)) (cat_const _ _ _ (fun i => ?_) (fun i => ?_))
    (cat_const _ _ _ (fun i => ?_) (fun i => ?_)) (cat_const _ _ _ (fun i => ?_) (fun i => ?_)) (fun _ _ => rfl) (fun _ _ => rfl) (fun _ _ => rfl) (fun _ _ => rfl) h h' d e)).trans ?_
  · exact (Ideal.ofBits_zero .f32 : Ideal.ofBits .f32 0#32 = 0)
  rotate_right
  · split
    · rfl
    · exact zero_mul _
  all_goals
    after_reads_simp
    rfl

end Cert.Mlstm.Ker
end
end
-- ==== Proof.RunA.lean ====
/- What the first grid point of a row pair writes: the scratch is cleared, then its two rows are computed as at every other point. -/
module

public import proofs.«01_k».proof.Proof.Chain

@[expose] public section

set_option maxRecDepth 16384

noncomputable section

namespace Cert.Mlstm

open Cert.KernelIdeal Cert.KernelIdeal.Gen Idealize.ShloMosaic Idealize.SL.Sem

variable {F : FTy → Type} [FloatOps F]
variable (c : Dev nD) (i : grid0.Coords) (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : cond0_0 i)
  (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32)

def ldA0 : RowIn F :=
  ⟨View.readAt (Elt F) arg2.view (Rect.unit (s := S2x128x640) ![0, 0, 0] S1x128x640.size inb_S2x128x640_S1x128x640_0_0_0).toLoadRect (harg2.unread x0),
    View.readAt (Elt F) arg3.view (Rect.unit (s := S2x8x128) ![0, 0, 0] S1x8x128.size inb_S2x8x128_S1x8x128_0_0_0).toLoadRect (harg3.unread x1),
    arg12.view.readCov (Val := Elt F) (kernelRun0_A.sl.HS0_1) (Rect.unit (s := S2x128x256) ![0, 0, 0] S1x128x256.size inb_S2x128x256_S1x128x256_0_0_0).toLoadRect,
    arg13.view.readCov (Val := Elt F) (kernelRun0_A.sl.HS1_1) (Rect.unit (s := S2x256x256) ![0, 0, 0] S1x256x256.size inb_S2x256x256_S1x256x256_0_0_0).toLoadRect,
    arg14.view.readCov (Val := Elt F) (kernelRun0_A.sl.HS2_1) (Rect.unit (s := S2x1x256) ![0, 0, 0] S1x1x256.size inb_S2x1x256_S1x1x256_0_0_0).toLoadRect,
    arg15.view.readCov (Val := Elt F) (kernelRun0_A.sl.HS3_1) (Rect.unit (s := S2x1x256) ![0, 0, 0] S1x1x256.size inb_S2x1x256_S1x1x256_0_0_0).toLoadRect,
    View.readAt (Elt F) arg4.view (Rect.unit (s := S4x256) ![0, 0] S4x256.size inb_S4x256_S4x256_0_0).toLoadRect (harg4.unread x2),
    View.readAt (Elt F) arg5.view (Rect.unit (s := S1x256) ![0, 0] S1x256.size inb_S1x256_S1x256_0_0).toLoadRect (harg5.unread x3),
    View.readAt (Elt F) arg6.view (Rect.unit (s := S256x256) ![0, 0] S256x256.size inb_S256x256_S256x256_0_0).toLoadRect (harg6.unread x4),
    View.readAt (Elt F) arg7.view (Rect.unit (s := S256x256) ![0, 0] S256x256.size inb_S256x256_S256x256_0_0).toLoadRect (harg7.unread x5),
    View.readAt (Elt F) arg8.view (Rect.unit (s := S256x256) ![0, 0] S256x256.size inb_S256x256_S256x256_0_0).toLoadRect (harg8.unread x6),
    View.readAt (Elt F) arg9.view (Rect.unit (s := S1x128) ![0, 0] S1x128.size inb_S1x128_S1x128_0_0).toLoadRect (harg9.unread x7),
    View.readAt (Elt F) arg10.view (Rect.unit (s := S8x1) ![0, 0] S8x1.size inb_S8x1_S8x1_0_0).toLoadRect (harg10.unread x8)⟩

def ldA1 : RowIn F :=
  ⟨View.readAt (Elt F) arg2.view (Rect.unit (s := S2x128x640) ![1, 0, 0] S1x128x640.size inb_S2x128x640_S1x128x640_1_0_0).toLoadRect (harg2.unread x0),
    View.readAt (Elt F) arg3.view (Rect.unit (s := S2x8x128) ![1, 0, 0] S1x8x128.size inb_S2x8x128_S1x8x128_1_0_0).toLoadRect (harg3.unread x1),
    arg12.view.readCov (Val := Elt F) (kernelRun0_A.sl.HS0_2 c arg2 harg2 x0) (Rect.unit (s := S2x128x256) ![1, 0, 0] S1x128x256.size inb_S2x128x256_S1x128x256_1_0_0).toLoadRect,
    arg13.view.readCov (Val := Elt F) (kernelRun0_A.sl.HS1_1) (Rect.unit (s := S2x256x256) ![1, 0, 0] S1x256x256.size inb_S2x256x256_S1x256x256_1_0_0).toLoadRect,
    arg14.view.readCov (Val := Elt F) (kernelRun0_A.sl.HS2_1) (Rect.unit (s := S2x1x256) ![1, 0, 0] S1x1x256.size inb_S2x1x256_S1x1x256_1_0_0).toLoadRect,
    arg15.view.readCov (Val := Elt F) (kernelRun0_A.sl.HS3_1) (Rect.unit (s := S2x1x256) ![1, 0, 0] S1x1x256.size inb_S2x1x256_S1x1x256_1_0_0).toLoadRect,
    View.readAt (Elt F) arg4.view (Rect.unit (s := S4x256) ![0, 0] S4x256.size inb_S4x256_S4x256_0_0).toLoadRect (harg4.unread x2),
    View.readAt (Elt F) arg5.view (Rect.unit (s := S1x256) ![0, 0] S1x256.size inb_S1x256_S1x256_0_0).toLoadRect (harg5.unread x3),
    View.readAt (Elt F) arg6.view (Rect.unit (s := S256x256) ![0, 0] S256x256.size inb_S256x256_S256x256_0_0).toLoadRect (harg6.unread x4),
    View.readAt (Elt F) arg7.view (Rect.unit (s := S256x256) ![0, 0] S256x256.size inb_S256x256_S256x256_0_0).toLoadRect (harg7.unread x5),
    View.readAt (Elt F) arg8.view (Rect.unit (s := S256x256) ![0, 0] S256x256.size inb_S256x256_S256x256_0_0).toLoadRect (harg8.unread x6),
    View.readAt (Elt F) arg9.view (Rect.unit (s := S1x128) ![0, 0] S1x128.size inb_S1x128_S1x128_0_0).toLoadRect (harg9.unread x7),
    View.readAt (Elt F) arg10.view (Rect.unit (s := S8x1) ![0, 0] S8x1.size inb_S8x1_S8x1_0_0).toLoadRect (harg10.unread x8)⟩

theorem pieces_y_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 = [⟨Rect.unit (s := S2x128x256) ![1, 0, 0] S1x128x256.size inb_S2x128x256_S1x128x256_1_0_0, (ldA1 c arg2 harg2 arg3 harg3 arg4 harg4 arg5 harg5 arg6 harg6 arg7 harg7 arg8 harg8 arg9 harg9 arg10 harg10 arg12 arg13 arg14 arg15 x0 x1 x2 x3 x4 x5 x6 x7 x8).yOut⟩, ⟨Rect.unit (s := S2x128x256) ![0, 0, 0] S1x128x256.size inb_S2x128x256_S1x128x256_0_0_0, (ldA0 arg2 harg2 arg3 harg3 arg4 harg4 arg5 harg5 arg6 harg6 arg7 harg7 arg8 harg8 arg9 harg9 arg10 harg10 arg12 arg13 arg14 arg15 x0 x1 x2 x3 x4 x5 x6 x7 x8).yOut⟩] := by
  sl_kernel_rfl

theorem pieces_p_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 = [⟨Rect.unit (s := S2x128x256) ![1, 0, 0] S1x128x256.size inb_S2x128x256_S1x128x256_1_0_0, (ldA1 c arg2 harg2 arg3 harg3 arg4 harg4 arg5 harg5 arg6 harg6 arg7 harg7 arg8 harg8 arg9 harg9 arg10 harg10 arg12 arg13 arg14 arg15 x0 x1 x2 x3 x4 x5 x6 x7 x8).pOut⟩, ⟨Rect.unit (s := S2x128x256) ![0, 0, 0] S1x128x256.size inb_S2x128x256_S1x128x256_0_0_0, (ldA0 arg2 harg2 arg3 harg3 arg4 harg4 arg5 harg5 arg6 harg6 arg7 harg7 arg8 harg8 arg9 harg9 arg10 harg10 arg12 arg13 arg14 arg15 x0 x1 x2 x3 x4 x5 x6 x7 x8).pOut⟩, ⟨Rect.unit (s := S2x128x256) ![0, 0, 0] S2x128x256.size inb_S2x128x256_S2x128x256_0_0_0, k0_pay1⟩] := by
  sl_kernel_rfl

theorem pieces_c_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 = [⟨Rect.unit (s := S2x256x256) ![1, 0, 0] S1x256x256.size inb_S2x256x256_S1x256x256_1_0_0, (ldA1 c arg2 harg2 arg3 harg3 arg4 harg4 arg5 harg5 arg6 harg6 arg7 harg7 arg8 harg8 arg9 harg9 arg10 harg10 arg12 arg13 arg14 arg15 x0 x1 x2 x3 x4 x5 x6 x7 x8).cOut⟩, ⟨Rect.unit (s := S2x256x256) ![0, 0, 0] S1x256x256.size inb_S2x256x256_S1x256x256_0_0_0, (ldA0 arg2 harg2 arg3 harg3 arg4 harg4 arg5 harg5 arg6 harg6 arg7 harg7 arg8 harg8 arg9 harg9 arg10 harg10 arg12 arg13 arg14 arg15 x0 x1 x2 x3 x4 x5 x6 x7 x8).cOut⟩, ⟨Rect.unit (s := S2x256x256) ![0, 0, 0] S2x256x256.size inb_S2x256x256_S2x256x256_0_0_0, k0_pay2⟩] := by
  sl_kernel_rfl

theorem pieces_n_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 = [⟨Rect.unit (s := S2x1x256) ![1, 0, 0] S1x1x256.size inb_S2x1x256_S1x1x256_1_0_0, (ldA1 c arg2 harg2 arg3 harg3 arg4 harg4 arg5 harg5 arg6 harg6 arg7 harg7 arg8 harg8 arg9 harg9 arg10 harg10 arg12 arg13 arg14 arg15 x0 x1 x2 x3 x4 x5 x6 x7 x8).nOut⟩, ⟨Rect.unit (s := S2x1x256) ![0, 0, 0] S1x1x256.size inb_S2x1x256_S1x1x256_0_0_0, (ldA0 arg2 harg2 arg3 harg3 arg4 harg4 arg5 harg5 arg6 harg6 arg7 harg7 arg8 harg8 arg9 harg9 arg10 harg10 arg12 arg13 arg14 arg15 x0 x1 x2 x3 x4 x5 x6 x7 x8).nOut⟩, ⟨Rect.unit (s := S2x1x256) ![0, 0, 0] S2x1x256.size inb_S2x1x256_S2x1x256_0_0_0, k0_pay3⟩] := by
  sl_kernel_rfl

theorem pieces_m_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 = [⟨Rect.unit (s := S2x1x256) ![1, 0, 0] S1x1x256.size inb_S2x1x256_S1x1x256_1_0_0, (ldA1 c arg2 harg2 arg3 harg3 arg4 harg4 arg5 harg5 arg6 harg6 arg7 harg7 arg8 harg8 arg9 harg9 arg10 harg10 arg12 arg13 arg14 arg15 x0 x1 x2 x3 x4 x5 x6 x7 x8).mOut⟩, ⟨Rect.unit (s := S2x1x256) ![0, 0, 0] S1x1x256.size inb_S2x1x256_S1x1x256_0_0_0, (ldA0 arg2 harg2 arg3 harg3 arg4 harg4 arg5 harg5 arg6 harg6 arg7 harg7 arg8 harg8 arg9 harg9 arg10 harg10 arg12 arg13 arg14 arg15 x0 x1 x2 x3 x4 x5 x6 x7 x8).mOut⟩, ⟨Rect.unit (s := S2x1x256) ![0, 0, 0] S2x1x256.size inb_S2x1x256_S2x1x256_0_0_0, k0_pay4⟩] := by
  sl_kernel_rfl

end Cert.Mlstm
end
end
-- ==== Proof.RunB.lean ====
/- What a grid point that is not the first of its row pair writes: its two rows' computations. -/
module

public import proofs.«01_k».proof.Proof.Chain

@[expose] public section

set_option maxRecDepth 16384

noncomputable section

namespace Cert.Mlstm

open Cert.KernelIdeal Cert.KernelIdeal.Gen Idealize.ShloMosaic Idealize.SL.Sem

variable {F : FTy → Type} [FloatOps F]
variable (c : Dev nD) (i : grid0.Coords) (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : ¬cond0_0 i)
  (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32)

def ldB0 : RowIn F :=
  ⟨View.readAt (Elt F) arg2.view (Rect.unit (s := S2x128x640) ![0, 0, 0] S1x128x640.size inb_S2x128x640_S1x128x640_0_0_0).toLoadRect (harg2.unread x0),
    View.readAt (Elt F) arg3.view (Rect.unit (s := S2x8x128) ![0, 0, 0] S1x8x128.size inb_S2x8x128_S1x8x128_0_0_0).toLoadRect (harg3.unread x1),
    View.readAt (Elt F) arg12.view (Rect.unit (s := S2x128x256) ![0, 0, 0] S1x128x256.size inb_S2x128x256_S1x128x256_0_0_0).toLoadRect (harg12.unread xs0),
    View.readAt (Elt F) arg13.view (Rect.unit (s := S2x256x256) ![0, 0, 0] S1x256x256.size inb_S2x256x256_S1x256x256_0_0_0).toLoadRect (harg13.unread xs1),
    View.readAt (Elt F) arg14.view (Rect.unit (s := S2x1x256) ![0, 0, 0] S1x1x256.size inb_S2x1x256_S1x1x256_0_0_0).toLoadRect (harg14.unread xs2),
    View.readAt (Elt F) arg15.view (Rect.unit (s := S2x1x256) ![0, 0, 0] S1x1x256.size inb_S2x1x256_S1x1x256_0_0_0).toLoadRect (harg15.unread xs3),
    View.readAt (Elt F) arg4.view (Rect.unit (s := S4x256) ![0, 0] S4x256.size inb_S4x256_S4x256_0_0).toLoadRect (harg4.unread x2),
    View.readAt (Elt F) arg5.view (Rect.unit (s := S1x256) ![0, 0] S1x256.size inb_S1x256_S1x256_0_0).toLoadRect (harg5.unread x3),
    View.readAt (Elt F) arg6.view (Rect.unit (s := S256x256) ![0, 0] S256x256.size inb_S256x256_S256x256_0_0).toLoadRect (harg6.unread x4),
    View.readAt (Elt F) arg7.view (Rect.unit (s := S256x256) ![0, 0] S256x256.size inb_S256x256_S256x256_0_0).toLoadRect (harg7.unread x5),
    View.readAt (Elt F) arg8.view (Rect.unit (s := S256x256) ![0, 0] S256x256.size inb_S256x256_S256x256_0_0).toLoadRect (harg8.unread x6),
    View.readAt (Elt F) arg9.view (Rect.unit (s := S1x128) ![0, 0] S1x128.size inb_S1x128_S1x128_0_0).toLoadRect (harg9.unread x7),
    View.readAt (Elt F) arg10.view (Rect.unit (s := S8x1) ![0, 0] S8x1.size inb_S8x1_S8x1_0_0).toLoadRect (harg10.unread x8)⟩

def ldB1 : RowIn F :=
  ⟨View.readAt (Elt F) arg2.view (Rect.unit (s := S2x128x640) ![1, 0, 0] S1x128x640.size inb_S2x128x640_S1x128x640_1_0_0).toLoadRect (harg2.unread x0),
    View.readAt (Elt F) arg3.view (Rect.unit (s := S2x8x128) ![1, 0, 0] S1x8x128.size inb_S2x8x128_S1x8x128_1_0_0).toLoadRect (harg3.unread x1),
    View.readAt (Elt F) arg12.view (Rect.unit (s := S2x128x256) ![1, 0, 0] S1x128x256.size inb_S2x128x256_S1x128x256_1_0_0).toLoadRect (harg12.unread xs0),
    View.readAt (Elt F) arg13.view (Rect.unit (s := S2x256x256) ![1, 0, 0] S1x256x256.size inb_S2x256x256_S1x256x256_1_0_0).toLoadRect (harg13.unread xs1),
    View.readAt (Elt F) arg14.view (Rect.unit (s := S2x1x256) ![1, 0, 0] S1x1x256.size inb_S2x1x256_S1x1x256_1_0_0).toLoadRect (harg14.unread xs2),
    View.readAt (Elt F) arg15.view (Rect.unit (s := S2x1x256) ![1, 0, 0] S1x1x256.size inb_S2x1x256_S1x1x256_1_0_0).toLoadRect (harg15.unread xs3),
    View.readAt (Elt F) arg4.view (Rect.unit (s := S4x256) ![0, 0] S4x256.size inb_S4x256_S4x256_0_0).toLoadRect (harg4.unread x2),
    View.readAt (Elt F) arg5.view (Rect.unit (s := S1x256) ![0, 0] S1x256.size inb_S1x256_S1x256_0_0).toLoadRect (harg5.unread x3),
    View.readAt (Elt F) arg6.view (Rect.unit (s := S256x256) ![0, 0] S256x256.size inb_S256x256_S256x256_0_0).toLoadRect (harg6.unread x4),
    View.readAt (Elt F) arg7.view (Rect.unit (s := S256x256) ![0, 0] S256x256.size inb_S256x256_S256x256_0_0).toLoadRect (harg7.unread x5),
    View.readAt (Elt F) arg8.view (Rect.unit (s := S256x256) ![0, 0] S256x256.size inb_S256x256_S256x256_0_0).toLoadRect (harg8.unread x6),
    View.readAt (Elt F) arg9.view (Rect.unit (s := S1x128) ![0, 0] S1x128.size inb_S1x128_S1x128_0_0).toLoadRect (harg9.unread x7),
    View.readAt (Elt F) arg10.view (Rect.unit (s := S8x1) ![0, 0] S8x1.size inb_S8x1_S8x1_0_0).toLoadRect (harg10.unread x8)⟩

-- def lbB (b : Bool) : RowIn F := if b then ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3 else ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3
theorem pieces_y_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).1 = [⟨Rect.unit (s := S2x128x256) ![1, 0, 0] S1x128x256.size inb_S2x128x256_S1x128x256_1_0_0, (ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).yOut⟩, ⟨Rect.unit (s := S2x128x256) ![0, 0, 0] S1x128x256.size inb_S2x128x256_S1x128x256_0_0_0, (ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).yOut⟩] := by
  sl_kernel_rfl

theorem pieces_p_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).2.1 = [⟨Rect.unit (s := S2x128x256) ![1, 0, 0] S1x128x256.size inb_S2x128x256_S1x128x256_1_0_0, (ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).pOut⟩, ⟨Rect.unit (s := S2x128x256) ![0, 0, 0] S1x128x256.size inb_S2x128x256_S1x128x256_0_0_0, (ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).pOut⟩] := by
  sl_kernel_rfl

theorem pieces_c_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).2.2.1 = [⟨Rect.unit (s := S2x256x256) ![1, 0, 0] S1x256x256.size inb_S2x256x256_S1x256x256_1_0_0, (ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).cOut⟩, ⟨Rect.unit (s := S2x256x256) ![0, 0, 0] S1x256x256.size inb_S2x256x256_S1x256x256_0_0_0, (ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).cOut⟩] := by
  sl_kernel_rfl

theorem pieces_n_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).2.2.2.1 = [⟨Rect.unit (s := S2x1x256) ![1, 0, 0] S1x1x256.size inb_S2x1x256_S1x1x256_1_0_0, (ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).nOut⟩, ⟨Rect.unit (s := S2x1x256) ![0, 0, 0] S1x1x256.size inb_S2x1x256_S1x1x256_0_0_0, (ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).nOut⟩] := by
  sl_kernel_rfl

theorem pieces_m_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).2.2.2.2.1 = [⟨Rect.unit (s := S2x1x256) ![1, 0, 0] S1x1x256.size inb_S2x1x256_S1x1x256_1_0_0, (ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).mOut⟩, ⟨Rect.unit (s := S2x1x256) ![0, 0, 0] S1x1x256.size inb_S2x1x256_S1x1x256_0_0_0, (ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3).mOut⟩] := by
  sl_kernel_rfl

end Cert.Mlstm
end
end
-- ==== Proof.Rows.lean ====
/- The contents after a grid point, as the stack of its two rows' computations. -/
module

public import proofs.«01_k».proof.Proof.RunA
public import proofs.«01_k».proof.Proof.RunB
public import Idealize.ShloMosaic.Lib.ValueIdx

@[expose] public section

set_option maxRecDepth 16384

noncomputable section

namespace Cert.Mlstm

open Cert.KernelIdeal Cert.KernelIdeal.Gen Idealize.ShloMosaic Idealize.SL.Sem Idealize.ShloMosaic.ValueIdx

variable {F : FTy → Type} [FloatOps F]

/-- Row `b` of a block of two, as a block of one. -/
def rowV {α : Type} {n k : Nat} (b : Fin 2) (x : (⟨3, ![2, n, k]⟩ : Shape).Idx → α) : (⟨3, ![1, n, k]⟩ : Shape).Idx → α := fun j => x (ix3 b (j 1) (j 2))

/-- Two blocks of one row, stacked. -/
def stackV {α : Type} {n k : Nat} (f : Fin 2 → (⟨3, ![1, n, k]⟩ : Shape).Idx → α) : (⟨3, ![2, n, k]⟩ : Shape).Idx → α := fun j => f (j 0) (ix3 0 (j 1) (j 2))

def rowIn (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) (b : Fin 2) : RowIn F :=
  ⟨rowV b x0, rowV b x1, rowV b xs0, rowV b xs1, rowV b xs2, rowV b xs3, x2, x3, x4, x5, x6, x7, x8⟩

theorem hz2 : (![0, 0] : Fin 2 → Nat) = fun _ => 0 := by funext a; fin_cases a <;> rfl
theorem hz3 : (![0, 0, 0] : Fin 3 → Nat) = fun _ => 0 := by funext a; fin_cases a <;> rfl

theorem ld_row {Val : EltTy → Type} {e : EltTy} {n k : Nat} (b : Fin 2) (off : Fin 3 → Nat) (hoff : off = ![b.val, 0, 0])
    (inb : ∀ a, off a + (![1, n, k] : Fin 3 → Nat) a ≤ (![2, n, k] : Fin 3 → Nat) a)
    (X : (⟨3, ![2, n, k]⟩ : Shape).Idx → Val e) :
    View.ld X (Rect.unit (s := ⟨3, ![2, n, k]⟩) off ![1, n, k] inb) = rowV b X := by
  subst hoff
  funext x
  refine congrArg X (funext fun a => Fin.ext ?_)
  have h0 : (x 0).val < 1 := (x 0).isLt
  match a with
  | ⟨0, _⟩ => show b.val + 1 * (x 0).val = b.val; omega
  | ⟨1, _⟩ => show 0 + 1 * (x 1).val = (x 1).val; omega
  | ⟨2, _⟩ => show 0 + 1 * (x 2).val = (x 2).val; omega

theorem canon2 {Val : EltTy → Type} [∀ e, Nonempty (Val e)] {e : EltTy} {n k : Nat}
    (i1 : ∀ a, (![1, 0, 0] : Fin 3 → Nat) a + (![1, n, k] : Fin 3 → Nat) a ≤ (![2, n, k] : Fin 3 → Nat) a)
    (i0 : ∀ a, (![0, 0, 0] : Fin 3 → Nat) a + (![1, n, k] : Fin 3 → Nat) a ≤ (![2, n, k] : Fin 3 → Nat) a)
    (f : Fin 2 → (⟨3, ![1, n, k]⟩ : Shape).Idx → Val e) (L : List (View.Piece Val (⟨3, ![2, n, k]⟩ : Shape) e)) :
    View.canon ((⟨Rect.unit (s := ⟨3, ![2, n, k]⟩) ![1, 0, 0] ![1, n, k] i1, f 1⟩ : View.Piece Val (⟨3, ![2, n, k]⟩ : Shape) e) ::
      (⟨Rect.unit (s := ⟨3, ![2, n, k]⟩) ![0, 0, 0] ![1, n, k] i0, f 0⟩ : View.Piece Val (⟨3, ![2, n, k]⟩ : Shape) e) :: L) = stackV f := by
  funext y
  have hc : @Eq (Fin 2) (y 0) 0 ∨ @Eq (Fin 2) (y 0) 1 := by
    exact (by decide : ∀ u : Fin 2, u = 0 ∨ u = 1) (y 0)
  rcases hc with h | h
  · rw [View.canon_cons_of_not_mem _ _ (by
      intro hm
      have := ((Rect.mem_set_unit (inb := i1)).1 hm 0).1
      have h' : (y 0).val = 0 := congrArg Fin.val h
      change 1 ≤ (y 0).val at this
      exact absurd (h' ▸ this) (by decide))]
    have e := View.canon_cons_emb (Rect.unit (s := ⟨3, ![2, n, k]⟩) ![0, 0, 0] ![1, n, k] i0) (f 0) L (ix3 0 (y 1) (y 2))
    have hy : y = (Rect.unit (s := ⟨3, ![2, n, k]⟩) ![0, 0, 0] ![1, n, k] i0).emb (ix3 0 (y 1) (y 2)) := by
      funext a
      refine Fin.ext ?_
      match a with
      | ⟨0, _⟩ => show (y 0).val = 0 + 1 * 0; have h' : (y 0).val = 0 := congrArg Fin.val h; omega
      | ⟨1, _⟩ => show (y 1).val = 0 + 1 * (y 1).val; omega
      | ⟨2, _⟩ => show (y 2).val = 0 + 1 * (y 2).val; omega
    rw [← hy] at e
    rw [e]
    exact congrArg (fun u => f u (ix3 0 (y 1) (y 2))) h.symm
  · have e := View.canon_cons_emb (Rect.unit (s := ⟨3, ![2, n, k]⟩) ![1, 0, 0] ![1, n, k] i1) (f 1)
      ((⟨Rect.unit (s := ⟨3, ![2, n, k]⟩) ![0, 0, 0] ![1, n, k] i0, f 0⟩ : View.Piece Val (⟨3, ![2, n, k]⟩ : Shape) e) :: L) (ix3 0 (y 1) (y 2))
    have hy : y = (Rect.unit (s := ⟨3, ![2, n, k]⟩) ![1, 0, 0] ![1, n, k] i1).emb (ix3 0 (y 1) (y 2)) := by
      funext a
      refine Fin.ext ?_
      match a with
      | ⟨0, _⟩ => show (y 0).val = 1 + 1 * 0; have h' : (y 0).val = 1 := congrArg Fin.val h; omega
      | ⟨1, _⟩ => show (y 1).val = 0 + 1 * (y 1).val; omega
      | ⟨2, _⟩ => show (y 2).val = 0 + 1 * (y 2).val; omega
    rw [← hy] at e
    rw [e]
    exact congrArg (fun u => f u (ix3 0 (y 1) (y 2))) h.symm

theorem ldB0_eq  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) : ldB0 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3 = rowIn x0 x1 x2 x3 x4 x5 x6 x7 x8 xs0 xs1 xs2 xs3 0 := by
  unfold ldB0 rowIn
  simp only [View.readAt_eq_ld, Memref.IsWhole.read_unread]
  congr 1 <;> first | exact ld_row 0 _ rfl _ _ | exact View.ld_unit_zero hz2 _ _

theorem ldB1_eq  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) : ldB1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 xs0 xs1 xs2 xs3 = rowIn x0 x1 x2 x3 x4 x5 x6 x7 x8 xs0 xs1 xs2 xs3 1 := by
  unfold ldB1 rowIn
  simp only [View.readAt_eq_ld, Memref.IsWhole.read_unread]
  congr 1 <;> first | exact ld_row 1 _ rfl _ _ | exact View.ld_unit_zero hz2 _ _

theorem ldA0_eq  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg12 : Memref sig .tc .vmem S2x128x256 .f32) (arg13 : Memref sig .tc .vmem S2x256x256 .f32) (arg14 : Memref sig .tc .vmem S2x1x256 .f32) (arg15 : Memref sig .tc .vmem S2x1x256 .f32) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) : ldA0 arg2 harg2 arg3 harg3 arg4 harg4 arg5 harg5 arg6 harg6 arg7 harg7 arg8 harg8 arg9 harg9 arg10 harg10 arg12 arg13 arg14 arg15 x0 x1 x2 x3 x4 x5 x6 x7 x8 = rowIn x0 x1 x2 x3 x4 x5 x6 x7 x8 k0_pay1 k0_pay2 k0_pay3 k0_pay4 0 := by
  unfold ldA0 rowIn
  simp only [View.readAt_eq_ld, Memref.IsWhole.read_unread]
  congr 1
  any_goals first | exact ld_row 0 _ rfl _ _ | exact View.ld_unit_zero hz2 _ _
  all_goals
    refine (View.readCov_eq_canon' _ _ _).trans ?_
    refine Eq.trans ?_ (ld_row 0 ![0, 0, 0] rfl (by decide) _)
    refine congrArg (fun X => View.ld X _) ?_
    exact View.canon_unit_zero hz3 _ _

theorem ldA1_eq (c : Dev nD)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg12 : Memref sig .tc .vmem S2x128x256 .f32) (arg13 : Memref sig .tc .vmem S2x256x256 .f32) (arg14 : Memref sig .tc .vmem S2x1x256 .f32) (arg15 : Memref sig .tc .vmem S2x1x256 .f32) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) : ldA1 c arg2 harg2 arg3 harg3 arg4 harg4 arg5 harg5 arg6 harg6 arg7 harg7 arg8 harg8 arg9 harg9 arg10 harg10 arg12 arg13 arg14 arg15 x0 x1 x2 x3 x4 x5 x6 x7 x8 = rowIn x0 x1 x2 x3 x4 x5 x6 x7 x8 k0_pay1 k0_pay2 k0_pay3 k0_pay4 1 := by
  unfold ldA1 rowIn
  simp only [View.readAt_eq_ld, Memref.IsWhole.read_unread]
  congr 1
  any_goals first | exact ld_row 1 _ rfl _ _ | exact View.ld_unit_zero hz2 _ _
  · refine (View.readCov_eq_canon' _ _ _).trans ?_
    refine Eq.trans ?_ (ld_row 1 ![1, 0, 0] rfl (by decide) _)
    funext j
    refine (View.canon_cons_of_not_mem _ _ ?_).trans ?_
    · intro hm
      have := ((Rect.mem_set_unit (inb := inb_S2x128x256_S1x128x256_0_0_0)).1 hm 0).2
      change 1 + 1 * (j 0).val < 0 + 1 at this
      omega
    · exact congrArg (fun X => View.ld X _ j) (View.canon_unit_zero hz3 _ _)
  all_goals
    refine (View.readCov_eq_canon' _ _ _).trans ?_
    refine Eq.trans ?_ (ld_row 1 ![1, 0, 0] rfl (by decide) _)
    refine congrArg (fun X => View.ld X _) ?_
    exact View.canon_unit_zero hz3 _ _

theorem out0_B_9_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : ¬cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 = stackV fun b => (rowIn x0 x1 x2 x3 x4 x5 x6 x7 x8 xs0 xs1 xs2 xs3 b).yOut := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3), pieces_y_B, ldB0_eq, ldB1_eq]
  exact canon2 (Val := Elt F) (e := .f32) (n := 128) (k := 256) _ _ (fun b => (rowIn x0 x1 x2 x3 x4 x5 x6 x7 x8 xs0 xs1 xs2 xs3 b).yOut) _

theorem sout0_B_0_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : ¬cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 = stackV fun b => (rowIn x0 x1 x2 x3 x4 x5 x6 x7 x8 xs0 xs1 xs2 xs3 b).pOut := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3), pieces_p_B, ldB0_eq, ldB1_eq]
  exact canon2 (Val := Elt F) (e := .f32) (n := 128) (k := 256) _ _ (fun b => (rowIn x0 x1 x2 x3 x4 x5 x6 x7 x8 xs0 xs1 xs2 xs3 b).pOut) _

theorem sout0_B_1_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : ¬cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 = stackV fun b => (rowIn x0 x1 x2 x3 x4 x5 x6 x7 x8 xs0 xs1 xs2 xs3 b).cOut := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3), pieces_c_B, ldB0_eq, ldB1_eq]
  exact canon2 (Val := Elt F) (e := .f32) (n := 256) (k := 256) _ _ (fun b => (rowIn x0 x1 x2 x3 x4 x5 x6 x7 x8 xs0 xs1 xs2 xs3 b).cOut) _

theorem sout0_B_2_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : ¬cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 = stackV fun b => (rowIn x0 x1 x2 x3 x4 x5 x6 x7 x8 xs0 xs1 xs2 xs3 b).nOut := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3), pieces_n_B, ldB0_eq, ldB1_eq]
  exact canon2 (Val := Elt F) (e := .f32) (n := 1) (k := 256) _ _ (fun b => (rowIn x0 x1 x2 x3 x4 x5 x6 x7 x8 xs0 xs1 xs2 xs3 b).nOut) _

theorem sout0_B_3_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : ¬cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) (xs0 : Vec F S2x128x256 .f32) (xs1 : Vec F S2x256x256 .f32) (xs2 : Vec F S2x1x256 .f32) (xs3 : Vec F S2x1x256 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 = stackV fun b => (rowIn x0 x1 x2 x3 x4 x5 x6 x7 x8 xs0 xs1 xs2 xs3 b).mOut := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3), pieces_m_B, ldB0_eq, ldB1_eq]
  exact canon2 (Val := Elt F) (e := .f32) (n := 1) (k := 256) _ _ (fun b => (rowIn x0 x1 x2 x3 x4 x5 x6 x7 x8 xs0 xs1 xs2 xs3 b).mOut) _

theorem out0_A_9_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = stackV fun b => (rowIn x0 x1 x2 x3 x4 x5 x6 x7 x8 k0_pay1 k0_pay2 k0_pay3 k0_pay4 b).yOut := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8), pieces_y_A, ldA0_eq, ldA1_eq]
  exact canon2 (Val := Elt F) (e := .f32) (n := 128) (k := 256) _ _ (fun b => (rowIn x0 x1 x2 x3 x4 x5 x6 x7 x8 k0_pay1 k0_pay2 k0_pay3 k0_pay4 b).yOut) _

theorem sout0_A_0_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = stackV fun b => (rowIn x0 x1 x2 x3 x4 x5 x6 x7 x8 k0_pay1 k0_pay2 k0_pay3 k0_pay4 b).pOut := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8), pieces_p_A, ldA0_eq, ldA1_eq]
  exact canon2 (Val := Elt F) (e := .f32) (n := 128) (k := 256) _ _ (fun b => (rowIn x0 x1 x2 x3 x4 x5 x6 x7 x8 k0_pay1 k0_pay2 k0_pay3 k0_pay4 b).pOut) _

theorem sout0_A_1_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = stackV fun b => (rowIn x0 x1 x2 x3 x4 x5 x6 x7 x8 k0_pay1 k0_pay2 k0_pay3 k0_pay4 b).cOut := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8), pieces_c_A, ldA0_eq, ldA1_eq]
  exact canon2 (Val := Elt F) (e := .f32) (n := 256) (k := 256) _ _ (fun b => (rowIn x0 x1 x2 x3 x4 x5 x6 x7 x8 k0_pay1 k0_pay2 k0_pay3 k0_pay4 b).cOut) _

theorem sout0_A_2_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = stackV fun b => (rowIn x0 x1 x2 x3 x4 x5 x6 x7 x8 k0_pay1 k0_pay2 k0_pay3 k0_pay4 b).nOut := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8), pieces_n_A, ldA0_eq, ldA1_eq]
  exact canon2 (Val := Elt F) (e := .f32) (n := 1) (k := 256) _ _ (fun b => (rowIn x0 x1 x2 x3 x4 x5 x6 x7 x8 k0_pay1 k0_pay2 k0_pay3 k0_pay4 b).nOut) _

theorem sout0_A_3_eq (c : Dev nD) (i : grid0.Coords)  (arg2 : Memref sig .tc .vmem S2x128x640 .f32) (harg2 : arg2.IsWhole) (arg3 : Memref sig .tc .vmem S2x8x128 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x128 .f32) (harg9 : arg9.IsWhole) (arg10 : Memref sig .tc .vmem S8x1 .f32) (harg10 : arg10.IsWhole) (arg11 : Memref sig .tc .vmem S2x128x256 .f32) (harg11 : arg11.IsWhole) (arg12 : Memref sig .tc .vmem S2x128x256 .f32) (harg12 : arg12.IsWhole) (arg13 : Memref sig .tc .vmem S2x256x256 .f32) (harg13 : arg13.IsWhole) (arg14 : Memref sig .tc .vmem S2x1x256 .f32) (harg14 : arg14.IsWhole) (arg15 : Memref sig .tc .vmem S2x1x256 .f32) (harg15 : arg15.IsWhole) (hc0 : cond0_0 i) (x0 : Vec F S2x128x640 .f32) (x1 : Vec F S2x8x128 .f32) (x2 : Vec F S4x256 .f32) (x3 : Vec F S1x256 .f32) (x4 : Vec F S256x256 .bf16) (x5 : Vec F S256x256 .bf16) (x6 : Vec F S256x256 .bf16) (x7 : Vec F S1x128 .f32) (x8 : Vec F S8x1 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = stackV fun b => (rowIn x0 x1 x2 x3 x4 x5 x6 x7 x8 k0_pay1 k0_pay2 k0_pay3 k0_pay4 b).mOut := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8), pieces_m_A, ldA0_eq, ldA1_eq]
  exact canon2 (Val := Elt F) (e := .f32) (n := 1) (k := 256) _ _ (fun b => (rowIn x0 x1 x2 x3 x4 x5 x6 x7 x8 k0_pay1 k0_pay2 k0_pay3 k0_pay4 b).mOut) _

end Cert.Mlstm
end
end
-- ==== Proof.Grid.lean ====
/- The kernel's grid: the blocks a point reads, and what its points leave, one after the other. -/
module
public import proofs.«01_k».proof.Proof.HostVal
public import proofs.«01_k».proof.Proof.Rows
@[expose] public section

set_option maxRecDepth 16384
noncomputable section

namespace Cert.Mlstm.Ker
open Cert.KernelIdeal Cert.KernelIdeal.Gen Idealize.ShloMosaic Idealize.ShloMosaic.StableHlo Idealize.SL.Sem

variable (m : (ℓ : Loc nD τ sig) → Buf (Elt Ideal) ℓ)

theorem ix_0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem ix_1 : ∀ t : Fin cfg0.N, win0_1.index t (0 : Fin 3) = t.val / 32 ∧ win0_1.index t (1 : Fin 3) = 0 ∧ win0_1.index t (2 : Fin 3) = t.val % 32 :=
  (by decide +kernel : ∀ t : Fin grid0.N, _)

/-- The batch element of row `b` of point `n`. -/
def elt (n : ℕ) (b : Fin 2) : Fin 8 := ⟨(2 * (n / 32) + b.val) % 8, Nat.mod_lt _ (by decide)⟩

theorem lt128 (t : Fin cfg0.N) : t.val < 128 := lt_of_lt_of_eq t.isLt N_0

theorem blk0 (c : Dev nD) (t : Fin cfg0.N) (b : Fin 2) (s : Fin 128) (l : ℕ) (hl : l < 520) :
    (iblk m c 0 t : S2x128x640.Idx → EReal) (ix3 b s ⟨l, by omega⟩) = (args m c).u (elt t.val b) (pos (t.val % 32) s) ⟨l, by omega⟩ := by
  refine Eq.trans ?_ (v1_read m c (elt t.val b) (pos (t.val % 32) s) l hl)
  obtain ⟨e0, e1, e2⟩ := ix_0 t
  have h := lt128 t
  refine congrArg (V m c main_v1 : S8x4096x640.Idx → EReal) (funext fun a => Fin.ext ?_)
  fin_cases a
  · show win0_0.index t (0 : Fin 3) * 2 + 1 * b.val = (2 * (t.val / 32) + b.val) % 8
    omega
  · show win0_0.index t (1 : Fin 3) * 128 + 1 * s.val = (128 * (t.val % 32) + s.val) % 4096
    omega
  · show win0_0.index t (2 : Fin 3) * 640 + 1 * l = l
    omega

theorem blk1 (c : Dev nD) (t : Fin cfg0.N) (b : Fin 2) (j : Fin 8) (s : Fin 128) :
    (iblk m c 1 t : S2x8x128.Idx → EReal) (ix3 b j s) = (args m c).u (elt t.val b) (pos (t.val % 32) s) ⟨512 + j.val, by omega⟩ := by
  refine Eq.trans ?_ (v3_read m c (elt t.val b) j (pos (t.val % 32) s))
  obtain ⟨e0, e1, e2⟩ := ix_1 t
  have h := lt128 t
  refine congrArg (V m c main_v3 : S8x8x4096.Idx → EReal) (funext fun a => Fin.ext ?_)
  fin_cases a
  · show win0_1.index t (0 : Fin 3) * 2 + 1 * b.val = (2 * (t.val / 32) + b.val) % 8
    omega
  · show win0_1.index t (1 : Fin 3) * 8 + 1 * j.val = j.val
    omega
  · show win0_1.index t (2 : Fin 3) * 128 + 1 * s.val = (128 * (t.val % 32) + s.val) % 4096
    omega

theorem ix_2 : ∀ t : Fin cfg0.N, win0_2.index t (0 : Fin 2) = 0 ∧ win0_2.index t (1 : Fin 2) = 0 :=
  (by decide +kernel : ∀ t : Fin grid0.N, _)
theorem blk2 (c : Dev nD) (t : Fin cfg0.N) (i : S4x256.Idx) : (iblk m c 2 t : S4x256.Idx → EReal) i = (V m c main_arg1 : S4x256.Idx → EReal) i := by
  obtain ⟨e0, e1⟩ := ix_2 t
  refine congrArg (V m c main_arg1 : S4x256.Idx → EReal) (funext fun a => Fin.ext ?_)
  fin_cases a
  · show win0_2.index t (0 : Fin 2) * 4 + 1 * (i 0).val = (i 0).val
    omega
  · show win0_2.index t (1 : Fin 2) * 256 + 1 * (i 1).val = (i 1).val
    omega

theorem ix_3 : ∀ t : Fin cfg0.N, win0_3.index t (0 : Fin 2) = 0 ∧ win0_3.index t (1 : Fin 2) = 0 :=
  (by decide +kernel : ∀ t : Fin grid0.N, _)
theorem blk3 (c : Dev nD) (t : Fin cfg0.N) (i : S1x256.Idx) : (iblk m c 3 t : S1x256.Idx → EReal) i = (V m c main_v11 : S1x256.Idx → EReal) i := by
  obtain ⟨e0, e1⟩ := ix_3 t
  refine congrArg (V m c main_v11 : S1x256.Idx → EReal) (funext fun a => Fin.ext ?_)
  fin_cases a
  · show win0_3.index t (0 : Fin 2) * 1 + 1 * (i 0).val = (i 0).val
    omega
  · show win0_3.index t (1 : Fin 2) * 256 + 1 * (i 1).val = (i 1).val
    omega

theorem ix_4 : ∀ t : Fin cfg0.N, win0_4.index t (0 : Fin 2) = 0 ∧ win0_4.index t (1 : Fin 2) = 0 :=
  (by decide +kernel : ∀ t : Fin grid0.N, _)
theorem blk4 (c : Dev nD) (t : Fin cfg0.N) (i : S256x256.Idx) : (iblk m c 4 t : S256x256.Idx → EReal) i = (V m c main_v37 : S256x256.Idx → EReal) i := by
  obtain ⟨e0, e1⟩ := ix_4 t
  refine congrArg (V m c main_v37 : S256x256.Idx → EReal) (funext fun a => Fin.ext ?_)
  fin_cases a
  · show win0_4.index t (0 : Fin 2) * 256 + 1 * (i 0).val = (i 0).val
    omega
  · show win0_4.index t (1 : Fin 2) * 256 + 1 * (i 1).val = (i 1).val
    omega

theorem ix_5 : ∀ t : Fin cfg0.N, win0_5.index t (0 : Fin 2) = 0 ∧ win0_5.index t (1 : Fin 2) = 0 :=
  (by decide +kernel : ∀ t : Fin grid0.N, _)
theorem blk5 (c : Dev nD) (t : Fin cfg0.N) (i : S256x256.Idx) : (iblk m c 5 t : S256x256.Idx → EReal) i = (V m c main_v65 : S256x256.Idx → EReal) i := by
  obtain ⟨e0, e1⟩ := ix_5 t
  refine congrArg (V m c main_v65 : S256x256.Idx → EReal) (funext fun a => Fin.ext ?_)
  fin_cases a
  · show win0_5.index t (0 : Fin 2) * 256 + 1 * (i 0).val = (i 0).val
    omega
  · show win0_5.index t (1 : Fin 2) * 256 + 1 * (i 1).val = (i 1).val
    omega

theorem ix_6 : ∀ t : Fin cfg0.N, win0_6.index t (0 : Fin 2) = 0 ∧ win0_6.index t (1 : Fin 2) = 0 :=
  (by decide +kernel : ∀ t : Fin grid0.N, _)
theorem blk6 (c : Dev nD) (t : Fin cfg0.N) (i : S256x256.Idx) : (iblk m c 6 t : S256x256.Idx → EReal) i = (V m c main_v91 : S256x256.Idx → EReal) i := by
  obtain ⟨e0, e1⟩ := ix_6 t
  refine congrArg (V m c main_v91 : S256x256.Idx → EReal) (funext fun a => Fin.ext ?_)
  fin_cases a
  · show win0_6.index t (0 : Fin 2) * 256 + 1 * (i 0).val = (i 0).val
    omega
  · show win0_6.index t (1 : Fin 2) * 256 + 1 * (i 1).val = (i 1).val
    omega

theorem ix_7 : ∀ t : Fin cfg0.N, win0_7.index t (0 : Fin 2) = 0 ∧ win0_7.index t (1 : Fin 2) = 0 :=
  (by decide +kernel : ∀ t : Fin grid0.N, _)
theorem blk7 (c : Dev nD) (t : Fin cfg0.N) (i : S1x128.Idx) : (iblk m c 7 t : S1x128.Idx → EReal) i = (V m c main_v9 : S1x128.Idx → EReal) i := by
  obtain ⟨e0, e1⟩ := ix_7 t
  refine congrArg (V m c main_v9 : S1x128.Idx → EReal) (funext fun a => Fin.ext ?_)
  fin_cases a
  · show win0_7.index t (0 : Fin 2) * 1 + 1 * (i 0).val = (i 0).val
    omega
  · show win0_7.index t (1 : Fin 2) * 128 + 1 * (i 1).val = (i 1).val
    omega

theorem ix_8 : ∀ t : Fin cfg0.N, win0_8.index t (0 : Fin 2) = 0 ∧ win0_8.index t (1 : Fin 2) = 0 :=
  (by decide +kernel : ∀ t : Fin grid0.N, _)
theorem blk8 (c : Dev nD) (t : Fin cfg0.N) (i : S8x1.Idx) : (iblk m c 8 t : S8x1.Idx → EReal) i = (V m c main_v10 : S8x1.Idx → EReal) i := by
  obtain ⟨e0, e1⟩ := ix_8 t
  refine congrArg (V m c main_v10 : S8x1.Idx → EReal) (funext fun a => Fin.ext ?_)
  fin_cases a
  · show win0_8.index t (0 : Fin 2) * 8 + 1 * (i 0).val = (i 0).val
    omega
  · show win0_8.index t (1 : Fin 2) * 1 + 1 * (i 1).val = (i 1).val
    omega

/-- The row a point computes on, given what the scratch holds. -/
def row (c : Dev nD) (t : Fin cfg0.N) (p : Vec Ideal S2x128x256 .f32) (C : Vec Ideal S2x256x256 .f32) (n M : Vec Ideal S2x1x256 .f32) (b : Fin 2) : RowIn Ideal :=
  rowIn (iblk m c 0 t) (iblk m c 1 t) (iblk m c 2 t) (iblk m c 3 t) (iblk m c 4 t) (iblk m c 5 t) (iblk m c 6 t) (iblk m c 7 t) (iblk m c 8 t) p C n M b

/-- What the scratch holds of a row before chunk `k`. -/
structure Held (A : Args) (e : Fin 8) (k : ℕ) (b : Fin 2) (p : Vec Ideal S2x128x256 .f32) (C : Vec Ideal S2x256x256 .f32) (n M : Vec Ideal S2x1x256 .f32) : Prop where
  p : ∀ t l, p (ix3 b t l) = if k = 0 then 0 else A.xm e (pos (k - 1) t) l
  C : ∀ h h' d d', C (ix3 b (lane h d) (lane h' d')) = if h = h' then (A.st e h k).C d d' else 0
  n : ∀ h d, n (ix3 b 0 (lane h d)) = (A.st e h k).N d
  M : ∀ h d, M (ix3 b 0 (lane h d)) = (A.st e h k).M

section
variable (c : Dev nD) (t : Fin cfg0.N) (b : Fin 2) (p : Vec Ideal S2x128x256 .f32) (C : Vec Ideal S2x256x256 .f32) (n M : Vec Ideal S2x1x256 .f32)
theorem row_W2 (i : Fin 4) (l : Fin 256) : (row m c t p C n M b).W2 (ix2 i l) = (args m c).cw i l :=
  (blk2 m c t _).trans (congrFun (V_main_arg1 m c) (ix2 i l))
theorem row_gbcI (h : Fin 4) : (row m c t p C n M b).gbc (ix2 0 ⟨h.val, by omega⟩) = (args m c).gb 0 h :=
  (blk7 m c t _).trans ((v9_read m c ⟨h.val, by omega⟩).trans
    (congrArg₂ (args m c).gb (Fin.ext (by show h.val / 4 = 0; omega)) (Fin.ext (by show h.val % 4 = h.val; omega))))
theorem row_gbcF (h : Fin 4) : (row m c t p C n M b).gbc (ix2 0 ⟨4 + h.val, by omega⟩) = (args m c).gb 1 h :=
  (blk7 m c t _).trans ((v9_read m c ⟨4 + h.val, by omega⟩).trans
    (congrArg₂ (args m c).gb (Fin.ext (by show (4 + h.val) / 4 = 1; omega)) (Fin.ext (by show (4 + h.val) % 4 = h.val; omega))))
theorem row_gbrI (h : Fin 4) : (row m c t p C n M b).gbr (ix2 ⟨h.val, by omega⟩ 0) = (args m c).gb 0 h :=
  (blk8 m c t _).trans ((v10_read m c ⟨h.val, by omega⟩).trans
    (congrArg₂ (args m c).gb (Fin.ext (by show h.val / 4 = 0; omega)) (Fin.ext (by show h.val % 4 = h.val; omega))))
theorem row_gbrF (h : Fin 4) : (row m c t p C n M b).gbr (ix2 ⟨4 + h.val, by omega⟩ 0) = (args m c).gb 1 h :=
  (blk8 m c t _).trans ((v10_read m c ⟨4 + h.val, by omega⟩).trans
    (congrArg₂ (args m c).gb (Fin.ext (by show (4 + h.val) / 4 = 1; omega)) (Fin.ext (by show (4 + h.val) % 4 = h.val; omega))))
theorem row_Wq (h h' : Fin 4) (d e : Fin 64) : (row m c t p C n M b).Wq (ix2 (lane h d) (lane h' e)) = if h = h' then (args m c).wq h d e else 0 := by
  refine (blk4 m c t (ix2 (lane h d) (lane h' e))).trans ?_
  exact v37_read m c h h' d e
theorem row_Wk (h h' : Fin 4) (d e : Fin 64) : (row m c t p C n M b).Wk (ix2 (lane h d) (lane h' e)) = if h = h' then (args m c).wk h d e * kscale else 0 := by
  refine (blk5 m c t (ix2 (lane h d) (lane h' e))).trans ?_
  exact v65_read m c h h' d e
theorem row_Wv (h h' : Fin 4) (d e : Fin 64) : (row m c t p C n M b).Wv (ix2 (lane h d) (lane h' e)) = if h = h' then (args m c).wv h d e else 0 := by
  refine (blk6 m c t (ix2 (lane h d) (lane h' e))).trans ?_
  exact v91_read m c h h' d e
theorem row_B3 (l : Fin 256) : (row m c t p C n M b).B3 (ix2 0 l) = (args m c).cb l := (blk3 m c t _).trans (v11_read m c l)
theorem row_U (s : Fin 128) (l : ℕ) (hl : l < 520) : (row m c t p C n M b).U (ix3 0 s ⟨l, by omega⟩) = (args m c).u (elt t.val b) (pos (t.val % 32) s) ⟨l, by omega⟩ :=
  blk0 m c t b s l hl
theorem row_GR (j : Fin 8) (s : Fin 128) : (row m c t p C n M b).GR (ix3 0 j s) = (args m c).u (elt t.val b) (pos (t.val % 32) s) ⟨512 + j.val, by omega⟩ :=
  blk1 m c t b j s
end

theorem src (c : Dev nD) (t : Fin cfg0.N) (b : Fin 2) {p C n M} (H : Held (args m c) (elt t.val b) (t.val % 32) b p C n M) :
    Src (args m c) (elt t.val b) (t.val % 32) (row m c t p C n M b) :=
  ⟨row_U m c t b p C n M, row_GR m c t b p C n M, H.p, row_W2 m c t b p C n M, row_B3 m c t b p C n M, row_Wq m c t b p C n M, row_Wk m c t b p C n M, row_Wv m c t b p C n M,
    row_gbcI m c t b p C n M, row_gbcF m c t b p C n M, row_gbrI m c t b p C n M, row_gbrF m c t b p C n M, H.C, H.n, H.M⟩

/-- The zeros the first chunk starts from. -/
theorem held_zero (A : Args) (e : Fin 8) (b : Fin 2) : Held A e 0 b (k0_pay1 (F := Ideal)) (k0_pay2 (F := Ideal)) (k0_pay3 (F := Ideal)) (k0_pay4 (F := Ideal)) where
  p _ _ := (Ideal.ofBits_zero .f32).trans (if_pos rfl).symm
  C h h' _ _ := (Ideal.ofBits_zero .f32).trans (by split <;> rfl)
  n _ _ := Ideal.ofBits_zero .f32
  M _ _ := Ideal.ofBits_zero .f32

/-- What a point leaves: the outputs of its two rows, and the state the next chunk starts from. -/
structure Left (A : Args) (t : ℕ) (acc : Vec Ideal S2x128x256 .f32 × Vec Ideal S2x128x256 .f32 × Vec Ideal S2x256x256 .f32 × Vec Ideal S2x1x256 .f32 × Vec Ideal S2x1x256 .f32) : Prop where
  y : ∀ b s h e, acc.1 (ix3 b s (lane h e)) = A.out (elt t b) h (t % 32) s e
  held : ∀ b, Held A (elt t b) (t % 32 + 1) b acc.2.1 acc.2.2.1 acc.2.2.2.1 acc.2.2.2.2

theorem left (c : Dev nD) (hA : (args m c).Finite) (t : Fin cfg0.N) {p C n M}
    (H : ∀ b, Held (args m c) (elt t.val b) (t.val % 32) b p C n M) :
    Left (args m c) t.val (stackV fun b => (row m c t p C n M b).yOut, stackV fun b => (row m c t p C n M b).pOut, stackV fun b => (row m c t p C n M b).cOut,
      stackV fun b => (row m c t p C n M b).nOut, stackV fun b => (row m c t p C n M b).mOut) where
  y b s h e := (src m c t b (H b)).yOut hA (Nat.mod_lt _ (by decide)) s h e
  held b :=
    { p := fun s l => ((src m c t b (H b)).pOut s l).trans (if_neg (Nat.succ_ne_zero _)).symm
      C := fun h h' d e => (src m c t b (H b)).cOut hA (Nat.mod_lt _ (by decide)) h h' d e
      n := fun h d => (src m c t b (H b)).nOut hA (Nat.mod_lt _ (by decide)) h d
      M := fun h d => (src m c t b (H b)).mOut hA (Nat.mod_lt _ (by decide)) h d }

theorem left_A (c : Dev nD) (hA : (args m c).Finite) (t : Fin cfg0.N) (acc) (h0 : t.val % 32 = 0) : Left (args m c) t.val (Value.stAt0 m c t.val t.isLt acc) := by
  have e := Value.stAt0_A m c t acc h0
  rw [out0_A_9_eq, sout0_A_0_eq, sout0_A_1_eq, sout0_A_2_eq, sout0_A_3_eq] at e
  rw [e]
  exact left m c hA t fun b => by rw [h0]; exact held_zero _ _ b

theorem left_B (c : Dev nD) (hA : (args m c).Finite) (t : Fin cfg0.N) (acc) (h0 : ¬t.val % 32 = 0) (hl : Left (args m c) (t.val - 1) acc) :
    Left (args m c) t.val (Value.stAt0 m c t.val t.isLt acc) := by
  have e := Value.stAt0_B m c t acc h0
  rw [out0_B_9_eq, sout0_B_0_eq, sout0_B_1_eq, sout0_B_2_eq, sout0_B_3_eq] at e
  rw [e]
  refine left m c hA t fun b => ?_
  have := hl.held b
  have e1 : (t.val - 1) % 32 + 1 = t.val % 32 := by omega
  have e2 : elt (t.val - 1) b = elt t.val b := Fin.ext (by show (2 * ((t.val - 1) / 32) + b.val) % 8 = (2 * (t.val / 32) + b.val) % 8; omega)
  rw [e1, e2] at this
  exact this

theorem left_at (c : Dev nD) (hA : (args m c).Finite) : ∀ (n : ℕ) (hn : n < cfg0.N), Left (args m c) n (outsAt0 m c n hn)
  | 0, hn => by
    rw [Value.outsAt0_zero m c hn]
    exact left_A m c hA ⟨0, hn⟩ _ rfl
  | n + 1, hn => by
    rw [Value.outsAt0_succ]
    by_cases h0 : (n + 1) % 32 = 0
    · exact left_A m c hA ⟨n + 1, hn⟩ _ h0
    · exact left_B m c hA ⟨n + 1, hn⟩ _ h0 (left_at c hA n _)

/-- The kernel's result. -/
theorem result (c : Dev nD) (hA : (args m c).Finite) (b : Fin 8) (n : Fin 32) (t : Fin 128) (h : Fin 4) (e : Fin 64) :
    (Value.G9 m c : S8x4096x256.Idx → EReal) (ix3 b (pos n.val t) (lane h e)) = (args m c).out b h n.val t e := by
  have hp := pos_val n.isLt t
  have hl := (lane h e).isLt
  have hpt : Value.pt9Of (ix3 b (pos n.val t) (lane h e)) = 32 * (b.val / 2) + n.val := by
    show 32 * (b.val / 2 - 0) + 1 * ((pos n.val t).val / 128 - 0) + 1 * ((lane h e).val / 256 - 0) = _
    omega
  have hN : 32 * (b.val / 2) + n.val < cfg0.N := by rw [show cfg0.N = 128 from N_0]; omega
  unfold Value.G9
  rw [dif_pos (by rw [hpt]; exact hN)]
  have ef := Value.fold0_congr m c (Value.pt9Of (ix3 b (pos n.val t) (lane h e))) (by rw [hpt]; omega) (32 * (b.val / 2) + n.val) (by omega) hpt
  have el : Value.loc9Of (ix3 b (pos n.val t) (lane h e)) = ix3 ⟨b.val % 2, by omega⟩ t (lane h e) := by
    funext a
    apply Fin.ext
    fin_cases a
    · rfl
    · show (pos n.val t).val % 128 = t.val
      omega
    · show (lane h e).val % 256 = (lane h e).val
      omega
  have key := (left_at m c hA _ hN).y ⟨b.val % 2, by omega⟩ t h e
  have eb : elt (32 * (b.val / 2) + n.val) ⟨b.val % 2, by omega⟩ = b := Fin.ext (by
    show (2 * ((32 * (b.val / 2) + n.val) / 32) + b.val % 2) % 8 = b.val
    omega)
  rw [eb, show (32 * (b.val / 2) + n.val) % 32 = n.val by omega, Value.outsAt0_sweep] at key
  rw [el]
  exact (congrArg (fun a => a.1 (ix3 ⟨b.val % 2, by omega⟩ t (lane h e))) ef).trans key

end Cert.Mlstm.Ker

end

end
-- ==== Proof.RefStep.lean ====
/- One trip of the reference's loop, at each index: what it takes of the carried arrays, and the recurrence of one
   head that it computes. -/
module

public import proofs.«01_k».proof.Proof.Model
public import proofs.«01_k».proof.Proof.Gen.ReferenceIdeal.Run
public import Idealize.ShloMosaic.Lib.Pointwise

@[expose] public section

set_option maxRecDepth 16384

noncomputable section

namespace Cert.Mlstm.Ref

open Cert.ReferenceIdeal Cert.ReferenceIdeal.Gen Cert.ReferenceIdeal.Value Idealize.ShloMosaic Idealize.ShloMosaic.StableHlo Idealize.SL.Sem

/-! ## The running sum -/

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

def winEquiv : (⟨3, ![1, 1, 128]⟩ : Shape).Idx ≃ Fin 128 where
  toFun y := y 2
  invFun k := ix3 0 0 k
  left_inv y := by
    funext a
    match a with
    | ⟨0, _⟩ => exact Subsingleton.elim (α := Fin 1) _ _
    | ⟨1, _⟩ => exact Subsingleton.elim (α := Fin 1) _ _
    | ⟨2, _⟩ => rfl
  right_inv k := rfl

theorem shift_sum (f : Fin 128 → EReal) (t : Fin 128) :
    (∑ k : Fin 128, if h : 127 ≤ t.val + k.val then f ⟨t.val + k.val - 127, by omega⟩ else 0) = ∑ s : Fin 128, if s ≤ t then f s else 0 := by
  rw [← Finset.sum_filter]
  rw [← Finset.sum_filter_add_sum_filter_not _ (fun k : Fin 128 => 127 ≤ t.val + k.val)]
  rw [Finset.sum_eq_zero (s := Finset.univ.filter fun k : Fin 128 => ¬ 127 ≤ t.val + k.val) (by
    intro k hk
    rw [Finset.mem_filter] at hk
    exact dif_neg hk.2), add_zero]
  refine Finset.sum_bij (fun k _ => (⟨t.val + k.val - 127, by omega⟩ : Fin 128)) ?_ ?_ ?_ ?_
  · intro k hk
    rw [Finset.mem_filter]
    exact ⟨Finset.mem_univ _, by show t.val + k.val - 127 ≤ t.val; omega⟩
  · intro a ha b hb hab
    rw [Finset.mem_filter] at ha hb
    have := congrArg Fin.val hab
    simp only at this
    exact Fin.ext (by omega)
  · intro s hs
    rw [Finset.mem_filter] at hs
    have h2 : s.val ≤ t.val := hs.2
    refine ⟨⟨127 + s.val - t.val, by omega⟩, ?_, ?_⟩
    · rw [Finset.mem_filter]
      exact ⟨Finset.mem_univ _, by show 127 ≤ t.val + (127 + s.val - t.val); omega⟩
    · exact Fin.ext (by show t.val + (127 + s.val - t.val) - 127 = s.val; omega)
  · intro k hk
    rw [Finset.mem_filter] at hk
    exact dif_pos hk.2

theorem cumsum_apply (x : FVec Ideal S8x4x128 .f32) (init : S_.Idx → Ideal .f32) (hi : ∀ i, init i = 0)
    (h) (hu) (b : Fin 8) (hd : Fin 4) (t : Fin 128) :
    Host.reduceWindowAdd (t := S8x4x128) (u := S_) ![1, 1, 128] ![1, 1, 1] ![0, 0, 127] ![0, 0, 0] x init h hu (ix3 b hd t)
      = cum (fun s => x (ix3 b hd s)) t := by
  unfold Host.reduceWindowAdd
  show Host.reduceWindow (· + ·) ![1, 1, 128] ![1, 1, 1] ![0, 0, 127] ![0, 0, 0] x (fun _ : S_.Idx => init _) h hu (ix3 b hd t) = _
  unfold Host.reduceWindow
  dsimp only
  rw [foldl_add, hi, zero_add, ← Fin.sum_univ_def]
  refine (Fintype.sum_equiv ((⟨3, ![1, 1, 128]⟩ : Shape).rowMajor.symm.trans winEquiv) _ (fun k => if h : 127 ≤ t.val + k.val then x (ix3 b hd ⟨t.val + k.val - 127, by omega⟩) else 0) ?_).trans
    (shift_sum (fun s => x (ix3 b hd s)) t)
  · intro i
    show (_ : EReal) = (fun k : Fin 128 => if h : 127 ≤ t.val + k.val then x (ix3 b hd ⟨t.val + k.val - 127, by omega⟩) else 0) (winEquiv ((⟨3, ![1, 1, 128]⟩ : Shape).rowMajor.symm i))
    dsimp only
    have y0 : (((⟨3, ![1, 1, 128]⟩ : Shape).rowMajor.symm i) 0).val = 0 := by have : (((⟨3, ![1, 1, 128]⟩ : Shape).rowMajor.symm i) 0).val < 1 := (((⟨3, ![1, 1, 128]⟩ : Shape).rowMajor.symm i) 0).isLt; omega
    have y1 : (((⟨3, ![1, 1, 128]⟩ : Shape).rowMajor.symm i) 1).val = 0 := by have : (((⟨3, ![1, 1, 128]⟩ : Shape).rowMajor.symm i) 1).val < 1 := (((⟨3, ![1, 1, 128]⟩ : Shape).rowMajor.symm i) 1).isLt; omega
    have y2 : (((⟨3, ![1, 1, 128]⟩ : Shape).rowMajor.symm i) 2).val < 128 := (((⟨3, ![1, 1, 128]⟩ : Shape).rowMajor.symm i) 2).isLt
    have e2 : (winEquiv ((⟨3, ![1, 1, 128]⟩ : Shape).rowMajor.symm i)).val = (((⟨3, ![1, 1, 128]⟩ : Shape).rowMajor.symm i) 2).val := rfl
    by_cases hc : 127 ≤ t.val + (winEquiv ((⟨3, ![1, 1, 128]⟩ : Shape).rowMajor.symm i)).val
    · rw [dif_pos hc, dif_pos]
      · refine congrArg x ?_
        funext a
        apply Fin.ext
        match a with
        | ⟨0, _⟩ => show b.val * 1 + (((⟨3, ![1, 1, 128]⟩ : Shape).rowMajor.symm i) 0).val - 0 = b.val; omega
        | ⟨1, _⟩ => show hd.val * 1 + (((⟨3, ![1, 1, 128]⟩ : Shape).rowMajor.symm i) 1).val - 0 = hd.val; omega
        | ⟨2, _⟩ => show t.val * 1 + (((⟨3, ![1, 1, 128]⟩ : Shape).rowMajor.symm i) 2).val - 127 = t.val + (((⟨3, ![1, 1, 128]⟩ : Shape).rowMajor.symm i) 2).val - 127; omega
      · intro a
        match a with
        | ⟨0, _⟩ => exact ⟨Nat.zero_le _, by show b.val * 1 + (((⟨3, ![1, 1, 128]⟩ : Shape).rowMajor.symm i) 0).val - 0 < 8; omega⟩
        | ⟨1, _⟩ => exact ⟨Nat.zero_le _, by show hd.val * 1 + (((⟨3, ![1, 1, 128]⟩ : Shape).rowMajor.symm i) 1).val - 0 < 4; omega⟩
        | ⟨2, _⟩ => exact ⟨by show 127 ≤ t.val * 1 + (((⟨3, ![1, 1, 128]⟩ : Shape).rowMajor.symm i) 2).val; omega, by show t.val * 1 + (((⟨3, ![1, 1, 128]⟩ : Shape).rowMajor.symm i) 2).val - 127 < 128; omega⟩
    · rw [dif_neg hc, dif_neg]
      intro hin
      have h2 : 127 ≤ t.val * 1 + (((⟨3, ![1, 1, 128]⟩ : Shape).rowMajor.symm i) 2).val := (hin 2).1
      omega

/-! ## The slices of a trip -/

theorem toInt32 : ∀ n : Fin 32, (BitVec.ofNat 32 n.val).toInt = (n.val : Int) := by decide

theorem slice5_apply {α : Type} (x : S32x8x4x128x64.Idx → α) (st : Fin 5 → Int) (n : Fin 32) (h0 : st 0 = n.val) (h1 : st 1 = 0) (h2 : st 2 = 0) (h3 : st 3 = 0)
    (h4 : st 4 = 0) (hf) (hs) (b : Fin 8) (h : Fin 4) (t : Fin 128) (d : Fin 64) :
    shapeCast S8x4x128x64 (Host.dynamicSlice (s := S32x8x4x128x64) S1x8x4x128x64 x st hf) hs (ix4 b h t d) = x (ix5 n b h t d) := by
  pointwise []
  have c0 : Host.clampedStart S32x8x4x128x64 S1x8x4x128x64 hf.1 st 0 = n.val := by
    unfold Host.clampedStart
    rw [h0]
    show (min (max (n.val : Int) 0) ((32 - 1 : Nat) : Int)).toNat = n.val
    omega
  have c1 : Host.clampedStart S32x8x4x128x64 S1x8x4x128x64 hf.1 st 1 = 0 := by unfold Host.clampedStart; rw [h1]; rfl
  have c2 : Host.clampedStart S32x8x4x128x64 S1x8x4x128x64 hf.1 st 2 = 0 := by unfold Host.clampedStart; rw [h2]; rfl
  have c3 : Host.clampedStart S32x8x4x128x64 S1x8x4x128x64 hf.1 st 3 = 0 := by unfold Host.clampedStart; rw [h3]; rfl
  have c4 : Host.clampedStart S32x8x4x128x64 S1x8x4x128x64 hf.1 st 4 = 0 := by unfold Host.clampedStart; rw [h4]; rfl
  simp only [c0, c1, c2, c3, c4, zero_add]

theorem slice4_apply {α : Type} (x : S32x8x4x128.Idx → α) (st : Fin 4 → Int) (n : Fin 32) (h0 : st 0 = n.val) (h1 : st 1 = 0) (h2 : st 2 = 0) (h3 : st 3 = 0)
    (hf) (hs) (b : Fin 8) (h : Fin 4) (t : Fin 128) :
    shapeCast S8x4x128 (Host.dynamicSlice (s := S32x8x4x128) S1x8x4x128 x st hf) hs (ix3 b h t) = x (ix4 n b h t) := by
  pointwise []
  have c0 : Host.clampedStart S32x8x4x128 S1x8x4x128 hf.1 st 0 = n.val := by
    unfold Host.clampedStart
    rw [h0]
    show (min (max (n.val : Int) 0) ((32 - 1 : Nat) : Int)).toNat = n.val
    omega
  have c1 : Host.clampedStart S32x8x4x128 S1x8x4x128 hf.1 st 1 = 0 := by unfold Host.clampedStart; rw [h1]; rfl
  have c2 : Host.clampedStart S32x8x4x128 S1x8x4x128 hf.1 st 2 = 0 := by unfold Host.clampedStart; rw [h2]; rfl
  have c3 : Host.clampedStart S32x8x4x128 S1x8x4x128 hf.1 st 3 = 0 := by unfold Host.clampedStart; rw [h3]; rfl
  simp only [c0, c1, c2, c3, zero_add]

abbrev qA (V : Valuation τ sig (Elt Ideal)) : S32x8x4x128x64.Idx → EReal := V (Proc.devRef .tc main_v79_0)
abbrev kA (V : Valuation τ sig (Elt Ideal)) : S32x8x4x128x64.Idx → EReal := V (Proc.devRef .tc main_v79_1)
abbrev vA (V : Valuation τ sig (Elt Ideal)) : S32x8x4x128x64.Idx → EReal := V (Proc.devRef .tc main_v79_2)
abbrev igA (V : Valuation τ sig (Elt Ideal)) : S32x8x4x128.Idx → EReal := V (Proc.devRef .tc main_v79_3)
abbrev lfA (V : Valuation τ sig (Elt Ideal)) : S32x8x4x128.Idx → EReal := V (Proc.devRef .tc main_v79_4)
abbrev mkA (V : Valuation τ sig (Elt Ideal)) : S128x128.Idx → BitVec 1 := V (Proc.devRef .tc main_v79_5)
abbrev ixA (V : Valuation τ sig (Elt Ideal)) : S_.Idx → BitVec 32 := V (Proc.devRef .tc main_v79_6)
abbrev cA (V : Valuation τ sig (Elt Ideal)) : S8x4x64x64.Idx → EReal := V (Proc.devRef .tc main_v79_7)
abbrev nA (V : Valuation τ sig (Elt Ideal)) : S8x4x64.Idx → EReal := V (Proc.devRef .tc main_v79_8)
abbrev mA (V : Valuation τ sig (Elt Ideal)) : S8x4.Idx → EReal := V (Proc.devRef .tc main_v79_9)
abbrev hA (V : Valuation τ sig (Elt Ideal)) : S32x8x4x128x64.Idx → EReal := V (Proc.devRef .tc main_v79_10)

variable {V : Valuation τ sig (Elt Ideal)} {n : Fin 32} (hn : ixA V = fun _ => BitVec.ofNat 32 n.val)
  (hm : ∀ t s : Fin 128, mkA V (ix2 t s) = if s ≤ t then 1#1 else 0#1)

/-- The chunk a trip reads. -/
abbrev lfT (V : Valuation τ sig (Elt Ideal)) (n : Fin 32) (b : Fin 8) (h : Fin 4) : Fin 128 → EReal := fun s => lfA V (ix4 n b h s)
abbrev igT (V : Valuation τ sig (Elt Ideal)) (n : Fin 32) (b : Fin 8) (h : Fin 4) : Fin 128 → EReal := fun s => igA V (ix4 n b h s)
abbrev qT (V : Valuation τ sig (Elt Ideal)) (n : Fin 32) (b : Fin 8) (h : Fin 4) : Fin 128 → Fin 64 → EReal := fun s d => qA V (ix5 n b h s d)
abbrev kT (V : Valuation τ sig (Elt Ideal)) (n : Fin 32) (b : Fin 8) (h : Fin 4) : Fin 128 → Fin 64 → EReal := fun s d => kA V (ix5 n b h s d)
abbrev vT (V : Valuation τ sig (Elt Ideal)) (n : Fin 32) (b : Fin 8) (h : Fin 4) : Fin 128 → Fin 64 → EReal := fun s d => vA V (ix5 n b h s d)

section
include hn

theorem ix0_toInt : ((ixA V) (Shape.Idx.first h_S_)).toInt = (n.val : Int) := by rw [hn]; exact toInt32 n

theorem v94_apply (b : Fin 8) (h : Fin 4) (t : Fin 128) (d : Fin 64) : res_main_while0b_v94 V (ix4 b h t d) = qT V n b h t d :=
  slice5_apply _ _ n (ix0_toInt hn) rfl rfl rfl rfl _ _ b h t d
theorem v95_apply (b : Fin 8) (h : Fin 4) (t : Fin 128) (d : Fin 64) : res_main_while0b_v95 V (ix4 b h t d) = kT V n b h t d :=
  slice5_apply _ _ n (ix0_toInt hn) rfl rfl rfl rfl _ _ b h t d
theorem v96_apply (b : Fin 8) (h : Fin 4) (t : Fin 128) (d : Fin 64) : res_main_while0b_v96 V (ix4 b h t d) = vT V n b h t d :=
  slice5_apply _ _ n (ix0_toInt hn) rfl rfl rfl rfl _ _ b h t d
theorem v97_apply (b : Fin 8) (h : Fin 4) (t : Fin 128) : res_main_while0b_v97 V (ix3 b h t) = igT V n b h t :=
  slice4_apply _ _ n (ix0_toInt hn) rfl rfl rfl _ _ b h t
theorem v99_apply (b : Fin 8) (h : Fin 4) (t : Fin 128) : res_main_while0b_v99 V (ix3 b h t) = cum (lfT V n b h) t := by
  unfold res_main_while0b_v99
  refine (cumsum_apply _ _ (fun _ => Ideal.ofBits_zero _) _ _ b h t).trans ?_
  refine congrArg (fun f => cum f t) (funext fun s => ?_)
  exact slice4_apply _ _ n (ix0_toInt hn) rfl rfl rfl _ _ b h s

end

/-- What a trip writes, before it is laid into the stack of outputs. -/
def trip (V : Valuation τ sig (Elt Ideal)) : S8x4x128x64.Idx → EReal :=
  Host.divf (addf (mulf (broadcastInDim S8x4x128x64 ![0, 1, 2, 3] bcast_S8x4x128x1_S8x4x128x64_0_1_2_3 (broadcastInDim S8x4x128x1 ![0, 1, 2] bcast_S8x4x128_S8x4x128x1_0_1_2 (res_main_while0b_v119 V))) (Host.dotGeneral (F := Ideal) (φ₁ := .f32) (φ₂ := .f32) dot_S8x4x128x64_S8x4x64x64_S8x4x128x64_3_2_2_3_01_01 none (res_main_while0b_v94 V) (V (Proc.devRef .tc main_v79_7)))) (Host.dotGeneral (F := Ideal) (φ₁ := .f32) (φ₂ := .f32) dot_S8x4x128x128_S8x4x128x64_S8x4x128x64_3_2_2_3_01_01 none (res_main_while0b_v121 V) (res_main_while0b_v96 V))) (broadcastInDim S8x4x128x64 ![0, 1, 2, 3] bcast_S8x4x128x1_S8x4x128x64_0_1_2_3 (broadcastInDim S8x4x128x1 ![0, 1, 2] bcast_S8x4x128_S8x4x128x1_0_1_2 (maximumf (Host.absf (addf (mulf (res_main_while0b_v119 V) (Host.dotGeneral (F := Ideal) (φ₁ := .f32) (φ₂ := .f32) dot_S8x4x128x64_S8x4x64_S8x4x128_3_2_2_n_01_01 none (res_main_while0b_v94 V) (V (Proc.devRef .tc main_v79_8)))) (Host.reduceAdd (res_main_while0b_v121 V) (constant S_ .f32 0x00000000#32) reducesTo_S8x4x128x128_S8x4x128_d3 h_S_))) (Host.exp (Host.negf (res_main_while0b_v113 V))))))

theorem update5_apply {α : Type} (x : S32x8x4x128x64.Idx → α) (u : S8x4x128x64.Idx → α) (st : Fin 5 → Int) (n : Fin 32) (h0 : st 0 = n.val) (h1 : st 1 = 0) (h2 : st 2 = 0) (h3 : st 3 = 0)
    (h4 : st 4 = 0) (hf) (hb) (j : Fin 32) (b : Fin 8) (h : Fin 4) (t : Fin 128) (e : Fin 64) :
    Host.dynamicUpdateSlice (s := S32x8x4x128x64) x (broadcastInDim S1x8x4x128x64 ![1, 2, 3, 4] hb u) st hf (ix5 j b h t e) =
      if j = n then u (ix4 b h t e) else x (ix5 j b h t e) := by
  have c0 : Host.clampedStart S32x8x4x128x64 S1x8x4x128x64 hf.1 st 0 = n.val := by
    unfold Host.clampedStart
    rw [h0]
    show (min (max (n.val : Int) 0) ((32 - 1 : Nat) : Int)).toNat = n.val
    omega
  have c1 : Host.clampedStart S32x8x4x128x64 S1x8x4x128x64 hf.1 st 1 = 0 := by unfold Host.clampedStart; rw [h1]; rfl
  have c2 : Host.clampedStart S32x8x4x128x64 S1x8x4x128x64 hf.1 st 2 = 0 := by unfold Host.clampedStart; rw [h2]; rfl
  have c3 : Host.clampedStart S32x8x4x128x64 S1x8x4x128x64 hf.1 st 3 = 0 := by unfold Host.clampedStart; rw [h3]; rfl
  have c4 : Host.clampedStart S32x8x4x128x64 S1x8x4x128x64 hf.1 st 4 = 0 := by unfold Host.clampedStart; rw [h4]; rfl
  rw [Host.dynamicUpdateSlice_apply]
  by_cases hj : j = n
  · subst hj
    rw [if_pos rfl, dif_pos]
    · refine congrArg u ?_
      funext a
      apply Fin.ext
      match a with
      | ⟨0, _⟩ => show b.val - Host.clampedStart S32x8x4x128x64 S1x8x4x128x64 hf.1 st 1 = b.val; rw [c1]; rfl
      | ⟨1, _⟩ => show h.val - Host.clampedStart S32x8x4x128x64 S1x8x4x128x64 hf.1 st 2 = h.val; rw [c2]; rfl
      | ⟨2, _⟩ => show t.val - Host.clampedStart S32x8x4x128x64 S1x8x4x128x64 hf.1 st 3 = t.val; rw [c3]; rfl
      | ⟨3, _⟩ => show e.val - Host.clampedStart S32x8x4x128x64 S1x8x4x128x64 hf.1 st 4 = e.val; rw [c4]; rfl
    · intro a
      match a with
      | ⟨0, _⟩ => show Host.clampedStart S32x8x4x128x64 S1x8x4x128x64 hf.1 st 0 ≤ j.val ∧ j.val < Host.clampedStart S32x8x4x128x64 S1x8x4x128x64 hf.1 st 0 + 1; rw [c0]; omega
      | ⟨1, _⟩ => show Host.clampedStart S32x8x4x128x64 S1x8x4x128x64 hf.1 st 1 ≤ b.val ∧ b.val < Host.clampedStart S32x8x4x128x64 S1x8x4x128x64 hf.1 st 1 + 8; rw [c1]; omega
      | ⟨2, _⟩ => show Host.clampedStart S32x8x4x128x64 S1x8x4x128x64 hf.1 st 2 ≤ h.val ∧ h.val < Host.clampedStart S32x8x4x128x64 S1x8x4x128x64 hf.1 st 2 + 4; rw [c2]; omega
      | ⟨3, _⟩ => show Host.clampedStart S32x8x4x128x64 S1x8x4x128x64 hf.1 st 3 ≤ t.val ∧ t.val < Host.clampedStart S32x8x4x128x64 S1x8x4x128x64 hf.1 st 3 + 128; rw [c3]; omega
      | ⟨4, _⟩ => show Host.clampedStart S32x8x4x128x64 S1x8x4x128x64 hf.1 st 4 ≤ e.val ∧ e.val < Host.clampedStart S32x8x4x128x64 S1x8x4x128x64 hf.1 st 4 + 64; rw [c4]; omega
  · rw [if_neg hj, dif_neg]
    intro hin
    have h2 : Host.clampedStart S32x8x4x128x64 S1x8x4x128x64 hf.1 st 0 ≤ j.val ∧ j.val < Host.clampedStart S32x8x4x128x64 S1x8x4x128x64 hf.1 st 0 + 1 := hin 0
    rw [c0] at h2
    exact hj (Fin.ext (by omega))

theorem negInf : Ideal.ofBits .f32 0xFF800000#32 = ⊥ := by
  simp [Ideal.ofBits, Ideal.ieee]

theorem fold3 (f : S8x4x128.Idx → EReal) (b : Fin 8) (h : Fin 4) :
    Finset.fold max (Ideal.ofBits .f32 0xFF800000#32) f {i | reducesTo_S8x4x128_S8x4_d2.drop i = ix2 b h} = Finset.univ.fold max ⊥ fun s : Fin 128 => f (ix3 b h s) := by
  have e : (Finset.univ.filter fun i => reducesTo_S8x4x128_S8x4_d2.drop i = ix2 b h) = Finset.univ.image fun s : Fin 128 => (ix3 b h s : S8x4x128.Idx) := by
    ext i
    simp only [Finset.mem_filter, Finset.mem_univ, true_and, Finset.mem_image]
    constructor
    · intro hi
      refine ⟨i 2, ?_⟩
      funext a
      match a with
      | ⟨0, _⟩ => exact (congrFun hi 0).symm
      | ⟨1, _⟩ => exact (congrFun hi 1).symm
      | ⟨2, _⟩ => rfl
    · rintro ⟨s, rfl⟩
      funext a
      match a with
      | ⟨0, _⟩ => rfl
      | ⟨1, _⟩ => rfl
  rw [e, Finset.fold_image (fun s _ s' _ hs => congrFun hs 2), negInf]
  rfl

theorem fold4 (f : S8x4x128x128.Idx → EReal) (b : Fin 8) (h : Fin 4) (t : Fin 128) :
    Finset.fold max (Ideal.ofBits .f32 0xFF800000#32) f {i | reducesTo_S8x4x128x128_S8x4x128_d3.drop i = ix3 b h t} =
      Finset.univ.fold max ⊥ fun s : Fin 128 => f (ix4 b h t s) := by
  have e : (Finset.univ.filter fun i => reducesTo_S8x4x128x128_S8x4x128_d3.drop i = ix3 b h t) = Finset.univ.image fun s : Fin 128 => (ix4 b h t s : S8x4x128x128.Idx) := by
    ext i
    simp only [Finset.mem_filter, Finset.mem_univ, true_and, Finset.mem_image]
    constructor
    · intro hi
      refine ⟨i 3, ?_⟩
      funext a
      match a with
      | ⟨0, _⟩ => exact (congrFun hi 0).symm
      | ⟨1, _⟩ => exact (congrFun hi 1).symm
      | ⟨2, _⟩ => exact (congrFun hi 2).symm
      | ⟨3, _⟩ => rfl
    · rintro ⟨s, rfl⟩
      funext a
      match a with
      | ⟨0, _⟩ => rfl
      | ⟨1, _⟩ => rfl
      | ⟨2, _⟩ => rfl
  rw [e, Finset.fold_image (fun s _ s' _ hs => congrFun hs 3), negInf]
  rfl

section
include hn

theorem v111_apply (b : Fin 8) (h : Fin 4) (t : Fin 128) : res_main_while0b_v111 V (ix3 b h t) = cum (lfT V n b h) t + mA V (ix2 b h) := by
  pointwise [res_main_while0b_v111]
  rw [v99_apply hn]

theorem v144_apply (b : Fin 8) (h : Fin 4) (s : Fin 128) : res_main_while0b_v144 V (ix3 b h s) = logw (lfT V n b h) (igT V n b h) s := by
  pointwise [res_main_while0b_v144, res_main_while0b_v140]
  rw [v99_apply hn, v99_apply hn, v97_apply hn]
  rfl

theorem v147_apply (b : Fin 8) (h : Fin 4) : res_main_while0b_v147 V (ix2 b h) = mnew (lfT V n b h) (igT V n b h) (mA V (ix2 b h)) := by
  pointwise [res_main_while0b_v147, res_main_while0b_v140]
  rw [v99_apply hn]
  refine congrArg₂ (max : EReal → EReal → EReal) rfl ((fold3 _ b h).trans ?_)
  simp only [v144_apply hn]

theorem v151_apply (b : Fin 8) (h : Fin 4) (s : Fin 128) : res_main_while0b_v151 V (ix3 b h s) = wgt (lfT V n b h) (igT V n b h) (mA V (ix2 b h)) s := by
  pointwise [res_main_while0b_v151]
  rw [v144_apply hn, v147_apply hn]
  rfl

theorem v154_apply (b : Fin 8) (h : Fin 4) : res_main_while0b_v154 V (ix2 b h) = dec (lfT V n b h) (igT V n b h) (mA V (ix2 b h)) := by
  pointwise [res_main_while0b_v154, res_main_while0b_v140]
  rw [v99_apply hn, v147_apply hn]
  rfl

theorem step7_apply (b : Fin 8) (h : Fin 4) (d e : Fin 64) :
    step_main_v79_7 V (ix4 b h d e) = cnew (lfT V n b h) (igT V n b h) (kT V n b h) (vT V n b h) (fun d e => cA V (ix4 b h d e)) (mA V (ix2 b h)) d e := by
  simp only [step_main_v79_7, id_eq]
  pointwise []
  simp only [v154_apply hn, v151_apply hn, v95_apply hn, v96_apply hn]
  rfl

theorem step8_apply (b : Fin 8) (h : Fin 4) (d : Fin 64) :
    step_main_v79_8 V (ix3 b h d) = nnew (lfT V n b h) (igT V n b h) (kT V n b h) (fun d => nA V (ix3 b h d)) (mA V (ix2 b h)) d := by
  simp only [step_main_v79_8, id_eq]
  pointwise []
  simp only [v154_apply hn, v151_apply hn, v95_apply hn]
  rfl

theorem step9_apply (b : Fin 8) (h : Fin 4) : step_main_v79_9 V (ix2 b h) = mnew (lfT V n b h) (igT V n b h) (mA V (ix2 b h)) :=
  v147_apply hn b h

end

theorem step6_apply : ixA V = (fun _ => BitVec.ofNat 32 n.val) → step_main_v79_6 V = fun _ => BitVec.ofNat 32 (n.val + 1) := by
  intro hn
  simp only [step_main_v79_6, id_eq]
  funext j
  show IntOp.addi (V (Proc.devRef .tc main_v79_6) j) _ = _
  have e : V (Proc.devRef .tc main_v79_6) j = BitVec.ofNat 32 n.val := congrFun hn j
  rw [e, BitVec.ofNat_add]
  rfl

section
include hn hm

theorem v108_apply (b : Fin 8) (h : Fin 4) (t s : Fin 128) : res_main_while0b_v108 V (ix4 b h t s) = logd (lfT V n b h) (igT V n b h) t s := by
  pointwise [res_main_while0b_v108]
  have e : V (Proc.devRef .tc main_v79_5) (ix2 t s) = if s ≤ t then 1#1 else 0#1 := hm t s
  rw [v99_apply hn, v99_apply hn, v97_apply hn, e]
  unfold logd
  by_cases hs : s ≤ t
  · simp only [if_pos hs]; rfl
  · simp only [if_neg hs]; exact negInf

theorem v113_apply (b : Fin 8) (h : Fin 4) (t : Fin 128) : res_main_while0b_v113 V (ix3 b h t) = mt (lfT V n b h) (igT V n b h) (mA V (ix2 b h)) t := by
  pointwise [res_main_while0b_v113]
  rw [v111_apply hn]
  refine congrArg₂ (max : EReal → EReal → EReal) rfl ((fold4 _ b h t).trans ?_)
  simp only [v108_apply hn hm]

theorem v119_apply (b : Fin 8) (h : Fin 4) (t : Fin 128) : res_main_while0b_v119 V (ix3 b h t) = inter (lfT V n b h) (igT V n b h) (mA V (ix2 b h)) t := by
  pointwise [res_main_while0b_v119]
  rw [v111_apply hn, v113_apply hn hm]
  rfl

theorem v121_apply (b : Fin 8) (h : Fin 4) (t s : Fin 128) :
    res_main_while0b_v121 V (ix4 b h t s) = sw (lfT V n b h) (igT V n b h) (qT V n b h) (kT V n b h) (mA V (ix2 b h)) t s := by
  pointwise [res_main_while0b_v121]
  simp only [v94_apply hn, v95_apply hn]
  rw [v108_apply hn hm, v113_apply hn hm]
  rfl

/-- The output a trip writes. -/
theorem out_apply (b : Fin 8) (h : Fin 4) (t : Fin 128) (e : Fin 64) : trip V (ix4 b h t e) =
    hout (lfT V n b h) (igT V n b h) (qT V n b h) (kT V n b h) (vT V n b h) (fun d e => cA V (ix4 b h d e))
      (fun d => nA V (ix3 b h d)) (mA V (ix2 b h)) t e := by
  pointwise [trip]
  simp only [v94_apply hn, v96_apply hn, v119_apply hn hm, v121_apply hn hm, v113_apply hn hm]
  rfl

theorem step10_apply (j : Fin 32) (b : Fin 8) (h : Fin 4) (t : Fin 128) (e : Fin 64) :
    step_main_v79_10 V (ix5 j b h t e) = if j = n then hout (lfT V n b h) (igT V n b h) (qT V n b h) (kT V n b h) (vT V n b h) (fun d e => cA V (ix4 b h d e))
      (fun d => nA V (ix3 b h d)) (mA V (ix2 b h)) t e else hA V (ix5 j b h t e) := by
  rw [← out_apply hn hm]
  unfold step_main_v79_10
  rw [id_eq]
  refine update5_apply (hA V) (trip V) _ n ?_ ?_ ?_ ?_ ?_ _ _ j b h t e
  · exact ix0_toInt hn
  all_goals rfl

end

end Cert.Mlstm.Ref
end
end
-- ==== Proof.RefInit.lean ====
/- The reference: what its loop starts from as functions of the arrays, what its loop carries after `k` trips, and its
   result. -/
module

public import proofs.«01_k».proof.Proof.Args
public import proofs.«01_k».proof.Proof.RefStep
public import Idealize.ShloMosaic.Lib.StableHlo.ReadAt

@[expose] public section

set_option maxRecDepth 16384

noncomputable section

namespace Cert.Mlstm.Ref

open Cert.ReferenceIdeal Cert.ReferenceIdeal.Gen Cert.ReferenceIdeal.Value Idealize.ShloMosaic Idealize.ShloMosaic.StableHlo Idealize.SL.Sem

variable (m : (ℓ : Loc nD τ sig) → Buf (Elt Ideal) ℓ)

/-- The arrays the program is started on. -/
def args (c : Dev nD) : Args where
  u b s l := launchContents m c (Proc.devRef .tc main_arg0) (ix3 b s l)
  cw i l := launchContents m c (Proc.devRef .tc main_arg1) (ix2 i l)
  cb l := launchContents m c (Proc.devRef .tc main_arg2) (ix1 l)
  wq h d e := launchContents m c (Proc.devRef .tc main_arg3) (ix3 h d e)
  wk h d e := launchContents m c (Proc.devRef .tc main_arg4) (ix3 h d e)
  wv h d e := launchContents m c (Proc.devRef .tc main_arg5) (ix3 h d e)
  gb i h := launchContents m c (Proc.devRef .tc main_arg6) (ix2 i h)

theorem pos_eq (n : Fin 32) (t : Fin 128) (hs : n.val * 128 + t.val < 4096) : (⟨n.val * 128 + t.val, hs⟩ : Fin 4096) = pos n.val t := by
  apply Fin.ext
  show n.val * 128 + t.val = (128 * n.val + t.val) % 4096
  omega

theorem lane_eq (h : Fin 4) (d : Fin 64) (hl : h.val * 64 + d.val < 256) : (⟨h.val * 64 + d.val, hl⟩ : Fin 256) = lane h d := by
  apply Fin.ext
  show h.val * 64 + d.val = 64 * h.val + d.val
  omega

theorem xm_at (A : Args) (n : Fin 32) (b : Fin 8) (h : Fin 4) (t : Fin 128) (x : Fin 64) (hs : n.val * 128 + t.val < 4096)
    (hl : h.val * 64 + x.val < 2824) : A.u b ⟨n.val * 128 + t.val, hs⟩ ⟨h.val * 64 + x.val, hl⟩ = A.xm b (pos n.val t) (lane h x) := by
  unfold Args.xm
  exact congrArg₂ (A.u b) (pos_eq n t hs) (Fin.ext (by show h.val * 64 + x.val = 64 * h.val + x.val; omega))

theorem conv_at (A : Args) (n : Fin 32) (b : Fin 8) (h : Fin 4) (t : Fin 128) (x : Fin 64) (hs : n.val * 128 + t.val < 4096)
    (hl : h.val * 64 + x.val < 256) : A.conv b ⟨n.val * 128 + t.val, hs⟩ ⟨h.val * 64 + x.val, hl⟩ = A.conv b (pos n.val t) (lane h x) :=
  congrArg₂ (A.conv b) (pos_eq n t hs) (lane_eq h x hl)

theorem q_read (c : Dev nD) (n : Fin 32) (b : Fin 8) (h : Fin 4) (t : Fin 128) (d : Fin 64) :
    qA (entryContents preI m c) (ix5 n b h t d) = (args m c).q b h (pos n.val t) d := by
  unfold qA
  simp only [entryContents, afterL_cons, afterL_nil]
  after_reads_simp
  simp -implicitDefEqProofs only [StableHlo.TRef.toBuf, StableHlo.TRef.ofBuf, cast_cast, cast_eq, id_eq]
  clean_types
  pointwise
  unfold Args.q
  refine Finset.sum_congr rfl fun x _ => ?_
  refine (mul_comm _ _).trans (congrArg (fun y : EReal => y * (args m c).wq h x d) ?_)
  have hs : n.val * 128 + t.val < 4096 := by omega
  have hl : h.val * 64 + x.val < 256 := by omega
  exact congrArg (fun y : EReal => y * Ideal.div 1 (1 + Ideal.exp (-y)))
    ((conv_other (args m c) b _ _ hs hl _ sitofp_zero).trans (conv_at (args m c) n b h t x hs hl))

theorem k_read (c : Dev nD) (n : Fin 32) (b : Fin 8) (h : Fin 4) (t : Fin 128) (d : Fin 64) :
    kA (entryContents preI m c) (ix5 n b h t d) = (args m c).k b h (pos n.val t) d := by
  unfold kA
  simp only [entryContents, afterL_cons, afterL_nil]
  after_reads_simp
  simp -implicitDefEqProofs only [StableHlo.TRef.toBuf, StableHlo.TRef.ofBuf, cast_cast, cast_eq, id_eq]
  clean_types
  pointwise
  refine (sum_scale _).trans ?_
  unfold Args.k
  refine Finset.sum_congr rfl fun x _ => ?_
  refine Eq.trans ?_ (mul_assoc _ _ _)
  refine congrArg (fun y : EReal => y * kscale) ?_
  refine (mul_comm _ _).trans (congrArg (fun y : EReal => y * (args m c).wk h x d) ?_)
  have hs : n.val * 128 + t.val < 4096 := by omega
  have hl : h.val * 64 + x.val < 256 := by omega
  exact congrArg (fun y : EReal => y * Ideal.div 1 (1 + Ideal.exp (-y)))
    ((conv_other (args m c) b _ _ hs hl _ sitofp_zero).trans (conv_at (args m c) n b h t x hs hl))

theorem v_read (c : Dev nD) (n : Fin 32) (b : Fin 8) (h : Fin 4) (t : Fin 128) (d : Fin 64) :
    vA (entryContents preI m c) (ix5 n b h t d) = (args m c).v b h (pos n.val t) d := by
  unfold vA
  simp only [entryContents, afterL_cons, afterL_nil]
  after_reads_simp
  simp -implicitDefEqProofs only [StableHlo.TRef.toBuf, StableHlo.TRef.ofBuf, cast_cast, cast_eq, id_eq]
  clean_types
  pointwise
  unfold Args.v
  refine Finset.sum_congr rfl fun x _ => ?_
  refine (mul_comm _ _).trans (congrArg (fun y : EReal => y * (args m c).wv h x d) ?_)
  exact xm_at (args m c) n b h t x _ _

theorem ig_read (c : Dev nD) (n : Fin 32) (b : Fin 8) (h : Fin 4) (t : Fin 128) :
    igA (entryContents preI m c) (ix4 n b h t) = (args m c).ig b h (pos n.val t) := by
  unfold igA
  simp only [entryContents, afterL_cons, afterL_nil]
  after_reads_simp
  simp -implicitDefEqProofs only [StableHlo.TRef.toBuf, StableHlo.TRef.ofBuf, cast_cast, cast_eq, id_eq]
  clean_types
  pointwise
  rw [← pos_eq n t (by omega)]
  rfl

theorem lf_read (c : Dev nD) (hf : (args m c).Finite) (n : Fin 32) (b : Fin 8) (h : Fin 4) (t : Fin 128) :
    lfA (entryContents preI m c) (ix4 n b h t) = (args m c).lf b h (pos n.val t) := by
  unfold lfA
  simp only [entryContents, afterL_cons, afterL_nil]
  after_reads_simp
  simp -implicitDefEqProofs only [StableHlo.TRef.toBuf, StableHlo.TRef.ofBuf, cast_cast, cast_eq, id_eq]
  clean_types
  pointwise
  rw [if_neg (fun hh => hh rfl)]
  unfold Args.lf
  rw [← pos_eq n t (by omega)]
  exact lsg_other (Args.fg_isR hf _ _ _)

theorem mask_read (c : Dev nD) (t s : Fin 128) : mkA (entryContents preI m c) (ix2 t s) = if s ≤ t then 1#1 else 0#1 := by
  unfold mkA
  simp only [entryContents, afterL_cons, afterL_nil]
  after_reads_simp
  simp -implicitDefEqProofs only [StableHlo.TRef.toBuf, StableHlo.TRef.ofBuf, cast_cast, cast_eq, id_eq]
  clean_types
  pointwise
  exact sle128 s t

theorem c_read (c : Dev nD) (b : Fin 8) (h : Fin 4) (d e : Fin 64) : cA (entryContents preI m c) (ix4 b h d e) = 0 := by
  unfold cA
  simp only [entryContents, afterL_cons, afterL_nil]
  after_reads_simp
  simp -implicitDefEqProofs only [StableHlo.TRef.toBuf, StableHlo.TRef.ofBuf, cast_cast, cast_eq, id_eq]
  clean_types
  pointwise

theorem n_read (c : Dev nD) (b : Fin 8) (h : Fin 4) (d : Fin 64) : nA (entryContents preI m c) (ix3 b h d) = 0 := by
  unfold nA
  simp only [entryContents, afterL_cons, afterL_nil]
  after_reads_simp
  simp -implicitDefEqProofs only [StableHlo.TRef.toBuf, StableHlo.TRef.ofBuf, cast_cast, cast_eq, id_eq]
  clean_types
  pointwise

theorem m_read (c : Dev nD) (b : Fin 8) (h : Fin 4) : mA (entryContents preI m c) (ix2 b h) = 0 := by
  unfold mA
  simp only [entryContents, afterL_cons, afterL_nil]
  after_reads_simp
  simp -implicitDefEqProofs only [StableHlo.TRef.toBuf, StableHlo.TRef.ofBuf, cast_cast, cast_eq, id_eq]
  clean_types
  pointwise

/-- The contents the loop carries after `k` trips. -/
abbrev VK (c : Dev nD) (k : ℕ) : Valuation τ sig (Elt Ideal) := STEP^[k] (entryContents preI m c)

theorem VK_succ (c : Dev nD) (k : ℕ) : VK m c (k + 1) = STEP (VK m c k) := Function.iterate_succ_apply' _ _ _

theorem keep0 (c : Dev nD) (k : ℕ) : qA (VK m c k) = qA (entryContents preI m c) := by
  induction k with
  | zero => rfl
  | succ k ih => rw [VK_succ]; exact (STEP_main_v79_0 _).trans ih
theorem keep1 (c : Dev nD) (k : ℕ) : kA (VK m c k) = kA (entryContents preI m c) := by
  induction k with
  | zero => rfl
  | succ k ih => rw [VK_succ]; exact (STEP_main_v79_1 _).trans ih
theorem keep2 (c : Dev nD) (k : ℕ) : vA (VK m c k) = vA (entryContents preI m c) := by
  induction k with
  | zero => rfl
  | succ k ih => rw [VK_succ]; exact (STEP_main_v79_2 _).trans ih
theorem keep3 (c : Dev nD) (k : ℕ) : igA (VK m c k) = igA (entryContents preI m c) := by
  induction k with
  | zero => rfl
  | succ k ih => rw [VK_succ]; exact (STEP_main_v79_3 _).trans ih
theorem keep4 (c : Dev nD) (k : ℕ) : lfA (VK m c k) = lfA (entryContents preI m c) := by
  induction k with
  | zero => rfl
  | succ k ih => rw [VK_succ]; exact (STEP_main_v79_4 _).trans ih
theorem keep5 (c : Dev nD) (k : ℕ) : mkA (VK m c k) = mkA (entryContents preI m c) := by
  induction k with
  | zero => rfl
  | succ k ih => rw [VK_succ]; exact (STEP_main_v79_5 _).trans ih

/-- What the loop carries after `k` trips. -/
structure Inv (c : Dev nD) (k : ℕ) : Prop where
  ix : ixA (VK m c k) = fun _ => BitVec.ofNat 32 k
  C : ∀ b h d e, cA (VK m c k) (ix4 b h d e) = ((args m c).st b h k).C d e
  N : ∀ b h d, nA (VK m c k) (ix3 b h d) = ((args m c).st b h k).N d
  M : ∀ b h, mA (VK m c k) (ix2 b h) = ((args m c).st b h k).M
  H : ∀ (j : Fin 32) b h t e, j.val < k → hA (VK m c k) (ix5 j b h t e) = (args m c).ho b h j.val t e

theorem inv (c : Dev nD) (hf : (args m c).Finite) (k : ℕ) (hk : k ≤ 32) : Inv m c k := by
  induction k with
  | zero => exact ⟨ctr_entry m c, fun b h d e => c_read m c b h d e, fun b h d => n_read m c b h d, fun b h => m_read m c b h, fun j _ _ _ _ hj => absurd hj (Nat.not_lt_zero _)⟩
  | succ k ih =>
    have I := ih (by omega)
    have hn : ixA (VK m c k) = fun _ => BitVec.ofNat 32 (⟨k, hk⟩ : Fin 32).val := I.ix
    have hm : ∀ t s : Fin 128, mkA (VK m c k) (ix2 t s) = if s ≤ t then 1#1 else 0#1 := by
      intro t s; rw [keep5]; exact mask_read m c t s
    have elf : ∀ b h, lfT (VK m c k) ⟨k, hk⟩ b h = fun t => (args m c).lf b h (pos k t) := by
      intro b h; funext t; show lfA (VK m c k) _ = _; rw [keep4]; exact lf_read m c hf ⟨k, hk⟩ b h t
    have eig : ∀ b h, igT (VK m c k) ⟨k, hk⟩ b h = fun t => (args m c).ig b h (pos k t) := by
      intro b h; funext t; show igA (VK m c k) _ = _; rw [keep3]; exact ig_read m c ⟨k, hk⟩ b h t
    have eq : ∀ b h, qT (VK m c k) ⟨k, hk⟩ b h = fun t => (args m c).q b h (pos k t) := by
      intro b h; funext t d; show qA (VK m c k) _ = _; rw [keep0]; exact q_read m c ⟨k, hk⟩ b h t d
    have ek : ∀ b h, kT (VK m c k) ⟨k, hk⟩ b h = fun t => (args m c).k b h (pos k t) := by
      intro b h; funext t d; show kA (VK m c k) _ = _; rw [keep1]; exact k_read m c ⟨k, hk⟩ b h t d
    have ev : ∀ b h, vT (VK m c k) ⟨k, hk⟩ b h = fun t => (args m c).v b h (pos k t) := by
      intro b h; funext t d; show vA (VK m c k) _ = _; rw [keep2]; exact v_read m c ⟨k, hk⟩ b h t d
    have eC : ∀ b h, (fun d e => cA (VK m c k) (ix4 b h d e)) = ((args m c).st b h k).C := fun b h => funext fun d => funext fun e => I.C b h d e
    have eN : ∀ b h, (fun d => nA (VK m c k) (ix3 b h d)) = ((args m c).st b h k).N := fun b h => funext fun d => I.N b h d
    constructor
    · rw [VK_succ]
      exact (STEP_main_v79_6 _).trans (step6_apply hn)
    · intro b h d e
      rw [VK_succ]
      refine (congrFun (STEP_main_v79_7 _) _).trans ((step7_apply hn b h d e).trans ?_)
      rw [elf, eig, ek, ev, eC, I.M, Args.st_C]
    · intro b h d
      rw [VK_succ]
      refine (congrFun (STEP_main_v79_8 _) _).trans ((step8_apply hn b h d).trans ?_)
      rw [elf, eig, ek, eN, I.M, Args.st_N]
    · intro b h
      rw [VK_succ]
      refine (congrFun (STEP_main_v79_9 _) _).trans ((step9_apply hn b h).trans ?_)
      rw [elf, eig, I.M, Args.st_M]
    · intro j b h t e hj
      rw [VK_succ]
      refine (congrFun (STEP_main_v79_10 _) _).trans ((step10_apply hn hm j b h t e).trans ?_)
      by_cases hjk : j = ⟨k, hk⟩
      · rw [if_pos hjk, elf, eig, eq, ek, ev, eC, eN, I.M, hjk]
        rfl
      · rw [if_neg hjk]
        exact I.H j b h t e (by have : j.val ≠ k := fun h => hjk (Fin.ext h); omega)

/-- The reference's result, at position `t` of chunk `n`, lane `e` of head `h`. -/
theorem result (c : Dev nD) (hf : (args m c).Finite) (b : Fin 8) (n : Fin 32) (t : Fin 128) (h : Fin 4) (e : Fin 64) :
    out_main_v93 (STEP^[32] (entryContents preI m c)) (ix3 b (pos n.val t) (lane h e)) = (args m c).out b h n.val t e := by
  have I := inv m c hf 32 le_rfl
  have e0 : VK m c 32 (Proc.devRef .tc main_arg0) = launchContents m c (Proc.devRef .tc main_arg0) := iter_main_arg0 m c 32
  show out_main_v93 (VK m c 32) _ = _
  have eH := I.H n b h t e n.isLt
  generalize VK m c 32 = W at e0 eH
  pointwise [out_main_v93]
  have c0 : (⟨(pos n.val t).val / 128, by have := (pos n.val t).isLt; omega⟩ : Fin 32) = n := by
    apply Fin.ext; show (128 * n.val + t.val) % 4096 / 128 = n.val; omega
  have c1 : (⟨(lane h e).val / 64, by have := (lane h e).isLt; omega⟩ : Fin 4) = h := by
    apply Fin.ext; show (64 * h.val + e.val) / 64 = h.val; omega
  have c2 : (⟨(pos n.val t).val % 128, by omega⟩ : Fin 128) = t := by
    apply Fin.ext; show (128 * n.val + t.val) % 4096 % 128 = t.val; omega
  have c3 : (⟨(lane h e).val % 64, by omega⟩ : Fin 64) = e := by
    apply Fin.ext; show (64 * h.val + e.val) % 64 = e.val; omega
  rw [c0, c1, c2, c3]
  unfold Args.out
  refine congrArg₂ (fun x y : EReal => x * y) ?_ eH
  exact congrArg (fun y : EReal => Ideal.div 1 (1 + Ideal.exp (-y))) (congrFun e0 _)

end Cert.Mlstm.Ref
end
end
-- ==== Proof.Pre.lean ====
/- The precondition: every entry of the arrays is a real number. -/
module
public import proofs.«01_k».proof.Proof.Args
public import proofs.«01_k».proof.Proof.Gen.Pre_finite
public import Idealize.ShloMosaic.Lib.ReduceAll
public import Idealize.ShloMosaic.Lib.Affine
@[expose] public section

set_option maxRecDepth 16384
noncomputable section

namespace Cert.Mlstm.Pre
open Cert.Pre_finite Idealize.ShloMosaic Idealize.SL.Sem

theorem posInf : Ideal.ofBits .f32 0x7F800000#32 = ⊤ := by
  simp [Ideal.ofBits, Ideal.ieee]

theorem isR_of_lt {x : EReal} (h : Ideal.cmp CmpFPredicate.olt (max x (-x)) (Ideal.ofBits .f32 0x7F800000#32) = 1#1) : IsR x := by
  rw [posInf] at h
  have h' : max x (-x) < ⊤ := by
    by_contra hn
    simp [Ideal.cmp, hn] at h
  induction x with
  | bot => simp at h'
  | top => simp at h'
  | coe r => exact ⟨r, rfl⟩

instance : Subsingleton S_.Idx := ⟨fun a b => funext fun i => i.elim0⟩

theorem all_isR {s : Shape} {axes : List (Fin s.rank)} (x : FVec Ideal s .f32) (hb : S_.BroadcastsInDim s (![] : Fin 0 → Fin s.rank)) (hr : s.ReducesTo axes S_) (hu : 0 < S_.numel)
    (j : S_.Idx) (e : Host.reduce IntOp.andi (cmpf .olt (Host.absf x) (broadcastInDim s ![] hb (constant S_ .f32 0x7F800000#32))) (constantI S_ 1 1#1) hr hu j = 1#1)
    (i : s.Idx) : IsR (x i) :=
  isR_of_lt (Host.reduce_andi_all _ _ _ _ j e i)

theorem finite (x0 : FVec Ideal S8x4096x2824 .f32) (x1 : FVec Ideal S4x256 .f32) (x2 : FVec Ideal S256 .f32) (x3 x4 x5 : FVec Ideal S4x64x64 .f32) (x6 : FVec Ideal S2x4 .f32)
    (h : ∀ j, fn (F := Ideal) x0 x1 x2 x3 x4 x5 x6 j = 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) := by
  have j : S_.Idx := fun i => i.elim0
  have h6 := IntOp.andi_eq_one.1 (h j)
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  exact ⟨all_isR x0 _ _ _ j h1.1, all_isR x1 _ _ _ j h1.2, all_isR x2 _ _ _ j h2.2, all_isR x3 _ _ _ j h3.2, all_isR x4 _ _ _ j h4.2, all_isR x5 _ _ _ j h5.2,
    all_isR x6 _ _ _ j h6.2⟩

end Cert.Mlstm.Pre

end

end
-- ==== Proof.Main.lean ====
/- The two results are the same array. -/
module
public import proofs.«01_k».proof.Proof.Grid
public import proofs.«01_k».proof.Proof.RefInit
public import proofs.«01_k».proof.Proof.Pre
public import proofs.«01_k».proof.Defs
@[expose] public section

set_option maxRecDepth 16384
noncomputable section

namespace Cert.Mlstm
open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem ker_finite (hP : Cert.Pre_KernelIdeal_finite m) (c : Dev Cert.KernelIdeal.nD) : (Ker.args m c).Finite := by
  obtain ⟨h0, h1, h2, h3, h4, h5, h6⟩ := Pre.finite _ _ _ _ _ _ _ (fun j => congrFun (hP c) j)
  exact ⟨fun b s l => h0 (ix3 b s l), fun i l => h1 (ix2 i l), fun l => h2 (ix1 l), fun h d e => h3 (ix3 h d e), fun h d e => h4 (ix3 h d e), fun h d e => h5 (ix3 h d e),
    fun i h => h6 (ix2 i h)⟩

theorem args_eq (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Ref.args m' c = Ker.args m c := by
  obtain ⟨e0, e1, e2, e3, e4, e5, e6⟩ := e
  have f0 : (Ref.args m' c).u = (Ker.args m c).u := funext fun b => funext fun s => funext fun l => congrFun e0 (ix3 b s l)
  have f1 : (Ref.args m' c).cw = (Ker.args m c).cw := funext fun i => funext fun l => congrFun e1 (ix2 i l)
  have f2 : (Ref.args m' c).cb = (Ker.args m c).cb := funext fun l => congrFun e2 (ix1 l)
  have f3 : (Ref.args m' c).wq = (Ker.args m c).wq := funext fun h => funext fun d => funext fun x => congrFun e3 (ix3 h d x)
  have f4 : (Ref.args m' c).wk = (Ker.args m c).wk := funext fun h => funext fun d => funext fun x => congrFun e4 (ix3 h d x)
  have f5 : (Ref.args m' c).wv = (Ker.args m c).wv := funext fun h => funext fun d => funext fun x => congrFun e5 (ix3 h d x)
  have f6 : (Ref.args m' c).gb = (Ker.args m c).gb := funext fun i => funext fun h => congrFun e6 (ix2 i h)
  show (⟨(Ref.args m' c).u, (Ref.args m' c).cw, (Ref.args m' c).cb, (Ref.args m' c).wq, (Ref.args m' c).wk, (Ref.args m' c).wv, (Ref.args m' c).gb⟩ : Args) = _
  rw [f0, f1, f2, f3, f4, f5, f6]

theorem pos_surj (s : Fin 4096) : ∃ (n : Fin 32) (t : Fin 128), s = pos n.val t :=
  ⟨⟨s.val / 128, by omega⟩, ⟨s.val % 128, by omega⟩, Fin.ext (by show s.val = (128 * (s.val / 128) + s.val % 128) % 4096; omega)⟩

/-- Two arrays that agree position by position, head by head. -/
theorem ext_heads (f g : Cert.KernelIdeal.S8x4096x256.Idx → EReal)
    (h : ∀ (b : Fin 8) (n : Fin 32) (t : Fin 128) (k : Fin 4) (e : Fin 64), f (ix3 b (pos n.val t) (lane k e)) = g (ix3 b (pos n.val t) (lane k e))) : f = g := by
  funext i
  obtain ⟨n, t, hs⟩ := pos_surj (i 1)
  obtain ⟨k, e, hl⟩ := lane_surj (i 2)
  have hi : i = ix3 (i 0) (pos n.val t) (lane k e) := by
    funext a
    fin_cases a
    · rfl
    · exact hs
    · exact hl
  rw [hi]
  exact h _ n t k e

theorem value (c : Dev Cert.KernelIdeal.nD) (hA : (Ker.args m c).Finite) (e : Ref.args m' c = Ker.args m c) :
    (Cert.ReferenceIdeal.Value.out_main_v93 (Cert.ReferenceIdeal.Value.STEP^[32] (StableHlo.entryContents Cert.ReferenceIdeal.Value.preI m' c)) : Cert.KernelIdeal.S8x4096x256.Idx → EReal)
      = Cert.KernelIdeal.Value.G9 m c := by
  refine ext_heads _ _ fun b n t k x => ?_
  refine (Ref.result m' c (by rw [e]; exact hA) b n t k x).trans ?_
  rw [e]
  exact (Ker.result m c hA b n t k x).symm

end Cert.Mlstm

end

end
-- ==== Proof.ProjBody.lean ====
/- What one step of each of the three calls computes, number by number. -/
module

public import proofs.«01_k».proof.Proof.Gen.Kernel3Ideal.Skeleton
public import Idealize.ShloMosaic.Lib.Pointwise
public import Idealize.ShloMosaic.Lib.Pipeline.ValueKit

@[expose] public section

set_option maxRecDepth 16384

noncomputable section

namespace Cert.Projection

open Cert.Kernel3Ideal Cert.Kernel3Ideal.Gen Idealize.ShloMosaic

/-- The modulation vector of a conditioning vector. -/
def modAt (cv : Fin 1024 → EReal) (w : Fin 1024 → EReal) (b : EReal) : EReal := (∑ k, cv k * Ideal.logistic (cv k) * w k) + b

theorem mod_apply (x0 : FVec Ideal S8x1024 .f32) (x1 : FVec Ideal S1x1024x1024 .f32) (x2 : FVec Ideal S1x1x1024 .f32) (b : Fin 8) (j : Fin 1024) :
    (k0_pay1 (F := Ideal) x0 x1 x2 : S1x8x1024.Idx → EReal) (ix3 0 b j)
      = modAt (fun k => x0 (ix2 b k)) (fun k => x1 (ix3 0 k j)) (x2 (ix3 0 0 j)) := by
  pointwise [k0_pay1]
  rfl

/-- A choice by a comparison of small numbers. -/
theorem below (j n : ℕ) (hj : j < 2 ^ 31) (hn : n < 2 ^ 31) (x y : EReal) :
    Scalar.select (IntOp.cmpi .slt (BitVec.ofNat 32 j) (BitVec.ofNat 32 n)) x y = if j < n then x else y := by
  have e : (BitVec.ofNat 32 j).slt (BitVec.ofNat 32 n) = decide (j < n) := by
    simp only [BitVec.slt, BitVec.toInt_eq_toNat_cond, BitVec.toNat_ofNat]
    rw [Nat.mod_eq_of_lt (by omega), Nat.mod_eq_of_lt (by omega), if_pos (by omega), if_pos (by omega)]
    exact decide_eq_decide.mpr Int.ofNat_lt
  show (if BitVec.ofBool ((BitVec.ofNat 32 j).slt (BitVec.ofNat 32 n)) = 1#1 then x else y) = _
  rw [e]
  by_cases h : j < n
  · rw [if_pos h, decide_eq_true h]; rfl
  · rw [if_neg h, decide_eq_false h]; rfl

theorem mlCol_apply (w : FVec Ideal S1x256x2824 .f32) (r : Fin 256) (j : Fin 640) :
    (k1_pay2 (F := Ideal) w : S1x256x640.Idx → EReal) (ix3 0 r j) = if j.val < 520 then w (ix3 0 r ⟨j.val, by omega⟩) else 0 := by
  pointwise [k1_pay2, k1_pay1]
  exact below _ _ (by have := j.isLt; omega) (by decide) _ _

/-- The scale of a column of the queries', keys' and values' weights: the eighth on the queries. -/
def scaleOf (j : Fin 1152) : EReal := if j.val < 384 then Ideal.ofBits .f32 0x3E000000#32 else 1

theorem scale_apply (j : Fin 1152) : (k1_pay3 (F := Ideal) : S1x1152.Idx → EReal) (ix2 0 j) = scaleOf j := by
  pointwise [k1_pay3]
  exact below _ _ (by have := j.isLt; omega) (by decide) _ _

theorem dilCol_apply (w : FVec Ideal S1x256x2824 .f32) (r : Fin 256) (j : Fin 1152) :
    (k1_pay4 (F := Ideal) w : S1x256x1152.Idx → EReal) (ix3 0 r j) = w (ix3 0 r ⟨520 + j.val, by omega⟩) * scaleOf j := by
  rw [← scale_apply]
  pointwise [k1_pay4, k1_pay1]

theorem sbCol_apply (w : FVec Ideal S1x256x2824 .f32) (r : Fin 256) (j : Fin 1152) :
    (k1_pay5 (F := Ideal) w : S1x256x1152.Idx → EReal) (ix3 0 r j) = w (ix3 0 r ⟨1672 + j.val, by omega⟩) * scaleOf j := by
  rw [← scale_apply]
  pointwise [k1_pay5, k1_pay1]

/-- A row, normalised by the root of its mean square, scaled and shifted. -/
def normed (x sc sh : Fin 1024 → EReal) (k : Fin 1024) : EReal :=
  x k * Ideal.rsqrt (Ideal.div (∑ l, x l * x l) (Ideal.ofBits .f32 0x44800000#32) + Ideal.ofBits .f32 0x358637BD#32) * (1 + sc k) + sh k

theorem norm_apply (x : FVec Ideal S1x512x1024 .f32) (md : FVec Ideal S1x6x1024 .f32) (y : Fin 512) (k : Fin 1024) :
    (k2_pay3 (F := Ideal) x md : S512x1024.Idx → EReal) (ix2 y k)
      = normed (fun k => x (ix3 0 y k)) (fun k => md (ix3 0 1 k)) (fun k => md (ix3 0 0 k)) k := by
  pointwise [k2_pay3]
  rfl

theorem ml_apply (x : FVec Ideal S1x512x1024 .f32) (md : FVec Ideal S1x6x1024 .f32) (w : FVec Ideal S1024x640 .bf16) (y : Fin 512) (j : Fin 640) :
    (k2_pay5 (F := Ideal) x md w : S1x512x640.Idx → EReal) (ix3 0 y j)
      = ∑ k, (k2_pay3 (F := Ideal) x md : S512x1024.Idx → EReal) (ix2 y k) * w (ix2 k j) := by
  pointwise [k2_pay5, k2_pay4]

theorem gate_apply (x : FVec Ideal S1x512x1024 .f32) (md : FVec Ideal S1x6x1024 .f32) (w : FVec Ideal S1024x640 .bf16) (g : Fin 8) (y : Fin 512) :
    (k2_pay2 (F := Ideal) (k2_pay4 x md w) : S1x8x512.Idx → EReal) (ix3 0 g y)
      = ∑ k, (k2_pay3 (F := Ideal) x md : S512x1024.Idx → EReal) (ix2 y k) * w (ix2 k ⟨512 + g.val, by omega⟩) := by
  pointwise [k2_pay2, k2_pay4]

theorem dil_apply (x : FVec Ideal S1x512x1024 .f32) (md : FVec Ideal S1x6x1024 .f32) (w : FVec Ideal S1024x1152 .bf16) (y : Fin 512) (j : Fin 1152) :
    (k2_pay6 (F := Ideal) x md w : S1x512x1152.Idx → EReal) (ix3 0 y j)
      = ∑ k, (k2_pay3 (F := Ideal) x md : S512x1024.Idx → EReal) (ix2 y k) * w (ix2 k j) := by
  pointwise [k2_pay6]

theorem sb_apply (h : FVec Ideal S512x1024 .bf16) (w : FVec Ideal S1024x1152 .bf16) (y : Fin 512) (j : Fin 1152) :
    (k2_pay1 (F := Ideal) h w : S1x512x1152.Idx → EReal) (ix3 0 y j) = ∑ k, h (ix2 y k) * w (ix2 k j) := by
  pointwise [k2_pay1]

end Cert.Projection

end
-- ==== Proof.PostBody.lean ====
/- What one step of the call after the mixers computes, number by number. -/
module

public import proofs.«01_k».proof.Proof.Gen.Kernel4Ideal.Skeleton
public import proofs.«01_k».proof.Proof.ProjBody

@[expose] public section

set_option maxRecDepth 16384

noncomputable section

namespace Cert.Post

open Cert.Kernel4Ideal Cert.Kernel4Ideal.Gen Idealize.ShloMosaic

/-- Which half of a 128 lane block a row of the pair matrix belongs to. -/
theorem half_apply (l c : Fin 128) : (k0_pay4 : S128x128.Idx → BitVec 32) (ix2 l c) = BitVec.ofNat 32 (l.val / 64) := by
  pointwise [k0_pay4]
  revert l
  decide +kernel

theorem col_half (c : Fin 128) : Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32) = BitVec.ofNat 32 (c.val / 64) := by
  revert c
  decide +kernel

/-- The pair matrix: one where row and column lie in the same half, else nothing. -/
def pair (l c : Fin 128) : EReal := if l.val / 64 = c.val / 64 then 1 else 0

def pairs : FVec Ideal S128x128 .bf16 := k0_pay6 (F := Ideal) k0_pay4 (iota .tc S128x128 32 [1] iota_S128x128_d1_w32) 64#32 k0_pay5

theorem pairs_apply (l c : Fin 128) : (pairs : S128x128.Idx → EReal) (ix2 l c) = pair l c := by
  unfold pairs
  pointwise [k0_pay6, k0_pay5]
  rw [half_apply, col_half]
  unfold pair
  by_cases h : l.val / 64 = c.val / 64
  · rw [if_pos h, h, show IntOp.cmpi .eq (BitVec.ofNat 32 (c.val / 64)) (BitVec.ofNat 32 (c.val / 64)) = 1#1 from by simp [IntOp.cmpi]]
    show (((BitVec.setWidth 32 1#1 : BitVec 32).toInt : ℝ) : EReal) = 1
    simp
  · have e : IntOp.cmpi .eq (BitVec.ofNat 32 (l.val / 64)) (BitVec.ofNat 32 (c.val / 64)) = 0#1 := by
      have n : ¬ BitVec.ofNat 32 (l.val / 64) = BitVec.ofNat 32 (c.val / 64) := fun q => h (by
        have := congrArg BitVec.toNat q
        simp only [BitVec.toNat_ofNat] at this
        omega)
      show BitVec.ofBool (BitVec.ofNat 32 (l.val / 64) == BitVec.ofNat 32 (c.val / 64)) = 0#1
      rw [beq_eq_false_iff_ne.mpr n]
      rfl
    rw [if_neg h, e]
    show (((BitVec.setWidth 32 0#1 : BitVec 32).toInt : ℝ) : EReal) = 0
    simp

/-- Lane `c` of the block of 128 lanes that starts at `o`, normalised by means taken with the matrix `p`. -/
def blockNorm (v : Fin 1024 → EReal) (p : Fin 128 → Fin 128 → EReal) (o : ℕ) (ho : o + 128 ≤ 1024) (c : Fin 128) : EReal :=
  v ⟨o + c.val, by omega⟩ * Ideal.rsqrt (((∑ l : Fin 128, v ⟨o + l.val, by omega⟩ * v ⟨o + l.val, by omega⟩ * p l c)
    + ∑ l : Fin 128, (v ⟨o + l.val, by omega⟩ * v ⟨o + l.val, by omega⟩ - v ⟨o + l.val, by omega⟩ * v ⟨o + l.val, by omega⟩) * p l c)
      * Ideal.ofBits .f32 0x3C800000#32 + Ideal.ofBits .f32 0x358637BD#32)

variable (v : FVec Ideal S512x1024 .f32) (p : FVec Ideal S128x128 .bf16) (y : Fin 512) (c : Fin 128)

theorem block2 : (k0_pay14 (F := Ideal) v p : S512x128.Idx → EReal) (ix2 y c) = blockNorm (fun k => v (ix2 y k)) (fun l c => p (ix2 l c)) 256 (by decide) c := by
  pointwise [k0_pay14]
  rfl
theorem block3 : (k0_pay15 (F := Ideal) v p : S512x128.Idx → EReal) (ix2 y c) = blockNorm (fun k => v (ix2 y k)) (fun l c => p (ix2 l c)) 384 (by decide) c := by
  pointwise [k0_pay15]
  rfl
theorem block4 : (k0_pay18 (F := Ideal) (k0_pay16 v) (k0_pay17 v p) : S512x128.Idx → EReal) (ix2 y c) = blockNorm (fun k => v (ix2 y k)) (fun l c => p (ix2 l c)) 512 (by decide) c := by
  pointwise [k0_pay16, k0_pay17, k0_pay18]
  rfl
theorem block5 : (k0_pay19 (F := Ideal) v p : S512x128.Idx → EReal) (ix2 y c) = blockNorm (fun k => v (ix2 y k)) (fun l c => p (ix2 l c)) 640 (by decide) c := by
  pointwise [k0_pay19]
  rfl
theorem block6 : (k0_pay20 (F := Ideal) v p : S512x128.Idx → EReal) (ix2 y c) = blockNorm (fun k => v (ix2 y k)) (fun l c => p (ix2 l c)) 768 (by decide) c := by
  pointwise [k0_pay20]
  rfl
theorem block0 : (k0_pay7 (F := Ideal) v k0_pay4 (iota .tc S128x128 32 [1] iota_S128x128_d1_w32) 64#32 k0_pay5 : S512x128.Idx → EReal) (ix2 y c)
    = blockNorm (fun k => v (ix2 y k)) (fun l c => (pairs : S128x128.Idx → EReal) (ix2 l c)) 0 (by decide) c := by
  unfold k0_pay7
  rw [show k0_pay6 (F := Ideal) k0_pay4 (iota .tc S128x128 32 [1] iota_S128x128_d1_w32) 64#32 k0_pay5 = pairs from rfl]
  generalize pairs = p
  unfold blockNorm
  simp only [Nat.zero_add]
  pointwise
theorem block1 : (k0_pay13 (F := Ideal) pairs (k0_pay8 v) (k0_pay11 v) (k0_pay12 v k0_pay4 (iota .tc S128x128 32 [1] iota_S128x128_d1_w32) 64#32 k0_pay5) : S512x128.Idx → EReal) (ix2 y c)
    = blockNorm (fun k => v (ix2 y k)) (fun l c => (pairs : S128x128.Idx → EReal) (ix2 l c)) 128 (by decide) c := by
  unfold k0_pay12
  rw [show k0_pay6 (F := Ideal) k0_pay4 (iota .tc S128x128 32 [1] iota_S128x128_d1_w32) 64#32 k0_pay5 = pairs from rfl]
  generalize pairs = p
  pointwise [k0_pay8, k0_pay9, k0_pay10, k0_pay11, k0_pay13]
  rfl

/-- The last block, which the residual's payload finishes. -/
theorem block7 : (k0_pay21 (F := Ideal) v : S512x128.Idx → EReal) (ix2 y c)
    * Ideal.rsqrt ((k0_pay22 (F := Ideal) v p : S512x128.Idx → EReal) (ix2 y c) + Ideal.ofBits .f32 0x358637BD#32)
      = blockNorm (fun k => v (ix2 y k)) (fun l c => p (ix2 l c)) 896 (by decide) c := by
  pointwise [k0_pay21, k0_pay22]
  rfl

/-- Eight blocks side by side, each the same function of the lane it stands at. -/
theorem resid_apply (md : FVec Ideal S6x1024 .f32) (a0 a1 a2 a3 a4 a5 a6 a7 a8 : FVec Ideal S512x128 .f32) (g : Vec Ideal S1x1024 .f32) (x : Vec Ideal S1x512x1024 .f32) (w : Vec Ideal S1024x1024 .bf16) (j : Fin 1024)
    (f : Fin 1024 → EReal)
    (h0 : ∀ c : Fin 128, a0 (ix2 y c) = f ⟨0 + c.val, by omega⟩) (h1 : ∀ c : Fin 128, a1 (ix2 y c) = f ⟨128 + c.val, by omega⟩)
    (h2 : ∀ c : Fin 128, a2 (ix2 y c) = f ⟨256 + c.val, by omega⟩) (h3 : ∀ c : Fin 128, a3 (ix2 y c) = f ⟨384 + c.val, by omega⟩)
    (h4 : ∀ c : Fin 128, a4 (ix2 y c) = f ⟨512 + c.val, by omega⟩) (h5 : ∀ c : Fin 128, a5 (ix2 y c) = f ⟨640 + c.val, by omega⟩)
    (h6 : ∀ c : Fin 128, a6 (ix2 y c) = f ⟨768 + c.val, by omega⟩)
    (h7 : ∀ c : Fin 128, a7 (ix2 y c) * Ideal.rsqrt (a8 (ix2 y c) + Ideal.ofBits .f32 0x358637BD#32) = f ⟨896 + c.val, by omega⟩) :
    (k0_pay23 (F := Ideal) md a0 a1 a2 a3 a4 a5 a6 a7 a8 g x w : S512x1024.Idx → EReal) (ix2 y j)
      = x (ix3 0 y j) + md (ix2 2 j) * ∑ k, f k * g (ix2 0 k) * w (ix2 k j) := by
  pointwise [k0_pay23]
  refine congrArg (fun s => x (ix3 0 y j) + md (ix2 2 j) * s) (Finset.sum_congr rfl fun k _ => ?_)
  refine congrArg (fun s => s * g (ix2 0 k) * w (ix2 k j)) ?_
  have hk := k.isLt
  by_cases c0 : k.val < 128
  · rw [dif_pos c0]
    exact (h0 _).trans (congrArg f (Fin.ext (by show 0 + (k.val) = k.val; omega)))
  rw [dif_neg c0]
  by_cases c1 : k.val - 128 < 128
  · rw [dif_pos c1]
    exact (h1 _).trans (congrArg f (Fin.ext (by show 128 + (k.val - 128) = k.val; omega)))
  rw [dif_neg c1]
  by_cases c2 : k.val - 128 - 128 < 128
  · rw [dif_pos c2]
    exact (h2 _).trans (congrArg f (Fin.ext (by show 256 + (k.val - 128 - 128) = k.val; omega)))
  rw [dif_neg c2]
  by_cases c3 : k.val - 128 - 128 - 128 < 128
  · rw [dif_pos c3]
    exact (h3 _).trans (congrArg f (Fin.ext (by show 384 + (k.val - 128 - 128 - 128) = k.val; omega)))
  rw [dif_neg c3]
  by_cases c4 : k.val - 128 - 128 - 128 - 128 < 128
  · rw [dif_pos c4]
    exact (h4 _).trans (congrArg f (Fin.ext (by show 512 + (k.val - 128 - 128 - 128 - 128) = k.val; omega)))
  rw [dif_neg c4]
  by_cases c5 : k.val - 128 - 128 - 128 - 128 - 128 < 128
  · rw [dif_pos c5]
    exact (h5 _).trans (congrArg f (Fin.ext (by show 640 + (k.val - 128 - 128 - 128 - 128 - 128) = k.val; omega)))
  rw [dif_neg c5]
  by_cases c6 : k.val - 128 - 128 - 128 - 128 - 128 - 128 < 128
  · rw [dif_pos c6]
    exact (h6 _).trans (congrArg f (Fin.ext (by show 768 + (k.val - 128 - 128 - 128 - 128 - 128 - 128) = k.val; omega)))
  rw [dif_neg c6]
  exact (h7 ⟨k.val - 128 - 128 - 128 - 128 - 128 - 128 - 128, by omega⟩).trans (congrArg f (Fin.ext (by show 896 + (k.val - 128 - 128 - 128 - 128 - 128 - 128 - 128) = k.val; omega)))

/-- The three mixers' outputs side by side. -/
def beside (a : Fin 256 → EReal) (b c : Fin 384 → EReal) (j : Fin 1024) : EReal :=
  if h : j.val < 256 then a ⟨j.val, h⟩ else if h : j.val - 256 < 384 then b ⟨j.val - 256, h⟩ else c ⟨j.val - 256 - 384, by omega⟩

theorem mix_apply (x : FVec Ideal S1x512x256 .f32) (x2 x3 : FVec Ideal S1x512x384 .bf16) (j : Fin 1024) :
    (k0_pay3 (F := Ideal) x x2 x3 : S512x1024.Idx → EReal) (ix2 y j) = beside (fun k => x (ix3 0 y k)) (fun k => x2 (ix3 0 y k)) (fun k => x3 (ix3 0 y k)) j := by
  pointwise [k0_pay3]
  rfl

/-- The gate, shift and scale are rows of the modulation. -/
theorem md_apply (md : Vec Ideal S1x6x1024 .f32) (i : Fin 6) (j : Fin 1024) : (k0_pay2 (F := Ideal) md : S6x1024.Idx → EReal) (ix2 i j) = md (ix3 0 i j) := by
  pointwise [k0_pay2]

/-- A lane normalised by the root of the mean square of its head's 64 lanes. -/
def headed (v : Fin 1024 → EReal) (k : Fin 1024) : EReal :=
  v k * Ideal.rsqrt (Ideal.div (∑ d : Fin 64, v ⟨k.val / 64 * 64 + d.val, by omega⟩ * v ⟨k.val / 64 * 64 + d.val, by omega⟩) (Ideal.ofBits .f32 0x42800000#32)
    + Ideal.ofBits .f32 0x358637BD#32)

theorem half_sum (u : Fin 128 → EReal) (c : Fin 128) :
    ∑ l, u l * pair l c = ∑ d : Fin 64, u ⟨c.val / 64 * 64 + d.val, by omega⟩ := by
  have hs : (∑ l : Fin 128, u l * pair l c) = (∑ d : Fin 64, u ⟨d.val, by omega⟩ * pair ⟨d.val, by omega⟩ c) + ∑ d : Fin 64, u ⟨64 + d.val, by omega⟩ * pair ⟨64 + d.val, by omega⟩ c :=
    Fin.sum_univ_add (a := 64) (b := 64) (fun l : Fin 128 => u l * pair l c)
  rw [hs]
  by_cases h : c.val < 64
  · have e : c.val / 64 = 0 := by omega
    have z : ∑ d : Fin 64, u ⟨64 + d.val, by omega⟩ * pair ⟨64 + d.val, by omega⟩ c = 0 := Finset.sum_eq_zero fun d _ => by
      rw [show pair ⟨64 + d.val, by omega⟩ c = 0 from if_neg (by show ¬ (64 + d.val) / 64 = c.val / 64; omega), mul_zero]
    rw [z, add_zero]
    refine Finset.sum_congr rfl fun d _ => ?_
    rw [show pair ⟨d.val, by omega⟩ c = 1 from if_pos (by show d.val / 64 = c.val / 64; omega), mul_one]
    exact congrArg u (Fin.ext (by show d.val = c.val / 64 * 64 + d.val; omega))
  · have e : c.val / 64 = 1 := by omega
    have z : ∑ d : Fin 64, u ⟨d.val, by omega⟩ * pair ⟨d.val, by omega⟩ c = 0 := Finset.sum_eq_zero fun d _ => by
      rw [show pair ⟨d.val, by omega⟩ c = 0 from if_neg (by show ¬ d.val / 64 = c.val / 64; omega), mul_zero]
    rw [z, zero_add]
    refine Finset.sum_congr rfl fun d _ => ?_
    rw [show pair ⟨64 + d.val, by omega⟩ c = 1 from if_pos (by show (64 + d.val) / 64 = c.val / 64; omega), mul_one]
    exact congrArg u (Fin.ext (by show 64 + d.val = c.val / 64 * 64 + d.val; omega))

theorem mean_eq (s : EReal) : s * Ideal.ofBits .f32 0x3C800000#32 = Ideal.div s (Ideal.ofBits .f32 0x42800000#32) := by
  have e : Ideal.ofBits .f32 0x3C800000#32 = (((1 : ℝ) / 64 : ℝ) : EReal) := by
    simp [Ideal.ofBits, Ideal.ieee, -EReal.coe_mul]
    norm_num
  have e2 : Ideal.ofBits .f32 0x42800000#32 = ((64 : ℝ) : EReal) := by
    simp [Ideal.ofBits, Ideal.ieee, -EReal.coe_mul]
    norm_num
  rw [e, e2]
  unfold Ideal.div
  rw [if_neg (by exact_mod_cast (by norm_num : (64 : ℝ) ≠ 0)), ← EReal.coe_inv]
  norm_num

/-- For finite lanes the low parts of the squares are nothing, and the two sums with the pair matrix are one over the head. -/
theorem blockNorm_eq (v : Fin 1024 → EReal) (hv : ∀ k, v k ≠ ⊤ ∧ v k ≠ ⊥) (q : ℕ) (o : ℕ) (ho : o + 128 ≤ 1024) (hq : o = q * 128) (c : Fin 128) :
    blockNorm v pair o ho c = headed v ⟨o + c.val, by omega⟩ := by
  have z : ∀ k, v k * v k - v k * v k = 0 := fun k => by
    obtain ⟨r, hr⟩ : ∃ r : ℝ, v k = r := ⟨(v k).toReal, (EReal.coe_toReal (hv k).1 (hv k).2).symm⟩
    rw [hr, ← EReal.coe_mul, ← EReal.coe_sub, sub_self, EReal.coe_zero]
  unfold blockNorm headed
  rw [Finset.sum_eq_zero (f := fun l : Fin 128 => (v ⟨o + l.val, by omega⟩ * v ⟨o + l.val, by omega⟩ - v ⟨o + l.val, by omega⟩ * v ⟨o + l.val, by omega⟩) * pair l c)
    (fun l _ => by rw [z, zero_mul]), add_zero, mean_eq, half_sum (fun l => v ⟨o + l.val, by omega⟩ * v ⟨o + l.val, by omega⟩) c]
  have e : ∀ d : Fin 64, (⟨o + (c.val / 64 * 64 + d.val), by omega⟩ : Fin 1024) = ⟨(o + c.val) / 64 * 64 + d.val, by omega⟩ := fun d =>
    Fin.ext (by show o + (c.val / 64 * 64 + d.val) = (o + c.val) / 64 * 64 + d.val; omega)
  refine congrArg (fun s => v ⟨o + c.val, by omega⟩ * Ideal.rsqrt (Ideal.div s _ + _)) (Finset.sum_congr rfl fun d _ => ?_)
  show v ⟨o + (c.val / 64 * 64 + d.val), by omega⟩ * v ⟨o + (c.val / 64 * 64 + d.val), by omega⟩ = _
  rw [e d]

theorem h2_apply (md : FVec Ideal S6x1024 .f32) (a0 a1 a2 a3 a4 a5 a6 a7 a8 : FVec Ideal S512x128 .f32) (g : Vec Ideal S1x1024 .f32) (x : Vec Ideal S1x512x1024 .f32) (w : Vec Ideal S1024x1024 .bf16) (j : Fin 1024) :
    (k0_pay28 (k0_pay25 (F := Ideal) md a0 a1 a2 a3 a4 a5 a6 a7 a8 g x w) : S1x512x1024.Idx → EReal) (ix3 0 y j)
      = Cert.Projection.normed (fun k => (k0_pay23 (F := Ideal) md a0 a1 a2 a3 a4 a5 a6 a7 a8 g x w : S512x1024.Idx → EReal) (ix2 y k)) (fun k => md (ix2 4 k)) (fun k => md (ix2 3 k)) j := by
  pointwise [k0_pay28, k0_pay25]
  rfl
theorem xn_apply (md : FVec Ideal S6x1024 .f32) (a0 a1 a2 a3 a4 a5 a6 a7 a8 : FVec Ideal S512x128 .f32) (g : Vec Ideal S1x1024 .f32) (x : Vec Ideal S1x512x1024 .f32) (w : Vec Ideal S1024x1024 .bf16) (j : Fin 1024) :
    (k0_pay24 (F := Ideal) md a0 a1 a2 a3 a4 a5 a6 a7 a8 g x w : S1x512x1024.Idx → EReal) (ix3 0 y j)
      = (k0_pay23 (F := Ideal) md a0 a1 a2 a3 a4 a5 a6 a7 a8 g x w : S512x1024.Idx → EReal) (ix2 y j) := by
  pointwise [k0_pay24]

end Cert.Post

end
-- ==== Proof.PostRows.lean ====
/- The call after the mixers: its two arrays of rows. -/
module

public import proofs.«01_k».proof.Proof.PostBody
public import proofs.«01_k».proof.Proof.Gen.Kernel4Ideal.Frame

@[expose] public section

set_option maxRecDepth 16384

noncomputable section

namespace Cert.Post

open Cert.Kernel4Ideal Cert.Kernel4Ideal.Gen Idealize.ShloMosaic Idealize.ShloMosaic.TcCoe Idealize.SL.Sem
open Cert.Projection (normed)

theorem zero2 : (![0, 0] : Fin 2 → Nat) = fun _ => 0 := by funext a; fin_cases a <;> rfl
theorem zero3 : (![0, 0, 0] : Fin 3 → Nat) = fun _ => 0 := by funext a; fin_cases a <;> rfl

variable (m : (ℓ : Loc nD τ sig) → Buf (Elt Ideal) ℓ) (c : Dev nD)

/-- A step: eight blocks of 512 positions for each sequence. -/
theorem place : ∀ t : Fin cfg0.N, cc0_transform_0 (grid0.coords t) = ![t.val / 8, t.val % 8, 0] := by decide +kernel

def seq (t : Fin cfg0.N) : Fin 8 := ⟨t.val / 8, by have h : t.val < 64 := t.isLt; omega⟩
def pos (t : Fin cfg0.N) (y : Fin 512) : Fin 4096 := ⟨t.val % 8 * 512 + y.val, by omega⟩

theorem x_read (t : Fin cfg0.N) (y : Fin 512) (k : Fin 1024) :
    (iblk m c 0 t : S1x512x1024.Idx → EReal) (ix3 0 y k) = (V m c main_arg0 : S8x4096x1024.Idx → EReal) (ix3 (seq t) (pos t y) k) := by
  have e := place t
  refine congrArg (V m c main_arg0 : S8x4096x1024.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 1024 + 1 * k.val = k.val
    omega

theorem ml_read (t : Fin cfg0.N) (y : Fin 512) (k : Fin 256) :
    (iblk m c 1 t : S1x512x256.Idx → EReal) (ix3 0 y k) = (V m c main_arg1 : S8x4096x256.Idx → EReal) (ix3 (seq t) (pos t y) k) := by
  have e := place t
  refine congrArg (V m c main_arg1 : S8x4096x256.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 256 + 1 * k.val = k.val
    omega

theorem dil_read (t : Fin cfg0.N) (y : Fin 512) (k : Fin 384) :
    (iblk m c 2 t : S1x512x384.Idx → EReal) (ix3 0 y k) = (V m c main_arg2 : S8x4096x384.Idx → EReal) (ix3 (seq t) (pos t y) k) := by
  have e := place t
  refine congrArg (V m c main_arg2 : S8x4096x384.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 384 + 1 * k.val = k.val
    omega

theorem sb_read (t : Fin cfg0.N) (y : Fin 512) (k : Fin 384) :
    (iblk m c 3 t : S1x512x384.Idx → EReal) (ix3 0 y k) = (V m c main_arg3 : S8x4096x384.Idx → EReal) (ix3 (seq t) (pos t y) k) := by
  have e := place t
  refine congrArg (V m c main_arg3 : S8x4096x384.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 384 + 1 * k.val = k.val
    omega

theorem mod_read (t : Fin cfg0.N) (i : Fin 6) (k : Fin 1024) :
    (iblk m c 4 t : S1x6x1024.Idx → EReal) (ix3 0 i k) = (V m c main_v19 : S8x6x1024.Idx → EReal) (ix3 (seq t) i k) := by
  have e := place t
  refine congrArg (V m c main_v19 : S8x6x1024.Idx → EReal) (funext fun a => Fin.ext ?_)
  fin_cases a
  · show cc0_transform_0 (grid0.coords t) 0 * 1 + 1 * 0 = t.val / 8
    exact (congrArg (· * 1 + 1 * 0) (congrFun e 0)).trans (by show t.val / 8 * 1 + 1 * 0 = _; omega)
  · show 0 * 6 + 1 * i.val = i.val
    omega
  · show 0 * 1024 + 1 * k.val = k.val
    omega

theorem g_read (t : Fin cfg0.N) (k : Fin 1024) :
    (iblk m c 5 t : S1x1024.Idx → EReal) (ix2 0 k) = (V m c main_v22 : S1x1024.Idx → EReal) (ix2 0 k) := by
  refine congrArg (V m c main_v22 : S1x1024.Idx → EReal) (funext fun a => Fin.ext ?_)
  fin_cases a
  · rfl
  · show 0 * 1024 + 1 * k.val = k.val
    omega

theorem w_read (t : Fin cfg0.N) (k j : Fin 1024) :
    (iblk m c 6 t : S1024x1024.Idx → EReal) (ix2 k j) = (V m c main_v25 : S1024x1024.Idx → EReal) (ix2 k j) := by
  refine congrArg (V m c main_v25 : S1024x1024.Idx → EReal) (funext fun a => Fin.ext ?_)
  fin_cases a
  · show 0 * 1024 + 1 * k.val = k.val
    omega
  · show 0 * 1024 + 1 * j.val = j.val
    omega

/-- A position's three outputs side by side. -/
def outs (b : Fin 8) (s : Fin 4096) : Fin 1024 → EReal :=
  beside (fun k => (V m c main_arg1 : S8x4096x256.Idx → EReal) (ix3 b s k)) (fun k => (V m c main_arg2 : S8x4096x384.Idx → EReal) (ix3 b s k))
    (fun k => (V m c main_arg3 : S8x4096x384.Idx → EReal) (ix3 b s k))

/-- None of them is infinite. -/
def Finite : Prop := ∀ b s k, outs m c b s k ≠ ⊤ ∧ outs m c b s k ≠ ⊥

/-- The arrays the step reads besides, as extended reals. -/
def vX : S8x4096x1024.Idx → EReal := V m c main_arg0
def vMod : S8x6x1024.Idx → EReal := V m c main_v19
def vG : S1x1024.Idx → EReal := V m c main_v22
def vW : S1024x1024.Idx → EReal := V m c main_v25

theorem normed_congr {x x' sc sc' sh sh' : Fin 1024 → EReal} (e : x = x') (e1 : sc = sc') (e2 : sh = sh') : normed x sc sh = normed x' sc' sh' := by
  rw [e, e1, e2]

/-- The residual after the gated output projection. -/
def xn : S8x4096x1024.Idx → EReal := fun i =>
  vX m c (ix3 (i 0) (i 1) (i 2)) + vMod m c (ix3 (i 0) 2 (i 2)) * ∑ k, headed (outs m c (i 0) (i 1)) k * vG m c (ix2 0 k) * vW m c (ix2 k (i 2))

/-- The second modulated norm of it. -/
def h2 : S8x4096x1024.Idx → EReal := fun i =>
  normed (fun k => xn m c (ix3 (i 0) (i 1) k)) (fun k => vMod m c (ix3 (i 0) 4 k)) (fun k => vMod m c (ix3 (i 0) 3 k)) (i 2)

/-- The step's block of outputs, the eight blocks of lanes of its norm, and the residual they give. -/
theorem outs_step (x1 : Vec Ideal S1x512x256 .f32) (x2 x3 : Vec Ideal S1x512x384 .bf16) (t : Fin cfg0.N) (y : Fin 512)
    (e1 : x1 = iblk m c 1 t) (e2 : x2 = iblk m c 2 t) (e3 : x3 = iblk m c 3 t) (k : Fin 1024) :
    (k0_pay3 (F := Ideal) (View.ld x1 r0_1) (View.ld x2 r0_2) (View.ld x3 r0_2) : S512x1024.Idx → EReal) (ix2 y k) = outs m c (seq t) (pos t y) k := by
  subst e1 e2 e3
  refine (mix_apply y _ _ _ k).trans ?_
  unfold outs
  congr 1
  · exact funext fun k => (congrFun (View.ld_unit_zero zero3 _ _) _).trans (ml_read m c t y k)
  · exact funext fun k => (congrFun (View.ld_unit_zero zero3 _ _) _).trans (dil_read m c t y k)
  · exact funext fun k => (congrFun (View.ld_unit_zero zero3 _ _) _).trans (sb_read m c t y k)

/-- One block of lanes of a step. -/
theorem block_step (v : FVec Ideal S512x1024 .f32) (y : Fin 512) (u : Fin 1024 → EReal) (hv : ∀ k, v (ix2 y k) = u k) (hu : ∀ k, u k ≠ ⊤ ∧ u k ≠ ⊥)
    (q o : ℕ) (ho : o + 128 ≤ 1024) (hq : o = q * 128) (k : Fin 128) :
    blockNorm (fun k => v (ix2 y k)) (fun l c => (pairs : S128x128.Idx → EReal) (ix2 l c)) o ho k = headed u ⟨o + k.val, by omega⟩ := by
  rw [show (fun k => v (ix2 y k)) = u from funext hv, show (fun l c => (pairs : S128x128.Idx → EReal) (ix2 l c)) = pair from funext fun l => funext fun c => pairs_apply l c]
  exact blockNorm_eq u hu q o ho hq k

theorem resid_step (hf : Finite m c) (x0 : Vec Ideal S1x512x1024 .f32) (x1 : Vec Ideal S1x512x256 .f32) (x2 x3 : Vec Ideal S1x512x384 .bf16) (x4 : Vec Ideal S1x6x1024 .f32)
    (x5 : Vec Ideal S1x1024 .f32) (x6 : Vec Ideal S1024x1024 .bf16) (x7 x8 : Vec Ideal S1024x128 .bf16) (x9 : Vec Ideal S4x8x128 .f32) (t : Fin cfg0.N) (y : Fin 512)
    (e0 : x0 = iblk m c 0 t) (e1 : x1 = iblk m c 1 t) (e2 : x2 = iblk m c 2 t) (e3 : x3 = iblk m c 3 t) (e4 : x4 = iblk m c 4 t) (e5 : x5 = iblk m c 5 t) (e6 : x6 = iblk m c 6 t) (j : Fin 1024) :
    (k0_pay23 (F := Ideal) (k0_pay76 x0 x1 x2 x3 x4 x5 x6 x7 x8 x9) (k0_pay81 x0 x1 x2 x3 x4 x5 x6 x7 x8 x9) (k0_pay82 x0 x1 x2 x3 x4 x5 x6 x7 x8 x9) (k0_pay83 x0 x1 x2 x3 x4 x5 x6 x7 x8 x9)
        (k0_pay84 x0 x1 x2 x3 x4 x5 x6 x7 x8 x9) (k0_pay85 x0 x1 x2 x3 x4 x5 x6 x7 x8 x9) (k0_pay86 x0 x1 x2 x3 x4 x5 x6 x7 x8 x9) (k0_pay87 x0 x1 x2 x3 x4 x5 x6 x7 x8 x9)
        (k0_pay88 x0 x1 x2 x3 x4 x5 x6 x7 x8 x9) (k0_pay89 x0 x1 x2 x3 x4 x5 x6 x7 x8 x9) (View.ld x5 r0_3) (View.ld x0 r0_4) (View.ld x6 r0_5) : S512x1024.Idx → EReal) (ix2 y j)
      = xn m c (ix3 (seq t) (pos t y) j) := by
  have hv := outs_step m c x1 x2 x3 t y e1 e2 e3
  have hu := hf (seq t) (pos t y)
  subst e0 e4 e5 e6
  refine (resid_apply y _ _ _ _ _ _ _ _ _ _ _ _ _ j (headed (outs m c (seq t) (pos t y)))
    (fun k => (block0 _ y k).trans (block_step _ y _ hv hu 0 0 (by decide) rfl k)) (fun k => (block1 _ y k).trans (block_step _ y _ hv hu 1 128 (by decide) rfl k))
    (fun k => (block2 _ _ y k).trans (block_step _ y _ hv hu 2 256 (by decide) rfl k)) (fun k => (block3 _ _ y k).trans (block_step _ y _ hv hu 3 384 (by decide) rfl k))
    (fun k => (block4 _ _ y k).trans (block_step _ y _ hv hu 4 512 (by decide) rfl k)) (fun k => (block5 _ _ y k).trans (block_step _ y _ hv hu 5 640 (by decide) rfl k))
    (fun k => (block6 _ _ y k).trans (block_step _ y _ hv hu 6 768 (by decide) rfl k)) (fun k => (block7 _ _ y k).trans (block_step _ y _ hv hu 7 896 (by decide) rfl k))).trans ?_
  unfold xn
  refine congrArg₂ (· + ·) ((congrFun (View.ld_unit_zero zero3 _ _) _).trans (x_read m c t y j)) (congrArg₂ (· * ·) ?_ (Finset.sum_congr rfl fun k _ => congrArg₂ (· * ·) (congrArg₂ (· * ·) rfl ?_) ?_))
  · exact (md_apply _ 2 j).trans ((congrFun (View.ld_unit_zero zero3 _ _) _).trans (mod_read m c t 2 j))
  · exact (congrFun (View.ld_unit_zero zero2 _ _) _).trans (g_read m c t k)
  · exact (congrFun (View.ld_unit_zero zero2 _ _) _).trans (w_read m c t k j)

theorem xn_step (hf : Finite m c) (t : Fin cfg0.N) (y : Fin 512) (j : Fin 1024) :
    ((dats m 0 c).after 10 t : S1x512x1024.Idx → EReal) (ix3 0 y j) = xn m c (ix3 (seq t) (pos t y) j) := by
  rw [after0_10]
  unfold out0_10
  refine (congrFun (View.canon_unit_zero zero3 _ _) _).trans ?_
  exact (xn_apply y _ _ _ _ _ _ _ _ _ _ _ _ _ j).trans (resid_step m c hf _ _ _ _ _ _ _ _ _ _ t y rfl rfl rfl rfl rfl rfl rfl j)

theorem h2_step (hf : Finite m c) (t : Fin cfg0.N) (y : Fin 512) (j : Fin 1024) :
    ((dats m 0 c).after 11 t : S1x512x1024.Idx → EReal) (ix3 0 y j) = h2 m c (ix3 (seq t) (pos t y) j) := by
  rw [after0_11]
  unfold out0_11
  refine (congrFun (View.canon_unit_zero zero3 _ _) _).trans ?_
  refine (h2_apply y _ _ _ _ _ _ _ _ _ _ _ _ _ j).trans ?_
  unfold h2
  refine congrFun (normed_congr (funext fun k => ?_) (funext fun k => ?_) (funext fun k => ?_)) j
  · exact resid_step m c hf _ _ _ _ _ _ _ _ _ _ t y rfl rfl rfl rfl rfl rfl rfl k
  · exact (md_apply _ 4 k).trans ((congrFun (View.ld_unit_zero zero3 _ _) _).trans (mod_read m c t 4 k))
  · exact (md_apply _ 3 k).trans ((congrFun (View.ld_unit_zero zero3 _ _) _).trans (mod_read m c t 3 k))

theorem xn_at (t : Fin cfg0.N) (y : S1x512x1024.Idx) :
    (((cfg0.win 10).blk t).view.emb y : S8x4096x1024.Idx) = ix3 (seq t) (pos t (y 1)) (y 2) := by
  have e := place t
  funext a
  have ea := congrFun e a
  refine Fin.ext ?_
  fin_cases a
  · show cc0_transform_0 (grid0.coords t) 0 * 1 + 1 * (y 0).val = t.val / 8
    have h : (y 0).val < 1 := (y 0).isLt
    exact (congrArg (· * 1 + 1 * (y 0).val) ea).trans (by show t.val / 8 * 1 + 1 * (y 0).val = _; omega)
  · show cc0_transform_0 (grid0.coords t) 1 * 512 + 1 * (y 1).val = t.val % 8 * 512 + (y 1).val
    exact (congrArg (· * 512 + 1 * (y 1).val) ea).trans (by show t.val % 8 * 512 + 1 * (y 1).val = _; omega)
  · show 0 * 1024 + 1 * (y 2).val = (y 2).val
    omega

theorem xn_value (hf : Finite m c) : ((dats m 0 c).arrAt 10 cfg0.N : S8x4096x1024.Idx → EReal) = xn m c := by
  refine (dats m 0 c).arrAt_eq_of_emb 10 (xn m c) (fun t _ y => ?_) (fun i => ?_)
  · refine Eq.trans ?_ (congrArg (xn m c) (xn_at t y)).symm
    refine Eq.trans ?_ (xn_step m c hf t (y 1) (y 2))
    show ((dats m 0 c).after 10 t : S1x512x1024.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg0.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush0_10 t, ?_⟩
    have he : ((cfg0.win 10).blk t).view.emb (ix3 0 r (i 2) : S1x512x1024.Idx) = i := by
      refine (xn_at t _).trans ?_
      funext a
      refine Fin.ext ?_
      fin_cases a
      · show t.val / 8 = (i 0).val
        omega
      · show t.val % 8 * 512 + r.val = (i 1).val
        omega
      · rfl
    exact Eq.mp (congrArg (fun j => j ∈ ((cfg0.win 10).blk t).view.set) he) (((cfg0.win 10).blk t).view.emb_mem_set (ix3 0 r (i 2) : S1x512x1024.Idx))

theorem h2_at (t : Fin cfg0.N) (y : S1x512x1024.Idx) :
    (((cfg0.win 11).blk t).view.emb y : S8x4096x1024.Idx) = ix3 (seq t) (pos t (y 1)) (y 2) := by
  have e := place t
  funext a
  have ea := congrFun e a
  refine Fin.ext ?_
  fin_cases a
  · show cc0_transform_0 (grid0.coords t) 0 * 1 + 1 * (y 0).val = t.val / 8
    have h : (y 0).val < 1 := (y 0).isLt
    exact (congrArg (· * 1 + 1 * (y 0).val) ea).trans (by show t.val / 8 * 1 + 1 * (y 0).val = _; omega)
  · show cc0_transform_0 (grid0.coords t) 1 * 512 + 1 * (y 1).val = t.val % 8 * 512 + (y 1).val
    exact (congrArg (· * 512 + 1 * (y 1).val) ea).trans (by show t.val % 8 * 512 + 1 * (y 1).val = _; omega)
  · show 0 * 1024 + 1 * (y 2).val = (y 2).val
    omega

theorem h2_value (hf : Finite m c) : ((dats m 0 c).arrAt 11 cfg0.N : S8x4096x1024.Idx → EReal) = h2 m c := by
  refine (dats m 0 c).arrAt_eq_of_emb 11 (h2 m c) (fun t _ y => ?_) (fun i => ?_)
  · refine Eq.trans ?_ (congrArg (h2 m c) (h2_at t y)).symm
    refine Eq.trans ?_ (h2_step m c hf t (y 1) (y 2))
    show ((dats m 0 c).after 11 t : S1x512x1024.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg0.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush0_11 t, ?_⟩
    have he : ((cfg0.win 11).blk t).view.emb (ix3 0 r (i 2) : S1x512x1024.Idx) = i := by
      refine (h2_at t _).trans ?_
      funext a
      refine Fin.ext ?_
      fin_cases a
      · show t.val / 8 = (i 0).val
        omega
      · show t.val % 8 * 512 + r.val = (i 1).val
        omega
      · rfl
    exact Eq.mp (congrArg (fun j => j ∈ ((cfg0.win 11).blk t).view.set) he) (((cfg0.win 11).blk t).view.emb_mem_set (ix3 0 r (i 2) : S1x512x1024.Idx))

end Cert.Post

end
-- ==== Proof.PostRef.lean ====
/- The plain mathematics after the mixers, entry by entry. -/
module

public import proofs.«01_k».proof.Proof.PostBody
public import proofs.«01_k».proof.Proof.Gen.Reference4Ideal.Run

@[expose] public section

set_option maxRecDepth 16384

noncomputable section

namespace Cert.Post.Ref

open Cert.Reference4Ideal Cert.Reference4Ideal.Gen Idealize.ShloMosaic Idealize.SL.Sem

variable (x : FVec Ideal S8x4096x1024 .f32) (a : FVec Ideal S8x4096x256 .f32) (b c : FVec Ideal S8x4096x384 .bf16)
  (md : FVec Ideal S8x6144 .f32) (g : FVec Ideal S2x1024 .f32) (w : FVec Ideal S2x1024x1024 .f32)

/-- The sixteen heads. -/
def heads : FVec Ideal S8x16x4096x64 .f32 :=
  concatenate S8x16x4096x64 1 [⟨S8x4x4096x64, transpose S8x4x4096x64 [0, 2, 1, 3] (shapeCast S8x4096x4x64 a shapeCasts_S8x4096x256_S8x4096x4x64) transposes_S8x4096x4x64_S8x4x4096x64_0_2_1_3⟩,
    ⟨S8x6x4096x64, transpose S8x6x4096x64 [0, 2, 1, 3] (shapeCast S8x4096x6x64 (extf .f32 b bitsLt_bf16_f32) shapeCasts_S8x4096x384_S8x4096x6x64) transposes_S8x4096x6x64_S8x6x4096x64_0_2_1_3⟩,
    ⟨S8x6x4096x64, transpose S8x6x4096x64 [0, 2, 1, 3] (shapeCast S8x4096x6x64 (extf .f32 c bitsLt_bf16_f32) shapeCasts_S8x4096x384_S8x4096x6x64) transposes_S8x4096x6x64_S8x6x4096x64_0_2_1_3⟩]
    concatenates_S8x4x4096x64_S8x6x4096x64_S8x6x4096x64_S8x16x4096x64_d1

/-- A position's three outputs side by side. -/
def outs (q : Fin 8) (s : Fin 4096) : Fin 1024 → EReal :=
  beside (fun k => a (ix3 q s k)) (fun k => b (ix3 q s k)) (fun k => c (ix3 q s k))

theorem heads_apply (q : Fin 8) (h : Fin 16) (s : Fin 4096) (d : Fin 64) :
    (heads a b c : S8x16x4096x64.Idx → EReal) (ix4 q h s d) = outs a b c q s ⟨h.val * 64 + d.val, by omega⟩ := by
  pointwise [heads]
  unfold outs beside
  dsimp only
  by_cases h1 : h.val < 4
  · rw [dif_pos h1, dif_pos (show h.val * 64 + d.val < 256 from by omega)]
  · rw [dif_neg h1, dif_neg (show ¬ h.val * 64 + d.val < 256 from by omega)]
    by_cases h2 : h.val - 4 < 6
    · rw [dif_pos h2, dif_pos (show h.val * 64 + d.val - 256 < 384 from by omega)]
      exact congrArg (fun k => b (ix3 q s k)) (Fin.ext (by show (h.val - 4) * 64 + d.val = h.val * 64 + d.val - 256; omega))
    · rw [dif_neg h2, dif_neg (show ¬ h.val * 64 + d.val - 256 < 384 from by omega)]
      exact congrArg (fun k => c (ix3 q s k)) (Fin.ext (by show (h.val - 4 - 6) * 64 + d.val = h.val * 64 + d.val - 256 - 384; omega))

variable (e : FVec Ideal S8x16x4096x64 .f32)

/-- The norm of each head times its weights, heads side by side. -/
def scaled : FVec Ideal S8x4096x1024 .f32 :=
  shapeCast _ (transpose S8x4096x16x64 [0, 2, 1, 3] (mulf (mulf e (broadcastInDim S8x16x4096x64 ![0, 1, 2, 3] bcast_S8x16x4096x1_S8x16x4096x64_0_1_2_3 (Host.rsqrt (addf (Host.divf (broadcastInDim S8x16x4096x1 ![0, 1, 2] bcast_S8x16x4096_S8x16x4096x1_0_1_2 (Host.reduceAdd (mulf e e) (constant S_ .f32 0x00000000#32) reducesTo_S8x16x4096x64_S8x16x4096_d3 h_S_)) (broadcastInDim S8x16x4096x1 ![] bcast_S_S8x16x4096x1 (constant S_ .f32 0x42800000#32))) (broadcastInDim S8x16x4096x1 ![] bcast_S_S8x16x4096x1 (constant S_ .f32 0x358637BD#32))))))
    (broadcastInDim S8x16x4096x64 ![0, 1, 2, 3] bcast_S1x16x1x64_S8x16x4096x64_0_1_2_3 (broadcastInDim S1x16x1x64 ![1, 2, 3] bcast_S16x1x64_S1x16x1x64_1_2_3 (shapeCast S16x1x64 (shapeCast S1024 (extractStridedSlice S1x1024 ![0, 0] g slices_S2x1024_S1x1024_0_0) shapeCasts_S1x1024_S1024) shapeCasts_S1024_S16x1x64)))) transposes_S8x16x4096x64_S8x4096x16x64_0_2_1_3) shapeCasts_S8x4096x16x64_S8x4096x1024

/-- Each head normalised on its own, times the weights of the norm. -/
theorem scaled_apply (q : Fin 8) (s : Fin 4096) (k : Fin 1024) :
    (scaled g (heads a b c) : S8x4096x1024.Idx → EReal) (ix3 q s k) = headed (outs a b c q s) k * g (ix2 0 k) := by
  have h : ∀ e : FVec Ideal S8x16x4096x64 .f32, (scaled g e : S8x4096x1024.Idx → EReal) (ix3 q s k)
      = e (ix4 q ⟨k.val / 64, by omega⟩ s ⟨k.val % 64, by omega⟩) * Ideal.rsqrt (Ideal.div (∑ d : Fin 64, e (ix4 q ⟨k.val / 64, by omega⟩ s d) * e (ix4 q ⟨k.val / 64, by omega⟩ s d))
        (Ideal.ofBits .f32 0x42800000#32) + Ideal.ofBits .f32 0x358637BD#32) * g (ix2 0 k) := fun e => by
    pointwise [scaled]
  refine (h _).trans ?_
  unfold headed
  have e : ∀ d : Fin 64, (heads a b c : S8x16x4096x64.Idx → EReal) (ix4 q ⟨k.val / 64, by omega⟩ s d) = outs a b c q s ⟨k.val / 64 * 64 + d.val, by omega⟩ :=
    fun d => heads_apply a b c q ⟨k.val / 64, by omega⟩ s d
  simp only [e]
  rw [show (⟨k.val / 64 * 64 + k.val % 64, by omega⟩ : Fin 1024) = k from Fin.ext (by show k.val / 64 * 64 + k.val % 64 = k.val; omega)]

/-- The input plus the gated output projection. -/
def resid : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x6144_S8x1024_0_2048)))
    (Host.dotGeneral dot_S8x4096x1024_S1024x1024_S8x4096x1024_2_0_01_1_n_n none (scaled g (heads a b c)) (shapeCast _ (extractStridedSlice S1x1024x1024 ![0, 0, 0] w slices_S2x1024x1024_S1x1024x1024_0_0_0) shapeCasts_S1x1024x1024_S1024x1024)))

theorem resid_apply (q : Fin 8) (s : Fin 4096) (j : Fin 1024) :
    (resid x a b c md g w : S8x4096x1024.Idx → EReal) (ix3 q s j)
      = x (ix3 q s j) + md (ix2 q ⟨2048 + j.val, by omega⟩) * ∑ k, (scaled g (heads a b c) : S8x4096x1024.Idx → EReal) (ix3 q s k) * w (ix3 0 k j) := by
  pointwise [resid]

variable (r : FVec Ideal S8x4096x1024 .f32)

/-- The second modulated norm. -/
def second : FVec Ideal S8x4096x1024 .f32 :=
  addf (mulf (mulf r (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf r r) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] md slices_S8x6144_S8x1024_0_4096)))))
    (broadcastInDim S8x4096x1024 ![0, 1, 2] bcast_S8x1x1024_S8x4096x1024_0_1_2 (broadcastInDim S8x1x1024 ![0, 2] bcast_S8x1024_S8x1x1024_0_2 (extractStridedSlice S8x1024 ![0, 3072] md slices_S8x6144_S8x1024_0_3072)))

theorem second_apply (q : Fin 8) (s : Fin 4096) (j : Fin 1024) :
    (second md r : S8x4096x1024.Idx → EReal) (ix3 q s j)
      = Cert.Projection.normed (fun k => r (ix3 q s k)) (fun k => md (ix2 q ⟨4096 + k.val, by omega⟩)) (fun k => md (ix2 q ⟨3072 + k.val, by omega⟩)) j := by
  pointwise [second]
  rfl

end Cert.Post.Ref

end
-- ==== Proof.PostMain.lean ====
/- The two arrays the call after the mixers leaves are the plain mathematics. -/
module

public import proofs.«01_k».proof.Defs
public import proofs.«01_k».proof.Proof.PostRows
public import proofs.«01_k».proof.Proof.PostRef
public import proofs.«01_k».proof.Proof.Pre
public import proofs.«01_k».proof.Proof.Gen.Pre_mixed
public import Idealize.ShloMosaic.Lib.StableHlo.ReadAt

@[expose] public section

set_option maxRecDepth 16384

noncomputable section

namespace Cert.Post

open Cert.Kernel4Ideal Cert.Kernel4Ideal.Gen Idealize.ShloMosaic Idealize.ShloMosaic.TcCoe Idealize.ShloMosaic.StableHlo Idealize.SL.Sem

/-- The precondition: no entry of the three mixers' outputs is infinite. -/
theorem of_pre (x0 : FVec Ideal S8x4096x1024 .f32) (x1 : FVec Ideal S8x4096x256 .f32) (x2 x3 : FVec Ideal S8x4096x384 .bf16) (x4 : FVec Ideal Cert.Pre_mixed.S8x6144 .f32)
    (x5 : FVec Ideal Cert.Pre_mixed.S2x1024 .f32) (x6 : FVec Ideal Cert.Pre_mixed.S2x1024x1024 .f32) (x7 : FVec Ideal Cert.Pre_mixed.S1024x16 .f32) (x8 : FVec Ideal Cert.Pre_mixed.S16 .f32)
    (h : ∀ j, Cert.Pre_mixed.fn (F := Ideal) x0 x1 x2 x3 x4 x5 x6 x7 x8 j = 1#1) :
    (∀ i, Cert.Mlstm.IsR (x1 i)) ∧ (∀ i, Cert.Mlstm.IsR (x2 i)) ∧ (∀ i, Cert.Mlstm.IsR (x3 i)) := by
  have j : Cert.Pre_mixed.S_.Idx := fun i => i.elim0
  have h3 := IntOp.andi_eq_one.1 (h j)
  have h2 := IntOp.andi_eq_one.1 h3.1
  exact ⟨Cert.Mlstm.Pre.all_isR x1 _ _ _ j h2.1, Cert.Mlstm.Pre.all_isR (extf .f32 x2 _) _ _ _ j h2.2, Cert.Mlstm.Pre.all_isR (extf .f32 x3 _) _ _ _ j h3.2⟩

theorem not_inf {x : EReal} (h : Cert.Mlstm.IsR x) : x ≠ ⊤ ∧ x ≠ ⊥ := by
  obtain ⟨r, rfl⟩ := h
  exact ⟨EReal.coe_ne_top r, EReal.coe_ne_bot r⟩

variable (m : (ℓ : Loc nD τ sig) → Buf (Elt Ideal) ℓ) (c : Dev nD)

abbrev inX : FVec Ideal S8x4096x1024 .f32 := m ((c : Thread nD τ).loc main_arg0)
abbrev inA : FVec Ideal S8x4096x256 .f32 := m ((c : Thread nD τ).loc main_arg1)
abbrev inB : FVec Ideal S8x4096x384 .bf16 := m ((c : Thread nD τ).loc main_arg2)
abbrev inC : FVec Ideal S8x4096x384 .bf16 := m ((c : Thread nD τ).loc main_arg3)
abbrev inM : FVec Ideal Cert.Reference4Ideal.S8x6144 .f32 := m ((c : Thread nD τ).loc main_arg4)
abbrev inG : FVec Ideal S2x1024 .f32 := m ((c : Thread nD τ).loc main_arg5)
abbrev inW : FVec Ideal S2x1024x1024 .f32 := m ((c : Thread nD τ).loc main_arg6)

theorem outs_eq (b : Fin 8) (s : Fin 4096) : outs m c b s = Ref.outs (inA m c) (inB m c) (inC m c) b s := by
  unfold outs Ref.outs
  rw [V_main_arg1, V_main_arg2, V_main_arg3]

theorem finite_of (hP : Cert.Pre_Kernel4Ideal_mixed m) : Finite m c := by
  obtain ⟨h1, h2, h3⟩ := of_pre _ _ _ _ _ _ _ _ _ (fun j => congrFun (hP c) j)
  intro b s k
  rw [outs_eq]
  unfold Ref.outs beside
  split_ifs
  · exact not_inf (h1 _)
  · exact not_inf (h2 _)
  · exact not_inf (h3 _)

theorem vMod_eq (b : Fin 8) (i : Fin 6) (k : Fin 1024) (n : Fin 6144) (h : n.val = i.val * 1024 + k.val) : vMod m c (ix3 b i k) = inM m c (ix2 b n) := by
  have e : vMod m c (ix3 b i k) = inM m c (ix2 b ⟨i.val * 1024 + k.val, by omega⟩) := by
    show (StableHlo.after hostOps0 (fun b => m (c, b)) (Proc.devRef .tc main_v19) : S8x6x1024.Idx → EReal) _ = _
    after_reads_simp
    clean_types
    pointwise
  rw [e, show (⟨i.val * 1024 + k.val, by omega⟩ : Fin 6144) = n from Fin.ext h.symm]

theorem vG_eq (k : Fin 1024) : vG m c (ix2 0 k) = inG m c (ix2 0 k) := by
  show (StableHlo.after hostOps0 (fun b => m (c, b)) (Proc.devRef .tc main_v22) : S1x1024.Idx → EReal) _ = _
  after_reads_simp
  clean_types
  pointwise

theorem vW_eq (k j : Fin 1024) : vW m c (ix2 k j) = inW m c (ix3 0 k j) := by
  show (StableHlo.after hostOps0 (fun b => m (c, b)) (Proc.devRef .tc main_v25) : S1024x1024.Idx → EReal) _ = _
  after_reads_simp
  clean_types
  pointwise

/-- The reference's residual of the arrays the kernel was started on. -/
abbrev resid : FVec Ideal Cert.Reference4Ideal.S8x4096x1024 .f32 := Ref.resid (inX m c) (inA m c) (inB m c) (inC m c) (inM m c) (inG m c) (inW m c)

theorem xn_at_eq (b : Fin 8) (s : Fin 4096) (j : Fin 1024) : xn m c (ix3 b s j) = (resid m c : S8x4096x1024.Idx → EReal) (ix3 b s j) := by
  refine Eq.trans ?_ (Ref.resid_apply _ _ _ _ _ _ _ b s j).symm
  show vX m c (ix3 b s j) + vMod m c (ix3 b 2 j) * ∑ k, headed (outs m c b s) k * vG m c (ix2 0 k) * vW m c (ix2 k j) = _
  have hx : vX m c = inX m c := V_main_arg0 m c
  rw [hx, vMod_eq m c b 2 j ⟨2048 + j.val, by omega⟩ (by show 2048 + j.val = 2 * 1024 + j.val; omega)]
  refine congrArg (fun z => inX m c (ix3 b s j) + inM m c (ix2 b ⟨2048 + j.val, by omega⟩) * z) (Finset.sum_congr rfl fun k _ => ?_)
  rw [vG_eq, vW_eq, outs_eq, Ref.scaled_apply]

theorem xn_eq : xn m c = resid m c := funext fun i => by
  obtain ⟨b, s, j, rfl⟩ : ∃ (b : Fin 8) (s : Fin 4096) (j : Fin 1024), i = ix3 b s j := ⟨i 0, i 1, i 2, funext fun a => by fin_cases a <;> rfl⟩
  exact xn_at_eq m c b s j

theorem h2_eq : h2 m c = Ref.second (inM m c) (resid m c) := funext fun i => by
  obtain ⟨b, s, j, rfl⟩ : ∃ (b : Fin 8) (s : Fin 4096) (j : Fin 1024), i = ix3 b s j := ⟨i 0, i 1, i 2, funext fun a => by fin_cases a <;> rfl⟩
  refine Eq.trans ?_ (Ref.second_apply _ _ b s j).symm
  refine congrFun (normed_congr (funext fun k => xn_at_eq m c b s k) (funext fun k => ?_) (funext fun k => ?_)) j
  · exact vMod_eq m c b 4 k _ (by show 4096 + k.val = 4 * 1024 + k.val; omega)
  · exact vMod_eq m c b 3 k _ (by show 3072 + k.val = 3 * 1024 + k.val; omega)

/-- The first result is the reference's. -/
theorem first_eq (hP : Cert.Pre_Kernel4Ideal_mixed m) : ((dats m 0 c).arrAt 10 cfg0.N : S8x4096x1024.Idx → EReal) = resid m c :=
  (xn_value m c (finite_of m c hP)).trans (xn_eq m c)

/-- And the second. -/
theorem second_eq (hP : Cert.Pre_Kernel4Ideal_mixed m) : ((dats m 0 c).arrAt 11 cfg0.N : S8x4096x1024.Idx → EReal) = Ref.second (inM m c) (resid m c) :=
  (h2_value m c (finite_of m c hP)).trans (h2_eq m c)

theorem ref_first (m' : (ℓ : Loc Cert.Reference4Ideal.nD Cert.Reference4Ideal.τ Cert.Reference4Ideal.sig) → Buf (Elt Ideal) ℓ)
    (e0 : m' ((c.tc : Thread Cert.Reference4Ideal.nD Cert.Reference4Ideal.τ).loc Cert.Reference4Ideal.main_arg0) = inX m c)
    (e1 : m' ((c.tc : Thread Cert.Reference4Ideal.nD Cert.Reference4Ideal.τ).loc Cert.Reference4Ideal.main_arg1) = inA m c)
    (e2 : m' ((c.tc : Thread Cert.Reference4Ideal.nD Cert.Reference4Ideal.τ).loc Cert.Reference4Ideal.main_arg2) = inB m c)
    (e3 : m' ((c.tc : Thread Cert.Reference4Ideal.nD Cert.Reference4Ideal.τ).loc Cert.Reference4Ideal.main_arg3) = inC m c)
    (e4 : m' ((c.tc : Thread Cert.Reference4Ideal.nD Cert.Reference4Ideal.τ).loc Cert.Reference4Ideal.main_arg4) = inM m c)
    (e5 : m' ((c.tc : Thread Cert.Reference4Ideal.nD Cert.Reference4Ideal.τ).loc Cert.Reference4Ideal.main_arg5) = inG m c)
    (e6 : m' ((c.tc : Thread Cert.Reference4Ideal.nD Cert.Reference4Ideal.τ).loc Cert.Reference4Ideal.main_arg6) = inW m c) :
    Cert.Reference4Ideal.Value.res_main_v44 m' c = resid m c ∧ Cert.Reference4Ideal.Value.res_main_v60 m' c = Ref.second (inM m c) (resid m c) := by
  unfold Cert.Reference4Ideal.Value.res_main_v44 Cert.Reference4Ideal.Value.res_main_v60
  rw [e0, e1, e2, e3, e4, e5, e6]
  exact ⟨rfl, rfl⟩

end Cert.Post

end
-- ==== Proof.SecondExpertTile.lean ====
/- The second layer: one grid point of the experts call: a tile in use gets its expert's product, a tile not in use gets zeros. -/
module

public import proofs.«01_k».proof.Defs
public import proofs.«01_k».proof.Proof.Gen.Kernel5Ideal
public import proofs.«01_k».proof.Proof.Gen.Kernel5Ideal.Skeleton
public import proofs.«01_k».proof.Proof.Gen.Kernel5Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.VecWindow
public import Idealize.ShloMosaic.Lib.Ring
public import Idealize.ShloMosaic.Lib.Exec
public import Idealize.ShloMosaic.Lib.Tactic

@[expose] public section

set_option maxRecDepth 16384

noncomputable section

namespace Cert.SecondExperts

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables of owners and of tiles in use, as the body is handed them. -/
abbrev owners : Memref sig .tc .smem S204 .i32 := Memref.whole main_arg1
abbrev inUse : Memref sig .tc .smem S204 .i32 := Memref.whole main_arg2

/-- Where a grid point reads its tables. -/
def spot (i : grid0.Coords) : S204.Idx := fun a => ⟨(i 0).val, by have := (i 0).isLt; fin_cases a; exact this⟩

/-- The word a grid point's load reads off the table of tiles in use. -/
abbrev useWord (T : S204.Idx → Elt F .i32) (i : grid0.Coords) : Elt F .i32 :=
  View.readAt (Elt F) (inUse).view (Rect.unit (s := S204) (k0_off1 i) S1.size (k0_off1_inb i)).toLoadRect T (Shape.Idx.first (numel1_S1.symm ▸ Nat.one_pos))

theorem off1_zero (i : grid0.Coords) : k0_off1 i 0 = (i 0).val := by
  have h : (i 0).val < 204 := (i 0).isLt
  show (Scalar.indexCast (BitVec.ofNat 32 (i 0).val)).toNat = _
  simp [Scalar.indexCast]
  omega

theorem useWord_eq (T : S204.Idx → Elt F .i32) (i : grid0.Coords) : useWord T i = T (spot i) := by
  show T _ = T _
  congr 1
  funext a
  fin_cases a
  apply Fin.ext
  show k0_off1 i 0 + _ = (i 0).val
  rw [off1_zero]
  rfl

/-- What the body leaves in the tile it writes: what the memory rules ask of and give back to it. -/
abbrev Kept (c : Dev nD) (arg3 : Memref sig .tc .vmem S512x1024 .f32) (arg4 arg5 : Memref sig .tc .vmem S1x1x1024x512 .f32)
    (arg6 : Memref sig .tc .vmem S1x1x512x1024 .f32) (T0 T1 : S204.Idx → Elt F .i32)
    (x0 : S512x1024.Idx → Elt F .f32) (x1 x2 : S1x1x1024x512.Idx → Elt F .f32) (x3 : S1x1x512x1024.Idx → Elt F .f32) (R : sProp 𝕄) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ ((owners).view.loc (c : Thread nD τ) ↦{fullShare.right} T0)
    ∗ ((inUse).view.loc (c : Thread nD τ) ↦{fullShare.right} T1)
    ∗ R)

variable (c : Dev nD) (i : grid0.Coords) (arg3 : Memref sig .tc .vmem S512x1024 .f32) (harg3 : arg3.IsWhole)
  (arg4 : Memref sig .tc .vmem S1x1x1024x512 .f32) (harg4 : arg4.IsWhole) (arg5 : Memref sig .tc .vmem S1x1x1024x512 .f32) (harg5 : arg5.IsWhole)
  (arg6 : Memref sig .tc .vmem S1x1x512x1024 .f32) (harg6 : arg6.IsWhole) (arg7 : Memref sig .tc .vmem S512x1024 .f32) (harg7 : arg7.IsWhole)
  (T0 T1 : S204.Idx → Elt F .i32)
  (x0 : S512x1024.Idx → Elt F .f32) (x1 x2 : S1x1x1024x512.Idx → Elt F .f32) (x3 : S1x1x512x1024.Idx → Elt F .f32)

set_option maxHeartbeats 4000000 in
/-- A tile in use: the product of the tile's rows with the owner's weights is stored whole. -/
theorem tile_used (h1 : k0_cond1 (useWord T1 i) = 1#1) (h2 : ¬ k0_cond2 (useWord T1 i) = 1#1) (K : PUnit → sProp 𝕄) :
    Kept c arg3 arg4 arg5 arg6 T0 T1 x0 x1 x2 x3 iprop((∃ d, owns (c : Thread nD τ) arg7 fullShare d)
      ∗ (Kept c arg3 arg4 arg5 arg6 T0 T1 x0 x1 x2 x3 iprop(owns (c : Thread nD τ) arg7 fullShare (k0_pay1 x0 x1 x2 x3)) -∗ K ⟨⟩))
    ⊢ wp frame (wpE (defs₀ (F := F)) Variants.none c none) Set.univ
        (cc0_moe_experts i owners (Memref.isWhole_whole _) inUse (Memref.isWhole_whole _) arg3 harg3 arg4 harg4 arg5 harg5 arg6 harg6 arg7 harg7) K := by
  unfold Kept owns
  rw [cc0_moe_experts_eq_skeleton]; unfold cc0_moe_experts_skel
  iintro ⟨H0, H1, H2, H3, HT0, HT1, ⟨%d4, %f4, -, HO4⟩, Hk⟩
  have hT0 : (owners).IsWhole := Memref.isWhole_whole _
  have hT1 : (inUse).IsWhole := Memref.isWhole_whole _
  sl_exec! (disch := first | (guard_target = k0_cond1 _ = _; exact h1) | (guard_target = ¬(k0_cond2 _ = _); exact h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  · ipureintro
    refine (View.read_writes_full _ _ _ _ _).trans ?_
    congr 1 <;> exact View.readAt_rep_full _ _ _

set_option maxHeartbeats 4000000 in
/-- A tile not in use: zeros are stored whole. -/
theorem tile_idle (h1 : ¬ k0_cond1 (useWord T1 i) = 1#1) (h2 : k0_cond2 (useWord T1 i) = 1#1) (K : PUnit → sProp 𝕄) :
    Kept c arg3 arg4 arg5 arg6 T0 T1 x0 x1 x2 x3 iprop((∃ d, owns (c : Thread nD τ) arg7 fullShare d)
      ∗ (Kept c arg3 arg4 arg5 arg6 T0 T1 x0 x1 x2 x3 iprop(owns (c : Thread nD τ) arg7 fullShare (k0_pay2 (F := F))) -∗ K ⟨⟩))
    ⊢ wp frame (wpE (defs₀ (F := F)) Variants.none c none) Set.univ
        (cc0_moe_experts i owners (Memref.isWhole_whole _) inUse (Memref.isWhole_whole _) arg3 harg3 arg4 harg4 arg5 harg5 arg6 harg6 arg7 harg7) K := by
  unfold Kept owns
  rw [cc0_moe_experts_eq_skeleton]; unfold cc0_moe_experts_skel
  iintro ⟨H0, H1, H2, H3, HT0, HT1, ⟨%d4, %f4, -, HO4⟩, Hk⟩
  have hT0 : (owners).IsWhole := Memref.isWhole_whole _
  have hT1 : (inUse).IsWhole := Memref.isWhole_whole _
  sl_exec! (disch := first | (guard_target = ¬(k0_cond1 _ = _); exact h1) | (guard_target = k0_cond2 _ = _; exact h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  · ipureintro
    exact View.read_writes_full _ _ _ _ _

end Cert.SecondExperts

end
-- ==== Proof.SecondExpertTables.lean ====
/- The second layer: the experts call's pipeline at tables with every owner one of the sixteen experts and every in-use word zero or one. -/
module

public import proofs.«01_k».proof.Proof.SecondExpertTile

@[expose] public section

set_option maxRecDepth 16384

noncomputable section

namespace Cert.SecondExperts

open Cert.Kernel5Ideal Cert.Kernel5Ideal.Gen
open Idealize.ShloMosaic
open Idealize.ShloMosaic.TcCoe
open Idealize.SL Idealize.SL.Sem

variable {F : FTy → Type} [FloatOps F]

/-- What the precondition says of the two tables. -/
structure Good (T0 T1 : S204.Idx → BitVec 32) : Prop where
  owner : ∀ j, (T0 j).toNat < 16
  use : ∀ j, T1 j = 0#32 ∨ T1 j = 1#32

/-- The tables as the pipeline holds them. -/
def held (T0 T1 : S204.Idx → BitVec 32) : pre0.Contents (Elt F) :=
  fun | ⟨0, _⟩ => T0 | ⟨1, _⟩ => T1 | ⟨_ + 2, h⟩ => absurd h (by simp)

variable (T0 T1 : S204.Idx → BitVec 32)

/-- The words a grid point's index maps read: whether its tile is in use, and its owner. -/
def useAt (i : grid0.Coords) : BitVec 32 :=
  (held (F := F) T0 T1).at 1 (Rect.unit (s := S204) (k0_off1 i) S1.size (k0_off1_inb i)) numel1_S1
def ownerAt (i : grid0.Coords) : BitVec 32 :=
  (held (F := F) T0 T1).at 0 (Rect.unit (s := S204) (k0_off1 i) S1.size (k0_off1_inb i)) numel1_S1

theorem at_use (i : grid0.Coords) : useAt (F := F) T0 T1 i = T1 (spot i) := useWord_eq (F := F) T1 i

theorem at_owner (i : grid0.Coords) : ownerAt (F := F) T0 T1 i = T0 (spot i) := useWord_eq (F := F) T0 i

theorem atD_use (i : grid0.Coords) : (held (F := F) T0 T1).atD 1 (k0_off1 i) = T1 (spot i) := by
  have h : ∀ a : Fin 1, k0_off1 i a + 1 ≤ ![204] a := fun a => by
    fin_cases a; exact k0_off1_inb i 0
  refine (dif_pos h).trans ?_
  show T1 _ = T1 _
  congr 1
  funext a
  fin_cases a
  exact Fin.ext (off1_zero i)

/-- Tile `i`'s block of the rows: itself if the tile is in use, the first if not. -/
theorem rows_index (i : grid0.Coords) :
    cc0_transform_0 k0_off1_inb numel1_S1 (held (F := F) T0 T1) i = ![(BitVec.ofNat 32 (i 0).val * T1 (spot i)).toNat, 0] := by
  show ![(BitVec.ofNat 32 (i 0).val * useAt (F := F) T0 T1 i).toNat, 0] = _
  rw [at_use]

theorem gate_index (i : grid0.Coords) :
    cc0_transform_1 k0_off1_inb numel1_S1 (held (F := F) T0 T1) i = ![1, (T0 (spot i)).toNat, 0, 0] := by
  show ![1, (ownerAt (F := F) T0 T1 i).toNat, 0, 0] = _
  rw [at_owner]

theorem up_index (i : grid0.Coords) :
    cc0_transform_2 k0_off1_inb numel1_S1 (held (F := F) T0 T1) i = ![1, (T0 (spot i)).toNat, 0, 0] := gate_index T0 T1 i

theorem down_index (i : grid0.Coords) :
    cc0_transform_3 k0_off1_inb numel1_S1 (held (F := F) T0 T1) i = ![1, (T0 (spot i)).toNat, 0, 0] := gate_index T0 T1 i

variable {T0 T1}

theorem Good.rows_lt (hG : Good T0 T1) (i : grid0.Coords) : (BitVec.ofNat 32 (i 0).val * T1 (spot i)).toNat < 204 := by
  have h : (i 0).val < 204 := (i 0).isLt
  rcases hG.use (spot i) with e | e <;> rw [e]
  · simp
  · simp; omega

/-- Every block the tables name lies in its array. -/
theorem Good.ok (hG : Good T0 T1) : ok0 (F := F) (held T0 T1) := by
  refine ⟨fun i => ⟨?_, .inl rfl⟩, fun i => ⟨?_, .inl rfl⟩, fun i => ⟨?_, .inl rfl⟩, fun i => ⟨?_, .inl rfl⟩⟩
  · rw [rows_index]
    have := hG.rows_lt i
    intro a
    fin_cases a
    · show (_ + 1) * 512 ≤ 104448
      show ((BitVec.ofNat 32 (i 0).val * T1 (spot i)).toNat + 1) * 512 ≤ 104448
      omega
    · show (0 + 1) * 1024 ≤ 1024
      omega
  · rw [gate_index]
    have := hG.owner (spot i)
    intro a
    fin_cases a
    · show (1 + 1) * 1 ≤ 2; omega
    · show ((T0 (spot i)).toNat + 1) * 1 ≤ 16; omega
    · show (0 + 1) * 1024 ≤ 1024; omega
    · show (0 + 1) * 512 ≤ 512; omega
  · rw [up_index]
    have := hG.owner (spot i)
    intro a
    fin_cases a
    · show (1 + 1) * 1 ≤ 2; omega
    · show ((T0 (spot i)).toNat + 1) * 1 ≤ 16; omega
    · show (0 + 1) * 1024 ≤ 1024; omega
    · show (0 + 1) * 512 ≤ 512; omega
  · rw [down_index]
    have := hG.owner (spot i)
    intro a
    fin_cases a
    · show (1 + 1) * 1 ≤ 2; omega
    · show ((T0 (spot i)).toNat + 1) * 1 ≤ 16; omega
    · show (0 + 1) * 512 ≤ 512; omega
    · show (0 + 1) * 1024 ≤ 1024; omega

/-- The pipeline at these tables. -/
def adm (hG : Good T0 T1) : (pcfg0 (F := F)).Adm := ⟨held T0 T1, hG.ok⟩
abbrev cfgA (hG : Good T0 T1) : Pipeline.Cfg sig Λ₀ := cfg0 (F := F) (adm hG)
abbrev pcs (hG : Good T0 T1) : Fin 1 → Pipeline.Cfg sig Λ₀ := Pipeline.pin (pcfgs (F := F)) fun _ => adm hG

theorem coord_val : ∀ t : Fin grid0.N, (grid0.coords t 0).val = t.val := by decide +kernel

theorem out_index (t : Fin grid0.N) : cc0_transform_4 (grid0.coords t) 0 = t.val := by
  have h : t.val < 204 := t.isLt
  show (BitVec.ofNat 32 (grid0.coords t 0).val).toNat = t.val
  rw [coord_val, BitVec.toNat_ofNat]
  omega

/-- Every point writes its block of the output back: no two points share one. -/
theorem out_flush (hG : Good T0 T1) (t : Fin (cfgA (F := F) hG).N) : ((cfgA (F := F) hG).win (4 : Fin 5)).flush t = true := by
  rw [Pipeline.Window.flush_eq_flushF]
  unfold Pipeline.Window.flushF
  refine Bool.and_eq_true_iff.mpr ⟨rfl, ?_⟩
  by_cases h : t.val + 1 = (cfgA (F := F) hG).grid.N
  · exact Bool.or_eq_true_iff.mpr (.inl (decide_eq_true h))
  · refine Bool.or_eq_true_iff.mpr (.inr (decide_eq_true ?_))
    have h' : t.val + 1 < (cfgA (F := F) hG).grid.N := Nat.lt_of_le_of_ne t.isLt h
    refine ⟨h', (0 : Fin 2), ?_⟩
    show cc0_transform_4 (grid0.coords ⟨t.val + 1, h'⟩) 0 ≠ cc0_transform_4 (grid0.coords t) 0
    rw [out_index, out_index]
    show t.val + 1 ≠ t.val
    omega

/-- So a point's output buffer never holds anything the body stored before it. -/
theorem out_fresh (hG : Good T0 T1) (t : Fin (cfgA (F := F) hG).N) : (cfgA (F := F) hG).fresh (4 : Fin 5) t.val = true := by
  obtain ⟨n, hn⟩ := t
  cases n with
  | zero => rfl
  | succ n =>
    show (cfgA (F := F) hG).fresh (4 : Fin 5) (n + 1) = true
    rw [Pipeline.Cfg.fresh_succ _ _ _ (Nat.lt_of_succ_lt hn), out_flush, Bool.true_or]

theorem cond_zero : ¬ k0_cond1 0#32 = 1#1 ∧ k0_cond2 0#32 = 1#1 := by decide
theorem cond_one : k0_cond1 1#32 = 1#1 ∧ ¬ k0_cond2 1#32 = 1#1 := by decide

/-- Every point stores its tile. -/
theorem out_idle (hG : Good T0 T1) (i : (cfgA (F := F) hG).grid.Coords) : (cfgA (F := F) hG).idle (4 : Fin 5) i = false := by
  show (!(k0_cond1 ((held (F := F) T0 T1).atD 1 (k0_off1 i)) == 1#1) && !(k0_cond2 ((held (F := F) T0 T1).atD 1 (k0_off1 i)) == 1#1)) = false
  rw [atD_use]
  rcases hG.use (spot i) with e | e <;> rw [e] <;> decide

end Cert.SecondExperts

end
-- ==== Proof.SecondExpertRun.lean ====
/- The second layer: the experts call run whole: it ends, no argument changes, no counter stays raised, and the output array is the blocks the points wrote. -/
module

public import proofs.«01_k».proof.Proof.SecondExpertTables
public import Idealize.ShloMosaic.Adequacy
public import Idealize.ShloMosaic.Init

@[expose] public section

set_option maxRecDepth 16384

noncomputable section

namespace Cert.SecondExperts

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

variable {T0 T1 : S204.Idx → BitVec 32} (hG : Good T0 T1)
variable (m : (ℓ : Loc nD τ sig) → Buf (Elt F) ℓ) (ρ : Dev nD → PrngReg)

/-- The tables of the launch memory are these. -/
def Tabled (T0 T1 : S204.Idx → BitVec 32) (m : (ℓ : Loc nD τ sig) → Buf (Elt F) ℓ) : Prop :=
  (∀ c : Dev nD, m ((c : Thread nD τ).loc main_arg1) = T0) ∧ (∀ c : Dev nD, m ((c : Thread nD τ).loc main_arg2) = T1)

abbrev crd (t : Fin (cfgA (F := F) hG).N) : (cfgA (F := F) hG).grid.Coords := (cfgA (F := F) hG).grid.coords t

/-- Each window's staging buffer at a point, and that it is a whole buffer. -/
abbrev st0 (t : Fin (cfgA (F := F) hG).N) : Memref sig .tc .vmem S512x1024 .f32 := spec0_0.stage ((cfgA (F := F) hG).slots t (0 : Fin 5))
abbrev hst0 (t : Fin (cfgA (F := F) hG).N) : (st0 hG t).IsWhole := hstage0_0 (((cfgA (F := F) hG).slots t (0 : Fin 5)).cast nbuf0_0)
abbrev st1 (t : Fin (cfgA (F := F) hG).N) : Memref sig .tc .vmem S1x1x1024x512 .f32 := spec0_1.stage ((cfgA (F := F) hG).slots t (1 : Fin 5))
abbrev hst1 (t : Fin (cfgA (F := F) hG).N) : (st1 hG t).IsWhole := hstage0_1 (((cfgA (F := F) hG).slots t (1 : Fin 5)).cast nbuf0_1)
abbrev st2 (t : Fin (cfgA (F := F) hG).N) : Memref sig .tc .vmem S1x1x1024x512 .f32 := spec0_2.stage ((cfgA (F := F) hG).slots t (2 : Fin 5))
abbrev hst2 (t : Fin (cfgA (F := F) hG).N) : (st2 hG t).IsWhole := hstage0_2 (((cfgA (F := F) hG).slots t (2 : Fin 5)).cast nbuf0_2)
abbrev st3 (t : Fin (cfgA (F := F) hG).N) : Memref sig .tc .vmem S1x1x512x1024 .f32 := spec0_3.stage ((cfgA (F := F) hG).slots t (3 : Fin 5))
abbrev hst3 (t : Fin (cfgA (F := F) hG).N) : (st3 hG t).IsWhole := hstage0_3 (((cfgA (F := F) hG).slots t (3 : Fin 5)).cast nbuf0_3)
abbrev st4 (t : Fin (cfgA (F := F) hG).N) : Memref sig .tc .vmem S512x1024 .f32 := spec0_4.stage ((cfgA (F := F) hG).slots t (4 : Fin 5))
abbrev hst4 (t : Fin (cfgA (F := F) hG).N) : (st4 hG t).IsWhole := hstage0_4 (((cfgA (F := F) hG).slots t (4 : Fin 5)).cast nbuf0_4)

/-- A window's block at a point, read off the launch memory. -/
def blkAt (c : Dev nD) (w : Fin (cfgA (F := F) hG).W) (t : Fin (cfgA (F := F) hG).N) :
    (((cfgA (F := F) hG).win w).xblock (crd hG t)).Idx → Elt F ((cfgA (F := F) hG).win w).elt :=
  (((cfgA (F := F) hG).win w).blk t).view.read (Elt F) ((s₀ m ρ).mem (((cfgA (F := F) hG).win w).arr.view.loc (c : Thread nD τ)))

/-- What a point writes: the expert's product if its tile is in use, zeros if not. -/
def tileOut (c : Dev nD) (t : Fin (cfgA (F := F) hG).N) : S512x1024.Idx → Elt F .f32 :=
  if T1 (spot (crd hG t)) = 1#32 then
    k0_pay1 (blkAt hG m ρ c (0 : Fin 5) t) (blkAt hG m ρ c (1 : Fin 5) t) (blkAt hG m ρ c (2 : Fin 5) t) (blkAt hG m ρ c (3 : Fin 5) t)
  else k0_pay2 (F := F)

/-- Between points the body holds its half of each table. -/
def halves (T0 T1 : S204.Idx → BitVec 32) (c : Dev nD) : sProp 𝕄 :=
  iprop(((owners).view.loc (c : Thread nD τ) ↦{fullShare.right} (T0 : S204.Idx → Elt F .i32))
    ∗ ((inUse).view.loc (c : Thread nD τ) ↦{fullShare.right} (T1 : S204.Idx → Elt F .i32)))

/-- The pipeline's data: inputs keep their blocks, the output's buffer ends a point at `tileOut`. -/
def dats (_ : Fin 1) (c : Dev nD) : Dat τ (Elt F) Unit ℕ (UR sig nD τ) ℕ (cfgA (F := F) hG) c where
  A w := (s₀ m ρ).mem (((cfgA (F := F) hG).win w).arr.view.loc (c : Thread nD τ))
  after w t := match w with
    | ⟨0, _⟩ => blkAt hG m ρ c (0 : Fin 5) t
    | ⟨1, _⟩ => blkAt hG m ρ c (1 : Fin 5) t
    | ⟨2, _⟩ => blkAt hG m ρ c (2 : Fin 5) t
    | ⟨3, _⟩ => blkAt hG m ρ c (3 : Fin 5) t
    | ⟨4, _⟩ => tileOut hG m ρ c t
  Φ _ := halves T0 T1 c
  q _ := fullShare
  owed _ := 0

theorem after_0 (c : Dev nD) (t : Fin (cfgA (F := F) hG).N) : (dats hG m ρ 0 c).after (0 : Fin 5) t = blkAt hG m ρ c (0 : Fin 5) t := rfl
theorem after_1 (c : Dev nD) (t : Fin (cfgA (F := F) hG).N) : (dats hG m ρ 0 c).after (1 : Fin 5) t = blkAt hG m ρ c (1 : Fin 5) t := rfl
theorem after_2 (c : Dev nD) (t : Fin (cfgA (F := F) hG).N) : (dats hG m ρ 0 c).after (2 : Fin 5) t = blkAt hG m ρ c (2 : Fin 5) t := rfl
theorem after_3 (c : Dev nD) (t : Fin (cfgA (F := F) hG).N) : (dats hG m ρ 0 c).after (3 : Fin 5) t = blkAt hG m ρ c (3 : Fin 5) t := rfl
theorem after_4 (c : Dev nD) (t : Fin (cfgA (F := F) hG).N) : (dats hG m ρ 0 c).after (4 : Fin 5) t = tileOut hG m ρ c t := rfl

/-- An input's buffer holds its block whenever the body runs. -/
theorem before_0 (c : Dev nD) (t : Fin (cfgA (F := F) hG).N) (d) : (dats hG m ρ 0 c).before (0 : Fin 5) t d = blkAt hG m ρ c (0 : Fin 5) t :=
  ((dats hG m ρ 0 c).before_in_eq_fetched (0 : Fin 5) rfl (fun _ => rfl) (fun _ _ _ => rfl) (fun t => by rw [after_0]; unfold Dat.blockOf blkAt; rfl) t d).trans
    (by unfold Dat.fetched Dat.blockOf blkAt; rfl)
theorem before_1 (c : Dev nD) (t : Fin (cfgA (F := F) hG).N) (d) : (dats hG m ρ 0 c).before (1 : Fin 5) t d = blkAt hG m ρ c (1 : Fin 5) t :=
  ((dats hG m ρ 0 c).before_in_eq_fetched (1 : Fin 5) rfl (fun _ => rfl) (fun _ _ _ => rfl) (fun t => by rw [after_1]; unfold Dat.blockOf blkAt; rfl) t d).trans
    (by unfold Dat.fetched Dat.blockOf blkAt; rfl)
theorem before_2 (c : Dev nD) (t : Fin (cfgA (F := F) hG).N) (d) : (dats hG m ρ 0 c).before (2 : Fin 5) t d = blkAt hG m ρ c (2 : Fin 5) t :=
  ((dats hG m ρ 0 c).before_in_eq_fetched (2 : Fin 5) rfl (fun _ => rfl) (fun _ _ _ => rfl) (fun t => by rw [after_2]; unfold Dat.blockOf blkAt; rfl) t d).trans
    (by unfold Dat.fetched Dat.blockOf blkAt; rfl)
theorem before_3 (c : Dev nD) (t : Fin (cfgA (F := F) hG).N) (d) : (dats hG m ρ 0 c).before (3 : Fin 5) t d = blkAt hG m ρ c (3 : Fin 5) t :=
  ((dats hG m ρ 0 c).before_in_eq_fetched (3 : Fin 5) rfl (fun _ => rfl) (fun _ _ _ => rfl) (fun t => by rw [after_3]; unfold Dat.blockOf blkAt; rfl) t d).trans
    (by unfold Dat.fetched Dat.blockOf blkAt; rfl)

/-- The body at a point, on that point's staging buffers. -/
abbrev bodyAt (t : Fin (cfgA (F := F) hG).N) : Prog (TpuEff nD τ sig (Elt F) Λ₀ .tc) PUnit :=
  cc0_moe_experts (crd hG t) owners (Memref.isWhole_whole _) inUse (Memref.isWhole_whole _) (st0 hG t) (hst0 hG t) (st1 hG t) (hst1 hG t)
    (st2 hG t) (hst2 hG t) (st3 hG t) (hst3 hG t) (st4 hG t) (hst4 hG t)

set_option maxHeartbeats 4000000 in
/-- Whichever the tile, the body ends with `tileOut` in the output's buffer. -/
theorem tile_run (c : Dev nD) (t : Fin (cfgA (F := F) hG).N) (K : PUnit → sProp 𝕄) :
    Kept c (st0 hG t) (st1 hG t) (st2 hG t) (st3 hG t) (F := F) T0 T1 (blkAt hG m ρ c (0 : Fin 5) t) (blkAt hG m ρ c (1 : Fin 5) t)
        (blkAt hG m ρ c (2 : Fin 5) t) (blkAt hG m ρ c (3 : Fin 5) t) iprop((∃ d, owns (c : Thread nD τ) (st4 hG t) fullShare d)
      ∗ (Kept c (st0 hG t) (st1 hG t) (st2 hG t) (st3 hG t) (F := F) T0 T1 (blkAt hG m ρ c (0 : Fin 5) t) (blkAt hG m ρ c (1 : Fin 5) t)
        (blkAt hG m ρ c (2 : Fin 5) t) (blkAt hG m ρ c (3 : Fin 5) t) iprop(owns (c : Thread nD τ) (st4 hG t) fullShare (tileOut hG m ρ c t)) -∗ K ⟨⟩))
    ⊢ wp frame (wpE (defs₀ (F := F)) Variants.none c none) Set.univ (bodyAt hG t) K := by
  have hw : useWord (F := F) T1 (crd hG t) = T1 (spot (crd hG t)) := useWord_eq (F := F) T1 (crd hG t)
  unfold tileOut
  by_cases h : T1 (spot (crd hG t)) = 1#32
  · rw [if_pos h]
    have e := hw.trans h
    exact tile_used c (crd hG t) _ _ _ _ _ _ _ _ _ _ T0 T1 _ _ _ _ (e ▸ cond_one.1) (e ▸ cond_one.2) K
  · rw [if_neg h]
    have e := hw.trans ((hG.use (spot (crd hG t))).resolve_right h)
    exact tile_idle c (crd hG t) _ _ _ _ _ _ _ _ _ _ T0 T1 _ _ _ _ (e ▸ cond_zero.1) (e ▸ cond_zero.2) K

set_option maxHeartbeats 4000000 in
/-- What the pipeline asks of the body at a point. -/
theorem sound (c : Dev nD) (t : Fin (cfgA (F := F) hG).N) :
    iprop((dats hG m ρ 0 c).Φ t.castSucc ∗ (dats hG m ρ 0 c).owesAt () t.castSucc
        ∗ (∃ d, owns (c : Thread nD τ) (st0 hG t) fullShare ((dats hG m ρ 0 c).before (0 : Fin 5) t d))
        ∗ (∃ d, owns (c : Thread nD τ) (st1 hG t) fullShare ((dats hG m ρ 0 c).before (1 : Fin 5) t d))
        ∗ (∃ d, owns (c : Thread nD τ) (st2 hG t) fullShare ((dats hG m ρ 0 c).before (2 : Fin 5) t d))
        ∗ (∃ d, owns (c : Thread nD τ) (st3 hG t) fullShare ((dats hG m ρ 0 c).before (3 : Fin 5) t d))
        ∗ (∃ d, owns (c : Thread nD τ) (st4 hG t) fullShare ((dats hG m ρ 0 c).before (4 : Fin 5) t d)))
      ⊢ wp frame (wpE (defs₀ (F := F)) Variants.none c none) Set.univ (bodyAt hG t) fun _ =>
          iprop((dats hG m ρ 0 c).Φ t.succ ∗ (dats hG m ρ 0 c).owesAt () t.succ
            ∗ bigSep Finset.univ fun w : Fin (cfgA (F := F) hG).W =>
                match (cfgA (F := F) hG).idle w ((cfgA (F := F) hG).grid.coords t) with
                | true =>
                  match ((cfgA (F := F) hG).win w).flush t with
                  | false => iprop(∃ d, owns (c : Thread nD τ) (((cfgA (F := F) hG).win w).stage ((cfgA (F := F) hG).slots t w)) fullShare ((dats hG m ρ 0 c).before w t d))
                  | true => owns (c : Thread nD τ) (((cfgA (F := F) hG).win w).stage ((cfgA (F := F) hG).slots t w)) fullShare ((dats hG m ρ 0 c).after w t)
                | false => owns (c : Thread nD τ) (((cfgA (F := F) hG).win w).stage ((cfgA (F := F) hG).slots t w)) fullShare ((dats hG m ρ 0 c).after w t)) := by
  rw [bigSep_W0]
  rewrite [out_idle hG (crd hG t)]
  simp only [before_0, before_1, before_2, before_3, after_0, after_1, after_2, after_3, after_4]
  rewrite [show (dats hG m ρ 0 c).Φ t.succ = halves T0 T1 c from rfl, show (dats hG m ρ 0 c).Φ t.castSucc = halves T0 T1 c from rfl,
    show (dats hG m ρ 0 c).owesAt () t.succ = (dats hG m ρ 0 c).owesAt () t.castSucc from rfl]
  unfold halves
  iintro ⟨⟨HT0, HT1⟩, Ho, ⟨%d0, H0⟩, ⟨%d1, H1⟩, ⟨%d2, H2⟩, ⟨%d3, H3⟩, ⟨%d4, H4⟩⟩
  iapply (tile_run hG m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem obligation (c : Dev nD) : BodyObligation (dats hG m ρ 0 c) (defs₀ (F := F)) Variants.none () Set.univ := fun t => by
  rw [bigSep_W0]
  exact sound hG m ρ c t

/-! ## The launch -/

def u₀ : UR sig nD τ :=
  initOf (Pipeline.cells (pcs (F := F) hG) ((launch0 (F := F)).cellOf_inj fun _ => adm hG))
    (Pipeline.launchToks (pcs (F := F) hG) ((launch0 (F := F)).cellOf_inj fun _ => adm hG))

theorem share_full (c : Dev nD) (w : Fin (cfgA (F := F) hG).W) : (dats hG m ρ 0 c).share w = fullShare := by unfold Dat.share; split <;> rfl

/-- The launch hands over the tables one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm (F := F) hG).1 ∗ Pipeline.scopedRest spec0 c) ⊢ (dats hG m ρ 0 c).Φ 0 := by
  rw [tables_held, scopedRest0_eq, show (dats hG m ρ 0 c).Φ 0 = halves T0 T1 c from rfl]
  unfold halves
  iintro ⟨-, ⟨HT0, HT1⟩, -⟩
  isplitl [HT0]
  · iexact HT0
  iexact HT1

theorem leave (c : Dev nD) : (dats hG m ρ 0 c).Φ (Fin.last (cfgA (F := F) hG).N) ⊢ iprop(BI.emp ∗ Pipeline.scopedRest spec0 c) := by
  rw [scopedRest0_eq, show (dats hG m ρ 0 c).Φ (Fin.last (cfgA (F := F) hG).N) = halves T0 T1 c from rfl]
  unfold halves
  iintro ⟨-, -⟩
  isplitr; · iempintro
  iempintro

/-- At the end every array is what the points left of it, and the tables are as they were. -/
def Ends : PUnit × MemSt nD τ sig (Elt F) → Prop := fun r =>
  ∀ c : Dev nD, (∀ w : Fin (cfgA (F := F) hG).W, r.2.mem (((cfgA (F := F) hG).win w).arr.view.loc (c : Thread nD τ)) = (dats hG m ρ 0 c).arrAt w (cfgA (F := F) hG).N)
    ∧ ∀ j, r.2.mem ((c : Thread nD τ).loc (pre0.ref j)) = (adm (F := F) hG).1 j

theorem tabled_at (hp : Tabled T0 T1 m) (c : Dev nD) (j : Fin 2) : m ((c : Thread nD τ).loc (pre0.ref j)) = (adm (F := F) hG).1 j := by
  fin_cases j
  · exact hp.1 c
  · exact hp.2 c

set_option backward.isDefEq.respectTransparency.types false in
set_option maxHeartbeats 4000000 in
theorem run_all (hp : Tabled T0 T1 m) :
    θ_run (defs (F := F)) (onTc (τ := τ) (main (F := F))) (s₀ m ρ) (fun r => Ends hG m ρ r ∧ r.2.sem = fun _ => 0) :=
  Pipeline.θ_run_region_noSem_pf_quiescent pcfgs (fun _ => adm hG) (dats hG m ρ) () ((launch0 (F := F)).cellOf_inj fun _ => adm hG) (0 : Fin 1)
    (launch0 (F := F)).win.to₀ (launch0 (F := F)).pre EP defs₀ Variants.none m ρ main
    (hbody := fun c => (obligation hG m ρ c).loose) (hne := (launch0 (F := F)).block_pos)
    (harr := (launch0 (F := F)).arr_whole) (hstage := (launch0 (F := F)).stage_whole) (howed := fun _ _ => rfl)
    (u₀ := u₀ (F := F) hG) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) hG) (dats hG m ρ) 0 (launch0 (F := F)).win.arr_inj c (launch0 (F := F)).arr_whole
      (share_full hG m ρ c) _ _ fun _ => rfl)
    (hpf := tabled_at hG m hp)
    (X := fun _ => iprop(emp)) (Y := fun _ => iprop(emp)) (Z := fun _ => iprop(emp))
    (hX := fun c => by rw [unscopedRestP0_eq]; iintro -; isplitr <;> iempintro)
    (hin := enter hG m ρ)
    (hout := leave hG m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output array at the end. -/
def outArr (c : Dev nD) : Buf (Elt F) ((c.tc : Thread nD τ).loc main_v0) := (dats hG m ρ 0 c).arrAt (4 : Fin 5) (cfgA (F := F) hG).N

/-- The run: the output array, the arguments unchanged, every counter at zero. -/
theorem run (hp : Tabled T0 T1 m) :
    θ_run (defs (F := F)) (onTc (τ := τ) (main (F := F))) ⟨m, fun _ => 0, ρ⟩ (fun r => (∀ c : Dev nD,
      r.2.mem ((c.tc : Thread nD τ).loc main_v0) = outArr hG m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
      ((h.1 c).1 (0 : Fin 5)).trans ((dats hG m ρ 0 c).arrAt_in (0 : Fin 5) rfl _),
      ((h.1 c).2 0).trans (hp.1 c).symm, ((h.1 c).2 1).trans (hp.2 c).symm,
      ((h.1 c).1 (1 : Fin 5)).trans ((dats hG m ρ 0 c).arrAt_in (1 : Fin 5) rfl _),
      ((h.1 c).1 (2 : Fin 5)).trans ((dats hG m ρ 0 c).arrAt_in (2 : Fin 5) rfl _),
      ((h.1 c).1 (3 : Fin 5)).trans ((dats hG m ρ 0 c).arrAt_in (3 : Fin 5) rfl _)⟩, h.2⟩) (run_all hG m ρ hp)

end Cert.SecondExperts

end
-- ==== Proof.SecondExpertPre.lean ====
/- The second layer: the precondition of the experts call: every owner is one of the sixteen experts, every in-use word is zero or one. -/
module

public import proofs.«01_k».proof.Proof.SecondExpertRun
public import proofs.«01_k».proof.Proof.Gen.Pre_routed
public import Idealize.ShloMosaic.Lib.ReduceAll
public import Idealize.ShloMosaic.Lib.Affine

@[expose] public section

set_option maxRecDepth 16384

noncomputable section

namespace Cert.SecondExperts.Pre

open Cert.Pre_routed Idealize.ShloMosaic Idealize.SL.Sem

variable {F : FTy → Type} [FloatOps F]

instance : Subsingleton S_.Idx := ⟨fun a b => funext fun i => i.elim0⟩

theorem of_bit {b : Bool} (h : BitVec.ofBool b = 1#1) : b = true := by
  revert h
  cases b <;> decide

theorem owner_lt {x : BitVec 32} (h0 : IntOp.cmpi .sge x 0#32 = 1#1) (h1 : IntOp.cmpi .slt x 16#32 = 1#1) : x.toNat < 16 := by
  have a : (0#32).sle x = true := of_bit h0
  have b : x.slt 16#32 = true := of_bit h1
  simp only [BitVec.sle, BitVec.slt, decide_eq_true_eq] at a b
  have e : (16#32 : BitVec 32).toInt = 16 := rfl
  have z : (0#32 : BitVec 32).toInt = 0 := rfl
  rw [e] at b
  rw [z] at a
  have := BitVec.toInt_eq_toNat_cond x
  split at this <;> omega

theorem use_bit {x : BitVec 32} (h0 : IntOp.cmpi .sge x 0#32 = 1#1) (h1 : IntOp.cmpi .slt x 2#32 = 1#1) : x = 0#32 ∨ x = 1#32 := by
  have a : (0#32).sle x = true := of_bit h0
  have b : x.slt 2#32 = true := of_bit h1
  simp only [BitVec.sle, BitVec.slt, decide_eq_true_eq] at a b
  have e : (2#32 : BitVec 32).toInt = 2 := rfl
  have z : (0#32 : BitVec 32).toInt = 0 := rfl
  rw [e] at b
  rw [z] at a
  have := BitVec.toInt_eq_toNat_cond x
  have l : x.toNat = 0 ∨ x.toNat = 1 := by split at this <;> omega
  exact l.imp (fun h => BitVec.eq_of_toNat_eq h) (fun h => BitVec.eq_of_toNat_eq h)

theorem good (x0 : FVec F S104448x1024 .f32) (x1 x2 : IVec S204 32) (x3 x4 : FVec F S2x16x1024x512 .f32) (x5 : FVec F S2x16x512x1024 .f32)
    (h : ∀ j, fn (F := F) x0 x1 x2 x3 x4 x5 j = 1#1) : Good x1 x2 := by
  have j : S_.Idx := fun i => i.elim0
  have hh := IntOp.andi_eq_one.1 (h j)
  refine ⟨fun i => ?_, fun i => ?_⟩
  · have hi := IntOp.andi_eq_one.1 (Host.reduce_andi_all _ _ _ _ j hh.1 i)
    exact owner_lt hi.1 hi.2
  · have hi := IntOp.andi_eq_one.1 (Host.reduce_andi_all _ _ _ _ j hh.2 i)
    exact use_bit hi.1 hi.2

end Cert.SecondExperts.Pre

end
-- ==== Proof.SecondExpertValue.lean ====
/- The second layer: what the experts call leaves in its output, row by row. -/
module

public import proofs.«01_k».proof.Proof.SecondExpertRun
public import Idealize.ShloMosaic.Lib.Pointwise
public import Idealize.ShloMosaic.Lib.Pipeline.ValueKit

@[expose] public section

set_option maxRecDepth 16384

noncomputable section

namespace Cert.SecondExperts

open Cert.Kernel5Ideal Cert.Kernel5Ideal.Gen Idealize.ShloMosaic Idealize.ShloMosaic.TcCoe Idealize.SL.Sem

/-- One expert on one row: the gated product of the row with its weights, at one of the features it returns. -/
def expert (x : Fin 1024 → EReal) (g u : Fin 1024 → Fin 512 → EReal) (d : Fin 512 → EReal) : EReal :=
  ∑ f : Fin 512, ((∑ k, x k * g k f) * Ideal.logistic (∑ k, x k * g k f) * ∑ k, x k * u k f) * d f

theorem used_apply (x0 : FVec Ideal S512x1024 .f32) (x1 x2 : FVec Ideal S1x1x1024x512 .f32) (x3 : FVec Ideal S1x1x512x1024 .f32) (y : Fin 512) (o : Fin 1024) :
    (k0_pay1 (F := Ideal) x0 x1 x2 x3 : S512x1024.Idx → EReal) (ix2 y o)
      = expert (fun k => x0 (ix2 y k)) (fun k f => x1 (ix4 0 0 k f)) (fun k f => x2 (ix4 0 0 k f)) (fun f => x3 (ix4 0 0 f o)) := by
  pointwise [k0_pay1]
  rfl

theorem idle_apply (y : S512x1024.Idx) : (k0_pay2 (F := Ideal) : S512x1024.Idx → EReal) y = 0 := by
  pointwise [k0_pay2]

/-- The arrays' tile of a row. -/
def tileOf (r : Fin 104448) : S204.Idx := ix1 ⟨r.val / 512, by omega⟩

/-- The expert of a tile, as a number below sixteen. -/
def ownerOf (T0 : S204.Idx → BitVec 32) (r : Fin 104448) : Fin 16 := ⟨(T0 (tileOf r)).toNat % 16, Nat.mod_lt _ (by decide)⟩

/-- The output: a row of a tile in use is its expert's, any other row is zero. -/
def routedRow (T0 T1 : S204.Idx → BitVec 32) (x : S104448x1024.Idx → EReal) (g u : S2x16x1024x512.Idx → EReal) (d : S2x16x512x1024.Idx → EReal)
    (r : Fin 104448) (o : Fin 1024) : EReal :=
  if T1 (tileOf r) = 1#32 then
    expert (fun k => x (ix2 r k)) (fun k f => g (ix4 1 (ownerOf T0 r) k f)) (fun k f => u (ix4 1 (ownerOf T0 r) k f)) (fun f => d (ix4 1 (ownerOf T0 r) f o))
  else 0

variable {T0 T1 : S204.Idx → BitVec 32} (hG : Good T0 T1)
variable (m : (ℓ : Loc nD τ sig) → Buf (Elt Ideal) ℓ) (ρ : Dev nD → PrngReg) (c : Dev nD)

/-- Row `y` of tile `t`. -/
def rowAt (t : Fin (cfgA (F := Ideal) hG).N) (y : Fin 512) : Fin 104448 := ⟨t.val * 512 + y.val, by
  have h : t.val < 204 := t.isLt
  omega⟩

theorem spot_row (t : Fin (cfgA (F := Ideal) hG).N) (y : Fin 512) : spot (crd hG t) = tileOf (rowAt hG t y) := by
  funext a
  fin_cases a
  refine Fin.ext ?_
  show (grid0.coords t 0).val = (t.val * 512 + y.val) / 512
  rw [coord_val]
  omega

theorem rows_read (t : Fin (cfgA (F := Ideal) hG).N) (hu : T1 (spot (crd hG t)) = 1#32) (y : Fin 512) (k : Fin 1024) :
    (blkAt hG m ρ c (0 : Fin 5) t : S512x1024.Idx → EReal) (ix2 y k) = (m ((c.tc : Thread nD τ).loc main_arg0) : S104448x1024.Idx → EReal) (ix2 (rowAt hG t y) k) := by
  have e := rows_index (F := Ideal) T0 T1 (crd hG t)
  have hc : (crd hG t 0).val = t.val := coord_val t
  have ht : t.val < 204 := t.isLt
  rw [hu, hc] at e
  have e0 : cc0_transform_0 k0_off1_inb numel1_S1 (held (F := Ideal) T0 T1) (crd hG t) 0 = t.val := by
    rw [e]
    show (BitVec.ofNat 32 t.val * 1#32).toNat = t.val
    rw [BitVec.mul_one, BitVec.toNat_ofNat]
    omega
  have e1 : cc0_transform_0 k0_off1_inb numel1_S1 (held (F := Ideal) T0 T1) (crd hG t) 1 = 0 := by rw [e]; rfl
  refine congrArg (m ((c.tc : Thread nD τ).loc main_arg0) : S104448x1024.Idx → EReal) (funext fun a => Fin.ext ?_)
  fin_cases a
  · show cc0_transform_0 k0_off1_inb numel1_S1 (held (F := Ideal) T0 T1) (crd hG t) 0 * 512 + 1 * y.val = t.val * 512 + y.val
    omega
  · show cc0_transform_0 k0_off1_inb numel1_S1 (held (F := Ideal) T0 T1) (crd hG t) 1 * 1024 + 1 * k.val = k.val
    omega

include hG in
theorem owner_val (t : Fin (cfgA (F := Ideal) hG).N) (y : Fin 512) : (ownerOf T0 (rowAt hG t y)).val = (T0 (spot (crd hG t))).toNat := by
  rw [spot_row hG t y]
  exact Nat.mod_eq_of_lt (hG.owner _)

theorem gate_read (t : Fin (cfgA (F := Ideal) hG).N) (y : Fin 512) (k : Fin 1024) (f : Fin 512) :
    (blkAt hG m ρ c (1 : Fin 5) t : S1x1x1024x512.Idx → EReal) (ix4 0 0 k f)
      = (m ((c.tc : Thread nD τ).loc main_arg3) : S2x16x1024x512.Idx → EReal) (ix4 1 (ownerOf T0 (rowAt hG t y)) k f) := by
  have e := gate_index (F := Ideal) T0 T1 (crd hG t)
  have ho := owner_val hG t y
  refine congrArg (m ((c.tc : Thread nD τ).loc main_arg3) : S2x16x1024x512.Idx → EReal) (funext fun a => Fin.ext ?_)
  have ea := congrFun e a
  fin_cases a
  · show cc0_transform_1 k0_off1_inb numel1_S1 (held (F := Ideal) T0 T1) (crd hG t) 0 * 1 + 1 * 0 = 1
    exact (congrArg (· * 1 + 1 * 0) ea).trans rfl
  · show cc0_transform_1 k0_off1_inb numel1_S1 (held (F := Ideal) T0 T1) (crd hG t) 1 * 1 + 1 * 0 = (ownerOf T0 (rowAt hG t y)).val
    rw [ho]
    exact (congrArg (· * 1 + 1 * 0) ea).trans (by show (T0 (spot (crd hG t))).toNat * 1 + 1 * 0 = _; omega)
  · show cc0_transform_1 k0_off1_inb numel1_S1 (held (F := Ideal) T0 T1) (crd hG t) 2 * 1024 + 1 * k.val = k.val
    exact (congrArg (· * 1024 + 1 * k.val) ea).trans (by show 0 * 1024 + 1 * k.val = _; omega)
  · show cc0_transform_1 k0_off1_inb numel1_S1 (held (F := Ideal) T0 T1) (crd hG t) 3 * 512 + 1 * f.val = f.val
    exact (congrArg (· * 512 + 1 * f.val) ea).trans (by show 0 * 512 + 1 * f.val = _; omega)

theorem up_read (t : Fin (cfgA (F := Ideal) hG).N) (y : Fin 512) (k : Fin 1024) (f : Fin 512) :
    (blkAt hG m ρ c (2 : Fin 5) t : S1x1x1024x512.Idx → EReal) (ix4 0 0 k f)
      = (m ((c.tc : Thread nD τ).loc main_arg4) : S2x16x1024x512.Idx → EReal) (ix4 1 (ownerOf T0 (rowAt hG t y)) k f) := by
  have e := up_index (F := Ideal) T0 T1 (crd hG t)
  have ho := owner_val hG t y
  refine congrArg (m ((c.tc : Thread nD τ).loc main_arg4) : S2x16x1024x512.Idx → EReal) (funext fun a => Fin.ext ?_)
  have ea := congrFun e a
  fin_cases a
  · show cc0_transform_2 k0_off1_inb numel1_S1 (held (F := Ideal) T0 T1) (crd hG t) 0 * 1 + 1 * 0 = 1
    exact (congrArg (· * 1 + 1 * 0) ea).trans rfl
  · show cc0_transform_2 k0_off1_inb numel1_S1 (held (F := Ideal) T0 T1) (crd hG t) 1 * 1 + 1 * 0 = (ownerOf T0 (rowAt hG t y)).val
    rw [ho]
    exact (congrArg (· * 1 + 1 * 0) ea).trans (by show (T0 (spot (crd hG t))).toNat * 1 + 1 * 0 = _; omega)
  · show cc0_transform_2 k0_off1_inb numel1_S1 (held (F := Ideal) T0 T1) (crd hG t) 2 * 1024 + 1 * k.val = k.val
    exact (congrArg (· * 1024 + 1 * k.val) ea).trans (by show 0 * 1024 + 1 * k.val = _; omega)
  · show cc0_transform_2 k0_off1_inb numel1_S1 (held (F := Ideal) T0 T1) (crd hG t) 3 * 512 + 1 * f.val = f.val
    exact (congrArg (· * 512 + 1 * f.val) ea).trans (by show 0 * 512 + 1 * f.val = _; omega)

theorem down_read (t : Fin (cfgA (F := Ideal) hG).N) (y : Fin 512) (f : Fin 512) (o : Fin 1024) :
    (blkAt hG m ρ c (3 : Fin 5) t : S1x1x512x1024.Idx → EReal) (ix4 0 0 f o)
      = (m ((c.tc : Thread nD τ).loc main_arg5) : S2x16x512x1024.Idx → EReal) (ix4 1 (ownerOf T0 (rowAt hG t y)) f o) := by
  have e := down_index (F := Ideal) T0 T1 (crd hG t)
  have ho := owner_val hG t y
  refine congrArg (m ((c.tc : Thread nD τ).loc main_arg5) : S2x16x512x1024.Idx → EReal) (funext fun a => Fin.ext ?_)
  have ea := congrFun e a
  fin_cases a
  · show cc0_transform_3 k0_off1_inb numel1_S1 (held (F := Ideal) T0 T1) (crd hG t) 0 * 1 + 1 * 0 = 1
    exact (congrArg (· * 1 + 1 * 0) ea).trans rfl
  · show cc0_transform_3 k0_off1_inb numel1_S1 (held (F := Ideal) T0 T1) (crd hG t) 1 * 1 + 1 * 0 = (ownerOf T0 (rowAt hG t y)).val
    rw [ho]
    exact (congrArg (· * 1 + 1 * 0) ea).trans (by show (T0 (spot (crd hG t))).toNat * 1 + 1 * 0 = _; omega)
  · show cc0_transform_3 k0_off1_inb numel1_S1 (held (F := Ideal) T0 T1) (crd hG t) 2 * 512 + 1 * f.val = f.val
    exact (congrArg (· * 512 + 1 * f.val) ea).trans (by show 0 * 512 + 1 * f.val = _; omega)
  · show cc0_transform_3 k0_off1_inb numel1_S1 (held (F := Ideal) T0 T1) (crd hG t) 3 * 1024 + 1 * o.val = o.val
    exact (congrArg (· * 1024 + 1 * o.val) ea).trans (by show 0 * 1024 + 1 * o.val = _; omega)

/-- The output array, from the arrays the program is started on. -/
def rows (T0 T1 : S204.Idx → BitVec 32) : S104448x1024.Idx → EReal := fun i =>
  routedRow T0 T1 (m ((c.tc : Thread nD τ).loc main_arg0)) (m ((c.tc : Thread nD τ).loc main_arg3)) (m ((c.tc : Thread nD τ).loc main_arg4)) (m ((c.tc : Thread nD τ).loc main_arg5)) (i 0) (i 1)

/-- A point's tile is those rows of it. -/
theorem tile_value (t : Fin (cfgA (F := Ideal) hG).N) (y : Fin 512) (o : Fin 1024) :
    (tileOut hG m ρ c t : S512x1024.Idx → EReal) (ix2 y o) = rows m c T0 T1 (ix2 (rowAt hG t y) o) := by
  show _ = routedRow T0 T1 _ _ _ _ (rowAt hG t y) o
  unfold tileOut routedRow
  rw [← spot_row hG t y]
  by_cases h : T1 (spot (crd hG t)) = 1#32
  · rw [if_pos h, if_pos h]
    refine (used_apply _ _ _ _ y o).trans ?_
    congr 1
    · exact funext fun k => rows_read hG m ρ c t h y k
    · exact funext fun k => funext fun f => gate_read hG m ρ c t y k f
    · exact funext fun k => funext fun f => up_read hG m ρ c t y k f
    · exact funext fun f => down_read hG m ρ c t y f o
  · rw [if_neg h, if_neg h]
    exact idle_apply _

/-- Where an entry of a tile lies in the array. -/
theorem out_at (t : Fin (cfgA (F := Ideal) hG).N) (y : S512x1024.Idx) :
    ((((cfgA (F := Ideal) hG).win (4 : Fin 5)).blk t).view.emb y : S104448x1024.Idx) = ix2 (rowAt hG t (y 0)) (y 1) := by
  have e := out_index t
  funext a
  refine Fin.ext ?_
  fin_cases a
  · show cc0_transform_4 (grid0.coords t) 0 * 512 + 1 * (y 0).val = t.val * 512 + (y 0).val
    rw [e]; omega
  · show 0 * 1024 + 1 * (y 1).val = (y 1).val
    omega

theorem out_value : (outArr hG m ρ c : S104448x1024.Idx → EReal) = rows m c T0 T1 := by
  refine (dats hG m ρ 0 c).arrAt_eq_of_emb (4 : Fin 5) (rows m c T0 T1) (fun t _ y => ?_) (fun i => ?_)
  · refine Eq.trans ?_ (congrArg (rows m c T0 T1) (out_at hG t y)).symm
    refine Eq.trans ?_ (tile_value hG m ρ c t (y 0) (y 1))
    show (tileOut hG m ρ c t : S512x1024.Idx → EReal) _ = _
    congr 1
    funext a
    fin_cases a <;> rfl
  · have h0 : (i 0).val < 104448 := (i 0).isLt
    obtain ⟨t, ht⟩ : ∃ t : Fin (cfgA (F := Ideal) hG).N, t.val = (i 0).val / 512 := ⟨⟨(i 0).val / 512, by show _ < 204; omega⟩, rfl⟩
    obtain ⟨y, hy⟩ : ∃ y : Fin 512, y.val = (i 0).val % 512 := ⟨⟨(i 0).val % 512, Nat.mod_lt _ (by decide)⟩, rfl⟩
    refine ⟨t, out_flush hG t, ?_⟩
    have he : (((cfgA (F := Ideal) hG).win (4 : Fin 5)).blk t).view.emb (ix2 y (i 1) : S512x1024.Idx) = i := by
      refine (out_at hG t _).trans ?_
      funext a
      refine Fin.ext ?_
      fin_cases a
      · show t.val * 512 + y.val = (i 0).val
        omega
      · rfl
    exact Eq.mp (congrArg (fun j => j ∈ (((cfgA (F := Ideal) hG).win (4 : Fin 5)).blk t).view.set) he)
      ((((cfgA (F := Ideal) hG).win (4 : Fin 5)).blk t).view.emb_mem_set (ix2 y (i 1) : S512x1024.Idx))

end Cert.SecondExperts

end
-- ==== Proof.SecondExpertRef.lean ====
/- The second layer: the plain mathematics' result, row by row: the sum over the experts has one term that is not zero. -/
module

public import proofs.«01_k».proof.Proof.SecondExpertValue
public import proofs.«01_k».proof.Proof.Gen.Reference5Ideal.Run

@[expose] public section

set_option maxRecDepth 16384

noncomputable section

namespace Cert.SecondExperts.Ref

open Cert.Reference5Ideal Cert.Reference5Ideal.Gen Idealize.ShloMosaic Idealize.SL.Sem

variable (x : FVec Ideal S104448x1024 .f32) (ow us : IVec S204 32) (g u : FVec Ideal S2x16x1024x512 .f32) (d : FVec Ideal S2x16x512x1024 .f32)

/-- Which expert a tile's rows go to: a one where the owner is, zeros elsewhere. -/
def chosen : FVec Ideal S204x16 .f32 :=
  select (broadcastInDim S204x16 ![0, 1] bcast_S204x1_S204x16_0_1 (cmpi .sgt (broadcastInDim S204x1 ![0] bcast_S204_S204x1_0 us) (broadcastInDim S204x1 ![] bcast_S_S204x1 (constantI S_ 32 0#32))))
    (uitofp .f32 (cmpi .eq (broadcastInDim S204x16 ![0, 1] bcast_S204x1_S204x16_0_1 (broadcastInDim S204x1 ![0] bcast_S204_S204x1_0 ow)) (broadcastInDim S204x16 ![0, 1] bcast_S1x16_S204x16_0_1 (iotaInDim S1x16 32 1))))
    (broadcastInDim S204x16 ![] bcast_S_S204x16 (id (constant S_ .f32 0x00000000#32)))

def proj (w : FVec Ideal S2x16x1024x512 .f32) : FVec Ideal S16x104448x512 .f32 :=
  transpose S16x104448x512 [0, 2, 1] (Host.dotGeneral dot_S16x1024x512_S104448x1024_S16x512x104448_1_1_02_0_n_n none
    (shapeCast _ (extractStridedSlice S1x16x1024x512 ![1, 0, 0, 0] w slices_S2x16x1024x512_S1x16x1024x512_1_0_0_0) shapeCasts_S1x16x1024x512_S16x1024x512) x)
    transposes_S16x512x104448_S16x104448x512_0_2_1

theorem proj_apply (w : FVec Ideal S2x16x1024x512 .f32) (e : Fin 16) (r : Fin 104448) (f : Fin 512) :
    (proj x w : S16x104448x512.Idx → EReal) (ix3 e r f) = ∑ k : Fin 1024, x (ix2 r k) * w (ix4 1 e k f) := by
  pointwise [proj]
  exact Finset.sum_congr rfl fun k _ => mul_comm _ _

/-- A tile in use has a one at its owner; everything else is zero. -/
theorem chosen_apply (hG : Good ow us) (i : Fin 204) (e : Fin 16) :
    (chosen ow us : S204x16.Idx → EReal) (ix2 i e) = if us (ix1 i) = 1#32 ∧ e.val = (ow (ix1 i)).toNat then 1 else 0 := by
  pointwise [chosen]
  have ho := hG.owner (ix1 i)
  have hz : (id (constant (F := Ideal) S_ FTy.f32 0#32) ix0 : EReal) = 0 := by
    show Ideal.ofBits .f32 0#32 = 0
    pointwise
  rcases hG.use (ix1 i) with h | h
  · rw [h, if_neg (by rintro ⟨h', -⟩; exact absurd h' (by decide))]
    exact (if_neg (by decide)).trans hz
  · rw [h]
    refine (if_pos (by decide)).trans ?_
    by_cases he : e.val = (ow (ix1 i)).toNat
    · rw [if_pos ⟨rfl, he⟩]
      have hw : ow (ix1 i) = BitVec.ofNat 32 e.val := by rw [he, BitVec.ofNat_toNat, BitVec.setWidth_eq]
      rw [hw]
      show (((BitVec.ofBool (BitVec.ofNat 32 e.val == BitVec.ofNat 32 e.val)).toNat : ℝ) : EReal) = 1
      simp
    · rw [if_neg fun h' => he h'.2]
      have hw : (ow (ix1 i) == BitVec.ofNat 32 e.val) = false := by
        refine beq_eq_false_iff_ne.mpr fun hc => he ?_
        rw [hc, BitVec.toNat_ofNat]
        omega
      show (((BitVec.ofBool (ow (ix1 i) == BitVec.ofNat 32 e.val)).toNat : ℝ) : EReal) = 0
      rw [hw]
      simp

/-- The chosen experts of the rows. -/
def combine : FVec Ideal S104448x16 .f32 :=
  shapeCast _ (broadcastInDim S204x512x16 ![0, 1, 2] bcast_S204x1x16_S204x512x16_0_1_2 (broadcastInDim S204x1x16 ![0, 2] bcast_S204x16_S204x1x16_0_2 (chosen ow us))) shapeCasts_S204x512x16_S104448x16

theorem combine_apply (r : Fin 104448) (e : Fin 16) :
    (combine ow us : S104448x16.Idx → EReal) (ix2 r e) = (chosen ow us : S204x16.Idx → EReal) (ix2 ⟨r.val / 512, by omega⟩ e) := by
  pointwise [combine]

/-- Every expert on every row. -/
def hidden : FVec Ideal S16x104448x512 .f32 :=
  mulf (mulf (proj x g) (Host.divf (broadcastInDim S16x104448x512 ![] bcast_S_S16x104448x512 (constant S_ .f32 0x3F800000#32))
    (addf (broadcastInDim S16x104448x512 ![] bcast_S_S16x104448x512 (constant S_ .f32 0x3F800000#32)) (Host.exp (Host.negf (proj x g)))))) (proj x u)

theorem hidden_apply (e : Fin 16) (r : Fin 104448) (f : Fin 512) :
    (hidden x g u : S16x104448x512.Idx → EReal) (ix3 e r f)
      = (proj x g : S16x104448x512.Idx → EReal) (ix3 e r f) * Ideal.logistic ((proj x g : S16x104448x512.Idx → EReal) (ix3 e r f)) * (proj x u : S16x104448x512.Idx → EReal) (ix3 e r f) := by
  pointwise [hidden]
  rfl

def each : FVec Ideal S16x104448x1024 .f32 :=
  Host.dotGeneral dot_S16x104448x512_S16x512x1024_S16x104448x1024_2_1_1_2_0_0 none (hidden x g u)
    (shapeCast _ (extractStridedSlice S1x16x512x1024 ![1, 0, 0, 0] d slices_S2x16x512x1024_S1x16x512x1024_1_0_0_0) shapeCasts_S1x16x512x1024_S16x512x1024)

theorem each_apply (e : Fin 16) (r : Fin 104448) (o : Fin 1024) :
    (each x g u d : S16x104448x1024.Idx → EReal) (ix3 e r o)
      = expert (fun k => x (ix2 r k)) (fun k f => g (ix4 1 e k f)) (fun k f => u (ix4 1 e k f)) (fun f => d (ix4 1 e f o)) := by
  have h : (each x g u d : S16x104448x1024.Idx → EReal) (ix3 e r o) = ∑ f : Fin 512, (hidden x g u : S16x104448x512.Idx → EReal) (ix3 e r f) * d (ix4 1 e f o) := by
    pointwise [each]
  refine h.trans (Finset.sum_congr rfl fun f _ => ?_)
  rw [hidden_apply, proj_apply, proj_apply]

def result : FVec Ideal S104448x1024 .f32 :=
  Host.dotGeneral dot_S104448x16_S16x104448x1024_S104448x1024_1_0_n_2_0_1 none (combine ow us) (each x g u d)

theorem result_apply (hG : Good ow us) (r : Fin 104448) (o : Fin 1024) :
    (result x ow us g u d : S104448x1024.Idx → EReal) (ix2 r o) = routedRow ow us x g u d r o := by
  have h : (result x ow us g u d : S104448x1024.Idx → EReal) (ix2 r o)
      = ∑ e : Fin 16, (combine ow us : S104448x16.Idx → EReal) (ix2 r e) * (each x g u d : S16x104448x1024.Idx → EReal) (ix3 e r o) := by
    pointwise [result]
  refine h.trans ?_
  have ho : (ownerOf ow r).val = (ow (tileOf r)).toNat := Nat.mod_eq_of_lt (hG.owner _)
  unfold routedRow
  by_cases hu : us (tileOf r) = 1#32
  · rw [if_pos hu, Finset.sum_eq_single (ownerOf ow r)]
    · rw [combine_apply, chosen_apply ow us hG, if_pos ⟨hu, ho⟩, one_mul, each_apply]
    · intro e _ he
      rw [combine_apply, chosen_apply ow us hG, if_neg (fun h' => he (Fin.ext (h'.2.trans ho.symm))), zero_mul]
    · exact fun hn => absurd (Finset.mem_univ _) hn
  · rw [if_neg hu]
    refine Finset.sum_eq_zero fun e _ => ?_
    rw [combine_apply, chosen_apply ow us hG, if_neg (fun h' => hu h'.1), zero_mul]

end Cert.SecondExperts.Ref

end
-- ==== Proof.SecondExpertMain.lean ====
/- The second layer: the experts call under its precondition: the run of either program, and the result of the plain mathematics. -/
module

public import proofs.«01_k».proof.Proof.SecondExpertPre
public import proofs.«01_k».proof.Proof.SecondExpertRef

@[expose] public section

set_option maxRecDepth 16384

noncomputable section

namespace Cert.SecondExperts

open Idealize.ShloMosaic Idealize.ShloMosaic.TcCoe Idealize.SL.Sem

section
open Cert.Kernel5Ideal Cert.Kernel5Ideal.Gen
variable {F : FTy → Type} [FloatOps F] (m : (ℓ : Loc nD τ sig) → Buf (Elt F) ℓ)

/-- The precondition on the launch memory, whatever the floats are. -/
def Routed : Prop := ∀ c : Dev nD, Cert.Pre_routed.fn (F := F) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) = fun _ => 1#1

/-- The two tables, as the one device holds them. -/
abbrev own : S204.Idx → BitVec 32 := m (((0 : Dev nD).tc : Thread nD τ).loc main_arg1)
abbrev used : S204.Idx → BitVec 32 := m (((0 : Dev nD).tc : Thread nD τ).loc main_arg2)

variable {m}

theorem Routed.good (h : Routed m) : Good (own m) (used m) :=
  Pre.good _ _ _ _ _ _ fun j => congrFun (h 0) j

theorem tabled : Tabled (own m) (used m) m :=
  ⟨fun c => by obtain rfl : c = 0 := Subsingleton.elim _ _; rfl, fun c => by obtain rfl : c = 0 := Subsingleton.elim _ _; rfl⟩

/-- Every argument is unchanged and every counter at zero. -/
theorem frame_of (ρ : Dev nD → PrngReg) (h : Routed m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ e => ⟨fun c => (e.1 c).2, e.2⟩) (run h.good m ρ tabled)

end

/-- The plain mathematics ends with the rows the kernel leaves. -/
theorem result_eq (m : (ℓ : Loc Cert.Kernel5Ideal.nD Cert.Kernel5Ideal.τ Cert.Kernel5Ideal.sig) → Buf (Elt Ideal) ℓ)
    (x : FVec Ideal Cert.Reference5Ideal.S104448x1024 .f32) (ow us : IVec Cert.Reference5Ideal.S204 32) (g u : FVec Ideal Cert.Reference5Ideal.S2x16x1024x512 .f32)
    (d : FVec Ideal Cert.Reference5Ideal.S2x16x512x1024 .f32) (c : Dev Cert.Kernel5Ideal.nD) (h : Routed m)
    (e0 : x = m ((c.tc : Thread Cert.Kernel5Ideal.nD Cert.Kernel5Ideal.τ).loc Cert.Kernel5Ideal.main_arg0))
    (e1 : ow = m ((c.tc : Thread Cert.Kernel5Ideal.nD Cert.Kernel5Ideal.τ).loc Cert.Kernel5Ideal.main_arg1))
    (e2 : us = m ((c.tc : Thread Cert.Kernel5Ideal.nD Cert.Kernel5Ideal.τ).loc Cert.Kernel5Ideal.main_arg2))
    (e3 : g = m ((c.tc : Thread Cert.Kernel5Ideal.nD Cert.Kernel5Ideal.τ).loc Cert.Kernel5Ideal.main_arg3))
    (e4 : u = m ((c.tc : Thread Cert.Kernel5Ideal.nD Cert.Kernel5Ideal.τ).loc Cert.Kernel5Ideal.main_arg4))
    (e5 : d = m ((c.tc : Thread Cert.Kernel5Ideal.nD Cert.Kernel5Ideal.τ).loc Cert.Kernel5Ideal.main_arg5)) :
    (Ref.result x ow us g u d : Cert.Kernel5Ideal.S104448x1024.Idx → EReal) = rows m c (own m) (used m) := by
  have f1 : ow = own m := e1.trans (tabled.1 c)
  have f2 : us = used m := e2.trans (tabled.2 c)
  funext i
  have hi : i = ix2 (i 0) (i 1) := by
    funext a
    fin_cases a <;> rfl
  rw [hi, f1, f2]
  refine (Ref.result_apply x _ _ g u d h.good (i 0) (i 1)).trans ?_
  rw [e0, e3, e4, e5]
  rfl

end Cert.SecondExperts

end
-- ==== Proof.SecondExpertBits.lean ====
/- The second layer: the experts call on machine words: its program is the idealized one's, so its run is too. -/
module

public import proofs.«01_k».proof.Proof.SecondExpertMain
public import proofs.«01_k».proof.Proof.Gen.Kernel5
public import proofs.«01_k».proof.Defs

@[expose] public section

set_option maxRecDepth 16384

noncomputable section

namespace Cert.SecondExperts.Word

open Idealize.ShloMosaic Idealize.SL.Sem

set_option maxHeartbeats 2000000 in
/-- The kernel's body is the same program. -/
theorem body_eq : Cert.Kernel5.cc0_moe_experts (F := Bits) = Cert.Kernel5Ideal.cc0_moe_experts (F := Bits) := by
  delta Cert.Kernel5.cc0_moe_experts Cert.Kernel5Ideal.cc0_moe_experts
  rfl

set_option maxHeartbeats 2000000 in
theorem table_eq : Cert.Kernel5.defs₀ (F := Bits) = Cert.Kernel5Ideal.defs₀ (F := Bits) := by
  refine congrArg (Defs.onTc (nD := Cert.Kernel5.nD) (τ := Cert.Kernel5.τ) (sig := Cert.Kernel5.sig)) ?_
  funext l p
  obtain ⟨l, hl⟩ := l
  cases l with
  | zero => exact congrFun (congrFun (congrFun (congrFun (congrFun (congrFun (congrFun (congrFun (congrFun (congrFun (congrFun (congrFun (congrFun (congrFun (congrFun body_eq _) _) _) _) _) _) _) _) _) _) _) _) _) _) _
  | succ n => exact absurd hl (by omega)

theorem calls_eq : Cert.Kernel5.pcfgs (F := Bits) = Cert.Kernel5Ideal.pcfgs (F := Bits) := rfl

theorem defs_eq : Cert.Kernel5.defs (F := Bits) = Cert.Kernel5Ideal.defs (F := Bits) :=
  congrArg (Pipeline.defs (Cert.Kernel5Ideal.pcfgs (F := Bits))) table_eq

theorem main_eq : Cert.Kernel5.main (F := Bits) = Cert.Kernel5Ideal.main (F := Bits) := rfl

theorem frame (h : Cert.Kernel5.Facts) (p : Cert.Pre_routed.Facts) : Cert.quiescent_Kernel5 := fun m g hP => by
  have r := frame_of (F := Bits) (m := m) g hP
  rw [← defs_eq, ← main_eq] at r
  exact r

end Cert.SecondExperts.Word

end
-- ==== Proof.SecondProjBody.lean ====
/- The second layer: what one step of each of the three calls computes, number by number. -/
module

public import proofs.«01_k».proof.Proof.Gen.Kernel6Ideal.Skeleton
public import Idealize.ShloMosaic.Lib.Pointwise
public import Idealize.ShloMosaic.Lib.Pipeline.ValueKit

@[expose] public section

set_option maxRecDepth 16384

noncomputable section

namespace Cert.SecondProjection

open Cert.Kernel6Ideal Cert.Kernel6Ideal.Gen Idealize.ShloMosaic

/-- The modulation vector of a conditioning vector. -/
def modAt (cv : Fin 1024 → EReal) (w : Fin 1024 → EReal) (b : EReal) : EReal := (∑ k, cv k * Ideal.logistic (cv k) * w k) + b

theorem mod_apply (x0 : FVec Ideal S8x1024 .f32) (x1 : FVec Ideal S1x1024x1024 .f32) (x2 : FVec Ideal S1x1x1024 .f32) (b : Fin 8) (j : Fin 1024) :
    (k0_pay1 (F := Ideal) x0 x1 x2 : S1x8x1024.Idx → EReal) (ix3 0 b j)
      = modAt (fun k => x0 (ix2 b k)) (fun k => x1 (ix3 0 k j)) (x2 (ix3 0 0 j)) := by
  pointwise [k0_pay1]
  rfl

/-- A choice by a comparison of small numbers. -/
theorem below (j n : ℕ) (hj : j < 2 ^ 31) (hn : n < 2 ^ 31) (x y : EReal) :
    Scalar.select (IntOp.cmpi .slt (BitVec.ofNat 32 j) (BitVec.ofNat 32 n)) x y = if j < n then x else y := by
  have e : (BitVec.ofNat 32 j).slt (BitVec.ofNat 32 n) = decide (j < n) := by
    simp only [BitVec.slt, BitVec.toInt_eq_toNat_cond, BitVec.toNat_ofNat]
    rw [Nat.mod_eq_of_lt (by omega), Nat.mod_eq_of_lt (by omega), if_pos (by omega), if_pos (by omega)]
    exact decide_eq_decide.mpr Int.ofNat_lt
  show (if BitVec.ofBool ((BitVec.ofNat 32 j).slt (BitVec.ofNat 32 n)) = 1#1 then x else y) = _
  rw [e]
  by_cases h : j < n
  · rw [if_pos h, decide_eq_true h]; rfl
  · rw [if_neg h, decide_eq_false h]; rfl

theorem mlCol_apply (w : FVec Ideal S1x256x2824 .f32) (r : Fin 256) (j : Fin 640) :
    (k1_pay2 (F := Ideal) w : S1x256x640.Idx → EReal) (ix3 0 r j) = if j.val < 520 then w (ix3 0 r ⟨j.val, by omega⟩) else 0 := by
  pointwise [k1_pay2, k1_pay1]
  exact below _ _ (by have := j.isLt; omega) (by decide) _ _

/-- The scale of a column of the queries', keys' and values' weights: the eighth on the queries. -/
def scaleOf (j : Fin 1152) : EReal := if j.val < 384 then Ideal.ofBits .f32 0x3E000000#32 else 1

theorem scale_apply (j : Fin 1152) : (k1_pay3 (F := Ideal) : S1x1152.Idx → EReal) (ix2 0 j) = scaleOf j := by
  pointwise [k1_pay3]
  exact below _ _ (by have := j.isLt; omega) (by decide) _ _

theorem dilCol_apply (w : FVec Ideal S1x256x2824 .f32) (r : Fin 256) (j : Fin 1152) :
    (k1_pay4 (F := Ideal) w : S1x256x1152.Idx → EReal) (ix3 0 r j) = w (ix3 0 r ⟨520 + j.val, by omega⟩) * scaleOf j := by
  rw [← scale_apply]
  pointwise [k1_pay4, k1_pay1]

theorem sbCol_apply (w : FVec Ideal S1x256x2824 .f32) (r : Fin 256) (j : Fin 1152) :
    (k1_pay5 (F := Ideal) w : S1x256x1152.Idx → EReal) (ix3 0 r j) = w (ix3 0 r ⟨1672 + j.val, by omega⟩) * scaleOf j := by
  rw [← scale_apply]
  pointwise [k1_pay5, k1_pay1]

/-- A row, normalised by the root of its mean square, scaled and shifted. -/
def normed (x sc sh : Fin 1024 → EReal) (k : Fin 1024) : EReal :=
  x k * Ideal.rsqrt (Ideal.div (∑ l, x l * x l) (Ideal.ofBits .f32 0x44800000#32) + Ideal.ofBits .f32 0x358637BD#32) * (1 + sc k) + sh k

theorem norm_apply (x : FVec Ideal S1x512x1024 .f32) (md : FVec Ideal S1x6x1024 .f32) (y : Fin 512) (k : Fin 1024) :
    (k2_pay3 (F := Ideal) x md : S512x1024.Idx → EReal) (ix2 y k)
      = normed (fun k => x (ix3 0 y k)) (fun k => md (ix3 0 1 k)) (fun k => md (ix3 0 0 k)) k := by
  pointwise [k2_pay3]
  rfl

theorem ml_apply (x : FVec Ideal S1x512x1024 .f32) (md : FVec Ideal S1x6x1024 .f32) (w : FVec Ideal S1024x640 .bf16) (y : Fin 512) (j : Fin 640) :
    (k2_pay5 (F := Ideal) x md w : S1x512x640.Idx → EReal) (ix3 0 y j)
      = ∑ k, (k2_pay3 (F := Ideal) x md : S512x1024.Idx → EReal) (ix2 y k) * w (ix2 k j) := by
  pointwise [k2_pay5, k2_pay4]

theorem gate_apply (x : FVec Ideal S1x512x1024 .f32) (md : FVec Ideal S1x6x1024 .f32) (w : FVec Ideal S1024x640 .bf16) (g : Fin 8) (y : Fin 512) :
    (k2_pay2 (F := Ideal) (k2_pay4 x md w) : S1x8x512.Idx → EReal) (ix3 0 g y)
      = ∑ k, (k2_pay3 (F := Ideal) x md : S512x1024.Idx → EReal) (ix2 y k) * w (ix2 k ⟨512 + g.val, by omega⟩) := by
  pointwise [k2_pay2, k2_pay4]

theorem dil_apply (x : FVec Ideal S1x512x1024 .f32) (md : FVec Ideal S1x6x1024 .f32) (w : FVec Ideal S1024x1152 .bf16) (y : Fin 512) (j : Fin 1152) :
    (k2_pay6 (F := Ideal) x md w : S1x512x1152.Idx → EReal) (ix3 0 y j)
      = ∑ k, (k2_pay3 (F := Ideal) x md : S512x1024.Idx → EReal) (ix2 y k) * w (ix2 k j) := by
  pointwise [k2_pay6]

theorem sb_apply (h : FVec Ideal S512x1024 .bf16) (w : FVec Ideal S1024x1152 .bf16) (y : Fin 512) (j : Fin 1152) :
    (k2_pay1 (F := Ideal) h w : S1x512x1152.Idx → EReal) (ix3 0 y j) = ∑ k, h (ix2 y k) * w (ix2 k j) := by
  pointwise [k2_pay1]

end Cert.SecondProjection

end
-- ==== Proof.SecondProjMod.lean ====
/- The second layer: the first call: the modulation of every layer and sequence, as one array. -/
module

public import proofs.«01_k».proof.Proof.Gen.Kernel6Ideal.Frame
public import proofs.«01_k».proof.Proof.SecondProjBody

@[expose] public section

set_option maxRecDepth 16384

noncomputable section

namespace Cert.SecondProjection

open Cert.Kernel6Ideal Cert.Kernel6Ideal.Gen Idealize.ShloMosaic Idealize.ShloMosaic.TcCoe Idealize.SL.Sem

theorem zero2 : (![0, 0] : Fin 2 → Nat) = fun _ => 0 := by funext a; fin_cases a <;> rfl
theorem zero3 : (![0, 0, 0] : Fin 3 → Nat) = fun _ => 0 := by funext a; fin_cases a <;> rfl

variable (V : (c : Dev nD) → (b : Ref sig .tc) → Buf (Elt Ideal) ((c : Thread nD τ).loc b)) (c : Dev nD)

/-- A step of the first call: six blocks of columns for each of the two layers. -/
theorem place0 : ∀ t : Fin cfg0.N, cc0_transform_3 (grid0.coords t) = ![t.val / 6, 0, t.val % 6] := by decide +kernel

def layer0 (t : Fin cfg0.N) : Fin 2 := ⟨t.val / 6, by have h : t.val < 12 := t.isLt; omega⟩
def col0 (t : Fin cfg0.N) (j : Fin 1024) : Fin 6144 := ⟨t.val % 6 * 1024 + j.val, by omega⟩

theorem cond_read (t : Fin cfg0.N) (b : Fin 8) (k : Fin 1024) :
    (iblk0 V c 0 t : S8x1024.Idx → EReal) (ix2 b k) = (V c main_arg1 : S8x1024.Idx → EReal) (ix2 b k) := by
  refine congrArg (V c main_arg1 : S8x1024.Idx → EReal) (funext fun a => Fin.ext ?_)
  fin_cases a
  · show 0 * 8 + 1 * b.val = b.val
    omega
  · show 0 * 1024 + 1 * k.val = k.val
    omega

theorem weight0_read (t : Fin cfg0.N) (k j : Fin 1024) :
    (iblk0 V c 1 t : S1x1024x1024.Idx → EReal) (ix3 0 k j) = (V c main_arg3 : S2x1024x6144.Idx → EReal) (ix3 (layer0 t) k (col0 t j)) := by
  have e := place0 t
  refine congrArg (V c main_arg3 : S2x1024x6144.Idx → EReal) (funext fun a => Fin.ext ?_)
  have ea := congrFun e a
  fin_cases a
  · show cc0_transform_3 (grid0.coords t) 0 * 1 + 1 * 0 = t.val / 6
    exact (congrArg (· * 1 + 1 * 0) ea).trans (by show t.val / 6 * 1 + 1 * 0 = _; omega)
  · show 0 * 1024 + 1 * k.val = k.val
    omega
  · show cc0_transform_3 (grid0.coords t) 2 * 1024 + 1 * j.val = t.val % 6 * 1024 + j.val
    exact (congrArg (· * 1024 + 1 * j.val) ea).trans (by show t.val % 6 * 1024 + 1 * j.val = _; omega)

theorem bias0_read (t : Fin cfg0.N) (j : Fin 1024) :
    (iblk0 V c 2 t : S1x1x1024.Idx → EReal) (ix3 0 0 j) = (V c main_v0 : S2x1x6144.Idx → EReal) (ix3 (layer0 t) 0 (col0 t j)) := by
  have e := place0 t
  refine congrArg (V c main_v0 : S2x1x6144.Idx → EReal) (funext fun a => Fin.ext ?_)
  have ea := congrFun e a
  fin_cases a
  · show cc0_transform_3 (grid0.coords t) 0 * 1 + 1 * 0 = t.val / 6
    exact (congrArg (· * 1 + 1 * 0) ea).trans (by show t.val / 6 * 1 + 1 * 0 = _; omega)
  · rfl
  · show cc0_transform_3 (grid0.coords t) 2 * 1024 + 1 * j.val = t.val % 6 * 1024 + j.val
    exact (congrArg (· * 1024 + 1 * j.val) ea).trans (by show t.val % 6 * 1024 + 1 * j.val = _; omega)

/-- The first call's output: the modulation of every layer, sequence and column. -/
def mods : S2x8x6144.Idx → EReal := fun i =>
  modAt (fun k => (V c main_arg1 : S8x1024.Idx → EReal) (ix2 (i 1) k)) (fun k => (V c main_arg3 : S2x1024x6144.Idx → EReal) (ix3 (i 0) k (i 2)))
    ((V c main_v0 : S2x1x6144.Idx → EReal) (ix3 (i 0) 0 (i 2)))

theorem mod_step (t : Fin cfg0.N) (b : Fin 8) (j : Fin 1024) :
    ((dat0 V c).after 3 t : S1x8x1024.Idx → EReal) (ix3 0 b j) = mods V c (ix3 (layer0 t) b (col0 t j)) := by
  rw [after0_3]
  unfold out0_3
  refine (congrFun (View.canon_unit_zero zero3 _ _) _).trans ?_
  refine (mod_apply _ _ _ b j).trans ?_
  show modAt _ _ _ = modAt _ _ _
  congr 1
  · exact funext fun k => (congrFun (View.ld_unit_zero zero2 _ _) _).trans (cond_read V c t b k)
  · exact funext fun k => (congrFun (View.ld_unit_zero zero3 _ _) _).trans (weight0_read V c t k j)
  · exact (congrFun (View.ld_unit_zero zero3 _ _) _).trans (bias0_read V c t j)

theorem mod_at (t : Fin cfg0.N) (y : S1x8x1024.Idx) :
    (((cfg0.win 3).blk t).view.emb y : S2x8x6144.Idx) = ix3 (layer0 t) (y 1) (col0 t (y 2)) := by
  have e := place0 t
  funext a
  have ea := congrFun e a
  refine Fin.ext ?_
  fin_cases a
  · show cc0_transform_3 (grid0.coords t) 0 * 1 + 1 * (y 0).val = t.val / 6
    have h : (y 0).val < 1 := (y 0).isLt
    exact (congrArg (· * 1 + 1 * (y 0).val) ea).trans (by show t.val / 6 * 1 + 1 * (y 0).val = _; omega)
  · show 0 * 8 + 1 * (y 1).val = (y 1).val
    omega
  · show cc0_transform_3 (grid0.coords t) 2 * 1024 + 1 * (y 2).val = t.val % 6 * 1024 + (y 2).val
    exact (congrArg (· * 1024 + 1 * (y 2).val) ea).trans (by show t.val % 6 * 1024 + 1 * (y 2).val = _; omega)

theorem mods_value : ((dat0 V c).arrAt 3 cfg0.N : S2x8x6144.Idx → EReal) = mods V c := by
  refine (dat0 V c).arrAt_eq_of_emb 3 (mods V c) (fun t _ y => ?_) (fun i => ?_)
  · refine Eq.trans ?_ (congrArg (mods V c) (mod_at t y)).symm
    refine Eq.trans ?_ (mod_step V c t (y 1) (y 2))
    show ((dat0 V c).after 3 t : S1x8x1024.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h2 : (i 2).val < 6144 := (i 2).isLt
    obtain ⟨t, ht⟩ : ∃ t : Fin cfg0.N, t.val = (i 0).val * 6 + (i 2).val / 1024 := ⟨⟨(i 0).val * 6 + (i 2).val / 1024, by show _ < 12; omega⟩, rfl⟩
    obtain ⟨j, hj⟩ : ∃ j : Fin 1024, j.val = (i 2).val % 1024 := ⟨⟨(i 2).val % 1024, Nat.mod_lt _ (by decide)⟩, rfl⟩
    refine ⟨t, flush0_3 t, ?_⟩
    have he : ((cfg0.win 3).blk t).view.emb (ix3 0 (i 1) j : S1x8x1024.Idx) = i := by
      refine (mod_at t _).trans ?_
      funext a
      refine Fin.ext ?_
      fin_cases a
      · show t.val / 6 = (i 0).val
        omega
      · rfl
      · show t.val % 6 * 1024 + j.val = (i 2).val
        omega
    exact Eq.mp (congrArg (fun j => j ∈ ((cfg0.win 3).blk t).view.set) he) (((cfg0.win 3).blk t).view.emb_mem_set (ix3 0 (i 1) j : S1x8x1024.Idx))

end Cert.SecondProjection

end
-- ==== Proof.SecondProjWeights.lean ====
/- The second layer: the second call: the weights laid out for the three mixers, as arrays. -/
module

public import proofs.«01_k».proof.Proof.SecondProjMod

@[expose] public section

set_option maxRecDepth 16384

noncomputable section

namespace Cert.SecondProjection

open Cert.Kernel6Ideal Cert.Kernel6Ideal.Gen Idealize.ShloMosaic Idealize.ShloMosaic.TcCoe Idealize.SL.Sem

variable (V : (c : Dev nD) → (b : Ref sig .tc) → Buf (Elt Ideal) ((c : Thread nD τ).loc b)) (c : Dev nD)

/-- A step of the second call: four blocks of rows for each of the two layers. -/
theorem place1 : ∀ t : Fin cfg1.N, cc1_transform_0 (grid1.coords t) = ![t.val / 4, t.val % 4, 0] := by decide +kernel

def layer1 (t : Fin cfg1.N) : Fin 2 := ⟨t.val / 4, by have h : t.val < 8 := t.isLt; omega⟩
def row1 (t : Fin cfg1.N) (r : Fin 256) : Fin 1024 := ⟨t.val % 4 * 256 + r.val, by omega⟩

theorem weight1_read (t : Fin cfg1.N) (r : Fin 256) (j : Fin 2824) :
    (iblk1 V c 0 t : S1x256x2824.Idx → EReal) (ix3 0 r j) = (V c main_arg2 : S2x1024x2824.Idx → EReal) (ix3 (layer1 t) (row1 t r) j) := by
  have e := place1 t
  refine congrArg (V c main_arg2 : S2x1024x2824.Idx → EReal) (funext fun a => Fin.ext ?_)
  have ea := congrFun e a
  fin_cases a
  · show cc1_transform_0 (grid1.coords t) 0 * 1 + 1 * 0 = t.val / 4
    exact (congrArg (· * 1 + 1 * 0) ea).trans (by show t.val / 4 * 1 + 1 * 0 = _; omega)
  · show cc1_transform_0 (grid1.coords t) 1 * 256 + 1 * r.val = t.val % 4 * 256 + r.val
    exact (congrArg (· * 256 + 1 * r.val) ea).trans (by show t.val % 4 * 256 + 1 * r.val = _; omega)
  · show 0 * 2824 + 1 * j.val = j.val
    omega

/-- The weights of the input projection, of both layers. -/
def wIn : S2x1024x2824.Idx → EReal := V c main_arg2

/-- The recurrence's columns of the weights, the columns past the 520th zero. -/
def wMl : S2x1024x640.Idx → EReal := fun i =>
  if (i 2).val < 520 then wIn V c (ix3 (i 0) (i 1) ⟨(i 2).val, by have h : (i 2).val < 640 := (i 2).isLt; omega⟩) else 0

/-- The dilated attention's columns, an eighth of the queries'. -/
def wDil : S2x1024x1152.Idx → EReal := fun i =>
  wIn V c (ix3 (i 0) (i 1) ⟨520 + (i 2).val, by have h : (i 2).val < 1152 := (i 2).isLt; omega⟩) * scaleOf (i 2)

/-- The stick-breaking attention's columns, an eighth of the queries'. -/
def wSb : S2x1024x1152.Idx → EReal := fun i =>
  wIn V c (ix3 (i 0) (i 1) ⟨1672 + (i 2).val, by have h : (i 2).val < 1152 := (i 2).isLt; omega⟩) * scaleOf (i 2)

theorem wMl_step (t : Fin cfg1.N) (r : Fin 256) (j : Fin 640) :
    ((dat1 V c).after 1 t : S1x256x640.Idx → EReal) (ix3 0 r j) = wMl V c (ix3 (layer1 t) (row1 t r) j) := by
  rw [after1_1]
  unfold out1_1
  refine (congrFun (View.canon_unit_zero zero3 _ _) _).trans ?_
  refine (mlCol_apply _ r j).trans ?_
  show (if j.val < 520 then _ else (0 : EReal)) = if j.val < 520 then _ else 0
  refine congrArg (fun z => if j.val < 520 then z else (0 : EReal)) ?_
  exact (congrFun (View.ld_unit_zero zero3 _ _) _).trans (weight1_read V c t r _)

theorem wDil_step (t : Fin cfg1.N) (r : Fin 256) (j : Fin 1152) :
    ((dat1 V c).after 2 t : S1x256x1152.Idx → EReal) (ix3 0 r j) = wDil V c (ix3 (layer1 t) (row1 t r) j) := by
  rw [after1_2]
  unfold out1_2
  refine (congrFun (View.canon_unit_zero zero3 _ _) _).trans ?_
  refine (dilCol_apply _ r j).trans ?_
  refine congrArg (· * scaleOf j) ?_
  exact (congrFun (View.ld_unit_zero zero3 _ _) _).trans (weight1_read V c t r _)

theorem wSb_step (t : Fin cfg1.N) (r : Fin 256) (j : Fin 1152) :
    ((dat1 V c).after 3 t : S1x256x1152.Idx → EReal) (ix3 0 r j) = wSb V c (ix3 (layer1 t) (row1 t r) j) := by
  rw [after1_3]
  unfold out1_3
  refine (congrFun (View.canon_unit_zero zero3 _ _) _).trans ?_
  refine (sbCol_apply _ r j).trans ?_
  refine congrArg (· * scaleOf j) ?_
  exact (congrFun (View.ld_unit_zero zero3 _ _) _).trans (weight1_read V c t r _)

theorem wMl_at (t : Fin cfg1.N) (y : S1x256x640.Idx) :
    (((cfg1.win 1).blk t).view.emb y : S2x1024x640.Idx) = ix3 (layer1 t) (row1 t (y 1)) (y 2) := by
  have e := place1 t
  funext a
  have ea := congrFun e a
  refine Fin.ext ?_
  fin_cases a
  · show cc1_transform_0 (grid1.coords t) 0 * 1 + 1 * (y 0).val = t.val / 4
    have h : (y 0).val < 1 := (y 0).isLt
    exact (congrArg (· * 1 + 1 * (y 0).val) ea).trans (by show t.val / 4 * 1 + 1 * (y 0).val = _; omega)
  · show cc1_transform_0 (grid1.coords t) 1 * 256 + 1 * (y 1).val = t.val % 4 * 256 + (y 1).val
    exact (congrArg (· * 256 + 1 * (y 1).val) ea).trans (by show t.val % 4 * 256 + 1 * (y 1).val = _; omega)
  · show 0 * 640 + 1 * (y 2).val = (y 2).val
    omega

theorem wMl_value : ((dat1 V c).arrAt 1 cfg1.N : S2x1024x640.Idx → EReal) = wMl V c := by
  refine (dat1 V c).arrAt_eq_of_emb 1 (wMl V c) (fun t _ y => ?_) (fun i => ?_)
  · refine Eq.trans ?_ (congrArg (wMl V c) (wMl_at t y)).symm
    refine Eq.trans ?_ (wMl_step V c t (y 1) (y 2))
    show ((dat1 V c).after 1 t : S1x256x640.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h1 : (i 1).val < 1024 := (i 1).isLt
    obtain ⟨t, ht⟩ : ∃ t : Fin cfg1.N, t.val = (i 0).val * 4 + (i 1).val / 256 := ⟨⟨(i 0).val * 4 + (i 1).val / 256, by show _ < 8; omega⟩, rfl⟩
    obtain ⟨r, hr⟩ : ∃ r : Fin 256, r.val = (i 1).val % 256 := ⟨⟨(i 1).val % 256, Nat.mod_lt _ (by decide)⟩, rfl⟩
    refine ⟨t, flush1_1 t, ?_⟩
    have he : ((cfg1.win 1).blk t).view.emb (ix3 0 r (i 2) : S1x256x640.Idx) = i := by
      refine (wMl_at t _).trans ?_
      funext a
      refine Fin.ext ?_
      fin_cases a
      · show t.val / 4 = (i 0).val
        omega
      · show t.val % 4 * 256 + r.val = (i 1).val
        omega
      · rfl
    exact Eq.mp (congrArg (fun j => j ∈ ((cfg1.win 1).blk t).view.set) he) (((cfg1.win 1).blk t).view.emb_mem_set (ix3 0 r (i 2) : S1x256x640.Idx))

theorem wDil_at (t : Fin cfg1.N) (y : S1x256x1152.Idx) :
    (((cfg1.win 2).blk t).view.emb y : S2x1024x1152.Idx) = ix3 (layer1 t) (row1 t (y 1)) (y 2) := by
  have e := place1 t
  funext a
  have ea := congrFun e a
  refine Fin.ext ?_
  fin_cases a
  · show cc1_transform_0 (grid1.coords t) 0 * 1 + 1 * (y 0).val = t.val / 4
    have h : (y 0).val < 1 := (y 0).isLt
    exact (congrArg (· * 1 + 1 * (y 0).val) ea).trans (by show t.val / 4 * 1 + 1 * (y 0).val = _; omega)
  · show cc1_transform_0 (grid1.coords t) 1 * 256 + 1 * (y 1).val = t.val % 4 * 256 + (y 1).val
    exact (congrArg (· * 256 + 1 * (y 1).val) ea).trans (by show t.val % 4 * 256 + 1 * (y 1).val = _; omega)
  · show 0 * 1152 + 1 * (y 2).val = (y 2).val
    omega

theorem wDil_value : ((dat1 V c).arrAt 2 cfg1.N : S2x1024x1152.Idx → EReal) = wDil V c := by
  refine (dat1 V c).arrAt_eq_of_emb 2 (wDil V c) (fun t _ y => ?_) (fun i => ?_)
  · refine Eq.trans ?_ (congrArg (wDil V c) (wDil_at t y)).symm
    refine Eq.trans ?_ (wDil_step V c t (y 1) (y 2))
    show ((dat1 V c).after 2 t : S1x256x1152.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h1 : (i 1).val < 1024 := (i 1).isLt
    obtain ⟨t, ht⟩ : ∃ t : Fin cfg1.N, t.val = (i 0).val * 4 + (i 1).val / 256 := ⟨⟨(i 0).val * 4 + (i 1).val / 256, by show _ < 8; omega⟩, rfl⟩
    obtain ⟨r, hr⟩ : ∃ r : Fin 256, r.val = (i 1).val % 256 := ⟨⟨(i 1).val % 256, Nat.mod_lt _ (by decide)⟩, rfl⟩
    refine ⟨t, flush1_2 t, ?_⟩
    have he : ((cfg1.win 2).blk t).view.emb (ix3 0 r (i 2) : S1x256x1152.Idx) = i := by
      refine (wDil_at t _).trans ?_
      funext a
      refine Fin.ext ?_
      fin_cases a
      · show t.val / 4 = (i 0).val
        omega
      · show t.val % 4 * 256 + r.val = (i 1).val
        omega
      · rfl
    exact Eq.mp (congrArg (fun j => j ∈ ((cfg1.win 2).blk t).view.set) he) (((cfg1.win 2).blk t).view.emb_mem_set (ix3 0 r (i 2) : S1x256x1152.Idx))

theorem wSb_at (t : Fin cfg1.N) (y : S1x256x1152.Idx) :
    (((cfg1.win 3).blk t).view.emb y : S2x1024x1152.Idx) = ix3 (layer1 t) (row1 t (y 1)) (y 2) := by
  have e := place1 t
  funext a
  have ea := congrFun e a
  refine Fin.ext ?_
  fin_cases a
  · show cc1_transform_0 (grid1.coords t) 0 * 1 + 1 * (y 0).val = t.val / 4
    have h : (y 0).val < 1 := (y 0).isLt
    exact (congrArg (· * 1 + 1 * (y 0).val) ea).trans (by show t.val / 4 * 1 + 1 * (y 0).val = _; omega)
  · show cc1_transform_0 (grid1.coords t) 1 * 256 + 1 * (y 1).val = t.val % 4 * 256 + (y 1).val
    exact (congrArg (· * 256 + 1 * (y 1).val) ea).trans (by show t.val % 4 * 256 + 1 * (y 1).val = _; omega)
  · show 0 * 1152 + 1 * (y 2).val = (y 2).val
    omega

theorem wSb_value : ((dat1 V c).arrAt 3 cfg1.N : S2x1024x1152.Idx → EReal) = wSb V c := by
  refine (dat1 V c).arrAt_eq_of_emb 3 (wSb V c) (fun t _ y => ?_) (fun i => ?_)
  · refine Eq.trans ?_ (congrArg (wSb V c) (wSb_at t y)).symm
    refine Eq.trans ?_ (wSb_step V c t (y 1) (y 2))
    show ((dat1 V c).after 3 t : S1x256x1152.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h1 : (i 1).val < 1024 := (i 1).isLt
    obtain ⟨t, ht⟩ : ∃ t : Fin cfg1.N, t.val = (i 0).val * 4 + (i 1).val / 256 := ⟨⟨(i 0).val * 4 + (i 1).val / 256, by show _ < 8; omega⟩, rfl⟩
    obtain ⟨r, hr⟩ : ∃ r : Fin 256, r.val = (i 1).val % 256 := ⟨⟨(i 1).val % 256, Nat.mod_lt _ (by decide)⟩, rfl⟩
    refine ⟨t, flush1_3 t, ?_⟩
    have he : ((cfg1.win 3).blk t).view.emb (ix3 0 r (i 2) : S1x256x1152.Idx) = i := by
      refine (wSb_at t _).trans ?_
      funext a
      refine Fin.ext ?_
      fin_cases a
      · show t.val / 4 = (i 0).val
        omega
      · show t.val % 4 * 256 + r.val = (i 1).val
        omega
      · rfl
    exact Eq.mp (congrArg (fun j => j ∈ ((cfg1.win 3).blk t).view.set) he) (((cfg1.win 3).blk t).view.emb_mem_set (ix3 0 r (i 2) : S1x256x1152.Idx))

end Cert.SecondProjection

end
-- ==== Proof.SecondProjRows.lean ====
/- The second layer: the third call: the modulated norm and its products with the laid out weights, as arrays. -/
module

public import proofs.«01_k».proof.Proof.SecondProjMod

@[expose] public section

set_option maxRecDepth 16384

noncomputable section

namespace Cert.SecondProjection

open Cert.Kernel6Ideal Cert.Kernel6Ideal.Gen Idealize.ShloMosaic Idealize.ShloMosaic.TcCoe Idealize.SL.Sem

variable (V : (c : Dev nD) → (b : Ref sig .tc) → Buf (Elt Ideal) ((c : Thread nD τ).loc b)) (c : Dev nD)

/-- A step of the third call: eight blocks of 512 positions for each sequence. -/
theorem place2 : ∀ t : Fin cfg2.N, cc2_transform_0 (grid2.coords t) = ![t.val / 8, t.val % 8, 0] := by decide +kernel

def seq2 (t : Fin cfg2.N) : Fin 8 := ⟨t.val / 8, by have h : t.val < 64 := t.isLt; omega⟩
def pos2 (t : Fin cfg2.N) (y : Fin 512) : Fin 4096 := ⟨t.val % 8 * 512 + y.val, by omega⟩

theorem x_read (t : Fin cfg2.N) (y : Fin 512) (k : Fin 1024) :
    (iblk2 V c 0 t : S1x512x1024.Idx → EReal) (ix3 0 y k) = (V c main_arg0 : S8x4096x1024.Idx → EReal) (ix3 (seq2 t) (pos2 t y) k) := by
  have e := place2 t
  refine congrArg (V c main_arg0 : S8x4096x1024.Idx → EReal) (funext fun a => Fin.ext ?_)
  have ea := congrFun e a
  fin_cases a
  · show cc2_transform_0 (grid2.coords t) 0 * 1 + 1 * 0 = t.val / 8
    exact (congrArg (· * 1 + 1 * 0) ea).trans (by show t.val / 8 * 1 + 1 * 0 = _; omega)
  · show cc2_transform_0 (grid2.coords t) 1 * 512 + 1 * y.val = t.val % 8 * 512 + y.val
    exact (congrArg (· * 512 + 1 * y.val) ea).trans (by show t.val % 8 * 512 + 1 * y.val = _; omega)
  · show 0 * 1024 + 1 * k.val = k.val
    omega

theorem mod_read (t : Fin cfg2.N) (i : Fin 6) (k : Fin 1024) :
    (iblk2 V c 1 t : S1x6x1024.Idx → EReal) (ix3 0 i k) = (V c main_v5 : S8x6x1024.Idx → EReal) (ix3 (seq2 t) i k) := by
  have e := place2 t
  refine congrArg (V c main_v5 : S8x6x1024.Idx → EReal) (funext fun a => Fin.ext ?_)
  fin_cases a
  · show cc2_transform_0 (grid2.coords t) 0 * 1 + 1 * 0 = t.val / 8
    exact (congrArg (· * 1 + 1 * 0) (congrFun e 0)).trans (by show t.val / 8 * 1 + 1 * 0 = _; omega)
  · show 0 * 6 + 1 * i.val = i.val
    omega
  · show 0 * 1024 + 1 * k.val = k.val
    omega

theorem ml_read (t : Fin cfg2.N) (k : Fin 1024) (j : Fin 640) :
    (iblk2 V c 2 t : S1024x640.Idx → EReal) (ix2 k j) = (V c main_v7 : S1024x640.Idx → EReal) (ix2 k j) := by
  refine congrArg (V c main_v7 : S1024x640.Idx → EReal) (funext fun a => Fin.ext ?_)
  fin_cases a
  · show 0 * 1024 + 1 * k.val = k.val
    omega
  · show 0 * 640 + 1 * j.val = j.val
    omega

theorem dil_read (t : Fin cfg2.N) (k : Fin 1024) (j : Fin 1152) :
    (iblk2 V c 3 t : S1024x1152.Idx → EReal) (ix2 k j) = (V c main_v9 : S1024x1152.Idx → EReal) (ix2 k j) := by
  refine congrArg (V c main_v9 : S1024x1152.Idx → EReal) (funext fun a => Fin.ext ?_)
  fin_cases a
  · show 0 * 1024 + 1 * k.val = k.val
    omega
  · show 0 * 1152 + 1 * j.val = j.val
    omega

theorem sb_read (t : Fin cfg2.N) (k : Fin 1024) (j : Fin 1152) :
    (iblk2 V c 4 t : S1024x1152.Idx → EReal) (ix2 k j) = (V c main_v11 : S1024x1152.Idx → EReal) (ix2 k j) := by
  refine congrArg (V c main_v11 : S1024x1152.Idx → EReal) (funext fun a => Fin.ext ?_)
  fin_cases a
  · show 0 * 1024 + 1 * k.val = k.val
    omega
  · show 0 * 1152 + 1 * j.val = j.val
    omega

/-- The modulated norm of a position. -/
def row (b : Fin 8) (s : Fin 4096) : Fin 1024 → EReal :=
  normed (fun k => (V c main_arg0 : S8x4096x1024.Idx → EReal) (ix3 b s k)) (fun k => (V c main_v5 : S8x6x1024.Idx → EReal) (ix3 b 1 k))
    (fun k => (V c main_v5 : S8x6x1024.Idx → EReal) (ix3 b 0 k))

theorem row_step (t : Fin cfg2.N) (y : Fin 512) (k : Fin 1024) :
    (k2_pay3 (F := Ideal) (View.ld (iblk2 V c 0 t) r2_0) (View.ld (iblk2 V c 1 t) r2_1) : S512x1024.Idx → EReal) (ix2 y k) = row V c (seq2 t) (pos2 t y) k := by
  refine (norm_apply _ _ y k).trans ?_
  show normed _ _ _ k = normed _ _ _ k
  congr 1
  · exact funext fun k => (congrFun (View.ld_unit_zero zero3 _ _) _).trans (x_read V c t y k)
  · exact funext fun k => (congrFun (View.ld_unit_zero zero3 _ _) _).trans (mod_read V c t 1 k)
  · exact funext fun k => (congrFun (View.ld_unit_zero zero3 _ _) _).trans (mod_read V c t 0 k)

/-- What the recurrence reads, and the two attentions. -/
def uMl : S8x4096x640.Idx → EReal := fun i => ∑ k, row V c (i 0) (i 1) k * (V c main_v7 : S1024x640.Idx → EReal) (ix2 k (i 2))
def uDil : S8x4096x1152.Idx → EReal := fun i => ∑ k, row V c (i 0) (i 1) k * (V c main_v9 : S1024x1152.Idx → EReal) (ix2 k (i 2))
def uSb : S8x4096x1152.Idx → EReal := fun i => ∑ k, row V c (i 0) (i 1) k * (V c main_v11 : S1024x1152.Idx → EReal) (ix2 k (i 2))

/-- The gates, positions along the lanes. -/
def uGate : S8x8x4096.Idx → EReal := fun i =>
  ∑ k, row V c (i 0) (i 2) k * (V c main_v7 : S1024x640.Idx → EReal) (ix2 k ⟨512 + (i 1).val, by have h : (i 1).val < 8 := (i 1).isLt; omega⟩)

theorem uMl_step (t : Fin cfg2.N) (y : Fin 512) (j : Fin 640) :
    ((dat2 V c).after 5 t : S1x512x640.Idx → EReal) (ix3 0 y j) = uMl V c (ix3 (seq2 t) (pos2 t y) j) := by
  rw [after2_5]
  unfold out2_5
  refine (congrFun (View.canon_unit_zero zero3 _ _) _).trans ?_
  refine (ml_apply _ _ _ y j).trans ?_
  refine Finset.sum_congr rfl fun k _ => ?_
  refine congrArg₂ (· * ·) (row_step V c t y k) ?_
  exact (congrFun (View.ld_unit_zero zero2 _ _) _).trans (ml_read V c t k j)

theorem uMl_at (t : Fin cfg2.N) (y : S1x512x640.Idx) :
    (((cfg2.win 5).blk t).view.emb y : S8x4096x640.Idx) = ix3 (seq2 t) (pos2 t (y 1)) (y 2) := by
  have e := place2 t
  funext a
  have ea := congrFun e a
  refine Fin.ext ?_
  fin_cases a
  · show cc2_transform_0 (grid2.coords t) 0 * 1 + 1 * (y 0).val = t.val / 8
    have h : (y 0).val < 1 := (y 0).isLt
    exact (congrArg (· * 1 + 1 * (y 0).val) ea).trans (by show t.val / 8 * 1 + 1 * (y 0).val = _; omega)
  · show cc2_transform_0 (grid2.coords t) 1 * 512 + 1 * (y 1).val = t.val % 8 * 512 + (y 1).val
    exact (congrArg (· * 512 + 1 * (y 1).val) ea).trans (by show t.val % 8 * 512 + 1 * (y 1).val = _; omega)
  · show 0 * 640 + 1 * (y 2).val = (y 2).val
    omega

theorem uMl_value : ((dat2 V c).arrAt 5 cfg2.N : S8x4096x640.Idx → EReal) = uMl V c := by
  refine (dat2 V c).arrAt_eq_of_emb 5 (uMl V c) (fun t _ y => ?_) (fun i => ?_)
  · refine Eq.trans ?_ (congrArg (uMl V c) (uMl_at t y)).symm
    refine Eq.trans ?_ (uMl_step V c t (y 1) (y 2))
    show ((dat2 V c).after 5 t : S1x512x640.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg2.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush2_5 t, ?_⟩
    have he : ((cfg2.win 5).blk t).view.emb (ix3 0 r (i 2) : S1x512x640.Idx) = i := by
      refine (uMl_at t _).trans ?_
      funext a
      refine Fin.ext ?_
      fin_cases a
      · show t.val / 8 = (i 0).val
        omega
      · show t.val % 8 * 512 + r.val = (i 1).val
        omega
      · rfl
    exact Eq.mp (congrArg (fun j => j ∈ ((cfg2.win 5).blk t).view.set) he) (((cfg2.win 5).blk t).view.emb_mem_set (ix3 0 r (i 2) : S1x512x640.Idx))

theorem uDil_step (t : Fin cfg2.N) (y : Fin 512) (j : Fin 1152) :
    ((dat2 V c).after 6 t : S1x512x1152.Idx → EReal) (ix3 0 y j) = uDil V c (ix3 (seq2 t) (pos2 t y) j) := by
  rw [after2_6]
  unfold out2_6
  refine (congrFun (View.canon_unit_zero zero3 _ _) _).trans ?_
  refine (dil_apply _ _ _ y j).trans ?_
  refine Finset.sum_congr rfl fun k _ => ?_
  refine congrArg₂ (· * ·) (row_step V c t y k) ?_
  exact (congrFun (View.ld_unit_zero zero2 _ _) _).trans (dil_read V c t k j)

theorem uDil_at (t : Fin cfg2.N) (y : S1x512x1152.Idx) :
    (((cfg2.win 6).blk t).view.emb y : S8x4096x1152.Idx) = ix3 (seq2 t) (pos2 t (y 1)) (y 2) := by
  have e := place2 t
  funext a
  have ea := congrFun e a
  refine Fin.ext ?_
  fin_cases a
  · show cc2_transform_0 (grid2.coords t) 0 * 1 + 1 * (y 0).val = t.val / 8
    have h : (y 0).val < 1 := (y 0).isLt
    exact (congrArg (· * 1 + 1 * (y 0).val) ea).trans (by show t.val / 8 * 1 + 1 * (y 0).val = _; omega)
  · show cc2_transform_0 (grid2.coords t) 1 * 512 + 1 * (y 1).val = t.val % 8 * 512 + (y 1).val
    exact (congrArg (· * 512 + 1 * (y 1).val) ea).trans (by show t.val % 8 * 512 + 1 * (y 1).val = _; omega)
  · show 0 * 1152 + 1 * (y 2).val = (y 2).val
    omega

theorem uDil_value : ((dat2 V c).arrAt 6 cfg2.N : S8x4096x1152.Idx → EReal) = uDil V c := by
  refine (dat2 V c).arrAt_eq_of_emb 6 (uDil V c) (fun t _ y => ?_) (fun i => ?_)
  · refine Eq.trans ?_ (congrArg (uDil V c) (uDil_at t y)).symm
    refine Eq.trans ?_ (uDil_step V c t (y 1) (y 2))
    show ((dat2 V c).after 6 t : S1x512x1152.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg2.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush2_6 t, ?_⟩
    have he : ((cfg2.win 6).blk t).view.emb (ix3 0 r (i 2) : S1x512x1152.Idx) = i := by
      refine (uDil_at t _).trans ?_
      funext a
      refine Fin.ext ?_
      fin_cases a
      · show t.val / 8 = (i 0).val
        omega
      · show t.val % 8 * 512 + r.val = (i 1).val
        omega
      · rfl
    exact Eq.mp (congrArg (fun j => j ∈ ((cfg2.win 6).blk t).view.set) he) (((cfg2.win 6).blk t).view.emb_mem_set (ix3 0 r (i 2) : S1x512x1152.Idx))

theorem uSb_step (t : Fin cfg2.N) (y : Fin 512) (j : Fin 1152) :
    ((dat2 V c).after 7 t : S1x512x1152.Idx → EReal) (ix3 0 y j) = uSb V c (ix3 (seq2 t) (pos2 t y) j) := by
  rw [after2_7]
  unfold out2_7
  refine (congrFun (View.canon_unit_zero zero3 _ _) _).trans ?_
  refine (sb_apply _ _ y j).trans ?_
  refine Finset.sum_congr rfl fun k _ => ?_
  refine congrArg₂ (· * ·) (row_step V c t y k) ?_
  exact (congrFun (View.ld_unit_zero zero2 _ _) _).trans (sb_read V c t k j)

theorem uSb_at (t : Fin cfg2.N) (y : S1x512x1152.Idx) :
    (((cfg2.win 7).blk t).view.emb y : S8x4096x1152.Idx) = ix3 (seq2 t) (pos2 t (y 1)) (y 2) := by
  have e := place2 t
  funext a
  have ea := congrFun e a
  refine Fin.ext ?_
  fin_cases a
  · show cc2_transform_0 (grid2.coords t) 0 * 1 + 1 * (y 0).val = t.val / 8
    have h : (y 0).val < 1 := (y 0).isLt
    exact (congrArg (· * 1 + 1 * (y 0).val) ea).trans (by show t.val / 8 * 1 + 1 * (y 0).val = _; omega)
  · show cc2_transform_0 (grid2.coords t) 1 * 512 + 1 * (y 1).val = t.val % 8 * 512 + (y 1).val
    exact (congrArg (· * 512 + 1 * (y 1).val) ea).trans (by show t.val % 8 * 512 + 1 * (y 1).val = _; omega)
  · show 0 * 1152 + 1 * (y 2).val = (y 2).val
    omega

theorem uSb_value : ((dat2 V c).arrAt 7 cfg2.N : S8x4096x1152.Idx → EReal) = uSb V c := by
  refine (dat2 V c).arrAt_eq_of_emb 7 (uSb V c) (fun t _ y => ?_) (fun i => ?_)
  · refine Eq.trans ?_ (congrArg (uSb V c) (uSb_at t y)).symm
    refine Eq.trans ?_ (uSb_step V c t (y 1) (y 2))
    show ((dat2 V c).after 7 t : S1x512x1152.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg2.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush2_7 t, ?_⟩
    have he : ((cfg2.win 7).blk t).view.emb (ix3 0 r (i 2) : S1x512x1152.Idx) = i := by
      refine (uSb_at t _).trans ?_
      funext a
      refine Fin.ext ?_
      fin_cases a
      · show t.val / 8 = (i 0).val
        omega
      · show t.val % 8 * 512 + r.val = (i 1).val
        omega
      · rfl
    exact Eq.mp (congrArg (fun j => j ∈ ((cfg2.win 7).blk t).view.set) he) (((cfg2.win 7).blk t).view.emb_mem_set (ix3 0 r (i 2) : S1x512x1152.Idx))

theorem uGate_step (t : Fin cfg2.N) (g : Fin 8) (y : Fin 512) :
    ((dat2 V c).after 8 t : S1x8x512.Idx → EReal) (ix3 0 g y) = uGate V c (ix3 (seq2 t) g (pos2 t y)) := by
  rw [after2_8]
  unfold out2_8
  refine (congrFun (View.canon_unit_zero zero3 _ _) _).trans ?_
  refine (gate_apply _ _ _ g y).trans ?_
  refine Finset.sum_congr rfl fun k _ => ?_
  refine congrArg₂ (· * ·) (row_step V c t y k) ?_
  exact (congrFun (View.ld_unit_zero zero2 _ _) _).trans (ml_read V c t k _)

theorem uGate_at (t : Fin cfg2.N) (y : S1x8x512.Idx) :
    (((cfg2.win 8).blk t).view.emb y : S8x8x4096.Idx) = ix3 (seq2 t) (y 1) (pos2 t (y 2)) := by
  have e := place2 t
  funext a
  refine Fin.ext ?_
  fin_cases a
  · show cc2_transform_0 (grid2.coords t) 0 * 1 + 1 * (y 0).val = t.val / 8
    have h : (y 0).val < 1 := (y 0).isLt
    exact (congrArg (· * 1 + 1 * (y 0).val) (congrFun e 0)).trans (by show t.val / 8 * 1 + 1 * (y 0).val = _; omega)
  · show 0 * 8 + 1 * (y 1).val = (y 1).val
    omega
  · show cc2_transform_0 (grid2.coords t) 1 * 512 + 1 * (y 2).val = t.val % 8 * 512 + (y 2).val
    exact (congrArg (· * 512 + 1 * (y 2).val) (congrFun e 1)).trans (by show t.val % 8 * 512 + 1 * (y 2).val = _; omega)

theorem uGate_value : ((dat2 V c).arrAt 8 cfg2.N : S8x8x4096.Idx → EReal) = uGate V c := by
  refine (dat2 V c).arrAt_eq_of_emb 8 (uGate V c) (fun t _ y => ?_) (fun i => ?_)
  · refine Eq.trans ?_ (congrArg (uGate V c) (uGate_at t y)).symm
    refine Eq.trans ?_ (uGate_step V c t (y 1) (y 2))
    show ((dat2 V c).after 8 t : S1x8x512.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 2).val < 4096 := (i 2).isLt
    obtain ⟨t, ht⟩ : ∃ t : Fin cfg2.N, t.val = (i 0).val * 8 + (i 2).val / 512 := ⟨⟨(i 0).val * 8 + (i 2).val / 512, by show _ < 64; omega⟩, rfl⟩
    obtain ⟨r, hr⟩ : ∃ r : Fin 512, r.val = (i 2).val % 512 := ⟨⟨(i 2).val % 512, Nat.mod_lt _ (by decide)⟩, rfl⟩
    refine ⟨t, flush2_8 t, ?_⟩
    have he : ((cfg2.win 8).blk t).view.emb (ix3 0 (i 1) r : S1x8x512.Idx) = i := by
      refine (uGate_at t _).trans ?_
      funext a
      refine Fin.ext ?_
      fin_cases a
      · show t.val / 8 = (i 0).val
        omega
      · rfl
      · show t.val % 8 * 512 + r.val = (i 2).val
        omega
    exact Eq.mp (congrArg (fun j => j ∈ ((cfg2.win 8).blk t).view.set) he) (((cfg2.win 8).blk t).view.emb_mem_set (ix3 0 (i 1) r : S1x8x512.Idx))

end Cert.SecondProjection

end
-- ==== Proof.SecondProjHost.lean ====
/- The second layer: what stands between the calls: the arrays the third call reads, from those the first two leave. -/
module

public import proofs.«01_k».proof.Proof.SecondProjWeights
public import proofs.«01_k».proof.Proof.SecondProjRows
public import Idealize.ShloMosaic.Lib.StableHlo.ReadAt

@[expose] public section

set_option maxRecDepth 16384

noncomputable section

namespace Cert.SecondProjection

open Cert.Kernel6Ideal Cert.Kernel6Ideal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem bias_read (l : Fin 2) (n : Fin 6144) :
    (V1 m ρ c main_v0 : S2x1x6144.Idx → EReal) (ix3 l 0 n) = (m ((c : Thread nD τ).loc main_arg4) : S2x6144.Idx → EReal) (ix2 l n) := by
  show (StableHlo.after hostOps0 (W0 m ρ c) (Proc.devRef .tc main_v0) : S2x1x6144.Idx → EReal) _ = _
  after_reads_simp
  clean_types
  pointwise

theorem mod_host (b : Fin 8) (i : Fin 6) (k : Fin 1024) :
    (V5 m ρ c main_v5 : S8x6x1024.Idx → EReal) (ix3 b i k)
      = mods (V1 m ρ) c (ix3 1 b ⟨i.val * 1024 + k.val, by omega⟩) := by
  have h5 : (V5 m ρ c main_v5 : S8x6x1024.Idx → EReal) (ix3 b i k) = (W4 m ρ c (Proc.devRef .tc main_v2) : S2x8x6x1024.Idx → EReal) (ix4 1 b i k) := by
    show (StableHlo.after hostOps2 (W4 m ρ c) (Proc.devRef .tc main_v5) : S8x6x1024.Idx → EReal) _ = _
    after_reads_simp
    clean_types
    pointwise
  have h4 : W4 m ρ c (Proc.devRef .tc main_v2) = W3 m ρ c (Proc.devRef .tc main_v2) := W4_of_ne m ρ c main_v2 (by decide)
  have h3 : (W3 m ρ c (Proc.devRef .tc main_v2) : S2x8x6x1024.Idx → EReal) (ix4 1 b i k)
      = (W2 m ρ c (Proc.devRef .tc main_v1) : S2x8x6144.Idx → EReal) (ix3 1 b ⟨i.val * 1024 + k.val, by omega⟩) := by
    show (StableHlo.after hostOps1 (W2 m ρ c) (Proc.devRef .tc main_v2) : S2x8x6x1024.Idx → EReal) _ = _
    after_reads_simp
    clean_types
    pointwise
  refine h5.trans ((congrFun h4 _).trans (h3.trans ?_))
  exact congrFun ((W2_arr m ρ c 3).trans (mods_value (V1 m ρ) c)) _

theorem wMl_host (k : Fin 1024) (j : Fin 640) :
    (V5 m ρ c main_v7 : S1024x640.Idx → EReal) (ix2 k j) = wMl (V3 m ρ) c (ix3 1 k j) := by
  have h5 : (V5 m ρ c main_v7 : S1024x640.Idx → EReal) (ix2 k j) = (W4 m ρ c (Proc.devRef .tc main_v3_0) : S2x1024x640.Idx → EReal) (ix3 1 k j) := by
    show (StableHlo.after hostOps2 (W4 m ρ c) (Proc.devRef .tc main_v7) : S1024x640.Idx → EReal) _ = _
    after_reads_simp
    clean_types
    pointwise
  exact h5.trans (congrFun ((W4_arr m ρ c 1).trans (wMl_value (V3 m ρ) c)) _)

theorem wDil_host (k : Fin 1024) (j : Fin 1152) :
    (V5 m ρ c main_v9 : S1024x1152.Idx → EReal) (ix2 k j) = wDil (V3 m ρ) c (ix3 1 k j) := by
  have h5 : (V5 m ρ c main_v9 : S1024x1152.Idx → EReal) (ix2 k j) = (W4 m ρ c (Proc.devRef .tc main_v3_1) : S2x1024x1152.Idx → EReal) (ix3 1 k j) := by
    show (StableHlo.after hostOps2 (W4 m ρ c) (Proc.devRef .tc main_v9) : S1024x1152.Idx → EReal) _ = _
    after_reads_simp
    clean_types
    pointwise
  exact h5.trans (congrFun ((W4_arr m ρ c 2).trans (wDil_value (V3 m ρ) c)) _)

theorem wSb_host (k : Fin 1024) (j : Fin 1152) :
    (V5 m ρ c main_v11 : S1024x1152.Idx → EReal) (ix2 k j) = wSb (V3 m ρ) c (ix3 1 k j) := by
  have h5 : (V5 m ρ c main_v11 : S1024x1152.Idx → EReal) (ix2 k j) = (W4 m ρ c (Proc.devRef .tc main_v3_2) : S2x1024x1152.Idx → EReal) (ix3 1 k j) := by
    show (StableHlo.after hostOps2 (W4 m ρ c) (Proc.devRef .tc main_v11) : S1024x1152.Idx → EReal) _ = _
    after_reads_simp
    clean_types
    pointwise
  exact h5.trans (congrFun ((W4_arr m ρ c 3).trans (wSb_value (V3 m ρ) c)) _)

end Cert.SecondProjection

end
-- ==== Proof.SecondProjRun.lean ====
/- The second layer: the projection program runs, and where its results are read off. -/
module

public import proofs.«01_k».proof.Proof.Gen.Kernel6Ideal.Frame

@[expose] public section

set_option maxRecDepth 16384

noncomputable section

namespace Cert.SecondProjection

open Cert.Kernel6Ideal Cert.Kernel6Ideal.Gen Idealize.ShloMosaic Idealize.ShloMosaic.TcCoe
open Idealize.SL Idealize.SL.RA Idealize.SL.BI Idealize.SL.ProofMode Idealize.SL.Sem
open scoped Idealize.SL.BI
open Idealize.SL.BI.BIBase Idealize.SL.BI.Laws Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A result array at the end: what the third call's write-backs leave. -/
abbrev left (c : Dev nD) (w : Fin cfg2.W) := (dat2 (V5 m ρ) c).arrAt w cfg2.N

set_option backward.isDefEq.respectTransparency.types false in
/-- The three calls one after the other: the results are what the third one writes back, the arguments stay. -/
theorem run : θ_run defs (onTc (τ := τ) (main (F := F))) ⟨m, fun _ => 0, ρ⟩ (fun r => ∀ c : Dev nD,
      r.2.mem ((c.tc : Thread nD τ).loc main_v12_0) = left m ρ c 5
      ∧ r.2.mem ((c.tc : Thread nD τ).loc main_v12_1) = left m ρ c 6
      ∧ r.2.mem ((c.tc : Thread nD τ).loc main_v12_2) = left m ρ c 7
      ∧ r.2.mem ((c.tc : Thread nD τ).loc main_v12_3) = left m ρ c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v12_0 (by decide))).trans (W6_arr m ρ c 5),
       (h c _ (mem_uc main_v12_1 (by decide))).trans (W6_arr m ρ c 6),
       (h c _ (mem_uc main_v12_2 (by decide))).trans (W6_arr m ρ c 7),
       (h c _ (mem_uc main_v12_3 (by decide))).trans (W6_arr m ρ c 8),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.SecondProjection

end
-- ==== Proof.SecondProjRef.lean ====
/- The second layer: the plain mathematics of the input projection, entry by entry. -/
module

public import proofs.«01_k».proof.Proof.SecondProjBody
public import proofs.«01_k».proof.Proof.Gen.Reference6Ideal.Run

@[expose] public section

set_option maxRecDepth 16384

noncomputable section

namespace Cert.SecondProjection.Ref

open Cert.Reference6Ideal Cert.Reference6Ideal.Gen Idealize.ShloMosaic Idealize.SL.Sem

variable (x : FVec Ideal S8x4096x1024 .f32) (cv : FVec Ideal S8x1024 .f32) (w : FVec Ideal S2x1024x2824 .f32) (wa : FVec Ideal S2x1024x6144 .f32) (ba : FVec Ideal S2x6144 .f32)

/-- The modulation's six vectors, side by side. -/
def md : FVec Ideal S8x6144 .f32 :=
  addf (Host.dotGeneral dot_S8x1024_S1024x6144_S8x6144_1_0_0_1_n_n none
      (mulf cv (Host.divf (broadcastInDim S8x1024 ![] bcast_S_S8x1024 (constant S_ .f32 0x3F800000#32)) (addf (broadcastInDim S8x1024 ![] bcast_S_S8x1024 (constant S_ .f32 0x3F800000#32)) (Host.exp (Host.negf cv)))))
      (shapeCast _ (extractStridedSlice S1x1024x6144 ![1, 0, 0] wa slices_S2x1024x6144_S1x1024x6144_1_0_0) shapeCasts_S1x1024x6144_S1024x6144))
    (broadcastInDim S8x6144 ![0, 1] bcast_S1x6144_S8x6144_0_1 (broadcastInDim S1x6144 ![1] bcast_S6144_S1x6144_1 (shapeCast _ (extractStridedSlice S1x6144 ![1, 0] ba slices_S2x6144_S1x6144_1_0) shapeCasts_S1x6144_S6144)))

theorem md_apply (b : Fin 8) (n : Fin 6144) :
    (md cv wa ba : S8x6144.Idx → EReal) (ix2 b n) = modAt (fun k => cv (ix2 b k)) (fun k => wa (ix3 1 k n)) (ba (ix2 1 n)) := by
  pointwise [md]
  rfl

/-- The modulated norm. -/
def nrm : FVec Ideal S8x4096x1024 .f32 :=
  addf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (md cv wa ba) slices_S8x6144_S8x1024_0_1024)))))
    (broadcastInDim S8x4096x1024 ![0, 1, 2] bcast_S8x1x1024_S8x4096x1024_0_1_2 (broadcastInDim S8x1x1024 ![0, 2] bcast_S8x1024_S8x1x1024_0_2 (extractStridedSlice S8x1024 ![0, 0] (md cv wa ba) slices_S8x6144_S8x1024_0_0)))

/-- A position's modulated norm. -/
def rowOf (b : Fin 8) (s : Fin 4096) : Fin 1024 → EReal :=
  normed (fun k => x (ix3 b s k)) (fun k => (md cv wa ba : S8x6144.Idx → EReal) (ix2 b ⟨1024 + k.val, by omega⟩)) (fun k => (md cv wa ba : S8x6144.Idx → EReal) (ix2 b ⟨k.val, by omega⟩))

theorem nrm_apply (b : Fin 8) (s : Fin 4096) (k : Fin 1024) :
    (nrm x cv wa ba : S8x4096x1024.Idx → EReal) (ix3 b s k) = rowOf x cv wa ba b s k := by
  pointwise [nrm]
  rfl

/-- The input projection. -/
def u : FVec Ideal S8x4096x2824 .f32 :=
  Host.dotGeneral dot_S8x4096x1024_S1024x2824_S8x4096x2824_2_0_01_1_n_n none (nrm x cv wa ba)
    (shapeCast _ (extractStridedSlice S1x1024x2824 ![1, 0, 0] w slices_S2x1024x2824_S1x1024x2824_1_0_0) shapeCasts_S1x1024x2824_S1024x2824)

theorem u_apply (b : Fin 8) (s : Fin 4096) (j : Fin 2824) :
    (u x cv w wa ba : S8x4096x2824.Idx → EReal) (ix3 b s j) = ∑ k, rowOf x cv wa ba b s k * w (ix3 1 k j) := by
  have h : (u x cv w wa ba : S8x4096x2824.Idx → EReal) (ix3 b s j) = ∑ k : Fin 1024, (nrm x cv wa ba : S8x4096x1024.Idx → EReal) (ix3 b s k) * w (ix3 1 k j) := by
    pointwise [u]
  refine h.trans (Finset.sum_congr rfl fun k _ => ?_)
  rw [nrm_apply]

variable (t : FVec Ideal S8x4096x2824 .f32)

def padded : FVec Ideal S8x4096x640 .f32 :=
  pad S8x4096x640 ![0, 0, 0] ![0, 0, 120] ![0, 0, 0] (extractStridedSlice S8x4096x520 ![0, 0, 0] t slices_S8x4096x2824_S8x4096x520_0_0_0) (sitofp .f32 (constantI S_ 32 0#32)) pads_S8x4096x520_S8x4096x640_000_000_01200 h_S_

theorem padded_apply (b : Fin 8) (s : Fin 4096) (j : Fin 640) :
    (padded t : S8x4096x640.Idx → EReal) (ix3 b s j) = if h : j.val < 520 then t (ix3 b s ⟨j.val, by omega⟩) else 0 := by
  pointwise [padded]
  by_cases h : j.val < 520
  · rw [dif_pos h, dif_pos h]
  · rw [dif_neg h, dif_neg h]
    show (((0#32 : BitVec 32).toInt : ℝ) : EReal) = 0
    simp

def gates : FVec Ideal S8x8x4096 .f32 :=
  transpose S8x8x4096 [0, 2, 1] (extractStridedSlice S8x4096x8 ![0, 0, 512] t slices_S8x4096x2824_S8x4096x8_0_0_512) transposes_S8x4096x8_S8x8x4096_0_2_1

theorem gates_apply (b g : Fin 8) (s : Fin 4096) :
    (gates t : S8x8x4096.Idx → EReal) (ix3 b g s) = t (ix3 b s ⟨512 + g.val, by omega⟩) := by
  pointwise [gates]

variable (r : FVec Ideal S8x4096x1152 .f32)

def queries : FVec Ideal S8x4096x1152 .f32 :=
  concatenate S8x4096x1152 2 [⟨S8x4096x384, mulf (extractStridedSlice S8x4096x384 ![0, 0, 0] r slices_S8x4096x1152_S8x4096x384_0_0_0) (broadcastInDim S8x4096x384 ![] bcast_S_S8x4096x384 (constant S_ .f32 0x3E000000#32))⟩,
    ⟨S8x4096x384, extractStridedSlice S8x4096x384 ![0, 0, 384] r slices_S8x4096x1152_S8x4096x384_0_0_384⟩,
    ⟨S8x4096x384, extractStridedSlice S8x4096x384 ![0, 0, 768] r slices_S8x4096x1152_S8x4096x384_0_0_768⟩] concatenates_S8x4096x384_S8x4096x384_S8x4096x384_S8x4096x1152_d2

theorem queries_apply (b : Fin 8) (s : Fin 4096) (j : Fin 1152) :
    (queries r : S8x4096x1152.Idx → EReal) (ix3 b s j) = r (ix3 b s j) * scaleOf j := by
  pointwise [queries]
  unfold scaleOf
  by_cases h : j.val < 384
  · rw [dif_pos h, if_pos h]
  · rw [dif_neg h, if_neg h, mul_one]
    by_cases h2 : j.val - 384 < 384
    · rw [dif_pos h2]
      exact congrArg (fun i => r (ix3 b s i)) (Fin.ext (by show 384 + (j.val - 384) = j.val; omega))
    · rw [dif_neg h2]
      exact congrArg (fun i => r (ix3 b s i)) (Fin.ext (by show 768 + (j.val - 384 - 384) = j.val; omega))

def dilated : FVec Ideal S8x4096x1152 .f32 := queries (extractStridedSlice S8x4096x1152 ![0, 0, 520] t slices_S8x4096x2824_S8x4096x1152_0_0_520)

def broken : FVec Ideal S8x4096x1152 .bf16 := truncf .bf16 (queries (extractStridedSlice S8x4096x1152 ![0, 0, 1672] t slices_S8x4096x2824_S8x4096x1152_0_0_1672)) bitsLt_bf16_f32

theorem dilated_apply (b : Fin 8) (s : Fin 4096) (j : Fin 1152) :
    (dilated t : S8x4096x1152.Idx → EReal) (ix3 b s j) = t (ix3 b s ⟨520 + j.val, by omega⟩) * scaleOf j := by
  refine (queries_apply _ b s j).trans ?_
  congr 1
  pointwise

theorem broken_apply (b : Fin 8) (s : Fin 4096) (j : Fin 1152) :
    (broken t : S8x4096x1152.Idx → EReal) (ix3 b s j) = t (ix3 b s ⟨1672 + j.val, by omega⟩) * scaleOf j := by
  refine (queries_apply (extractStridedSlice S8x4096x1152 ![0, 0, 1672] t slices_S8x4096x2824_S8x4096x1152_0_0_1672) b s j).trans ?_
  congr 1
  pointwise

end Cert.SecondProjection.Ref

end
-- ==== Proof.SecondProjMain.lean ====
/- The second layer: the four arrays the three calls leave are the plain mathematics. -/
module

public import proofs.«01_k».proof.Proof.SecondProjHost
public import proofs.«01_k».proof.Proof.SecondProjRun
public import proofs.«01_k».proof.Proof.SecondProjRef

@[expose] public section

set_option maxRecDepth 16384

noncomputable section

namespace Cert.SecondProjection

open Cert.Kernel6Ideal Cert.Kernel6Ideal.Gen Idealize.ShloMosaic Idealize.ShloMosaic.TcCoe Idealize.SL.Sem

/-- An eighth, or one, taken out of a sum of products: no product has to be finite. -/
theorem sum_scale {n : ℕ} (h w : Fin n → EReal) (s : EReal) (h0 : 0 ≤ s) (ht : s ≠ ⊤) : ∑ k, h k * (w k * s) = (∑ k, h k * w k) * s := by
  have e : ∀ S : Finset (Fin n), ∑ k ∈ S, h k * (w k * s) = (∑ k ∈ S, h k * w k) * s := fun S => by
    induction S using Finset.induction_on with
    | empty => simp
    | insert a S ha ih => rw [Finset.sum_insert ha, Finset.sum_insert ha, ih, ← mul_assoc, EReal.right_distrib_of_nonneg_of_ne_top h0 ht]
  exact e Finset.univ

theorem scale_nonneg (j : Fin 1152) : 0 ≤ scaleOf j ∧ scaleOf j ≠ ⊤ := by
  unfold scaleOf
  by_cases h : j.val < 384
  · rw [if_pos h]
    have e : Ideal.ofBits .f32 0x3E000000#32 = (((1 : ℝ) / 8 : ℝ) : EReal) := by
      simp [Ideal.ofBits, Ideal.ieee, -EReal.coe_mul]
      norm_num
    rw [e]
    exact ⟨by exact_mod_cast (by norm_num : (0 : ℝ) ≤ 1 / 8), EReal.coe_ne_top _⟩
  · rw [if_neg h]
    exact ⟨zero_le_one, by decide⟩

variable (m : (ℓ : Loc nD τ sig) → Buf (Elt Ideal) ℓ) (ρ : Dev nD → PrngReg) (c : Dev nD)

abbrev inX : FVec Ideal S8x4096x1024 .f32 := m ((c : Thread nD τ).loc main_arg0)
abbrev inC : FVec Ideal S8x1024 .f32 := m ((c : Thread nD τ).loc main_arg1)
abbrev inW : FVec Ideal S2x1024x2824 .f32 := m ((c : Thread nD τ).loc main_arg2)
abbrev inA : FVec Ideal S2x1024x6144 .f32 := m ((c : Thread nD τ).loc main_arg3)
abbrev inB : FVec Ideal S2x6144 .f32 := m ((c : Thread nD τ).loc main_arg4)

theorem mods_eq (b : Fin 8) (n : Fin 6144) :
    mods (V1 m ρ) c (ix3 1 b n) = (Ref.md (inC m c) (inA m c) (inB m c) : Cert.Reference6Ideal.S8x6144.Idx → EReal) (ix2 b n) := by
  refine Eq.trans ?_ (Ref.md_apply _ _ _ b n).symm
  show modAt (fun k => (V1 m ρ c main_arg1 : S8x1024.Idx → EReal) (ix2 b k)) (fun k => (V1 m ρ c main_arg3 : S2x1024x6144.Idx → EReal) (ix3 1 k n))
    ((V1 m ρ c main_v0 : S2x1x6144.Idx → EReal) (ix3 1 0 n)) = _
  rw [bias_read m ρ c 1 n, show V1 m ρ c main_arg1 = m ((c : Thread nD τ).loc main_arg1) from W1_args m ρ c main_arg1 (by decide),
    show V1 m ρ c main_arg3 = m ((c : Thread nD τ).loc main_arg3) from W1_args m ρ c main_arg3 (by decide)]

theorem normed_congr {x x' sc sc' sh sh' : Fin 1024 → EReal} (e : x = x') (e1 : sc = sc') (e2 : sh = sh') : normed x sc sh = normed x' sc' sh' := by
  rw [e, e1, e2]

theorem mod_at_eq (b : Fin 8) (i : Fin 6) (k : Fin 1024) (n : Fin 6144) (h : n.val = i.val * 1024 + k.val) :
    (V5 m ρ c main_v5 : S8x6x1024.Idx → EReal) (ix3 b i k) = (Ref.md (inC m c) (inA m c) (inB m c) : Cert.Reference6Ideal.S8x6144.Idx → EReal) (ix2 b n) := by
  refine (mod_host m ρ c b i k).trans ((mods_eq m ρ c b _).trans ?_)
  rw [show (⟨i.val * 1024 + k.val, by omega⟩ : Fin 6144) = n from Fin.ext h.symm]

theorem row_eq (b : Fin 8) (s : Fin 4096) :
    row (V5 m ρ) c b s = Ref.rowOf (inX m c) (inC m c) (inA m c) (inB m c) b s := by
  have hx : V5 m ρ c main_arg0 = m ((c : Thread nD τ).loc main_arg0) := W5_args m ρ c main_arg0 (by decide)
  unfold row Ref.rowOf
  refine normed_congr (funext fun k => congrFun hx (ix3 b s k)) (funext fun k => ?_) (funext fun k => ?_)
  · exact mod_at_eq m ρ c b 1 k _ (by show 1024 + k.val = 1 * 1024 + k.val; omega)
  · exact mod_at_eq m ρ c b 0 k _ (by show k.val = 0 * 1024 + k.val; omega)

theorem wIn_eq : wIn (V3 m ρ) c = inW m c := W3_args m ρ c main_arg2 (by decide)

/-- The reference's projection of the arrays the kernel was started on. -/
abbrev proj : FVec Ideal Cert.Reference6Ideal.S8x4096x2824 .f32 := Ref.u (inX m c) (inC m c) (inW m c) (inA m c) (inB m c)

theorem proj_apply (b : Fin 8) (s : Fin 4096) (j : Fin 2824) :
    (proj m c : Cert.Reference6Ideal.S8x4096x2824.Idx → EReal) (ix3 b s j) = ∑ k, row (V5 m ρ) c b s k * inW m c (ix3 1 k j) := by
  rw [row_eq]
  exact Ref.u_apply _ _ _ _ _ b s j

theorem wMl_eq (k : Fin 1024) (j : Fin 640) (h : j.val < 520) :
    wMl (V3 m ρ) c (ix3 1 k j) = inW m c (ix3 1 k ⟨j.val, by omega⟩) := by
  unfold wMl
  rw [wIn_eq]
  exact if_pos h

theorem ml_eq : (left m ρ c 5 : S8x4096x640.Idx → EReal) = Ref.padded (proj m c) := by
  refine (uMl_value (V5 m ρ) c).trans (funext fun i => ?_)
  obtain ⟨b, s, j, rfl⟩ : ∃ (b : Fin 8) (s : Fin 4096) (j : Fin 640), i = ix3 b s j := ⟨i 0, i 1, i 2, funext fun a => by fin_cases a <;> rfl⟩
  refine Eq.trans ?_ (Ref.padded_apply _ b s j).symm
  show ∑ k, row (V5 m ρ) c b s k * (V5 m ρ c main_v7 : S1024x640.Idx → EReal) (ix2 k j) = _
  by_cases h : j.val < 520
  · rw [dif_pos h, proj_apply m ρ c]
    exact Finset.sum_congr rfl fun k _ => congrArg₂ (· * ·) rfl ((wMl_host m ρ c k j).trans (wMl_eq m ρ c k j h))
  · rw [dif_neg h]
    refine Finset.sum_eq_zero fun k _ => ?_
    have e : wMl (V3 m ρ) c (ix3 1 k j) = 0 := if_neg h
    rw [wMl_host, e, mul_zero]

theorem gate_eq : (left m ρ c 8 : S8x8x4096.Idx → EReal) = Ref.gates (proj m c) := by
  refine (uGate_value (V5 m ρ) c).trans (funext fun i => ?_)
  obtain ⟨b, g, s, rfl⟩ : ∃ (b g : Fin 8) (s : Fin 4096), i = ix3 b g s := ⟨i 0, i 1, i 2, funext fun a => by fin_cases a <;> rfl⟩
  refine Eq.trans ?_ (Ref.gates_apply _ b g s).symm
  show ∑ k, row (V5 m ρ) c b s k * (V5 m ρ c main_v7 : S1024x640.Idx → EReal) (ix2 k ⟨512 + g.val, by omega⟩) = _
  rw [proj_apply m ρ c]
  exact Finset.sum_congr rfl fun k _ => congrArg₂ (· * ·) rfl ((wMl_host m ρ c k _).trans (wMl_eq m ρ c k _ (by show 512 + g.val < 520; omega)))

theorem dil_eq : (left m ρ c 6 : S8x4096x1152.Idx → EReal) = Ref.dilated (proj m c) := by
  refine (uDil_value (V5 m ρ) c).trans (funext fun i => ?_)
  obtain ⟨b, s, j, rfl⟩ : ∃ (b : Fin 8) (s : Fin 4096) (j : Fin 1152), i = ix3 b s j := ⟨i 0, i 1, i 2, funext fun a => by fin_cases a <;> rfl⟩
  refine Eq.trans ?_ (Ref.dilated_apply _ b s j).symm
  show ∑ k, row (V5 m ρ) c b s k * (V5 m ρ c main_v9 : S1024x1152.Idx → EReal) (ix2 k j) = _
  rw [proj_apply m ρ c, ← sum_scale _ _ _ (scale_nonneg j).1 (scale_nonneg j).2]
  refine Finset.sum_congr rfl fun k _ => congrArg₂ (· * ·) rfl ((wDil_host m ρ c k j).trans ?_)
  unfold wDil
  rw [wIn_eq]
  rfl

theorem sb_eq : (left m ρ c 7 : S8x4096x1152.Idx → EReal) = Ref.broken (proj m c) := by
  refine (uSb_value (V5 m ρ) c).trans (funext fun i => ?_)
  obtain ⟨b, s, j, rfl⟩ : ∃ (b : Fin 8) (s : Fin 4096) (j : Fin 1152), i = ix3 b s j := ⟨i 0, i 1, i 2, funext fun a => by fin_cases a <;> rfl⟩
  refine Eq.trans ?_ (Ref.broken_apply _ b s j).symm
  show ∑ k, row (V5 m ρ) c b s k * (V5 m ρ c main_v11 : S1024x1152.Idx → EReal) (ix2 k j) = _
  rw [proj_apply m ρ c, ← sum_scale _ _ _ (scale_nonneg j).1 (scale_nonneg j).2]
  refine Finset.sum_congr rfl fun k _ => congrArg₂ (· * ·) rfl ((wSb_host m ρ c k j).trans ?_)
  unfold wSb
  rw [wIn_eq]
  rfl

theorem ref_arrays (m' : (ℓ : Loc Cert.Reference6Ideal.nD Cert.Reference6Ideal.τ Cert.Reference6Ideal.sig) → Buf (Elt Ideal) ℓ)
    (e0 : m' ((c.tc : Thread Cert.Reference6Ideal.nD Cert.Reference6Ideal.τ).loc Cert.Reference6Ideal.main_arg0) = inX m c)
    (e1 : m' ((c.tc : Thread Cert.Reference6Ideal.nD Cert.Reference6Ideal.τ).loc Cert.Reference6Ideal.main_arg1) = inC m c)
    (e2 : m' ((c.tc : Thread Cert.Reference6Ideal.nD Cert.Reference6Ideal.τ).loc Cert.Reference6Ideal.main_arg2) = inW m c)
    (e3 : m' ((c.tc : Thread Cert.Reference6Ideal.nD Cert.Reference6Ideal.τ).loc Cert.Reference6Ideal.main_arg3) = inA m c)
    (e4 : m' ((c.tc : Thread Cert.Reference6Ideal.nD Cert.Reference6Ideal.τ).loc Cert.Reference6Ideal.main_arg4) = inB m c) :
    Cert.SecondProjection.Ref.u (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) = proj m c := by
  rw [e0, e1, e2, e3, e4]

end Cert.SecondProjection

end
-- ==== Proof.SecondPostBody.lean ====
/- The second layer: what one step of the call after the mixers computes, number by number. -/
module

public import proofs.«01_k».proof.Proof.Gen.Kernel7Ideal.Skeleton
public import proofs.«01_k».proof.Proof.ProjBody

@[expose] public section

set_option maxRecDepth 16384

noncomputable section

namespace Cert.SecondPost

open Cert.Kernel7Ideal Cert.Kernel7Ideal.Gen Idealize.ShloMosaic

/-- Which half of a 128 lane block a row of the pair matrix belongs to. -/
theorem half_apply (l c : Fin 128) : (k0_pay4 : S128x128.Idx → BitVec 32) (ix2 l c) = BitVec.ofNat 32 (l.val / 64) := by
  pointwise [k0_pay4]
  revert l
  decide +kernel

theorem col_half (c : Fin 128) : Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32) = BitVec.ofNat 32 (c.val / 64) := by
  revert c
  decide +kernel

/-- The pair matrix: one where row and column lie in the same half, else nothing. -/
def pair (l c : Fin 128) : EReal := if l.val / 64 = c.val / 64 then 1 else 0

def pairs : FVec Ideal S128x128 .bf16 := k0_pay6 (F := Ideal) k0_pay4 (iota .tc S128x128 32 [1] iota_S128x128_d1_w32) 64#32 k0_pay5

theorem pairs_apply (l c : Fin 128) : (pairs : S128x128.Idx → EReal) (ix2 l c) = pair l c := by
  unfold pairs
  pointwise [k0_pay6, k0_pay5]
  rw [half_apply, col_half]
  unfold pair
  by_cases h : l.val / 64 = c.val / 64
  · rw [if_pos h, h, show IntOp.cmpi .eq (BitVec.ofNat 32 (c.val / 64)) (BitVec.ofNat 32 (c.val / 64)) = 1#1 from by simp [IntOp.cmpi]]
    show (((BitVec.setWidth 32 1#1 : BitVec 32).toInt : ℝ) : EReal) = 1
    simp
  · have e : IntOp.cmpi .eq (BitVec.ofNat 32 (l.val / 64)) (BitVec.ofNat 32 (c.val / 64)) = 0#1 := by
      have n : ¬ BitVec.ofNat 32 (l.val / 64) = BitVec.ofNat 32 (c.val / 64) := fun q => h (by
        have := congrArg BitVec.toNat q
        simp only [BitVec.toNat_ofNat] at this
        omega)
      show BitVec.ofBool (BitVec.ofNat 32 (l.val / 64) == BitVec.ofNat 32 (c.val / 64)) = 0#1
      rw [beq_eq_false_iff_ne.mpr n]
      rfl
    rw [if_neg h, e]
    show (((BitVec.setWidth 32 0#1 : BitVec 32).toInt : ℝ) : EReal) = 0
    simp

/-- Lane `c` of the block of 128 lanes that starts at `o`, normalised by means taken with the matrix `p`. -/
def blockNorm (v : Fin 1024 → EReal) (p : Fin 128 → Fin 128 → EReal) (o : ℕ) (ho : o + 128 ≤ 1024) (c : Fin 128) : EReal :=
  v ⟨o + c.val, by omega⟩ * Ideal.rsqrt (((∑ l : Fin 128, v ⟨o + l.val, by omega⟩ * v ⟨o + l.val, by omega⟩ * p l c)
    + ∑ l : Fin 128, (v ⟨o + l.val, by omega⟩ * v ⟨o + l.val, by omega⟩ - v ⟨o + l.val, by omega⟩ * v ⟨o + l.val, by omega⟩) * p l c)
      * Ideal.ofBits .f32 0x3C800000#32 + Ideal.ofBits .f32 0x358637BD#32)

variable (v : FVec Ideal S512x1024 .f32) (p : FVec Ideal S128x128 .bf16) (y : Fin 512) (c : Fin 128)

theorem block2 : (k0_pay14 (F := Ideal) v p : S512x128.Idx → EReal) (ix2 y c) = blockNorm (fun k => v (ix2 y k)) (fun l c => p (ix2 l c)) 256 (by decide) c := by
  pointwise [k0_pay14]
  rfl
theorem block3 : (k0_pay15 (F := Ideal) v p : S512x128.Idx → EReal) (ix2 y c) = blockNorm (fun k => v (ix2 y k)) (fun l c => p (ix2 l c)) 384 (by decide) c := by
  pointwise [k0_pay15]
  rfl
theorem block4 : (k0_pay18 (F := Ideal) (k0_pay16 v) (k0_pay17 v p) : S512x128.Idx → EReal) (ix2 y c) = blockNorm (fun k => v (ix2 y k)) (fun l c => p (ix2 l c)) 512 (by decide) c := by
  pointwise [k0_pay16, k0_pay17, k0_pay18]
  rfl
theorem block5 : (k0_pay19 (F := Ideal) v p : S512x128.Idx → EReal) (ix2 y c) = blockNorm (fun k => v (ix2 y k)) (fun l c => p (ix2 l c)) 640 (by decide) c := by
  pointwise [k0_pay19]
  rfl
theorem block6 : (k0_pay20 (F := Ideal) v p : S512x128.Idx → EReal) (ix2 y c) = blockNorm (fun k => v (ix2 y k)) (fun l c => p (ix2 l c)) 768 (by decide) c := by
  pointwise [k0_pay20]
  rfl
theorem block0 : (k0_pay7 (F := Ideal) v k0_pay4 (iota .tc S128x128 32 [1] iota_S128x128_d1_w32) 64#32 k0_pay5 : S512x128.Idx → EReal) (ix2 y c)
    = blockNorm (fun k => v (ix2 y k)) (fun l c => (pairs : S128x128.Idx → EReal) (ix2 l c)) 0 (by decide) c := by
  unfold k0_pay7
  rw [show k0_pay6 (F := Ideal) k0_pay4 (iota .tc S128x128 32 [1] iota_S128x128_d1_w32) 64#32 k0_pay5 = pairs from rfl]
  generalize pairs = p
  unfold blockNorm
  simp only [Nat.zero_add]
  pointwise
theorem block1 : (k0_pay13 (F := Ideal) pairs (k0_pay8 v) (k0_pay11 v) (k0_pay12 v k0_pay4 (iota .tc S128x128 32 [1] iota_S128x128_d1_w32) 64#32 k0_pay5) : S512x128.Idx → EReal) (ix2 y c)
    = blockNorm (fun k => v (ix2 y k)) (fun l c => (pairs : S128x128.Idx → EReal) (ix2 l c)) 128 (by decide) c := by
  unfold k0_pay12
  rw [show k0_pay6 (F := Ideal) k0_pay4 (iota .tc S128x128 32 [1] iota_S128x128_d1_w32) 64#32 k0_pay5 = pairs from rfl]
  generalize pairs = p
  pointwise [k0_pay8, k0_pay9, k0_pay10, k0_pay11, k0_pay13]
  rfl

/-- The last block, which the residual's payload finishes. -/
theorem block7 : (k0_pay21 (F := Ideal) v : S512x128.Idx → EReal) (ix2 y c)
    * Ideal.rsqrt ((k0_pay22 (F := Ideal) v p : S512x128.Idx → EReal) (ix2 y c) + Ideal.ofBits .f32 0x358637BD#32)
      = blockNorm (fun k => v (ix2 y k)) (fun l c => p (ix2 l c)) 896 (by decide) c := by
  pointwise [k0_pay21, k0_pay22]
  rfl

/-- Eight blocks side by side, each the same function of the lane it stands at. -/
theorem resid_apply (md : FVec Ideal S6x1024 .f32) (a0 a1 a2 a3 a4 a5 a6 a7 a8 : FVec Ideal S512x128 .f32) (g : Vec Ideal S1x1024 .f32) (x : Vec Ideal S1x512x1024 .f32) (w : Vec Ideal S1024x1024 .bf16) (j : Fin 1024)
    (f : Fin 1024 → EReal)
    (h0 : ∀ c : Fin 128, a0 (ix2 y c) = f ⟨0 + c.val, by omega⟩) (h1 : ∀ c : Fin 128, a1 (ix2 y c) = f ⟨128 + c.val, by omega⟩)
    (h2 : ∀ c : Fin 128, a2 (ix2 y c) = f ⟨256 + c.val, by omega⟩) (h3 : ∀ c : Fin 128, a3 (ix2 y c) = f ⟨384 + c.val, by omega⟩)
    (h4 : ∀ c : Fin 128, a4 (ix2 y c) = f ⟨512 + c.val, by omega⟩) (h5 : ∀ c : Fin 128, a5 (ix2 y c) = f ⟨640 + c.val, by omega⟩)
    (h6 : ∀ c : Fin 128, a6 (ix2 y c) = f ⟨768 + c.val, by omega⟩)
    (h7 : ∀ c : Fin 128, a7 (ix2 y c) * Ideal.rsqrt (a8 (ix2 y c) + Ideal.ofBits .f32 0x358637BD#32) = f ⟨896 + c.val, by omega⟩) :
    (k0_pay23 (F := Ideal) md a0 a1 a2 a3 a4 a5 a6 a7 a8 g x w : S512x1024.Idx → EReal) (ix2 y j)
      = x (ix3 0 y j) + md (ix2 2 j) * ∑ k, f k * g (ix2 0 k) * w (ix2 k j) := by
  pointwise [k0_pay23]
  refine congrArg (fun s => x (ix3 0 y j) + md (ix2 2 j) * s) (Finset.sum_congr rfl fun k _ => ?_)
  refine congrArg (fun s => s * g (ix2 0 k) * w (ix2 k j)) ?_
  have hk := k.isLt
  by_cases c0 : k.val < 128
  · rw [dif_pos c0]
    exact (h0 _).trans (congrArg f (Fin.ext (by show 0 + (k.val) = k.val; omega)))
  rw [dif_neg c0]
  by_cases c1 : k.val - 128 < 128
  · rw [dif_pos c1]
    exact (h1 _).trans (congrArg f (Fin.ext (by show 128 + (k.val - 128) = k.val; omega)))
  rw [dif_neg c1]
  by_cases c2 : k.val - 128 - 128 < 128
  · rw [dif_pos c2]
    exact (h2 _).trans (congrArg f (Fin.ext (by show 256 + (k.val - 128 - 128) = k.val; omega)))
  rw [dif_neg c2]
  by_cases c3 : k.val - 128 - 128 - 128 < 128
  · rw [dif_pos c3]
    exact (h3 _).trans (congrArg f (Fin.ext (by show 384 + (k.val - 128 - 128 - 128) = k.val; omega)))
  rw [dif_neg c3]
  by_cases c4 : k.val - 128 - 128 - 128 - 128 < 128
  · rw [dif_pos c4]
    exact (h4 _).trans (congrArg f (Fin.ext (by show 512 + (k.val - 128 - 128 - 128 - 128) = k.val; omega)))
  rw [dif_neg c4]
  by_cases c5 : k.val - 128 - 128 - 128 - 128 - 128 < 128
  · rw [dif_pos c5]
    exact (h5 _).trans (congrArg f (Fin.ext (by show 640 + (k.val - 128 - 128 - 128 - 128 - 128) = k.val; omega)))
  rw [dif_neg c5]
  by_cases c6 : k.val - 128 - 128 - 128 - 128 - 128 - 128 < 128
  · rw [dif_pos c6]
    exact (h6 _).trans (congrArg f (Fin.ext (by show 768 + (k.val - 128 - 128 - 128 - 128 - 128 - 128) = k.val; omega)))
  rw [dif_neg c6]
  exact (h7 ⟨k.val - 128 - 128 - 128 - 128 - 128 - 128 - 128, by omega⟩).trans (congrArg f (Fin.ext (by show 896 + (k.val - 128 - 128 - 128 - 128 - 128 - 128 - 128) = k.val; omega)))

/-- The three mixers' outputs side by side. -/
def beside (a : Fin 256 → EReal) (b c : Fin 384 → EReal) (j : Fin 1024) : EReal :=
  if h : j.val < 256 then a ⟨j.val, h⟩ else if h : j.val - 256 < 384 then b ⟨j.val - 256, h⟩ else c ⟨j.val - 256 - 384, by omega⟩

theorem mix_apply (x : FVec Ideal S1x512x256 .f32) (x2 x3 : FVec Ideal S1x512x384 .bf16) (j : Fin 1024) :
    (k0_pay3 (F := Ideal) x x2 x3 : S512x1024.Idx → EReal) (ix2 y j) = beside (fun k => x (ix3 0 y k)) (fun k => x2 (ix3 0 y k)) (fun k => x3 (ix3 0 y k)) j := by
  pointwise [k0_pay3]
  rfl

/-- The gate, shift and scale are rows of the modulation. -/
theorem md_apply (md : Vec Ideal S1x6x1024 .f32) (i : Fin 6) (j : Fin 1024) : (k0_pay2 (F := Ideal) md : S6x1024.Idx → EReal) (ix2 i j) = md (ix3 0 i j) := by
  pointwise [k0_pay2]

/-- A lane normalised by the root of the mean square of its head's 64 lanes. -/
def headed (v : Fin 1024 → EReal) (k : Fin 1024) : EReal :=
  v k * Ideal.rsqrt (Ideal.div (∑ d : Fin 64, v ⟨k.val / 64 * 64 + d.val, by omega⟩ * v ⟨k.val / 64 * 64 + d.val, by omega⟩) (Ideal.ofBits .f32 0x42800000#32)
    + Ideal.ofBits .f32 0x358637BD#32)

theorem half_sum (u : Fin 128 → EReal) (c : Fin 128) :
    ∑ l, u l * pair l c = ∑ d : Fin 64, u ⟨c.val / 64 * 64 + d.val, by omega⟩ := by
  have hs : (∑ l : Fin 128, u l * pair l c) = (∑ d : Fin 64, u ⟨d.val, by omega⟩ * pair ⟨d.val, by omega⟩ c) + ∑ d : Fin 64, u ⟨64 + d.val, by omega⟩ * pair ⟨64 + d.val, by omega⟩ c :=
    Fin.sum_univ_add (a := 64) (b := 64) (fun l : Fin 128 => u l * pair l c)
  rw [hs]
  by_cases h : c.val < 64
  · have e : c.val / 64 = 0 := by omega
    have z : ∑ d : Fin 64, u ⟨64 + d.val, by omega⟩ * pair ⟨64 + d.val, by omega⟩ c = 0 := Finset.sum_eq_zero fun d _ => by
      rw [show pair ⟨64 + d.val, by omega⟩ c = 0 from if_neg (by show ¬ (64 + d.val) / 64 = c.val / 64; omega), mul_zero]
    rw [z, add_zero]
    refine Finset.sum_congr rfl fun d _ => ?_
    rw [show pair ⟨d.val, by omega⟩ c = 1 from if_pos (by show d.val / 64 = c.val / 64; omega), mul_one]
    exact congrArg u (Fin.ext (by show d.val = c.val / 64 * 64 + d.val; omega))
  · have e : c.val / 64 = 1 := by omega
    have z : ∑ d : Fin 64, u ⟨d.val, by omega⟩ * pair ⟨d.val, by omega⟩ c = 0 := Finset.sum_eq_zero fun d _ => by
      rw [show pair ⟨d.val, by omega⟩ c = 0 from if_neg (by show ¬ d.val / 64 = c.val / 64; omega), mul_zero]
    rw [z, zero_add]
    refine Finset.sum_congr rfl fun d _ => ?_
    rw [show pair ⟨64 + d.val, by omega⟩ c = 1 from if_pos (by show (64 + d.val) / 64 = c.val / 64; omega), mul_one]
    exact congrArg u (Fin.ext (by show 64 + d.val = c.val / 64 * 64 + d.val; omega))

theorem mean_eq (s : EReal) : s * Ideal.ofBits .f32 0x3C800000#32 = Ideal.div s (Ideal.ofBits .f32 0x42800000#32) := by
  have e : Ideal.ofBits .f32 0x3C800000#32 = (((1 : ℝ) / 64 : ℝ) : EReal) := by
    simp [Ideal.ofBits, Ideal.ieee, -EReal.coe_mul]
    norm_num
  have e2 : Ideal.ofBits .f32 0x42800000#32 = ((64 : ℝ) : EReal) := by
    simp [Ideal.ofBits, Ideal.ieee, -EReal.coe_mul]
    norm_num
  rw [e, e2]
  unfold Ideal.div
  rw [if_neg (by exact_mod_cast (by norm_num : (64 : ℝ) ≠ 0)), ← EReal.coe_inv]
  norm_num

/-- For finite lanes the low parts of the squares are nothing, and the two sums with the pair matrix are one over the head. -/
theorem blockNorm_eq (v : Fin 1024 → EReal) (hv : ∀ k, v k ≠ ⊤ ∧ v k ≠ ⊥) (q : ℕ) (o : ℕ) (ho : o + 128 ≤ 1024) (hq : o = q * 128) (c : Fin 128) :
    blockNorm v pair o ho c = headed v ⟨o + c.val, by omega⟩ := by
  have z : ∀ k, v k * v k - v k * v k = 0 := fun k => by
    obtain ⟨r, hr⟩ : ∃ r : ℝ, v k = r := ⟨(v k).toReal, (EReal.coe_toReal (hv k).1 (hv k).2).symm⟩
    rw [hr, ← EReal.coe_mul, ← EReal.coe_sub, sub_self, EReal.coe_zero]
  unfold blockNorm headed
  rw [Finset.sum_eq_zero (f := fun l : Fin 128 => (v ⟨o + l.val, by omega⟩ * v ⟨o + l.val, by omega⟩ - v ⟨o + l.val, by omega⟩ * v ⟨o + l.val, by omega⟩) * pair l c)
    (fun l _ => by rw [z, zero_mul]), add_zero, mean_eq, half_sum (fun l => v ⟨o + l.val, by omega⟩ * v ⟨o + l.val, by omega⟩) c]
  have e : ∀ d : Fin 64, (⟨o + (c.val / 64 * 64 + d.val), by omega⟩ : Fin 1024) = ⟨(o + c.val) / 64 * 64 + d.val, by omega⟩ := fun d =>
    Fin.ext (by show o + (c.val / 64 * 64 + d.val) = (o + c.val) / 64 * 64 + d.val; omega)
  refine congrArg (fun s => v ⟨o + c.val, by omega⟩ * Ideal.rsqrt (Ideal.div s _ + _)) (Finset.sum_congr rfl fun d _ => ?_)
  show v ⟨o + (c.val / 64 * 64 + d.val), by omega⟩ * v ⟨o + (c.val / 64 * 64 + d.val), by omega⟩ = _
  rw [e d]

theorem h2_apply (md : FVec Ideal S6x1024 .f32) (a0 a1 a2 a3 a4 a5 a6 a7 a8 : FVec Ideal S512x128 .f32) (g : Vec Ideal S1x1024 .f32) (x : Vec Ideal S1x512x1024 .f32) (w : Vec Ideal S1024x1024 .bf16) (j : Fin 1024) :
    (k0_pay28 (k0_pay25 (F := Ideal) md a0 a1 a2 a3 a4 a5 a6 a7 a8 g x w) : S1x512x1024.Idx → EReal) (ix3 0 y j)
      = Cert.Projection.normed (fun k => (k0_pay23 (F := Ideal) md a0 a1 a2 a3 a4 a5 a6 a7 a8 g x w : S512x1024.Idx → EReal) (ix2 y k)) (fun k => md (ix2 4 k)) (fun k => md (ix2 3 k)) j := by
  pointwise [k0_pay28, k0_pay25]
  rfl
theorem xn_apply (md : FVec Ideal S6x1024 .f32) (a0 a1 a2 a3 a4 a5 a6 a7 a8 : FVec Ideal S512x128 .f32) (g : Vec Ideal S1x1024 .f32) (x : Vec Ideal S1x512x1024 .f32) (w : Vec Ideal S1024x1024 .bf16) (j : Fin 1024) :
    (k0_pay24 (F := Ideal) md a0 a1 a2 a3 a4 a5 a6 a7 a8 g x w : S1x512x1024.Idx → EReal) (ix3 0 y j)
      = (k0_pay23 (F := Ideal) md a0 a1 a2 a3 a4 a5 a6 a7 a8 g x w : S512x1024.Idx → EReal) (ix2 y j) := by
  pointwise [k0_pay24]

end Cert.SecondPost

end
-- ==== Proof.SecondPostRows.lean ====
/- The second layer: the call after the mixers: its two arrays of rows. -/
module

public import proofs.«01_k».proof.Proof.SecondPostBody
public import proofs.«01_k».proof.Proof.Gen.Kernel7Ideal.Frame

@[expose] public section

set_option maxRecDepth 16384

noncomputable section

namespace Cert.SecondPost

open Cert.Kernel7Ideal Cert.Kernel7Ideal.Gen Idealize.ShloMosaic Idealize.ShloMosaic.TcCoe Idealize.SL.Sem
open Cert.Projection (normed)

theorem zero2 : (![0, 0] : Fin 2 → Nat) = fun _ => 0 := by funext a; fin_cases a <;> rfl
theorem zero3 : (![0, 0, 0] : Fin 3 → Nat) = fun _ => 0 := by funext a; fin_cases a <;> rfl

variable (m : (ℓ : Loc nD τ sig) → Buf (Elt Ideal) ℓ) (c : Dev nD)

/-- A step: eight blocks of 512 positions for each sequence. -/
theorem place : ∀ t : Fin cfg0.N, cc0_transform_0 (grid0.coords t) = ![t.val / 8, t.val % 8, 0] := by decide +kernel

def seq (t : Fin cfg0.N) : Fin 8 := ⟨t.val / 8, by have h : t.val < 64 := t.isLt; omega⟩
def pos (t : Fin cfg0.N) (y : Fin 512) : Fin 4096 := ⟨t.val % 8 * 512 + y.val, by omega⟩

theorem x_read (t : Fin cfg0.N) (y : Fin 512) (k : Fin 1024) :
    (iblk m c 0 t : S1x512x1024.Idx → EReal) (ix3 0 y k) = (V m c main_arg0 : S8x4096x1024.Idx → EReal) (ix3 (seq t) (pos t y) k) := by
  have e := place t
  refine congrArg (V m c main_arg0 : S8x4096x1024.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 1024 + 1 * k.val = k.val
    omega

theorem ml_read (t : Fin cfg0.N) (y : Fin 512) (k : Fin 256) :
    (iblk m c 1 t : S1x512x256.Idx → EReal) (ix3 0 y k) = (V m c main_arg1 : S8x4096x256.Idx → EReal) (ix3 (seq t) (pos t y) k) := by
  have e := place t
  refine congrArg (V m c main_arg1 : S8x4096x256.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 256 + 1 * k.val = k.val
    omega

theorem dil_read (t : Fin cfg0.N) (y : Fin 512) (k : Fin 384) :
    (iblk m c 2 t : S1x512x384.Idx → EReal) (ix3 0 y k) = (V m c main_arg2 : S8x4096x384.Idx → EReal) (ix3 (seq t) (pos t y) k) := by
  have e := place t
  refine congrArg (V m c main_arg2 : S8x4096x384.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 384 + 1 * k.val = k.val
    omega

theorem sb_read (t : Fin cfg0.N) (y : Fin 512) (k : Fin 384) :
    (iblk m c 3 t : S1x512x384.Idx → EReal) (ix3 0 y k) = (V m c main_arg3 : S8x4096x384.Idx → EReal) (ix3 (seq t) (pos t y) k) := by
  have e := place t
  refine congrArg (V m c main_arg3 : S8x4096x384.Idx → EReal) (funext fun a => Fin.ext ?_)
  have ea := congrFun e a
  fin_cases a
  · show cc0_transform_0 (grid0.coords t) 0 * 1 + 1 * 0 = t.val / 8
    exact (congrArg (· * 1 + 1 * 0) ea).trans (by show t.val / 8 * 1 + 1 * 0 = _; omega)
  · show cc0_transform_0 (grid0.coords t) 1 * 512 + 1 * y.val = t.val % 8 * 512 + y.val
    exact (congrArg (· * 512 + 1 * y.val) ea).trans (by show t.val % 8 * 512 + 1 * y.val = _; omega)
  · show 0 * 384 + 1 * k.val = k.val
    omega

theorem mod_read (t : Fin cfg0.N) (i : Fin 6) (k : Fin 1024) :
    (iblk m c 4 t : S1x6x1024.Idx → EReal) (ix3 0 i k) = (V m c main_v19 : S8x6x1024.Idx → EReal) (ix3 (seq t) i k) := by
  have e := place t
  refine congrArg (V m c main_v19 : S8x6x1024.Idx → EReal) (funext fun a => Fin.ext ?_)
  fin_cases a
  · show cc0_transform_0 (grid0.coords t) 0 * 1 + 1 * 0 = t.val / 8
    exact (congrArg (· * 1 + 1 * 0) (congrFun e 0)).trans (by show t.val / 8 * 1 + 1 * 0 = _; omega)
  · show 0 * 6 + 1 * i.val = i.val
    omega
  · show 0 * 1024 + 1 * k.val = k.val
    omega

theorem g_read (t : Fin cfg0.N) (k : Fin 1024) :
    (iblk m c 5 t : S1x1024.Idx → EReal) (ix2 0 k) = (V m c main_v22 : S1x1024.Idx → EReal) (ix2 0 k) := by
  refine congrArg (V m c main_v22 : S1x1024.Idx → EReal) (funext fun a => Fin.ext ?_)
  fin_cases a
  · rfl
  · show 0 * 1024 + 1 * k.val = k.val
    omega

theorem w_read (t : Fin cfg0.N) (k j : Fin 1024) :
    (iblk m c 6 t : S1024x1024.Idx → EReal) (ix2 k j) = (V m c main_v25 : S1024x1024.Idx → EReal) (ix2 k j) := by
  refine congrArg (V m c main_v25 : S1024x1024.Idx → EReal) (funext fun a => Fin.ext ?_)
  fin_cases a
  · show 0 * 1024 + 1 * k.val = k.val
    omega
  · show 0 * 1024 + 1 * j.val = j.val
    omega

/-- A position's three outputs side by side. -/
def outs (b : Fin 8) (s : Fin 4096) : Fin 1024 → EReal :=
  beside (fun k => (V m c main_arg1 : S8x4096x256.Idx → EReal) (ix3 b s k)) (fun k => (V m c main_arg2 : S8x4096x384.Idx → EReal) (ix3 b s k))
    (fun k => (V m c main_arg3 : S8x4096x384.Idx → EReal) (ix3 b s k))

/-- None of them is infinite. -/
def Finite : Prop := ∀ b s k, outs m c b s k ≠ ⊤ ∧ outs m c b s k ≠ ⊥

/-- The arrays the step reads besides, as extended reals. -/
def vX : S8x4096x1024.Idx → EReal := V m c main_arg0
def vMod : S8x6x1024.Idx → EReal := V m c main_v19
def vG : S1x1024.Idx → EReal := V m c main_v22
def vW : S1024x1024.Idx → EReal := V m c main_v25

theorem normed_congr {x x' sc sc' sh sh' : Fin 1024 → EReal} (e : x = x') (e1 : sc = sc') (e2 : sh = sh') : normed x sc sh = normed x' sc' sh' := by
  rw [e, e1, e2]

/-- The residual after the gated output projection. -/
def xn : S8x4096x1024.Idx → EReal := fun i =>
  vX m c (ix3 (i 0) (i 1) (i 2)) + vMod m c (ix3 (i 0) 2 (i 2)) * ∑ k, headed (outs m c (i 0) (i 1)) k * vG m c (ix2 0 k) * vW m c (ix2 k (i 2))

/-- The second modulated norm of it. -/
def h2 : S8x4096x1024.Idx → EReal := fun i =>
  normed (fun k => xn m c (ix3 (i 0) (i 1) k)) (fun k => vMod m c (ix3 (i 0) 4 k)) (fun k => vMod m c (ix3 (i 0) 3 k)) (i 2)

/-- The step's block of outputs, the eight blocks of lanes of its norm, and the residual they give. -/
theorem outs_step (x1 : Vec Ideal S1x512x256 .f32) (x2 x3 : Vec Ideal S1x512x384 .bf16) (t : Fin cfg0.N) (y : Fin 512)
    (e1 : x1 = iblk m c 1 t) (e2 : x2 = iblk m c 2 t) (e3 : x3 = iblk m c 3 t) (k : Fin 1024) :
    (k0_pay3 (F := Ideal) (View.ld x1 r0_1) (View.ld x2 r0_2) (View.ld x3 r0_2) : S512x1024.Idx → EReal) (ix2 y k) = outs m c (seq t) (pos t y) k := by
  subst e1 e2 e3
  refine (mix_apply y _ _ _ k).trans ?_
  unfold outs
  congr 1
  · exact funext fun k => (congrFun (View.ld_unit_zero zero3 _ _) _).trans (ml_read m c t y k)
  · exact funext fun k => (congrFun (View.ld_unit_zero zero3 _ _) _).trans (dil_read m c t y k)
  · exact funext fun k => (congrFun (View.ld_unit_zero zero3 _ _) _).trans (sb_read m c t y k)

/-- One block of lanes of a step. -/
theorem block_step (v : FVec Ideal S512x1024 .f32) (y : Fin 512) (u : Fin 1024 → EReal) (hv : ∀ k, v (ix2 y k) = u k) (hu : ∀ k, u k ≠ ⊤ ∧ u k ≠ ⊥)
    (q o : ℕ) (ho : o + 128 ≤ 1024) (hq : o = q * 128) (k : Fin 128) :
    blockNorm (fun k => v (ix2 y k)) (fun l c => (pairs : S128x128.Idx → EReal) (ix2 l c)) o ho k = headed u ⟨o + k.val, by omega⟩ := by
  rw [show (fun k => v (ix2 y k)) = u from funext hv, show (fun l c => (pairs : S128x128.Idx → EReal) (ix2 l c)) = pair from funext fun l => funext fun c => pairs_apply l c]
  exact blockNorm_eq u hu q o ho hq k

theorem resid_step (hf : Finite m c) (x0 : Vec Ideal S1x512x1024 .f32) (x1 : Vec Ideal S1x512x256 .f32) (x2 x3 : Vec Ideal S1x512x384 .bf16) (x4 : Vec Ideal S1x6x1024 .f32)
    (x5 : Vec Ideal S1x1024 .f32) (x6 : Vec Ideal S1024x1024 .bf16) (x7 x8 : Vec Ideal S1024x128 .bf16) (x9 : Vec Ideal S4x8x128 .f32) (t : Fin cfg0.N) (y : Fin 512)
    (e0 : x0 = iblk m c 0 t) (e1 : x1 = iblk m c 1 t) (e2 : x2 = iblk m c 2 t) (e3 : x3 = iblk m c 3 t) (e4 : x4 = iblk m c 4 t) (e5 : x5 = iblk m c 5 t) (e6 : x6 = iblk m c 6 t) (j : Fin 1024) :
    (k0_pay23 (F := Ideal) (k0_pay76 x0 x1 x2 x3 x4 x5 x6 x7 x8 x9) (k0_pay81 x0 x1 x2 x3 x4 x5 x6 x7 x8 x9) (k0_pay82 x0 x1 x2 x3 x4 x5 x6 x7 x8 x9) (k0_pay83 x0 x1 x2 x3 x4 x5 x6 x7 x8 x9)
        (k0_pay84 x0 x1 x2 x3 x4 x5 x6 x7 x8 x9) (k0_pay85 x0 x1 x2 x3 x4 x5 x6 x7 x8 x9) (k0_pay86 x0 x1 x2 x3 x4 x5 x6 x7 x8 x9) (k0_pay87 x0 x1 x2 x3 x4 x5 x6 x7 x8 x9)
        (k0_pay88 x0 x1 x2 x3 x4 x5 x6 x7 x8 x9) (k0_pay89 x0 x1 x2 x3 x4 x5 x6 x7 x8 x9) (View.ld x5 r0_3) (View.ld x0 r0_4) (View.ld x6 r0_5) : S512x1024.Idx → EReal) (ix2 y j)
      = xn m c (ix3 (seq t) (pos t y) j) := by
  have hv := outs_step m c x1 x2 x3 t y e1 e2 e3
  have hu := hf (seq t) (pos t y)
  subst e0 e4 e5 e6
  refine (resid_apply y _ _ _ _ _ _ _ _ _ _ _ _ _ j (headed (outs m c (seq t) (pos t y)))
    (fun k => (block0 _ y k).trans (block_step _ y _ hv hu 0 0 (by decide) rfl k)) (fun k => (block1 _ y k).trans (block_step _ y _ hv hu 1 128 (by decide) rfl k))
    (fun k => (block2 _ _ y k).trans (block_step _ y _ hv hu 2 256 (by decide) rfl k)) (fun k => (block3 _ _ y k).trans (block_step _ y _ hv hu 3 384 (by decide) rfl k))
    (fun k => (block4 _ _ y k).trans (block_step _ y _ hv hu 4 512 (by decide) rfl k)) (fun k => (block5 _ _ y k).trans (block_step _ y _ hv hu 5 640 (by decide) rfl k))
    (fun k => (block6 _ _ y k).trans (block_step _ y _ hv hu 6 768 (by decide) rfl k)) (fun k => (block7 _ _ y k).trans (block_step _ y _ hv hu 7 896 (by decide) rfl k))).trans ?_
  unfold xn
  refine congrArg₂ (· + ·) ((congrFun (View.ld_unit_zero zero3 _ _) _).trans (x_read m c t y j)) (congrArg₂ (· * ·) ?_ (Finset.sum_congr rfl fun k _ => congrArg₂ (· * ·) (congrArg₂ (· * ·) rfl ?_) ?_))
  · exact (md_apply _ 2 j).trans ((congrFun (View.ld_unit_zero zero3 _ _) _).trans (mod_read m c t 2 j))
  · exact (congrFun (View.ld_unit_zero zero2 _ _) _).trans (g_read m c t k)
  · exact (congrFun (View.ld_unit_zero zero2 _ _) _).trans (w_read m c t k j)

theorem xn_step (hf : Finite m c) (t : Fin cfg0.N) (y : Fin 512) (j : Fin 1024) :
    ((dats m 0 c).after 10 t : S1x512x1024.Idx → EReal) (ix3 0 y j) = xn m c (ix3 (seq t) (pos t y) j) := by
  rw [after0_10]
  unfold out0_10
  refine (congrFun (View.canon_unit_zero zero3 _ _) _).trans ?_
  exact (xn_apply y _ _ _ _ _ _ _ _ _ _ _ _ _ j).trans (resid_step m c hf _ _ _ _ _ _ _ _ _ _ t y rfl rfl rfl rfl rfl rfl rfl j)

theorem h2_step (hf : Finite m c) (t : Fin cfg0.N) (y : Fin 512) (j : Fin 1024) :
    ((dats m 0 c).after 11 t : S1x512x1024.Idx → EReal) (ix3 0 y j) = h2 m c (ix3 (seq t) (pos t y) j) := by
  rw [after0_11]
  unfold out0_11
  refine (congrFun (View.canon_unit_zero zero3 _ _) _).trans ?_
  refine (h2_apply y _ _ _ _ _ _ _ _ _ _ _ _ _ j).trans ?_
  unfold h2
  refine congrFun (normed_congr (funext fun k => ?_) (funext fun k => ?_) (funext fun k => ?_)) j
  · exact resid_step m c hf _ _ _ _ _ _ _ _ _ _ t y rfl rfl rfl rfl rfl rfl rfl k
  · exact (md_apply _ 4 k).trans ((congrFun (View.ld_unit_zero zero3 _ _) _).trans (mod_read m c t 4 k))
  · exact (md_apply _ 3 k).trans ((congrFun (View.ld_unit_zero zero3 _ _) _).trans (mod_read m c t 3 k))

theorem xn_at (t : Fin cfg0.N) (y : S1x512x1024.Idx) :
    (((cfg0.win 10).blk t).view.emb y : S8x4096x1024.Idx) = ix3 (seq t) (pos t (y 1)) (y 2) := by
  have e := place t
  funext a
  have ea := congrFun e a
  refine Fin.ext ?_
  fin_cases a
  · show cc0_transform_0 (grid0.coords t) 0 * 1 + 1 * (y 0).val = t.val / 8
    have h : (y 0).val < 1 := (y 0).isLt
    exact (congrArg (· * 1 + 1 * (y 0).val) ea).trans (by show t.val / 8 * 1 + 1 * (y 0).val = _; omega)
  · show cc0_transform_0 (grid0.coords t) 1 * 512 + 1 * (y 1).val = t.val % 8 * 512 + (y 1).val
    exact (congrArg (· * 512 + 1 * (y 1).val) ea).trans (by show t.val % 8 * 512 + 1 * (y 1).val = _; omega)
  · show 0 * 1024 + 1 * (y 2).val = (y 2).val
    omega

theorem xn_value (hf : Finite m c) : ((dats m 0 c).arrAt 10 cfg0.N : S8x4096x1024.Idx → EReal) = xn m c := by
  refine (dats m 0 c).arrAt_eq_of_emb 10 (xn m c) (fun t _ y => ?_) (fun i => ?_)
  · refine Eq.trans ?_ (congrArg (xn m c) (xn_at t y)).symm
    refine Eq.trans ?_ (xn_step m c hf t (y 1) (y 2))
    show ((dats m 0 c).after 10 t : S1x512x1024.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg0.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush0_10 t, ?_⟩
    have he : ((cfg0.win 10).blk t).view.emb (ix3 0 r (i 2) : S1x512x1024.Idx) = i := by
      refine (xn_at t _).trans ?_
      funext a
      refine Fin.ext ?_
      fin_cases a
      · show t.val / 8 = (i 0).val
        omega
      · show t.val % 8 * 512 + r.val = (i 1).val
        omega
      · rfl
    exact Eq.mp (congrArg (fun j => j ∈ ((cfg0.win 10).blk t).view.set) he) (((cfg0.win 10).blk t).view.emb_mem_set (ix3 0 r (i 2) : S1x512x1024.Idx))

theorem h2_at (t : Fin cfg0.N) (y : S1x512x1024.Idx) :
    (((cfg0.win 11).blk t).view.emb y : S8x4096x1024.Idx) = ix3 (seq t) (pos t (y 1)) (y 2) := by
  have e := place t
  funext a
  have ea := congrFun e a
  refine Fin.ext ?_
  fin_cases a
  · show cc0_transform_0 (grid0.coords t) 0 * 1 + 1 * (y 0).val = t.val / 8
    have h : (y 0).val < 1 := (y 0).isLt
    exact (congrArg (· * 1 + 1 * (y 0).val) ea).trans (by show t.val / 8 * 1 + 1 * (y 0).val = _; omega)
  · show cc0_transform_0 (grid0.coords t) 1 * 512 + 1 * (y 1).val = t.val % 8 * 512 + (y 1).val
    exact (congrArg (· * 512 + 1 * (y 1).val) ea).trans (by show t.val % 8 * 512 + 1 * (y 1).val = _; omega)
  · show 0 * 1024 + 1 * (y 2).val = (y 2).val
    omega

theorem h2_value (hf : Finite m c) : ((dats m 0 c).arrAt 11 cfg0.N : S8x4096x1024.Idx → EReal) = h2 m c := by
  refine (dats m 0 c).arrAt_eq_of_emb 11 (h2 m c) (fun t _ y => ?_) (fun i => ?_)
  · refine Eq.trans ?_ (congrArg (h2 m c) (h2_at t y)).symm
    refine Eq.trans ?_ (h2_step m c hf t (y 1) (y 2))
    show ((dats m 0 c).after 11 t : S1x512x1024.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg0.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush0_11 t, ?_⟩
    have he : ((cfg0.win 11).blk t).view.emb (ix3 0 r (i 2) : S1x512x1024.Idx) = i := by
      refine (h2_at t _).trans ?_
      funext a
      refine Fin.ext ?_
      fin_cases a
      · show t.val / 8 = (i 0).val
        omega
      · show t.val % 8 * 512 + r.val = (i 1).val
        omega
      · rfl
    exact Eq.mp (congrArg (fun j => j ∈ ((cfg0.win 11).blk t).view.set) he) (((cfg0.win 11).blk t).view.emb_mem_set (ix3 0 r (i 2) : S1x512x1024.Idx))

end Cert.SecondPost

end
-- ==== Proof.SecondPostRef.lean ====
/- The second layer: the plain mathematics after the mixers, entry by entry. -/
module

public import proofs.«01_k».proof.Proof.SecondPostBody
public import proofs.«01_k».proof.Proof.Gen.Reference7Ideal.Run

@[expose] public section

set_option maxRecDepth 16384

noncomputable section

namespace Cert.SecondPost.Ref

open Cert.Reference7Ideal Cert.Reference7Ideal.Gen Idealize.ShloMosaic Idealize.SL.Sem

variable (x : FVec Ideal S8x4096x1024 .f32) (a : FVec Ideal S8x4096x256 .f32) (b c : FVec Ideal S8x4096x384 .bf16)
  (md : FVec Ideal S8x6144 .f32) (g : FVec Ideal S2x1024 .f32) (w : FVec Ideal S2x1024x1024 .f32)

/-- The sixteen heads. -/
def heads : FVec Ideal S8x16x4096x64 .f32 :=
  concatenate S8x16x4096x64 1 [⟨S8x4x4096x64, transpose S8x4x4096x64 [0, 2, 1, 3] (shapeCast S8x4096x4x64 a shapeCasts_S8x4096x256_S8x4096x4x64) transposes_S8x4096x4x64_S8x4x4096x64_0_2_1_3⟩,
    ⟨S8x6x4096x64, transpose S8x6x4096x64 [0, 2, 1, 3] (shapeCast S8x4096x6x64 (extf .f32 b bitsLt_bf16_f32) shapeCasts_S8x4096x384_S8x4096x6x64) transposes_S8x4096x6x64_S8x6x4096x64_0_2_1_3⟩,
    ⟨S8x6x4096x64, transpose S8x6x4096x64 [0, 2, 1, 3] (shapeCast S8x4096x6x64 (extf .f32 c bitsLt_bf16_f32) shapeCasts_S8x4096x384_S8x4096x6x64) transposes_S8x4096x6x64_S8x6x4096x64_0_2_1_3⟩]
    concatenates_S8x4x4096x64_S8x6x4096x64_S8x6x4096x64_S8x16x4096x64_d1

/-- A position's three outputs side by side. -/
def outs (q : Fin 8) (s : Fin 4096) : Fin 1024 → EReal :=
  beside (fun k => a (ix3 q s k)) (fun k => b (ix3 q s k)) (fun k => c (ix3 q s k))

theorem heads_apply (q : Fin 8) (h : Fin 16) (s : Fin 4096) (d : Fin 64) :
    (heads a b c : S8x16x4096x64.Idx → EReal) (ix4 q h s d) = outs a b c q s ⟨h.val * 64 + d.val, by omega⟩ := by
  pointwise [heads]
  unfold outs beside
  dsimp only
  by_cases h1 : h.val < 4
  · rw [dif_pos h1, dif_pos (show h.val * 64 + d.val < 256 from by omega)]
  · rw [dif_neg h1, dif_neg (show ¬ h.val * 64 + d.val < 256 from by omega)]
    by_cases h2 : h.val - 4 < 6
    · rw [dif_pos h2, dif_pos (show h.val * 64 + d.val - 256 < 384 from by omega)]
      exact congrArg (fun k => b (ix3 q s k)) (Fin.ext (by show (h.val - 4) * 64 + d.val = h.val * 64 + d.val - 256; omega))
    · rw [dif_neg h2, dif_neg (show ¬ h.val * 64 + d.val - 256 < 384 from by omega)]
      exact congrArg (fun k => c (ix3 q s k)) (Fin.ext (by show (h.val - 4 - 6) * 64 + d.val = h.val * 64 + d.val - 256 - 384; omega))

variable (e : FVec Ideal S8x16x4096x64 .f32)

/-- The norm of each head times its weights, heads side by side. -/
def scaled : FVec Ideal S8x4096x1024 .f32 :=
  shapeCast _ (transpose S8x4096x16x64 [0, 2, 1, 3] (mulf (mulf e (broadcastInDim S8x16x4096x64 ![0, 1, 2, 3] bcast_S8x16x4096x1_S8x16x4096x64_0_1_2_3 (Host.rsqrt (addf (Host.divf (broadcastInDim S8x16x4096x1 ![0, 1, 2] bcast_S8x16x4096_S8x16x4096x1_0_1_2 (Host.reduceAdd (mulf e e) (constant S_ .f32 0x00000000#32) reducesTo_S8x16x4096x64_S8x16x4096_d3 h_S_)) (broadcastInDim S8x16x4096x1 ![] bcast_S_S8x16x4096x1 (constant S_ .f32 0x42800000#32))) (broadcastInDim S8x16x4096x1 ![] bcast_S_S8x16x4096x1 (constant S_ .f32 0x358637BD#32))))))
    (broadcastInDim S8x16x4096x64 ![0, 1, 2, 3] bcast_S1x16x1x64_S8x16x4096x64_0_1_2_3 (broadcastInDim S1x16x1x64 ![1, 2, 3] bcast_S16x1x64_S1x16x1x64_1_2_3 (shapeCast S16x1x64 (shapeCast S1024 (extractStridedSlice S1x1024 ![1, 0] g slices_S2x1024_S1x1024_1_0) shapeCasts_S1x1024_S1024) shapeCasts_S1024_S16x1x64)))) transposes_S8x16x4096x64_S8x4096x16x64_0_2_1_3) shapeCasts_S8x4096x16x64_S8x4096x1024

/-- Each head normalised on its own, times the weights of the norm. -/
theorem scaled_apply (q : Fin 8) (s : Fin 4096) (k : Fin 1024) :
    (scaled g (heads a b c) : S8x4096x1024.Idx → EReal) (ix3 q s k) = headed (outs a b c q s) k * g (ix2 1 k) := by
  have h : ∀ e : FVec Ideal S8x16x4096x64 .f32, (scaled g e : S8x4096x1024.Idx → EReal) (ix3 q s k)
      = e (ix4 q ⟨k.val / 64, by omega⟩ s ⟨k.val % 64, by omega⟩) * Ideal.rsqrt (Ideal.div (∑ d : Fin 64, e (ix4 q ⟨k.val / 64, by omega⟩ s d) * e (ix4 q ⟨k.val / 64, by omega⟩ s d))
        (Ideal.ofBits .f32 0x42800000#32) + Ideal.ofBits .f32 0x358637BD#32) * g (ix2 1 k) := fun e => by
    pointwise [scaled]
  refine (h _).trans ?_
  unfold headed
  have e : ∀ d : Fin 64, (heads a b c : S8x16x4096x64.Idx → EReal) (ix4 q ⟨k.val / 64, by omega⟩ s d) = outs a b c q s ⟨k.val / 64 * 64 + d.val, by omega⟩ :=
    fun d => heads_apply a b c q ⟨k.val / 64, by omega⟩ s d
  simp only [e]
  rw [show (⟨k.val / 64 * 64 + k.val % 64, by omega⟩ : Fin 1024) = k from Fin.ext (by show k.val / 64 * 64 + k.val % 64 = k.val; omega)]

/-- The input plus the gated output projection. -/
def resid : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x6144_S8x1024_0_2048)))
    (Host.dotGeneral dot_S8x4096x1024_S1024x1024_S8x4096x1024_2_0_01_1_n_n none (scaled g (heads a b c)) (shapeCast _ (extractStridedSlice S1x1024x1024 ![1, 0, 0] w slices_S2x1024x1024_S1x1024x1024_1_0_0) shapeCasts_S1x1024x1024_S1024x1024)))

theorem resid_apply (q : Fin 8) (s : Fin 4096) (j : Fin 1024) :
    (resid x a b c md g w : S8x4096x1024.Idx → EReal) (ix3 q s j)
      = x (ix3 q s j) + md (ix2 q ⟨2048 + j.val, by omega⟩) * ∑ k, (scaled g (heads a b c) : S8x4096x1024.Idx → EReal) (ix3 q s k) * w (ix3 1 k j) := by
  pointwise [resid]

variable (r : FVec Ideal S8x4096x1024 .f32)

/-- The second modulated norm. -/
def second : FVec Ideal S8x4096x1024 .f32 :=
  addf (mulf (mulf r (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf r r) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] md slices_S8x6144_S8x1024_0_4096)))))
    (broadcastInDim S8x4096x1024 ![0, 1, 2] bcast_S8x1x1024_S8x4096x1024_0_1_2 (broadcastInDim S8x1x1024 ![0, 2] bcast_S8x1024_S8x1x1024_0_2 (extractStridedSlice S8x1024 ![0, 3072] md slices_S8x6144_S8x1024_0_3072)))

theorem second_apply (q : Fin 8) (s : Fin 4096) (j : Fin 1024) :
    (second md r : S8x4096x1024.Idx → EReal) (ix3 q s j)
      = Cert.Projection.normed (fun k => r (ix3 q s k)) (fun k => md (ix2 q ⟨4096 + k.val, by omega⟩)) (fun k => md (ix2 q ⟨3072 + k.val, by omega⟩)) j := by
  pointwise [second]
  rfl

end Cert.SecondPost.Ref

end
-- ==== Proof.SecondPostMain.lean ====
/- The second layer: the two arrays the call after the mixers leaves are the plain mathematics. -/
module

public import proofs.«01_k».proof.Defs
public import proofs.«01_k».proof.Proof.SecondPostRows
public import proofs.«01_k».proof.Proof.SecondPostRef
public import proofs.«01_k».proof.Proof.Pre
public import proofs.«01_k».proof.Proof.Gen.Pre_mixed
public import Idealize.ShloMosaic.Lib.StableHlo.ReadAt

@[expose] public section

set_option maxRecDepth 16384

noncomputable section

namespace Cert.SecondPost

open Cert.Kernel7Ideal Cert.Kernel7Ideal.Gen Idealize.ShloMosaic Idealize.ShloMosaic.TcCoe Idealize.ShloMosaic.StableHlo Idealize.SL.Sem

/-- The precondition: no entry of the three mixers' outputs is infinite. -/
theorem of_pre (x0 : FVec Ideal S8x4096x1024 .f32) (x1 : FVec Ideal S8x4096x256 .f32) (x2 x3 : FVec Ideal S8x4096x384 .bf16) (x4 : FVec Ideal Cert.Pre_mixed.S8x6144 .f32)
    (x5 : FVec Ideal Cert.Pre_mixed.S2x1024 .f32) (x6 : FVec Ideal Cert.Pre_mixed.S2x1024x1024 .f32) (x7 : FVec Ideal Cert.Pre_mixed.S1024x16 .f32) (x8 : FVec Ideal Cert.Pre_mixed.S16 .f32)
    (h : ∀ j, Cert.Pre_mixed.fn (F := Ideal) x0 x1 x2 x3 x4 x5 x6 x7 x8 j = 1#1) :
    (∀ i, Cert.Mlstm.IsR (x1 i)) ∧ (∀ i, Cert.Mlstm.IsR (x2 i)) ∧ (∀ i, Cert.Mlstm.IsR (x3 i)) := by
  have j : Cert.Pre_mixed.S_.Idx := fun i => i.elim0
  have h3 := IntOp.andi_eq_one.1 (h j)
  have h2 := IntOp.andi_eq_one.1 h3.1
  exact ⟨Cert.Mlstm.Pre.all_isR x1 _ _ _ j h2.1, Cert.Mlstm.Pre.all_isR (extf .f32 x2 _) _ _ _ j h2.2, Cert.Mlstm.Pre.all_isR (extf .f32 x3 _) _ _ _ j h3.2⟩

theorem not_inf {x : EReal} (h : Cert.Mlstm.IsR x) : x ≠ ⊤ ∧ x ≠ ⊥ := by
  obtain ⟨r, rfl⟩ := h
  exact ⟨EReal.coe_ne_top r, EReal.coe_ne_bot r⟩

variable (m : (ℓ : Loc nD τ sig) → Buf (Elt Ideal) ℓ) (c : Dev nD)

abbrev inX : FVec Ideal S8x4096x1024 .f32 := m ((c : Thread nD τ).loc main_arg0)
abbrev inA : FVec Ideal S8x4096x256 .f32 := m ((c : Thread nD τ).loc main_arg1)
abbrev inB : FVec Ideal S8x4096x384 .bf16 := m ((c : Thread nD τ).loc main_arg2)
abbrev inC : FVec Ideal S8x4096x384 .bf16 := m ((c : Thread nD τ).loc main_arg3)
abbrev inM : FVec Ideal Cert.Reference7Ideal.S8x6144 .f32 := m ((c : Thread nD τ).loc main_arg4)
abbrev inG : FVec Ideal S2x1024 .f32 := m ((c : Thread nD τ).loc main_arg5)
abbrev inW : FVec Ideal S2x1024x1024 .f32 := m ((c : Thread nD τ).loc main_arg6)

theorem outs_eq (b : Fin 8) (s : Fin 4096) : outs m c b s = Ref.outs (inA m c) (inB m c) (inC m c) b s := by
  unfold outs Ref.outs
  rw [V_main_arg1, V_main_arg2, V_main_arg3]

theorem finite_of (hP : Cert.Pre_Kernel7Ideal_mixed m) : Finite m c := by
  obtain ⟨h1, h2, h3⟩ := of_pre _ _ _ _ _ _ _ _ _ (fun j => congrFun (hP c) j)
  intro b s k
  rw [outs_eq]
  unfold Ref.outs beside
  split_ifs
  · exact not_inf (h1 _)
  · exact not_inf (h2 _)
  · exact not_inf (h3 _)

theorem vMod_eq (b : Fin 8) (i : Fin 6) (k : Fin 1024) (n : Fin 6144) (h : n.val = i.val * 1024 + k.val) : vMod m c (ix3 b i k) = inM m c (ix2 b n) := by
  have e : vMod m c (ix3 b i k) = inM m c (ix2 b ⟨i.val * 1024 + k.val, by omega⟩) := by
    show (StableHlo.after hostOps0 (fun b => m (c, b)) (Proc.devRef .tc main_v19) : S8x6x1024.Idx → EReal) _ = _
    after_reads_simp
    clean_types
    pointwise
  rw [e, show (⟨i.val * 1024 + k.val, by omega⟩ : Fin 6144) = n from Fin.ext h.symm]

theorem vG_eq (k : Fin 1024) : vG m c (ix2 0 k) = inG m c (ix2 1 k) := by
  show (StableHlo.after hostOps0 (fun b => m (c, b)) (Proc.devRef .tc main_v22) : S1x1024.Idx → EReal) _ = _
  after_reads_simp
  clean_types
  pointwise

theorem vW_eq (k j : Fin 1024) : vW m c (ix2 k j) = inW m c (ix3 1 k j) := by
  show (StableHlo.after hostOps0 (fun b => m (c, b)) (Proc.devRef .tc main_v25) : S1024x1024.Idx → EReal) _ = _
  after_reads_simp
  clean_types
  pointwise

/-- The reference's residual of the arrays the kernel was started on. -/
abbrev resid : FVec Ideal Cert.Reference7Ideal.S8x4096x1024 .f32 := Ref.resid (inX m c) (inA m c) (inB m c) (inC m c) (inM m c) (inG m c) (inW m c)

theorem xn_at_eq (b : Fin 8) (s : Fin 4096) (j : Fin 1024) : xn m c (ix3 b s j) = (resid m c : S8x4096x1024.Idx → EReal) (ix3 b s j) := by
  refine Eq.trans ?_ (Ref.resid_apply _ _ _ _ _ _ _ b s j).symm
  show vX m c (ix3 b s j) + vMod m c (ix3 b 2 j) * ∑ k, headed (outs m c b s) k * vG m c (ix2 0 k) * vW m c (ix2 k j) = _
  have hx : vX m c = inX m c := V_main_arg0 m c
  rw [hx, vMod_eq m c b 2 j ⟨2048 + j.val, by omega⟩ (by show 2048 + j.val = 2 * 1024 + j.val; omega)]
  refine congrArg (fun z => inX m c (ix3 b s j) + inM m c (ix2 b ⟨2048 + j.val, by omega⟩) * z) (Finset.sum_congr rfl fun k _ => ?_)
  rw [vG_eq, vW_eq, outs_eq, Ref.scaled_apply]

theorem xn_eq : xn m c = resid m c := funext fun i => by
  obtain ⟨b, s, j, rfl⟩ : ∃ (b : Fin 8) (s : Fin 4096) (j : Fin 1024), i = ix3 b s j := ⟨i 0, i 1, i 2, funext fun a => by fin_cases a <;> rfl⟩
  exact xn_at_eq m c b s j

theorem h2_eq : h2 m c = Ref.second (inM m c) (resid m c) := funext fun i => by
  obtain ⟨b, s, j, rfl⟩ : ∃ (b : Fin 8) (s : Fin 4096) (j : Fin 1024), i = ix3 b s j := ⟨i 0, i 1, i 2, funext fun a => by fin_cases a <;> rfl⟩
  refine Eq.trans ?_ (Ref.second_apply _ _ b s j).symm
  refine congrFun (normed_congr (funext fun k => xn_at_eq m c b s k) (funext fun k => ?_) (funext fun k => ?_)) j
  · exact vMod_eq m c b 4 k _ (by show 4096 + k.val = 4 * 1024 + k.val; omega)
  · exact vMod_eq m c b 3 k _ (by show 3072 + k.val = 3 * 1024 + k.val; omega)

/-- The first result is the reference's. -/
theorem first_eq (hP : Cert.Pre_Kernel7Ideal_mixed m) : ((dats m 0 c).arrAt 10 cfg0.N : S8x4096x1024.Idx → EReal) = resid m c :=
  (xn_value m c (finite_of m c hP)).trans (xn_eq m c)

/-- And the second. -/
theorem second_eq (hP : Cert.Pre_Kernel7Ideal_mixed m) : ((dats m 0 c).arrAt 11 cfg0.N : S8x4096x1024.Idx → EReal) = Ref.second (inM m c) (resid m c) :=
  (h2_value m c (finite_of m c hP)).trans (h2_eq m c)

theorem ref_first (m' : (ℓ : Loc Cert.Reference7Ideal.nD Cert.Reference7Ideal.τ Cert.Reference7Ideal.sig) → Buf (Elt Ideal) ℓ)
    (e0 : m' ((c.tc : Thread Cert.Reference7Ideal.nD Cert.Reference7Ideal.τ).loc Cert.Reference7Ideal.main_arg0) = inX m c)
    (e1 : m' ((c.tc : Thread Cert.Reference7Ideal.nD Cert.Reference7Ideal.τ).loc Cert.Reference7Ideal.main_arg1) = inA m c)
    (e2 : m' ((c.tc : Thread Cert.Reference7Ideal.nD Cert.Reference7Ideal.τ).loc Cert.Reference7Ideal.main_arg2) = inB m c)
    (e3 : m' ((c.tc : Thread Cert.Reference7Ideal.nD Cert.Reference7Ideal.τ).loc Cert.Reference7Ideal.main_arg3) = inC m c)
    (e4 : m' ((c.tc : Thread Cert.Reference7Ideal.nD Cert.Reference7Ideal.τ).loc Cert.Reference7Ideal.main_arg4) = inM m c)
    (e5 : m' ((c.tc : Thread Cert.Reference7Ideal.nD Cert.Reference7Ideal.τ).loc Cert.Reference7Ideal.main_arg5) = inG m c)
    (e6 : m' ((c.tc : Thread Cert.Reference7Ideal.nD Cert.Reference7Ideal.τ).loc Cert.Reference7Ideal.main_arg6) = inW m c) :
    Cert.Reference7Ideal.Value.res_main_v44 m' c = resid m c ∧ Cert.Reference7Ideal.Value.res_main_v60 m' c = Ref.second (inM m c) (resid m c) := by
  unfold Cert.Reference7Ideal.Value.res_main_v44 Cert.Reference7Ideal.Value.res_main_v60
  rw [e0, e1, e2, e3, e4, e5, e6]
  exact ⟨rfl, rfl⟩

end Cert.SecondPost

end
-- ==== Proof.ProjMod.lean ====
/- The first call: the modulation of every layer and sequence, as one array. -/
module

public import proofs.«01_k».proof.Proof.Gen.Kernel3Ideal.Frame
public import proofs.«01_k».proof.Proof.ProjBody

@[expose] public section

set_option maxRecDepth 16384

noncomputable section

namespace Cert.Projection

open Cert.Kernel3Ideal Cert.Kernel3Ideal.Gen Idealize.ShloMosaic Idealize.ShloMosaic.TcCoe Idealize.SL.Sem

theorem zero2 : (![0, 0] : Fin 2 → Nat) = fun _ => 0 := by funext a; fin_cases a <;> rfl
theorem zero3 : (![0, 0, 0] : Fin 3 → Nat) = fun _ => 0 := by funext a; fin_cases a <;> rfl

variable (V : (c : Dev nD) → (b : Ref sig .tc) → Buf (Elt Ideal) ((c : Thread nD τ).loc b)) (c : Dev nD)

/-- A step of the first call: six blocks of columns for each of the two layers. -/
theorem place0 : ∀ t : Fin cfg0.N, cc0_transform_3 (grid0.coords t) = ![t.val / 6, 0, t.val % 6] := by decide +kernel

def layer0 (t : Fin cfg0.N) : Fin 2 := ⟨t.val / 6, by have h : t.val < 12 := t.isLt; omega⟩
def col0 (t : Fin cfg0.N) (j : Fin 1024) : Fin 6144 := ⟨t.val % 6 * 1024 + j.val, by omega⟩

theorem cond_read (t : Fin cfg0.N) (b : Fin 8) (k : Fin 1024) :
    (iblk0 V c 0 t : S8x1024.Idx → EReal) (ix2 b k) = (V c main_arg1 : S8x1024.Idx → EReal) (ix2 b k) := by
  refine congrArg (V c main_arg1 : S8x1024.Idx → EReal) (funext fun a => Fin.ext ?_)
  fin_cases a
  · show 0 * 8 + 1 * b.val = b.val
    omega
  · show 0 * 1024 + 1 * k.val = k.val
    omega

theorem weight0_read (t : Fin cfg0.N) (k j : Fin 1024) :
    (iblk0 V c 1 t : S1x1024x1024.Idx → EReal) (ix3 0 k j) = (V c main_arg3 : S2x1024x6144.Idx → EReal) (ix3 (layer0 t) k (col0 t j)) := by
  have e := place0 t
  refine congrArg (V c main_arg3 : S2x1024x6144.Idx → EReal) (funext fun a => Fin.ext ?_)
  have ea := congrFun e a
  fin_cases a
  · show cc0_transform_3 (grid0.coords t) 0 * 1 + 1 * 0 = t.val / 6
    exact (congrArg (· * 1 + 1 * 0) ea).trans (by show t.val / 6 * 1 + 1 * 0 = _; omega)
  · show 0 * 1024 + 1 * k.val = k.val
    omega
  · show cc0_transform_3 (grid0.coords t) 2 * 1024 + 1 * j.val = t.val % 6 * 1024 + j.val
    exact (congrArg (· * 1024 + 1 * j.val) ea).trans (by show t.val % 6 * 1024 + 1 * j.val = _; omega)

theorem bias0_read (t : Fin cfg0.N) (j : Fin 1024) :
    (iblk0 V c 2 t : S1x1x1024.Idx → EReal) (ix3 0 0 j) = (V c main_v0 : S2x1x6144.Idx → EReal) (ix3 (layer0 t) 0 (col0 t j)) := by
  have e := place0 t
  refine congrArg (V c main_v0 : S2x1x6144.Idx → EReal) (funext fun a => Fin.ext ?_)
  have ea := congrFun e a
  fin_cases a
  · show cc0_transform_3 (grid0.coords t) 0 * 1 + 1 * 0 = t.val / 6
    exact (congrArg (· * 1 + 1 * 0) ea).trans (by show t.val / 6 * 1 + 1 * 0 = _; omega)
  · rfl
  · show cc0_transform_3 (grid0.coords t) 2 * 1024 + 1 * j.val = t.val % 6 * 1024 + j.val
    exact (congrArg (· * 1024 + 1 * j.val) ea).trans (by show t.val % 6 * 1024 + 1 * j.val = _; omega)

/-- The first call's output: the modulation of every layer, sequence and column. -/
def mods : S2x8x6144.Idx → EReal := fun i =>
  modAt (fun k => (V c main_arg1 : S8x1024.Idx → EReal) (ix2 (i 1) k)) (fun k => (V c main_arg3 : S2x1024x6144.Idx → EReal) (ix3 (i 0) k (i 2)))
    ((V c main_v0 : S2x1x6144.Idx → EReal) (ix3 (i 0) 0 (i 2)))

theorem mod_step (t : Fin cfg0.N) (b : Fin 8) (j : Fin 1024) :
    ((dat0 V c).after 3 t : S1x8x1024.Idx → EReal) (ix3 0 b j) = mods V c (ix3 (layer0 t) b (col0 t j)) := by
  rw [after0_3]
  unfold out0_3
  refine (congrFun (View.canon_unit_zero zero3 _ _) _).trans ?_
  refine (mod_apply _ _ _ b j).trans ?_
  show modAt _ _ _ = modAt _ _ _
  congr 1
  · exact funext fun k => (congrFun (View.ld_unit_zero zero2 _ _) _).trans (cond_read V c t b k)
  · exact funext fun k => (congrFun (View.ld_unit_zero zero3 _ _) _).trans (weight0_read V c t k j)
  · exact (congrFun (View.ld_unit_zero zero3 _ _) _).trans (bias0_read V c t j)

theorem mod_at (t : Fin cfg0.N) (y : S1x8x1024.Idx) :
    (((cfg0.win 3).blk t).view.emb y : S2x8x6144.Idx) = ix3 (layer0 t) (y 1) (col0 t (y 2)) := by
  have e := place0 t
  funext a
  have ea := congrFun e a
  refine Fin.ext ?_
  fin_cases a
  · show cc0_transform_3 (grid0.coords t) 0 * 1 + 1 * (y 0).val = t.val / 6
    have h : (y 0).val < 1 := (y 0).isLt
    exact (congrArg (· * 1 + 1 * (y 0).val) ea).trans (by show t.val / 6 * 1 + 1 * (y 0).val = _; omega)
  · show 0 * 8 + 1 * (y 1).val = (y 1).val
    omega
  · show cc0_transform_3 (grid0.coords t) 2 * 1024 + 1 * (y 2).val = t.val % 6 * 1024 + (y 2).val
    exact (congrArg (· * 1024 + 1 * (y 2).val) ea).trans (by show t.val % 6 * 1024 + 1 * (y 2).val = _; omega)

theorem mods_value : ((dat0 V c).arrAt 3 cfg0.N : S2x8x6144.Idx → EReal) = mods V c := by
  refine (dat0 V c).arrAt_eq_of_emb 3 (mods V c) (fun t _ y => ?_) (fun i => ?_)
  · refine Eq.trans ?_ (congrArg (mods V c) (mod_at t y)).symm
    refine Eq.trans ?_ (mod_step V c t (y 1) (y 2))
    show ((dat0 V c).after 3 t : S1x8x1024.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h2 : (i 2).val < 6144 := (i 2).isLt
    obtain ⟨t, ht⟩ : ∃ t : Fin cfg0.N, t.val = (i 0).val * 6 + (i 2).val / 1024 := ⟨⟨(i 0).val * 6 + (i 2).val / 1024, by show _ < 12; omega⟩, rfl⟩
    obtain ⟨j, hj⟩ : ∃ j : Fin 1024, j.val = (i 2).val % 1024 := ⟨⟨(i 2).val % 1024, Nat.mod_lt _ (by decide)⟩, rfl⟩
    refine ⟨t, flush0_3 t, ?_⟩
    have he : ((cfg0.win 3).blk t).view.emb (ix3 0 (i 1) j : S1x8x1024.Idx) = i := by
      refine (mod_at t _).trans ?_
      funext a
      refine Fin.ext ?_
      fin_cases a
      · show t.val / 6 = (i 0).val
        omega
      · rfl
      · show t.val % 6 * 1024 + j.val = (i 2).val
        omega
    exact Eq.mp (congrArg (fun j => j ∈ ((cfg0.win 3).blk t).view.set) he) (((cfg0.win 3).blk t).view.emb_mem_set (ix3 0 (i 1) j : S1x8x1024.Idx))

end Cert.Projection

end
-- ==== Proof.ProjWeights.lean ====
/- The second call: the weights laid out for the three mixers, as arrays. -/
module

public import proofs.«01_k».proof.Proof.ProjMod

@[expose] public section

set_option maxRecDepth 16384

noncomputable section

namespace Cert.Projection

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b)) (c : Dev nD)

/-- A step of the second call: four blocks of rows for each of the two layers. -/
theorem place1 : ∀ t : Fin cfg1.N, cc1_transform_0 (grid1.coords t) = ![t.val / 4, t.val % 4, 0] := by decide +kernel

def layer1 (t : Fin cfg1.N) : Fin 2 := ⟨t.val / 4, by have h : t.val < 8 := t.isLt; omega⟩
def row1 (t : Fin cfg1.N) (r : Fin 256) : Fin 1024 := ⟨t.val % 4 * 256 + r.val, by omega⟩

theorem weight1_read (t : Fin cfg1.N) (r : Fin 256) (j : Fin 2824) :
    (iblk1 V c 0 t : S1x256x2824.Idx → EReal) (ix3 0 r j) = (V c main_arg2 : S2x1024x2824.Idx → EReal) (ix3 (layer1 t) (row1 t r) j) := by
  have e := place1 t
  refine congrArg (V c main_arg2 : S2x1024x2824.Idx → EReal) (funext fun a => Fin.ext ?_)
  have ea := congrFun e a
  fin_cases a
  · show cc1_transform_0 (grid1.coords t) 0 * 1 + 1 * 0 = t.val / 4
    exact (congrArg (· * 1 + 1 * 0) ea).trans (by show t.val / 4 * 1 + 1 * 0 = _; omega)
  · show cc1_transform_0 (grid1.coords t) 1 * 256 + 1 * r.val = t.val % 4 * 256 + r.val
    exact (congrArg (· * 256 + 1 * r.val) ea).trans (by show t.val % 4 * 256 + 1 * r.val = _; omega)
  · show 0 * 2824 + 1 * j.val = j.val
    omega

/-- The weights of the input projection, of both layers. -/
def wIn : S2x1024x2824.Idx → EReal := V c main_arg2

/-- The recurrence's columns of the weights, the columns past the 520th zero. -/
def wMl : S2x1024x640.Idx → EReal := fun i =>
  if (i 2).val < 520 then wIn V c (ix3 (i 0) (i 1) ⟨(i 2).val, by have h : (i 2).val < 640 := (i 2).isLt; omega⟩) else 0

/-- The dilated attention's columns, an eighth of the queries'. -/
def wDil : S2x1024x1152.Idx → EReal := fun i =>
  wIn V c (ix3 (i 0) (i 1) ⟨520 + (i 2).val, by have h : (i 2).val < 1152 := (i 2).isLt; omega⟩) * scaleOf (i 2)

/-- The stick-breaking attention's columns, an eighth of the queries'. -/
def wSb : S2x1024x1152.Idx → EReal := fun i =>
  wIn V c (ix3 (i 0) (i 1) ⟨1672 + (i 2).val, by have h : (i 2).val < 1152 := (i 2).isLt; omega⟩) * scaleOf (i 2)

theorem wMl_step (t : Fin cfg1.N) (r : Fin 256) (j : Fin 640) :
    ((dat1 V c).after 1 t : S1x256x640.Idx → EReal) (ix3 0 r j) = wMl V c (ix3 (layer1 t) (row1 t r) j) := by
  rw [after1_1]
  unfold out1_1
  refine (congrFun (View.canon_unit_zero zero3 _ _) _).trans ?_
  refine (mlCol_apply _ r j).trans ?_
  show (if j.val < 520 then _ else (0 : EReal)) = if j.val < 520 then _ else 0
  refine congrArg (fun z => if j.val < 520 then z else (0 : EReal)) ?_
  exact (congrFun (View.ld_unit_zero zero3 _ _) _).trans (weight1_read V c t r _)

theorem wDil_step (t : Fin cfg1.N) (r : Fin 256) (j : Fin 1152) :
    ((dat1 V c).after 2 t : S1x256x1152.Idx → EReal) (ix3 0 r j) = wDil V c (ix3 (layer1 t) (row1 t r) j) := by
  rw [after1_2]
  unfold out1_2
  refine (congrFun (View.canon_unit_zero zero3 _ _) _).trans ?_
  refine (dilCol_apply _ r j).trans ?_
  refine congrArg (· * scaleOf j) ?_
  exact (congrFun (View.ld_unit_zero zero3 _ _) _).trans (weight1_read V c t r _)

theorem wSb_step (t : Fin cfg1.N) (r : Fin 256) (j : Fin 1152) :
    ((dat1 V c).after 3 t : S1x256x1152.Idx → EReal) (ix3 0 r j) = wSb V c (ix3 (layer1 t) (row1 t r) j) := by
  rw [after1_3]
  unfold out1_3
  refine (congrFun (View.canon_unit_zero zero3 _ _) _).trans ?_
  refine (sbCol_apply _ r j).trans ?_
  refine congrArg (· * scaleOf j) ?_
  exact (congrFun (View.ld_unit_zero zero3 _ _) _).trans (weight1_read V c t r _)

theorem wMl_at (t : Fin cfg1.N) (y : S1x256x640.Idx) :
    (((cfg1.win 1).blk t).view.emb y : S2x1024x640.Idx) = ix3 (layer1 t) (row1 t (y 1)) (y 2) := by
  have e := place1 t
  funext a
  have ea := congrFun e a
  refine Fin.ext ?_
  fin_cases a
  · show cc1_transform_0 (grid1.coords t) 0 * 1 + 1 * (y 0).val = t.val / 4
    have h : (y 0).val < 1 := (y 0).isLt
    exact (congrArg (· * 1 + 1 * (y 0).val) ea).trans (by show t.val / 4 * 1 + 1 * (y 0).val = _; omega)
  · show cc1_transform_0 (grid1.coords t) 1 * 256 + 1 * (y 1).val = t.val % 4 * 256 + (y 1).val
    exact (congrArg (· * 256 + 1 * (y 1).val) ea).trans (by show t.val % 4 * 256 + 1 * (y 1).val = _; omega)
  · show 0 * 640 + 1 * (y 2).val = (y 2).val
    omega

theorem wMl_value : ((dat1 V c).arrAt 1 cfg1.N : S2x1024x640.Idx → EReal) = wMl V c := by
  refine (dat1 V c).arrAt_eq_of_emb 1 (wMl V c) (fun t _ y => ?_) (fun i => ?_)
  · refine Eq.trans ?_ (congrArg (wMl V c) (wMl_at t y)).symm
    refine Eq.trans ?_ (wMl_step V c t (y 1) (y 2))
    show ((dat1 V c).after 1 t : S1x256x640.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h1 : (i 1).val < 1024 := (i 1).isLt
    obtain ⟨t, ht⟩ : ∃ t : Fin cfg1.N, t.val = (i 0).val * 4 + (i 1).val / 256 := ⟨⟨(i 0).val * 4 + (i 1).val / 256, by show _ < 8; omega⟩, rfl⟩
    obtain ⟨r, hr⟩ : ∃ r : Fin 256, r.val = (i 1).val % 256 := ⟨⟨(i 1).val % 256, Nat.mod_lt _ (by decide)⟩, rfl⟩
    refine ⟨t, flush1_1 t, ?_⟩
    have he : ((cfg1.win 1).blk t).view.emb (ix3 0 r (i 2) : S1x256x640.Idx) = i := by
      refine (wMl_at t _).trans ?_
      funext a
      refine Fin.ext ?_
      fin_cases a
      · show t.val / 4 = (i 0).val
        omega
      · show t.val % 4 * 256 + r.val = (i 1).val
        omega
      · rfl
    exact Eq.mp (congrArg (fun j => j ∈ ((cfg1.win 1).blk t).view.set) he) (((cfg1.win 1).blk t).view.emb_mem_set (ix3 0 r (i 2) : S1x256x640.Idx))

theorem wDil_at (t : Fin cfg1.N) (y : S1x256x1152.Idx) :
    (((cfg1.win 2).blk t).view.emb y : S2x1024x1152.Idx) = ix3 (layer1 t) (row1 t (y 1)) (y 2) := by
  have e := place1 t
  funext a
  have ea := congrFun e a
  refine Fin.ext ?_
  fin_cases a
  · show cc1_transform_0 (grid1.coords t) 0 * 1 + 1 * (y 0).val = t.val / 4
    have h : (y 0).val < 1 := (y 0).isLt
    exact (congrArg (· * 1 + 1 * (y 0).val) ea).trans (by show t.val / 4 * 1 + 1 * (y 0).val = _; omega)
  · show cc1_transform_0 (grid1.coords t) 1 * 256 + 1 * (y 1).val = t.val % 4 * 256 + (y 1).val
    exact (congrArg (· * 256 + 1 * (y 1).val) ea).trans (by show t.val % 4 * 256 + 1 * (y 1).val = _; omega)
  · show 0 * 1152 + 1 * (y 2).val = (y 2).val
    omega

theorem wDil_value : ((dat1 V c).arrAt 2 cfg1.N : S2x1024x1152.Idx → EReal) = wDil V c := by
  refine (dat1 V c).arrAt_eq_of_emb 2 (wDil V c) (fun t _ y => ?_) (fun i => ?_)
  · refine Eq.trans ?_ (congrArg (wDil V c) (wDil_at t y)).symm
    refine Eq.trans ?_ (wDil_step V c t (y 1) (y 2))
    show ((dat1 V c).after 2 t : S1x256x1152.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h1 : (i 1).val < 1024 := (i 1).isLt
    obtain ⟨t, ht⟩ : ∃ t : Fin cfg1.N, t.val = (i 0).val * 4 + (i 1).val / 256 := ⟨⟨(i 0).val * 4 + (i 1).val / 256, by show _ < 8; omega⟩, rfl⟩
    obtain ⟨r, hr⟩ : ∃ r : Fin 256, r.val = (i 1).val % 256 := ⟨⟨(i 1).val % 256, Nat.mod_lt _ (by decide)⟩, rfl⟩
    refine ⟨t, flush1_2 t, ?_⟩
    have he : ((cfg1.win 2).blk t).view.emb (ix3 0 r (i 2) : S1x256x1152.Idx) = i := by
      refine (wDil_at t _).trans ?_
      funext a
      refine Fin.ext ?_
      fin_cases a
      · show t.val / 4 = (i 0).val
        omega
      · show t.val % 4 * 256 + r.val = (i 1).val
        omega
      · rfl
    exact Eq.mp (congrArg (fun j => j ∈ ((cfg1.win 2).blk t).view.set) he) (((cfg1.win 2).blk t).view.emb_mem_set (ix3 0 r (i 2) : S1x256x1152.Idx))

theorem wSb_at (t : Fin cfg1.N) (y : S1x256x1152.Idx) :
    (((cfg1.win 3).blk t).view.emb y : S2x1024x1152.Idx) = ix3 (layer1 t) (row1 t (y 1)) (y 2) := by
  have e := place1 t
  funext a
  have ea := congrFun e a
  refine Fin.ext ?_
  fin_cases a
  · show cc1_transform_0 (grid1.coords t) 0 * 1 + 1 * (y 0).val = t.val / 4
    have h : (y 0).val < 1 := (y 0).isLt
    exact (congrArg (· * 1 + 1 * (y 0).val) ea).trans (by show t.val / 4 * 1 + 1 * (y 0).val = _; omega)
  · show cc1_transform_0 (grid1.coords t) 1 * 256 + 1 * (y 1).val = t.val % 4 * 256 + (y 1).val
    exact (congrArg (· * 256 + 1 * (y 1).val) ea).trans (by show t.val % 4 * 256 + 1 * (y 1).val = _; omega)
  · show 0 * 1152 + 1 * (y 2).val = (y 2).val
    omega

theorem wSb_value : ((dat1 V c).arrAt 3 cfg1.N : S2x1024x1152.Idx → EReal) = wSb V c := by
  refine (dat1 V c).arrAt_eq_of_emb 3 (wSb V c) (fun t _ y => ?_) (fun i => ?_)
  · refine Eq.trans ?_ (congrArg (wSb V c) (wSb_at t y)).symm
    refine Eq.trans ?_ (wSb_step V c t (y 1) (y 2))
    show ((dat1 V c).after 3 t : S1x256x1152.Idx → EReal) _ = _
    congr 1
    funext a
    fin_cases a
    · exact Fin.ext (by have h : (y 0).val < 1 := (y 0).isLt; show (y 0).val = 0; omega)
    · rfl
    · rfl
  · have h0 : (i 0).val < 2 := (i 0).isLt
    have h1 : (i 1).val < 1024 := (i 1).isLt
    obtain ⟨t, ht⟩ : ∃ t : Fin cfg1.N, t.val = (i 0).val * 4 + (i 1).val / 256 := ⟨⟨(i 0).val * 4 + (i 1).val / 256, by show _ < 8; omega⟩, rfl⟩
    obtain ⟨r, hr⟩ : ∃ r : Fin 256, r.val = (i 1).val % 256 := ⟨⟨(i 1).val % 256, Nat.mod_lt _ (by decide)⟩, rfl⟩
    refine ⟨t, flush1_3 t, ?_⟩
    have he : ((cfg1.win 3).blk t).view.emb (ix3 0 r (i 2) : S1x256x1152.Idx) = i := by
      refine (wSb_at t _).trans ?_
      funext a
      refine Fin.ext ?_
      fin_cases a
      · show t.val / 4 = (i 0).val
        omega
      · show t.val % 4 * 256 + r.val = (i 1).val
        omega
      · rfl
    exact Eq.mp (congrArg (fun j => j ∈ ((cfg1.win 3).blk t).view.set) he) (((cfg1.win 3).blk t).view.emb_mem_set (ix3 0 r (i 2) : S1x256x1152.Idx))

end Cert.Projection

end
-- ==== Proof.ProjRows.lean ====
/- The third call: the modulated norm and its products with the laid out weights, as arrays. -/
module

public import proofs.«01_k».proof.Proof.ProjMod

@[expose] public section

set_option maxRecDepth 16384

noncomputable section

namespace Cert.Projection

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b)) (c : Dev nD)

/-- A step of the third call: eight blocks of 512 positions for each sequence. -/
theorem place2 : ∀ t : Fin cfg2.N, cc2_transform_0 (grid2.coords t) = ![t.val / 8, t.val % 8, 0] := by decide +kernel

def seq2 (t : Fin cfg2.N) : Fin 8 := ⟨t.val / 8, by have h : t.val < 64 := t.isLt; omega⟩
def pos2 (t : Fin cfg2.N) (y : Fin 512) : Fin 4096 := ⟨t.val % 8 * 512 + y.val, by omega⟩

theorem x_read (t : Fin cfg2.N) (y : Fin 512) (k : Fin 1024) :
    (iblk2 V c 0 t : S1x512x1024.Idx → EReal) (ix3 0 y k) = (V c main_arg0 : S8x4096x1024.Idx → EReal) (ix3 (seq2 t) (pos2 t y) k) := by
  have e := place2 t
  refine congrArg (V c main_arg0 : S8x4096x1024.Idx → EReal) (funext fun a => Fin.ext ?_)
  have ea := congrFun e a
  fin_cases a
  · show cc2_transform_0 (grid2.coords t) 0 * 1 + 1 * 0 = t.val / 8
    exact (congrArg (· * 1 + 1 * 0) ea).trans (by show t.val / 8 * 1 + 1 * 0 = _; omega)
  · show cc2_transform_0 (grid2.coords t) 1 * 512 + 1 * y.val = t.val % 8 * 512 + y.val
    exact (congrArg (· * 512 + 1 * y.val) ea).trans (by show t.val % 8 * 512 + 1 * y.val = _; omega)
  · show 0 * 1024 + 1 * k.val = k.val
    omega

theorem mod_read (t : Fin cfg2.N) (i : Fin 6) (k : Fin 1024) :
    (iblk2 V c 1 t : S1x6x1024.Idx → EReal) (ix3 0 i k) = (V c main_v5 : S8x6x1024.Idx → EReal) (ix3 (seq2 t) i k) := by
  have e := place2 t
  refine congrArg (V c main_v5 : S8x6x1024.Idx → EReal) (funext fun a => Fin.ext ?_)
  fin_cases a
  · show cc2_transform_0 (grid2.coords t) 0 * 1 + 1 * 0 = t.val / 8
    exact (congrArg (· * 1 + 1 * 0) (congrFun e 0)).trans (by show t.val / 8 * 1 + 1 * 0 = _; omega)
  · show 0 * 6 + 1 * i.val = i.val
    omega
  · show 0 * 1024 + 1 * k.val = k.val
    omega

theorem ml_read (t : Fin cfg2.N) (k : Fin 1024) (j : Fin 640) :
    (iblk2 V c 2 t : S1024x640.Idx → EReal) (ix2 k j) = (V c main_v7 : S1024x640.Idx → EReal) (ix2 k j) := by
  refine congrArg (V c main_v7 : S1024x640.Idx → EReal) (funext fun a => Fin.ext ?_)
  fin_cases a
  · show 0 * 1024 + 1 * k.val = k.val
    omega
  · show 0 * 640 + 1 * j.val = j.val
    omega

theorem dil_read (t : Fin cfg2.N) (k : Fin 1024) (j : Fin 1152) :
    (iblk2 V c 3 t : S1024x1152.Idx → EReal) (ix2 k j) = (V c main_v9 : S1024x1152.Idx → EReal) (ix2 k j) := by
  refine congrArg (V c main_v9 : S1024x1152.Idx → EReal) (funext fun a => Fin.ext ?_)
  fin_cases a
  · show 0 * 1024 + 1 * k.val = k.val
    omega
  · show 0 * 1152 + 1 * j.val = j.val
    omega

theorem sb_read (t : Fin cfg2.N) (k : Fin 1024) (j : Fin 1152) :
    (iblk2 V c 4 t : S1024x1152.Idx → EReal) (ix2 k j) = (V c main_v11 : S1024x1152.Idx → EReal) (ix2 k j) := by
  refine congrArg (V c main_v11 : S1024x1152.Idx → EReal) (funext fun a => Fin.ext ?_)
  fin_cases a
  · show 0 * 1024 + 1 * k.val = k.val
    omega
  · show 0 * 1152 + 1 * j.val = j.val
    omega

/-- The modulated norm of a position. -/
def row (b : Fin 8) (s : Fin 4096) : Fin 1024 → EReal :=
  normed (fun k => (V c main_arg0 : S8x4096x1024.Idx → EReal) (ix3 b s k)) (fun k => (V c main_v5 : S8x6x1024.Idx → EReal) (ix3 b 1 k))
    (fun k => (V c main_v5 : S8x6x1024.Idx → EReal) (ix3 b 0 k))

theorem row_step (t : Fin cfg2.N) (y : Fin 512) (k : Fin 1024) :
    (k2_pay3 (F := Ideal) (View.ld (iblk2 V c 0 t) r2_0) (View.ld (iblk2 V c 1 t) r2_1) : S512x1024.Idx → EReal) (ix2 y k) = row V c (seq2 t) (pos2 t y) k := by
  refine (norm_apply _ _ y k).trans ?_
  show normed _ _ _ k = normed _ _ _ k
  congr 1
  · exact funext fun k => (congrFun (View.ld_unit_zero zero3 _ _) _).trans (x_read V c t y k)
  · exact funext fun k => (congrFun (View.ld_unit_zero zero3 _ _) _).trans (mod_read V c t 1 k)
  · exact funext fun k => (congrFun (View.ld_unit_zero zero3 _ _) _).trans (mod_read V c t 0 k)

/-- What the recurrence reads, and the two attentions. -/
def uMl : S8x4096x640.Idx → EReal := fun i => ∑ k, row V c (i 0) (i 1) k * (V c main_v7 : S1024x640.Idx → EReal) (ix2 k (i 2))
def uDil : S8x4096x1152.Idx → EReal := fun i => ∑ k, row V c (i 0) (i 1) k * (V c main_v9 : S1024x1152.Idx → EReal) (ix2 k (i 2))
def uSb : S8x4096x1152.Idx → EReal := fun i => ∑ k, row V c (i 0) (i 1) k * (V c main_v11 : S1024x1152.Idx → EReal) (ix2 k (i 2))

/-- The gates, positions along the lanes. -/
def uGate : S8x8x4096.Idx → EReal := fun i =>
  ∑ k, row V c (i 0) (i 2) k * (V c main_v7 : S1024x640.Idx → EReal) (ix2 k ⟨512 + (i 1).val, by have h : (i 1).val < 8 := (i 1).isLt; omega⟩)

theorem uMl_step (t : Fin cfg2.N) (y : Fin 512) (j : Fin 640) :
    ((dat2 V c).after 5 t : S1x512x640.Idx → EReal) (ix3 0 y j) = uMl V c (ix3 (seq2 t) (pos2 t y) j) := by
  rw [after2_5]
  unfold out2_5
  refine (congrFun (View.canon_unit_zero zero3 _ _) _).trans ?_
  refine (ml_apply _ _ _ y j).trans ?_
  refine Finset.sum_congr rfl fun k _ => ?_
  refine congrArg₂ (· * ·) (row_step V c t y k) ?_
  exact (congrFun (View.ld_unit_zero zero2 _ _) _).trans (ml_read V c t k j)

theorem uMl_at (t : Fin cfg2.N) (y : S1x512x640.Idx) :
    (((cfg2.win 5).blk t).view.emb y : S8x4096x640.Idx) = ix3 (seq2 t) (pos2 t (y 1)) (y 2) := by
  have e := place2 t
  funext a
  have ea := congrFun e a
  refine Fin.ext ?_
  fin_cases a
  · show cc2_transform_0 (grid2.coords t) 0 * 1 + 1 * (y 0).val = t.val / 8
    have h : (y 0).val < 1 := (y 0).isLt
    exact (congrArg (· * 1 + 1 * (y 0).val) ea).trans (by show t.val / 8 * 1 + 1 * (y 0).val = _; omega)
  · show cc2_transform_0 (grid2.coords t) 1 * 512 + 1 * (y 1).val = t.val % 8 * 512 + (y 1).val
    exact (congrArg (· * 512 + 1 * (y 1).val) ea).trans (by show t.val % 8 * 512 + 1 * (y 1).val = _; omega)
  · show 0 * 640 + 1 * (y 2).val = (y 2).val
    omega

theorem uMl_value : ((dat2 V c).arrAt 5 cfg2.N : S8x4096x640.Idx → EReal) = uMl V c := by
  refine (dat2 V c).arrAt_eq_of_emb 5 (uMl V c) (fun t _ y => ?_) (fun i => ?_)
  · refine Eq.trans ?_ (congrArg (uMl V c) (uMl_at t y)).symm
    refine Eq.trans ?_ (uMl_step V c t (y 1) (y 2))
    show ((dat2 V c).after 5 t : S1x512x640.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg2.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush2_5 t, ?_⟩
    have he : ((cfg2.win 5).blk t).view.emb (ix3 0 r (i 2) : S1x512x640.Idx) = i := by
      refine (uMl_at t _).trans ?_
      funext a
      refine Fin.ext ?_
      fin_cases a
      · show t.val / 8 = (i 0).val
        omega
      · show t.val % 8 * 512 + r.val = (i 1).val
        omega
      · rfl
    exact Eq.mp (congrArg (fun j => j ∈ ((cfg2.win 5).blk t).view.set) he) (((cfg2.win 5).blk t).view.emb_mem_set (ix3 0 r (i 2) : S1x512x640.Idx))

theorem uDil_step (t : Fin cfg2.N) (y : Fin 512) (j : Fin 1152) :
    ((dat2 V c).after 6 t : S1x512x1152.Idx → EReal) (ix3 0 y j) = uDil V c (ix3 (seq2 t) (pos2 t y) j) := by
  rw [after2_6]
  unfold out2_6
  refine (congrFun (View.canon_unit_zero zero3 _ _) _).trans ?_
  refine (dil_apply _ _ _ y j).trans ?_
  refine Finset.sum_congr rfl fun k _ => ?_
  refine congrArg₂ (· * ·) (row_step V c t y k) ?_
  exact (congrFun (View.ld_unit_zero zero2 _ _) _).trans (dil_read V c t k j)

theorem uDil_at (t : Fin cfg2.N) (y : S1x512x1152.Idx) :
    (((cfg2.win 6).blk t).view.emb y : S8x4096x1152.Idx) = ix3 (seq2 t) (pos2 t (y 1)) (y 2) := by
  have e := place2 t
  funext a
  have ea := congrFun e a
  refine Fin.ext ?_
  fin_cases a
  · show cc2_transform_0 (grid2.coords t) 0 * 1 + 1 * (y 0).val = t.val / 8
    have h : (y 0).val < 1 := (y 0).isLt
    exact (congrArg (· * 1 + 1 * (y 0).val) ea).trans (by show t.val / 8 * 1 + 1 * (y 0).val = _; omega)
  · show cc2_transform_0 (grid2.coords t) 1 * 512 + 1 * (y 1).val = t.val % 8 * 512 + (y 1).val
    exact (congrArg (· * 512 + 1 * (y 1).val) ea).trans (by show t.val % 8 * 512 + 1 * (y 1).val = _; omega)
  · show 0 * 1152 + 1 * (y 2).val = (y 2).val
    omega

theorem uDil_value : ((dat2 V c).arrAt 6 cfg2.N : S8x4096x1152.Idx → EReal) = uDil V c := by
  refine (dat2 V c).arrAt_eq_of_emb 6 (uDil V c) (fun t _ y => ?_) (fun i => ?_)
  · refine Eq.trans ?_ (congrArg (uDil V c) (uDil_at t y)).symm
    refine Eq.trans ?_ (uDil_step V c t (y 1) (y 2))
    show ((dat2 V c).after 6 t : S1x512x1152.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg2.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush2_6 t, ?_⟩
    have he : ((cfg2.win 6).blk t).view.emb (ix3 0 r (i 2) : S1x512x1152.Idx) = i := by
      refine (uDil_at t _).trans ?_
      funext a
      refine Fin.ext ?_
      fin_cases a
      · show t.val / 8 = (i 0).val
        omega
      · show t.val % 8 * 512 + r.val = (i 1).val
        omega
      · rfl
    exact Eq.mp (congrArg (fun j => j ∈ ((cfg2.win 6).blk t).view.set) he) (((cfg2.win 6).blk t).view.emb_mem_set (ix3 0 r (i 2) : S1x512x1152.Idx))

theorem uSb_step (t : Fin cfg2.N) (y : Fin 512) (j : Fin 1152) :
    ((dat2 V c).after 7 t : S1x512x1152.Idx → EReal) (ix3 0 y j) = uSb V c (ix3 (seq2 t) (pos2 t y) j) := by
  rw [after2_7]
  unfold out2_7
  refine (congrFun (View.canon_unit_zero zero3 _ _) _).trans ?_
  refine (sb_apply _ _ y j).trans ?_
  refine Finset.sum_congr rfl fun k _ => ?_
  refine congrArg₂ (· * ·) (row_step V c t y k) ?_
  exact (congrFun (View.ld_unit_zero zero2 _ _) _).trans (sb_read V c t k j)

theorem uSb_at (t : Fin cfg2.N) (y : S1x512x1152.Idx) :
    (((cfg2.win 7).blk t).view.emb y : S8x4096x1152.Idx) = ix3 (seq2 t) (pos2 t (y 1)) (y 2) := by
  have e := place2 t
  funext a
  have ea := congrFun e a
  refine Fin.ext ?_
  fin_cases a
  · show cc2_transform_0 (grid2.coords t) 0 * 1 + 1 * (y 0).val = t.val / 8
    have h : (y 0).val < 1 := (y 0).isLt
    exact (congrArg (· * 1 + 1 * (y 0).val) ea).trans (by show t.val / 8 * 1 + 1 * (y 0).val = _; omega)
  · show cc2_transform_0 (grid2.coords t) 1 * 512 + 1 * (y 1).val = t.val % 8 * 512 + (y 1).val
    exact (congrArg (· * 512 + 1 * (y 1).val) ea).trans (by show t.val % 8 * 512 + 1 * (y 1).val = _; omega)
  · show 0 * 1152 + 1 * (y 2).val = (y 2).val
    omega

theorem uSb_value : ((dat2 V c).arrAt 7 cfg2.N : S8x4096x1152.Idx → EReal) = uSb V c := by
  refine (dat2 V c).arrAt_eq_of_emb 7 (uSb V c) (fun t _ y => ?_) (fun i => ?_)
  · refine Eq.trans ?_ (congrArg (uSb V c) (uSb_at t y)).symm
    refine Eq.trans ?_ (uSb_step V c t (y 1) (y 2))
    show ((dat2 V c).after 7 t : S1x512x1152.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 1).val < 4096 := (i 1).isLt
    obtain ⟨t, ht⟩ : ∃ t : Fin cfg2.N, t.val = (i 0).val * 8 + (i 1).val / 512 := ⟨⟨(i 0).val * 8 + (i 1).val / 512, by show _ < 64; omega⟩, rfl⟩
    obtain ⟨r, hr⟩ : ∃ r : Fin 512, r.val = (i 1).val % 512 := ⟨⟨(i 1).val % 512, Nat.mod_lt _ (by decide)⟩, rfl⟩
    refine ⟨t, flush2_7 t, ?_⟩
    have he : ((cfg2.win 7).blk t).view.emb (ix3 0 r (i 2) : S1x512x1152.Idx) = i := by
      refine (uSb_at t _).trans ?_
      funext a
      refine Fin.ext ?_
      fin_cases a
      · show t.val / 8 = (i 0).val
        omega
      · show t.val % 8 * 512 + r.val = (i 1).val
        omega
      · rfl
    exact Eq.mp (congrArg (fun j => j ∈ ((cfg2.win 7).blk t).view.set) he) (((cfg2.win 7).blk t).view.emb_mem_set (ix3 0 r (i 2) : S1x512x1152.Idx))

theorem uGate_step (t : Fin cfg2.N) (g : Fin 8) (y : Fin 512) :
    ((dat2 V c).after 8 t : S1x8x512.Idx → EReal) (ix3 0 g y) = uGate V c (ix3 (seq2 t) g (pos2 t y)) := by
  rw [after2_8]
  unfold out2_8
  refine (congrFun (View.canon_unit_zero zero3 _ _) _).trans ?_
  refine (gate_apply _ _ _ g y).trans ?_
  refine Finset.sum_congr rfl fun k _ => ?_
  refine congrArg₂ (· * ·) (row_step V c t y k) ?_
  exact (congrFun (View.ld_unit_zero zero2 _ _) _).trans (ml_read V c t k _)

theorem uGate_at (t : Fin cfg2.N) (y : S1x8x512.Idx) :
    (((cfg2.win 8).blk t).view.emb y : S8x8x4096.Idx) = ix3 (seq2 t) (y 1) (pos2 t (y 2)) := by
  have e := place2 t
  funext a
  refine Fin.ext ?_
  fin_cases a
  · show cc2_transform_0 (grid2.coords t) 0 * 1 + 1 * (y 0).val = t.val / 8
    have h : (y 0).val < 1 := (y 0).isLt
    exact (congrArg (· * 1 + 1 * (y 0).val) (congrFun e 0)).trans (by show t.val / 8 * 1 + 1 * (y 0).val = _; omega)
  · show 0 * 8 + 1 * (y 1).val = (y 1).val
    omega
  · show cc2_transform_0 (grid2.coords t) 1 * 512 + 1 * (y 2).val = t.val % 8 * 512 + (y 2).val
    exact (congrArg (· * 512 + 1 * (y 2).val) (congrFun e 1)).trans (by show t.val % 8 * 512 + 1 * (y 2).val = _; omega)

theorem uGate_value : ((dat2 V c).arrAt 8 cfg2.N : S8x8x4096.Idx → EReal) = uGate V c := by
  refine (dat2 V c).arrAt_eq_of_emb 8 (uGate V c) (fun t _ y => ?_) (fun i => ?_)
  · refine Eq.trans ?_ (congrArg (uGate V c) (uGate_at t y)).symm
    refine Eq.trans ?_ (uGate_step V c t (y 1) (y 2))
    show ((dat2 V c).after 8 t : S1x8x512.Idx → EReal) _ = _
    congr 1
    funext a
    fin_cases a
    · exact Fin.ext (by have h : (y 0).val < 1 := (y 0).isLt; show (y 0).val = 0; omega)
    · rfl
    · rfl
  · have h0 : (i 0).val < 8 := (i 0).isLt
    have h1 : (i 2).val < 4096 := (i 2).isLt
    obtain ⟨t, ht⟩ : ∃ t : Fin cfg2.N, t.val = (i 0).val * 8 + (i 2).val / 512 := ⟨⟨(i 0).val * 8 + (i 2).val / 512, by show _ < 64; omega⟩, rfl⟩
    obtain ⟨r, hr⟩ : ∃ r : Fin 512, r.val = (i 2).val % 512 := ⟨⟨(i 2).val % 512, Nat.mod_lt _ (by decide)⟩, rfl⟩
    refine ⟨t, flush2_8 t, ?_⟩
    have he : ((cfg2.win 8).blk t).view.emb (ix3 0 (i 1) r : S1x8x512.Idx) = i := by
      refine (uGate_at t _).trans ?_
      funext a
      refine Fin.ext ?_
      fin_cases a
      · show t.val / 8 = (i 0).val
        omega
      · rfl
      · show t.val % 8 * 512 + r.val = (i 2).val
        omega
    exact Eq.mp (congrArg (fun j => j ∈ ((cfg2.win 8).blk t).view.set) he) (((cfg2.win 8).blk t).view.emb_mem_set (ix3 0 (i 1) r : S1x8x512.Idx))

end Cert.Projection

end
-- ==== Proof.ProjHost.lean ====
/- What stands between the calls: the arrays the third call reads, from those the first two leave. -/
module

public import proofs.«01_k».proof.Proof.ProjWeights
public import proofs.«01_k».proof.Proof.ProjRows
public import Idealize.ShloMosaic.Lib.StableHlo.ReadAt

@[expose] public section

set_option maxRecDepth 16384

noncomputable section

namespace Cert.Projection

open Cert.Kernel3Ideal Cert.Kernel3Ideal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem bias_read (l : Fin 2) (n : Fin 6144) :
    (V1 m ρ c main_v0 : S2x1x6144.Idx → EReal) (ix3 l 0 n) = (m ((c : Thread nD τ).loc main_arg4) : S2x6144.Idx → EReal) (ix2 l n) := by
  show (StableHlo.after hostOps0 (W0 m ρ c) (Proc.devRef .tc main_v0) : S2x1x6144.Idx → EReal) _ = _
  after_reads_simp
  clean_types
  pointwise

theorem mod_host (b : Fin 8) (i : Fin 6) (k : Fin 1024) :
    (V5 m ρ c main_v5 : S8x6x1024.Idx → EReal) (ix3 b i k)
      = mods (V1 m ρ) c (ix3 0 b ⟨i.val * 1024 + k.val, by omega⟩) := by
  have h5 : (V5 m ρ c main_v5 : S8x6x1024.Idx → EReal) (ix3 b i k) = (W4 m ρ c (Proc.devRef .tc main_v2) : S2x8x6x1024.Idx → EReal) (ix4 0 b i k) := by
    show (StableHlo.after hostOps2 (W4 m ρ c) (Proc.devRef .tc main_v5) : S8x6x1024.Idx → EReal) _ = _
    after_reads_simp
    clean_types
    pointwise
  have h4 : W4 m ρ c (Proc.devRef .tc main_v2) = W3 m ρ c (Proc.devRef .tc main_v2) := W4_of_ne m ρ c main_v2 (by decide)
  have h3 : (W3 m ρ c (Proc.devRef .tc main_v2) : S2x8x6x1024.Idx → EReal) (ix4 0 b i k)
      = (W2 m ρ c (Proc.devRef .tc main_v1) : S2x8x6144.Idx → EReal) (ix3 0 b ⟨i.val * 1024 + k.val, by omega⟩) := by
    show (StableHlo.after hostOps1 (W2 m ρ c) (Proc.devRef .tc main_v2) : S2x8x6x1024.Idx → EReal) _ = _
    after_reads_simp
    clean_types
    pointwise
  refine h5.trans ((congrFun h4 _).trans (h3.trans ?_))
  exact congrFun ((W2_arr m ρ c 3).trans (mods_value (V1 m ρ) c)) _

theorem wMl_host (k : Fin 1024) (j : Fin 640) :
    (V5 m ρ c main_v7 : S1024x640.Idx → EReal) (ix2 k j) = wMl (V3 m ρ) c (ix3 0 k j) := by
  have h5 : (V5 m ρ c main_v7 : S1024x640.Idx → EReal) (ix2 k j) = (W4 m ρ c (Proc.devRef .tc main_v3_0) : S2x1024x640.Idx → EReal) (ix3 0 k j) := by
    show (StableHlo.after hostOps2 (W4 m ρ c) (Proc.devRef .tc main_v7) : S1024x640.Idx → EReal) _ = _
    after_reads_simp
    clean_types
    pointwise
  exact h5.trans (congrFun ((W4_arr m ρ c 1).trans (wMl_value (V3 m ρ) c)) _)

theorem wDil_host (k : Fin 1024) (j : Fin 1152) :
    (V5 m ρ c main_v9 : S1024x1152.Idx → EReal) (ix2 k j) = wDil (V3 m ρ) c (ix3 0 k j) := by
  have h5 : (V5 m ρ c main_v9 : S1024x1152.Idx → EReal) (ix2 k j) = (W4 m ρ c (Proc.devRef .tc main_v3_1) : S2x1024x1152.Idx → EReal) (ix3 0 k j) := by
    show (StableHlo.after hostOps2 (W4 m ρ c) (Proc.devRef .tc main_v9) : S1024x1152.Idx → EReal) _ = _
    after_reads_simp
    clean_types
    pointwise
  exact h5.trans (congrFun ((W4_arr m ρ c 2).trans (wDil_value (V3 m ρ) c)) _)

theorem wSb_host (k : Fin 1024) (j : Fin 1152) :
    (V5 m ρ c main_v11 : S1024x1152.Idx → EReal) (ix2 k j) = wSb (V3 m ρ) c (ix3 0 k j) := by
  have h5 : (V5 m ρ c main_v11 : S1024x1152.Idx → EReal) (ix2 k j) = (W4 m ρ c (Proc.devRef .tc main_v3_2) : S2x1024x1152.Idx → EReal) (ix3 0 k j) := by
    show (StableHlo.after hostOps2 (W4 m ρ c) (Proc.devRef .tc main_v11) : S1024x1152.Idx → EReal) _ = _
    after_reads_simp
    clean_types
    pointwise
  exact h5.trans (congrFun ((W4_arr m ρ c 3).trans (wSb_value (V3 m ρ) c)) _)

end Cert.Projection

end
-- ==== Proof.ProjRun.lean ====
/- The projection program runs, and where its results are read off. -/
module

public import proofs.«01_k».proof.Proof.Gen.Kernel3Ideal.Frame

@[expose] public section

set_option maxRecDepth 16384

noncomputable section

namespace Cert.Projection

open Cert.Kernel3Ideal Cert.Kernel3Ideal.Gen Idealize.ShloMosaic Idealize.ShloMosaic.TcCoe
open Idealize.SL Idealize.SL.RA Idealize.SL.BI Idealize.SL.ProofMode Idealize.SL.Sem
open scoped Idealize.SL.BI
open Idealize.SL.BI.BIBase Idealize.SL.BI.Laws Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A result array at the end: what the third call's write-backs leave. -/
abbrev left (c : Dev nD) (w : Fin cfg2.W) := (dat2 (V5 m ρ) c).arrAt w cfg2.N

set_option backward.isDefEq.respectTransparency.types false in
/-- The three calls one after the other: the results are what the third one writes back, the arguments stay. -/
theorem run : θ_run defs (onTc (τ := τ) (main (F := F))) ⟨m, fun _ => 0, ρ⟩ (fun r => ∀ c : Dev nD,
      r.2.mem ((c.tc : Thread nD τ).loc main_v12_0) = left m ρ c 5
      ∧ r.2.mem ((c.tc : Thread nD τ).loc main_v12_1) = left m ρ c 6
      ∧ r.2.mem ((c.tc : Thread nD τ).loc main_v12_2) = left m ρ c 7
      ∧ r.2.mem ((c.tc : Thread nD τ).loc main_v12_3) = left m ρ c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v12_0 (by decide))).trans (W6_arr m ρ c 5),
       (h c _ (mem_uc main_v12_1 (by decide))).trans (W6_arr m ρ c 6),
       (h c _ (mem_uc main_v12_2 (by decide))).trans (W6_arr m ρ c 7),
       (h c _ (mem_uc main_v12_3 (by decide))).trans (W6_arr m ρ c 8),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Projection

end
-- ==== Proof.ProjRef.lean ====
/- The plain mathematics of the input projection, entry by entry. -/
module

public import proofs.«01_k».proof.Proof.ProjBody
public import proofs.«01_k».proof.Proof.Gen.Reference3Ideal.Run

@[expose] public section

set_option maxRecDepth 16384

noncomputable section

namespace Cert.Projection.Ref

open Cert.Reference3Ideal Cert.Reference3Ideal.Gen Idealize.ShloMosaic Idealize.SL.Sem

variable (x : FVec Ideal S8x4096x1024 .f32) (cv : FVec Ideal S8x1024 .f32) (w : FVec Ideal S2x1024x2824 .f32) (wa : FVec Ideal S2x1024x6144 .f32) (ba : FVec Ideal S2x6144 .f32)

/-- The modulation's six vectors, side by side. -/
def md : FVec Ideal S8x6144 .f32 :=
  addf (Host.dotGeneral dot_S8x1024_S1024x6144_S8x6144_1_0_0_1_n_n none
      (mulf cv (Host.divf (broadcastInDim S8x1024 ![] bcast_S_S8x1024 (constant S_ .f32 0x3F800000#32)) (addf (broadcastInDim S8x1024 ![] bcast_S_S8x1024 (constant S_ .f32 0x3F800000#32)) (Host.exp (Host.negf cv)))))
      (shapeCast _ (extractStridedSlice S1x1024x6144 ![0, 0, 0] wa slices_S2x1024x6144_S1x1024x6144_0_0_0) shapeCasts_S1x1024x6144_S1024x6144))
    (broadcastInDim S8x6144 ![0, 1] bcast_S1x6144_S8x6144_0_1 (broadcastInDim S1x6144 ![1] bcast_S6144_S1x6144_1 (shapeCast _ (extractStridedSlice S1x6144 ![0, 0] ba slices_S2x6144_S1x6144_0_0) shapeCasts_S1x6144_S6144)))

theorem md_apply (b : Fin 8) (n : Fin 6144) :
    (md cv wa ba : S8x6144.Idx → EReal) (ix2 b n) = modAt (fun k => cv (ix2 b k)) (fun k => wa (ix3 0 k n)) (ba (ix2 0 n)) := by
  pointwise [md]
  rfl

/-- The modulated norm. -/
def nrm : FVec Ideal S8x4096x1024 .f32 :=
  addf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (md cv wa ba) slices_S8x6144_S8x1024_0_1024)))))
    (broadcastInDim S8x4096x1024 ![0, 1, 2] bcast_S8x1x1024_S8x4096x1024_0_1_2 (broadcastInDim S8x1x1024 ![0, 2] bcast_S8x1024_S8x1x1024_0_2 (extractStridedSlice S8x1024 ![0, 0] (md cv wa ba) slices_S8x6144_S8x1024_0_0)))

/-- A position's modulated norm. -/
def rowOf (b : Fin 8) (s : Fin 4096) : Fin 1024 → EReal :=
  normed (fun k => x (ix3 b s k)) (fun k => (md cv wa ba : S8x6144.Idx → EReal) (ix2 b ⟨1024 + k.val, by omega⟩)) (fun k => (md cv wa ba : S8x6144.Idx → EReal) (ix2 b ⟨k.val, by omega⟩))

theorem nrm_apply (b : Fin 8) (s : Fin 4096) (k : Fin 1024) :
    (nrm x cv wa ba : S8x4096x1024.Idx → EReal) (ix3 b s k) = rowOf x cv wa ba b s k := by
  pointwise [nrm]
  rfl

/-- The input projection. -/
def u : FVec Ideal S8x4096x2824 .f32 :=
  Host.dotGeneral dot_S8x4096x1024_S1024x2824_S8x4096x2824_2_0_01_1_n_n none (nrm x cv wa ba)
    (shapeCast _ (extractStridedSlice S1x1024x2824 ![0, 0, 0] w slices_S2x1024x2824_S1x1024x2824_0_0_0) shapeCasts_S1x1024x2824_S1024x2824)

theorem u_apply (b : Fin 8) (s : Fin 4096) (j : Fin 2824) :
    (u x cv w wa ba : S8x4096x2824.Idx → EReal) (ix3 b s j) = ∑ k, rowOf x cv wa ba b s k * w (ix3 0 k j) := by
  have h : (u x cv w wa ba : S8x4096x2824.Idx → EReal) (ix3 b s j) = ∑ k : Fin 1024, (nrm x cv wa ba : S8x4096x1024.Idx → EReal) (ix3 b s k) * w (ix3 0 k j) := by
    pointwise [u]
  refine h.trans (Finset.sum_congr rfl fun k _ => ?_)
  rw [nrm_apply]

variable (t : FVec Ideal S8x4096x2824 .f32)

def padded : FVec Ideal S8x4096x640 .f32 :=
  pad S8x4096x640 ![0, 0, 0] ![0, 0, 120] ![0, 0, 0] (extractStridedSlice S8x4096x520 ![0, 0, 0] t slices_S8x4096x2824_S8x4096x520_0_0_0) (sitofp .f32 (constantI S_ 32 0#32)) pads_S8x4096x520_S8x4096x640_000_000_01200 h_S_

theorem padded_apply (b : Fin 8) (s : Fin 4096) (j : Fin 640) :
    (padded t : S8x4096x640.Idx → EReal) (ix3 b s j) = if h : j.val < 520 then t (ix3 b s ⟨j.val, by omega⟩) else 0 := by
  pointwise [padded]
  by_cases h : j.val < 520
  · rw [dif_pos h, dif_pos h]
  · rw [dif_neg h, dif_neg h]
    show (((0#32 : BitVec 32).toInt : ℝ) : EReal) = 0
    simp

def gates : FVec Ideal S8x8x4096 .f32 :=
  transpose S8x8x4096 [0, 2, 1] (extractStridedSlice S8x4096x8 ![0, 0, 512] t slices_S8x4096x2824_S8x4096x8_0_0_512) transposes_S8x4096x8_S8x8x4096_0_2_1

theorem gates_apply (b g : Fin 8) (s : Fin 4096) :
    (gates t : S8x8x4096.Idx → EReal) (ix3 b g s) = t (ix3 b s ⟨512 + g.val, by omega⟩) := by
  pointwise [gates]

variable (r : FVec Ideal S8x4096x1152 .f32)

def queries : FVec Ideal S8x4096x1152 .f32 :=
  concatenate S8x4096x1152 2 [⟨S8x4096x384, mulf (extractStridedSlice S8x4096x384 ![0, 0, 0] r slices_S8x4096x1152_S8x4096x384_0_0_0) (broadcastInDim S8x4096x384 ![] bcast_S_S8x4096x384 (constant S_ .f32 0x3E000000#32))⟩,
    ⟨S8x4096x384, extractStridedSlice S8x4096x384 ![0, 0, 384] r slices_S8x4096x1152_S8x4096x384_0_0_384⟩,
    ⟨S8x4096x384, extractStridedSlice S8x4096x384 ![0, 0, 768] r slices_S8x4096x1152_S8x4096x384_0_0_768⟩] concatenates_S8x4096x384_S8x4096x384_S8x4096x384_S8x4096x1152_d2

theorem queries_apply (b : Fin 8) (s : Fin 4096) (j : Fin 1152) :
    (queries r : S8x4096x1152.Idx → EReal) (ix3 b s j) = r (ix3 b s j) * scaleOf j := by
  pointwise [queries]
  unfold scaleOf
  by_cases h : j.val < 384
  · rw [dif_pos h, if_pos h]
  · rw [dif_neg h, if_neg h, mul_one]
    by_cases h2 : j.val - 384 < 384
    · rw [dif_pos h2]
      exact congrArg (fun i => r (ix3 b s i)) (Fin.ext (by show 384 + (j.val - 384) = j.val; omega))
    · rw [dif_neg h2]
      exact congrArg (fun i => r (ix3 b s i)) (Fin.ext (by show 768 + (j.val - 384 - 384) = j.val; omega))

def dilated : FVec Ideal S8x4096x1152 .f32 := queries (extractStridedSlice S8x4096x1152 ![0, 0, 520] t slices_S8x4096x2824_S8x4096x1152_0_0_520)

def broken : FVec Ideal S8x4096x1152 .bf16 := truncf .bf16 (queries (extractStridedSlice S8x4096x1152 ![0, 0, 1672] t slices_S8x4096x2824_S8x4096x1152_0_0_1672)) bitsLt_bf16_f32

theorem dilated_apply (b : Fin 8) (s : Fin 4096) (j : Fin 1152) :
    (dilated t : S8x4096x1152.Idx → EReal) (ix3 b s j) = t (ix3 b s ⟨520 + j.val, by omega⟩) * scaleOf j := by
  refine (queries_apply _ b s j).trans ?_
  congr 1
  pointwise

theorem broken_apply (b : Fin 8) (s : Fin 4096) (j : Fin 1152) :
    (broken t : S8x4096x1152.Idx → EReal) (ix3 b s j) = t (ix3 b s ⟨1672 + j.val, by omega⟩) * scaleOf j := by
  refine (queries_apply (extractStridedSlice S8x4096x1152 ![0, 0, 1672] t slices_S8x4096x2824_S8x4096x1152_0_0_1672) b s j).trans ?_
  congr 1
  pointwise

end Cert.Projection.Ref

end
-- ==== Proof.ProjMain.lean ====
/- The four arrays the three calls leave are the plain mathematics. -/
module

public import proofs.«01_k».proof.Proof.ProjHost
public import proofs.«01_k».proof.Proof.ProjRun
public import proofs.«01_k».proof.Proof.ProjRef

@[expose] public section

set_option maxRecDepth 16384

noncomputable section

namespace Cert.Projection

open Cert.Kernel3Ideal Cert.Kernel3Ideal.Gen Idealize.ShloMosaic Idealize.ShloMosaic.TcCoe Idealize.SL.Sem

/-- An eighth, or one, taken out of a sum of products: no product has to be finite. -/
theorem sum_scale {n : ℕ} (h w : Fin n → EReal) (s : EReal) (h0 : 0 ≤ s) (ht : s ≠ ⊤) : ∑ k, h k * (w k * s) = (∑ k, h k * w k) * s := by
  have e : ∀ S : Finset (Fin n), ∑ k ∈ S, h k * (w k * s) = (∑ k ∈ S, h k * w k) * s := fun S => by
    induction S using Finset.induction_on with
    | empty => simp
    | insert a S ha ih => rw [Finset.sum_insert ha, Finset.sum_insert ha, ih, ← mul_assoc, EReal.right_distrib_of_nonneg_of_ne_top h0 ht]
  exact e Finset.univ

theorem scale_nonneg (j : Fin 1152) : 0 ≤ scaleOf j ∧ scaleOf j ≠ ⊤ := by
  unfold scaleOf
  by_cases h : j.val < 384
  · rw [if_pos h]
    have e : Ideal.ofBits .f32 0x3E000000#32 = (((1 : ℝ) / 8 : ℝ) : EReal) := by
      simp [Ideal.ofBits, Ideal.ieee, -EReal.coe_mul]
      norm_num
    rw [e]
    exact ⟨by exact_mod_cast (by norm_num : (0 : ℝ) ≤ 1 / 8), EReal.coe_ne_top _⟩
  · rw [if_neg h]
    exact ⟨zero_le_one, by decide⟩

variable (m : (ℓ : Loc nD τ sig) → Buf (Elt Ideal) ℓ) (ρ : Dev nD → PrngReg) (c : Dev nD)

abbrev inX : FVec Ideal S8x4096x1024 .f32 := m ((c : Thread nD τ).loc main_arg0)
abbrev inC : FVec Ideal S8x1024 .f32 := m ((c : Thread nD τ).loc main_arg1)
abbrev inW : FVec Ideal S2x1024x2824 .f32 := m ((c : Thread nD τ).loc main_arg2)
abbrev inA : FVec Ideal S2x1024x6144 .f32 := m ((c : Thread nD τ).loc main_arg3)
abbrev inB : FVec Ideal S2x6144 .f32 := m ((c : Thread nD τ).loc main_arg4)

theorem mods_eq (b : Fin 8) (n : Fin 6144) :
    mods (V1 m ρ) c (ix3 0 b n) = (Ref.md (inC m c) (inA m c) (inB m c) : Cert.Reference3Ideal.S8x6144.Idx → EReal) (ix2 b n) := by
  refine Eq.trans ?_ (Ref.md_apply _ _ _ b n).symm
  show modAt (fun k => (V1 m ρ c main_arg1 : S8x1024.Idx → EReal) (ix2 b k)) (fun k => (V1 m ρ c main_arg3 : S2x1024x6144.Idx → EReal) (ix3 0 k n))
    ((V1 m ρ c main_v0 : S2x1x6144.Idx → EReal) (ix3 0 0 n)) = _
  rw [bias_read m ρ c 0 n, show V1 m ρ c main_arg1 = m ((c : Thread nD τ).loc main_arg1) from W1_args m ρ c main_arg1 (by decide),
    show V1 m ρ c main_arg3 = m ((c : Thread nD τ).loc main_arg3) from W1_args m ρ c main_arg3 (by decide)]

theorem normed_congr {x x' sc sc' sh sh' : Fin 1024 → EReal} (e : x = x') (e1 : sc = sc') (e2 : sh = sh') : normed x sc sh = normed x' sc' sh' := by
  rw [e, e1, e2]

theorem mod_at_eq (b : Fin 8) (i : Fin 6) (k : Fin 1024) (n : Fin 6144) (h : n.val = i.val * 1024 + k.val) :
    (V5 m ρ c main_v5 : S8x6x1024.Idx → EReal) (ix3 b i k) = (Ref.md (inC m c) (inA m c) (inB m c) : Cert.Reference3Ideal.S8x6144.Idx → EReal) (ix2 b n) := by
  refine (mod_host m ρ c b i k).trans ((mods_eq m ρ c b _).trans ?_)
  rw [show (⟨i.val * 1024 + k.val, by omega⟩ : Fin 6144) = n from Fin.ext h.symm]

theorem row_eq (b : Fin 8) (s : Fin 4096) :
    row (V5 m ρ) c b s = Ref.rowOf (inX m c) (inC m c) (inA m c) (inB m c) b s := by
  have hx : V5 m ρ c main_arg0 = m ((c : Thread nD τ).loc main_arg0) := W5_args m ρ c main_arg0 (by decide)
  unfold row Ref.rowOf
  refine normed_congr (funext fun k => congrFun hx (ix3 b s k)) (funext fun k => ?_) (funext fun k => ?_)
  · exact mod_at_eq m ρ c b 1 k _ (by show 1024 + k.val = 1 * 1024 + k.val; omega)
  · exact mod_at_eq m ρ c b 0 k _ (by show k.val = 0 * 1024 + k.val; omega)

theorem wIn_eq : wIn (V3 m ρ) c = inW m c := W3_args m ρ c main_arg2 (by decide)

/-- The reference's projection of the arrays the kernel was started on. -/
abbrev proj : FVec Ideal Cert.Reference3Ideal.S8x4096x2824 .f32 := Ref.u (inX m c) (inC m c) (inW m c) (inA m c) (inB m c)

theorem proj_apply (b : Fin 8) (s : Fin 4096) (j : Fin 2824) :
    (proj m c : Cert.Reference3Ideal.S8x4096x2824.Idx → EReal) (ix3 b s j) = ∑ k, row (V5 m ρ) c b s k * inW m c (ix3 0 k j) := by
  rw [row_eq]
  exact Ref.u_apply _ _ _ _ _ b s j

theorem wMl_eq (k : Fin 1024) (j : Fin 640) (h : j.val < 520) :
    wMl (V3 m ρ) c (ix3 0 k j) = inW m c (ix3 0 k ⟨j.val, by omega⟩) := by
  unfold wMl
  rw [wIn_eq]
  exact if_pos h

theorem ml_eq : (left m ρ c 5 : S8x4096x640.Idx → EReal) = Ref.padded (proj m c) := by
  refine (uMl_value (V5 m ρ) c).trans (funext fun i => ?_)
  obtain ⟨b, s, j, rfl⟩ : ∃ (b : Fin 8) (s : Fin 4096) (j : Fin 640), i = ix3 b s j := ⟨i 0, i 1, i 2, funext fun a => by fin_cases a <;> rfl⟩
  refine Eq.trans ?_ (Ref.padded_apply _ b s j).symm
  show ∑ k, row (V5 m ρ) c b s k * (V5 m ρ c main_v7 : S1024x640.Idx → EReal) (ix2 k j) = _
  by_cases h : j.val < 520
  · rw [dif_pos h, proj_apply m ρ c]
    exact Finset.sum_congr rfl fun k _ => congrArg₂ (· * ·) rfl ((wMl_host m ρ c k j).trans (wMl_eq m ρ c k j h))
  · rw [dif_neg h]
    refine Finset.sum_eq_zero fun k _ => ?_
    have e : wMl (V3 m ρ) c (ix3 0 k j) = 0 := if_neg h
    rw [wMl_host, e, mul_zero]

theorem gate_eq : (left m ρ c 8 : S8x8x4096.Idx → EReal) = Ref.gates (proj m c) := by
  refine (uGate_value (V5 m ρ) c).trans (funext fun i => ?_)
  obtain ⟨b, g, s, rfl⟩ : ∃ (b g : Fin 8) (s : Fin 4096), i = ix3 b g s := ⟨i 0, i 1, i 2, funext fun a => by fin_cases a <;> rfl⟩
  refine Eq.trans ?_ (Ref.gates_apply _ b g s).symm
  show ∑ k, row (V5 m ρ) c b s k * (V5 m ρ c main_v7 : S1024x640.Idx → EReal) (ix2 k ⟨512 + g.val, by omega⟩) = _
  rw [proj_apply m ρ c]
  exact Finset.sum_congr rfl fun k _ => congrArg₂ (· * ·) rfl ((wMl_host m ρ c k _).trans (wMl_eq m ρ c k _ (by show 512 + g.val < 520; omega)))

theorem dil_eq : (left m ρ c 6 : S8x4096x1152.Idx → EReal) = Ref.dilated (proj m c) := by
  refine (uDil_value (V5 m ρ) c).trans (funext fun i => ?_)
  obtain ⟨b, s, j, rfl⟩ : ∃ (b : Fin 8) (s : Fin 4096) (j : Fin 1152), i = ix3 b s j := ⟨i 0, i 1, i 2, funext fun a => by fin_cases a <;> rfl⟩
  refine Eq.trans ?_ (Ref.dilated_apply _ b s j).symm
  show ∑ k, row (V5 m ρ) c b s k * (V5 m ρ c main_v9 : S1024x1152.Idx → EReal) (ix2 k j) = _
  rw [proj_apply m ρ c, ← sum_scale _ _ _ (scale_nonneg j).1 (scale_nonneg j).2]
  refine Finset.sum_congr rfl fun k _ => congrArg₂ (· * ·) rfl ((wDil_host m ρ c k j).trans ?_)
  unfold wDil
  rw [wIn_eq]
  rfl

theorem sb_eq : (left m ρ c 7 : S8x4096x1152.Idx → EReal) = Ref.broken (proj m c) := by
  refine (uSb_value (V5 m ρ) c).trans (funext fun i => ?_)
  obtain ⟨b, s, j, rfl⟩ : ∃ (b : Fin 8) (s : Fin 4096) (j : Fin 1152), i = ix3 b s j := ⟨i 0, i 1, i 2, funext fun a => by fin_cases a <;> rfl⟩
  refine Eq.trans ?_ (Ref.broken_apply _ b s j).symm
  show ∑ k, row (V5 m ρ) c b s k * (V5 m ρ c main_v11 : S1024x1152.Idx → EReal) (ix2 k j) = _
  rw [proj_apply m ρ c, ← sum_scale _ _ _ (scale_nonneg j).1 (scale_nonneg j).2]
  refine Finset.sum_congr rfl fun k _ => congrArg₂ (· * ·) rfl ((wSb_host m ρ c k j).trans ?_)
  unfold wSb
  rw [wIn_eq]
  rfl

theorem ref_arrays (m' : (ℓ : Loc Cert.Reference3Ideal.nD Cert.Reference3Ideal.τ Cert.Reference3Ideal.sig) → Buf (Elt Ideal) ℓ)
    (e0 : m' ((c.tc : Thread Cert.Reference3Ideal.nD Cert.Reference3Ideal.τ).loc Cert.Reference3Ideal.main_arg0) = inX m c)
    (e1 : m' ((c.tc : Thread Cert.Reference3Ideal.nD Cert.Reference3Ideal.τ).loc Cert.Reference3Ideal.main_arg1) = inC m c)
    (e2 : m' ((c.tc : Thread Cert.Reference3Ideal.nD Cert.Reference3Ideal.τ).loc Cert.Reference3Ideal.main_arg2) = inW m c)
    (e3 : m' ((c.tc : Thread Cert.Reference3Ideal.nD Cert.Reference3Ideal.τ).loc Cert.Reference3Ideal.main_arg3) = inA m c)
    (e4 : m' ((c.tc : Thread Cert.Reference3Ideal.nD Cert.Reference3Ideal.τ).loc Cert.Reference3Ideal.main_arg4) = inB m c) :
    Cert.Projection.Ref.u (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) = proj m c := by
  rw [e0, e1, e2, e3, e4]

end Cert.Projection

end
-- ==== Proof.ExpertTile.lean ====
/- One grid point of the experts call: a tile in use gets its expert's product, a tile not in use gets zeros. -/
module

public import proofs.«01_k».proof.Defs
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.VecWindow
public import Idealize.ShloMosaic.Lib.Ring
public import Idealize.ShloMosaic.Lib.Exec
public import Idealize.ShloMosaic.Lib.Tactic

@[expose] public section

set_option maxRecDepth 16384

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables of owners and of tiles in use, as the body is handed them. -/
abbrev owners : Memref sig .tc .smem S204 .i32 := Memref.whole main_arg1
abbrev inUse : Memref sig .tc .smem S204 .i32 := Memref.whole main_arg2

/-- Where a grid point reads its tables. -/
def spot (i : grid0.Coords) : S204.Idx := fun a => ⟨(i 0).val, by have := (i 0).isLt; fin_cases a; exact this⟩

/-- The word a grid point's load reads off the table of tiles in use. -/
abbrev useWord (T : S204.Idx → Elt F .i32) (i : grid0.Coords) : Elt F .i32 :=
  View.readAt (Elt F) (inUse).view (Rect.unit (s := S204) (k0_off1 i) S1.size (k0_off1_inb i)).toLoadRect T (Shape.Idx.first (numel1_S1.symm ▸ Nat.one_pos))

theorem off1_zero (i : grid0.Coords) : k0_off1 i 0 = (i 0).val := by
  have h : (i 0).val < 204 := (i 0).isLt
  show (Scalar.indexCast (BitVec.ofNat 32 (i 0).val)).toNat = _
  simp [Scalar.indexCast]
  omega

theorem useWord_eq (T : S204.Idx → Elt F .i32) (i : grid0.Coords) : useWord T i = T (spot i) := by
  show T _ = T _
  congr 1
  funext a
  fin_cases a
  apply Fin.ext
  show k0_off1 i 0 + _ = (i 0).val
  rw [off1_zero]
  rfl

/-- What the body leaves in the tile it writes: what the memory rules ask of and give back to it. -/
abbrev Kept (c : Dev nD) (arg3 : Memref sig .tc .vmem S512x1024 .f32) (arg4 arg5 : Memref sig .tc .vmem S1x1x1024x512 .f32)
    (arg6 : Memref sig .tc .vmem S1x1x512x1024 .f32) (T0 T1 : S204.Idx → Elt F .i32)
    (x0 : S512x1024.Idx → Elt F .f32) (x1 x2 : S1x1x1024x512.Idx → Elt F .f32) (x3 : S1x1x512x1024.Idx → Elt F .f32) (R : sProp 𝕄) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ ((owners).view.loc (c : Thread nD τ) ↦{fullShare.right} T0)
    ∗ ((inUse).view.loc (c : Thread nD τ) ↦{fullShare.right} T1)
    ∗ R)

variable (c : Dev nD) (i : grid0.Coords) (arg3 : Memref sig .tc .vmem S512x1024 .f32) (harg3 : arg3.IsWhole)
  (arg4 : Memref sig .tc .vmem S1x1x1024x512 .f32) (harg4 : arg4.IsWhole) (arg5 : Memref sig .tc .vmem S1x1x1024x512 .f32) (harg5 : arg5.IsWhole)
  (arg6 : Memref sig .tc .vmem S1x1x512x1024 .f32) (harg6 : arg6.IsWhole) (arg7 : Memref sig .tc .vmem S512x1024 .f32) (harg7 : arg7.IsWhole)
  (T0 T1 : S204.Idx → Elt F .i32)
  (x0 : S512x1024.Idx → Elt F .f32) (x1 x2 : S1x1x1024x512.Idx → Elt F .f32) (x3 : S1x1x512x1024.Idx → Elt F .f32)

set_option maxHeartbeats 4000000 in
/-- A tile in use: the product of the tile's rows with the owner's weights is stored whole. -/
theorem tile_used (h1 : k0_cond1 (useWord T1 i) = 1#1) (h2 : ¬ k0_cond2 (useWord T1 i) = 1#1) (K : PUnit → sProp 𝕄) :
    Kept c arg3 arg4 arg5 arg6 T0 T1 x0 x1 x2 x3 iprop((∃ d, owns (c : Thread nD τ) arg7 fullShare d)
      ∗ (Kept c arg3 arg4 arg5 arg6 T0 T1 x0 x1 x2 x3 iprop(owns (c : Thread nD τ) arg7 fullShare (k0_pay1 x0 x1 x2 x3)) -∗ K ⟨⟩))
    ⊢ wp frame (wpE (defs₀ (F := F)) Variants.none c none) Set.univ
        (cc0_moe_experts i owners (Memref.isWhole_whole _) inUse (Memref.isWhole_whole _) arg3 harg3 arg4 harg4 arg5 harg5 arg6 harg6 arg7 harg7) K := by
  unfold Kept owns
  rw [cc0_moe_experts_eq_skeleton]; unfold cc0_moe_experts_skel
  iintro ⟨H0, H1, H2, H3, HT0, HT1, ⟨%d4, %f4, -, HO4⟩, Hk⟩
  have hT0 : (owners).IsWhole := Memref.isWhole_whole _
  have hT1 : (inUse).IsWhole := Memref.isWhole_whole _
  sl_exec! (disch := first | (guard_target = k0_cond1 _ = _; exact h1) | (guard_target = ¬(k0_cond2 _ = _); exact h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  · ipureintro
    refine (View.read_writes_full _ _ _ _ _).trans ?_
    congr 1 <;> exact View.readAt_rep_full _ _ _

set_option maxHeartbeats 4000000 in
/-- A tile not in use: zeros are stored whole. -/
theorem tile_idle (h1 : ¬ k0_cond1 (useWord T1 i) = 1#1) (h2 : k0_cond2 (useWord T1 i) = 1#1) (K : PUnit → sProp 𝕄) :
    Kept c arg3 arg4 arg5 arg6 T0 T1 x0 x1 x2 x3 iprop((∃ d, owns (c : Thread nD τ) arg7 fullShare d)
      ∗ (Kept c arg3 arg4 arg5 arg6 T0 T1 x0 x1 x2 x3 iprop(owns (c : Thread nD τ) arg7 fullShare (k0_pay2 (F := F))) -∗ K ⟨⟩))
    ⊢ wp frame (wpE (defs₀ (F := F)) Variants.none c none) Set.univ
        (cc0_moe_experts i owners (Memref.isWhole_whole _) inUse (Memref.isWhole_whole _) arg3 harg3 arg4 harg4 arg5 harg5 arg6 harg6 arg7 harg7) K := by
  unfold Kept owns
  rw [cc0_moe_experts_eq_skeleton]; unfold cc0_moe_experts_skel
  iintro ⟨H0, H1, H2, H3, HT0, HT1, ⟨%d4, %f4, -, HO4⟩, Hk⟩
  have hT0 : (owners).IsWhole := Memref.isWhole_whole _
  have hT1 : (inUse).IsWhole := Memref.isWhole_whole _
  sl_exec! (disch := first | (guard_target = ¬(k0_cond1 _ = _); exact h1) | (guard_target = k0_cond2 _ = _; exact h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  · ipureintro
    exact View.read_writes_full _ _ _ _ _

end Cert.Experts

end
-- ==== Proof.ExpertTables.lean ====
/- The experts call's pipeline at tables with every owner one of the sixteen experts and every in-use word zero or one. -/
module

public import proofs.«01_k».proof.Proof.ExpertTile

@[expose] public section

set_option maxRecDepth 16384

noncomputable section

namespace Cert.Experts

open Cert.Kernel2Ideal Cert.Kernel2Ideal.Gen
open Idealize.ShloMosaic
open Idealize.ShloMosaic.TcCoe
open Idealize.SL Idealize.SL.Sem

variable {F : FTy → Type} [FloatOps F]

/-- What the precondition says of the two tables. -/
structure Good (T0 T1 : S204.Idx → BitVec 32) : Prop where
  owner : ∀ j, (T0 j).toNat < 16
  use : ∀ j, T1 j = 0#32 ∨ T1 j = 1#32

/-- The tables as the pipeline holds them. -/
def held (T0 T1 : S204.Idx → BitVec 32) : pre0.Contents (Elt F) :=
  fun | ⟨0, _⟩ => T0 | ⟨1, _⟩ => T1 | ⟨_ + 2, h⟩ => absurd h (by simp)

variable (T0 T1 : S204.Idx → BitVec 32)

/-- The words a grid point's index maps read: whether its tile is in use, and its owner. -/
def useAt (i : grid0.Coords) : BitVec 32 :=
  (held (F := F) T0 T1).at 1 (Rect.unit (s := S204) (k0_off1 i) S1.size (k0_off1_inb i)) numel1_S1
def ownerAt (i : grid0.Coords) : BitVec 32 :=
  (held (F := F) T0 T1).at 0 (Rect.unit (s := S204) (k0_off1 i) S1.size (k0_off1_inb i)) numel1_S1

theorem at_use (i : grid0.Coords) : useAt (F := F) T0 T1 i = T1 (spot i) := useWord_eq (F := F) T1 i

theorem at_owner (i : grid0.Coords) : ownerAt (F := F) T0 T1 i = T0 (spot i) := useWord_eq (F := F) T0 i

theorem atD_use (i : grid0.Coords) : (held (F := F) T0 T1).atD 1 (k0_off1 i) = T1 (spot i) := by
  have h : ∀ a : Fin 1, k0_off1 i a + 1 ≤ ![204] a := fun a => by
    fin_cases a; exact k0_off1_inb i 0
  refine (dif_pos h).trans ?_
  show T1 _ = T1 _
  congr 1
  funext a
  fin_cases a
  exact Fin.ext (off1_zero i)

/-- Tile `i`'s block of the rows: itself if the tile is in use, the first if not. -/
theorem rows_index (i : grid0.Coords) :
    cc0_transform_0 k0_off1_inb numel1_S1 (held (F := F) T0 T1) i = ![(BitVec.ofNat 32 (i 0).val * T1 (spot i)).toNat, 0] := by
  show ![(BitVec.ofNat 32 (i 0).val * useAt (F := F) T0 T1 i).toNat, 0] = _
  rw [at_use]

theorem gate_index (i : grid0.Coords) :
    cc0_transform_1 k0_off1_inb numel1_S1 (held (F := F) T0 T1) i = ![0, (T0 (spot i)).toNat, 0, 0] := by
  show ![0, (ownerAt (F := F) T0 T1 i).toNat, 0, 0] = _
  rw [at_owner]

theorem up_index (i : grid0.Coords) :
    cc0_transform_2 k0_off1_inb numel1_S1 (held (F := F) T0 T1) i = ![0, (T0 (spot i)).toNat, 0, 0] := gate_index T0 T1 i

theorem down_index (i : grid0.Coords) :
    cc0_transform_3 k0_off1_inb numel1_S1 (held (F := F) T0 T1) i = ![0, (T0 (spot i)).toNat, 0, 0] := gate_index T0 T1 i

variable {T0 T1}

theorem Good.rows_lt (hG : Good T0 T1) (i : grid0.Coords) : (BitVec.ofNat 32 (i 0).val * T1 (spot i)).toNat < 204 := by
  have h : (i 0).val < 204 := (i 0).isLt
  rcases hG.use (spot i) with e | e <;> rw [e]
  · simp
  · simp; omega

/-- Every block the tables name lies in its array. -/
theorem Good.ok (hG : Good T0 T1) : ok0 (F := F) (held T0 T1) := by
  refine ⟨fun i => ⟨?_, .inl rfl⟩, fun i => ⟨?_, .inl rfl⟩, fun i => ⟨?_, .inl rfl⟩, fun i => ⟨?_, .inl rfl⟩⟩
  · rw [rows_index]
    have := hG.rows_lt i
    intro a
    fin_cases a
    · show (_ + 1) * 512 ≤ 104448
      show ((BitVec.ofNat 32 (i 0).val * T1 (spot i)).toNat + 1) * 512 ≤ 104448
      omega
    · show (0 + 1) * 1024 ≤ 1024
      omega
  · rw [gate_index]
    have := hG.owner (spot i)
    intro a
    fin_cases a
    · show (0 + 1) * 1 ≤ 2; omega
    · show ((T0 (spot i)).toNat + 1) * 1 ≤ 16; omega
    · show (0 + 1) * 1024 ≤ 1024; omega
    · show (0 + 1) * 512 ≤ 512; omega
  · rw [up_index]
    have := hG.owner (spot i)
    intro a
    fin_cases a
    · show (0 + 1) * 1 ≤ 2; omega
    · show ((T0 (spot i)).toNat + 1) * 1 ≤ 16; omega
    · show (0 + 1) * 1024 ≤ 1024; omega
    · show (0 + 1) * 512 ≤ 512; omega
  · rw [down_index]
    have := hG.owner (spot i)
    intro a
    fin_cases a
    · show (0 + 1) * 1 ≤ 2; omega
    · show ((T0 (spot i)).toNat + 1) * 1 ≤ 16; omega
    · show (0 + 1) * 512 ≤ 512; omega
    · show (0 + 1) * 1024 ≤ 1024; omega

/-- The pipeline at these tables. -/
def adm (hG : Good T0 T1) : (pcfg0 (F := F)).Adm := ⟨held T0 T1, hG.ok⟩
abbrev cfgA (hG : Good T0 T1) : Pipeline.Cfg sig Λ₀ := cfg0 (F := F) (adm hG)
abbrev pcs (hG : Good T0 T1) : Fin 1 → Pipeline.Cfg sig Λ₀ := Pipeline.pin (pcfgs (F := F)) fun _ => adm hG

theorem coord_val : ∀ t : Fin grid0.N, (grid0.coords t 0).val = t.val := by decide +kernel

theorem out_index (t : Fin grid0.N) : cc0_transform_4 (grid0.coords t) 0 = t.val := by
  have h : t.val < 204 := t.isLt
  show (BitVec.ofNat 32 (grid0.coords t 0).val).toNat = t.val
  rw [coord_val, BitVec.toNat_ofNat]
  omega

/-- Every point writes its block of the output back: no two points share one. -/
theorem out_flush (hG : Good T0 T1) (t : Fin (cfgA (F := F) hG).N) : ((cfgA (F := F) hG).win (4 : Fin 5)).flush t = true := by
  rw [Pipeline.Window.flush_eq_flushF]
  unfold Pipeline.Window.flushF
  refine Bool.and_eq_true_iff.mpr ⟨rfl, ?_⟩
  by_cases h : t.val + 1 = (cfgA (F := F) hG).grid.N
  · exact Bool.or_eq_true_iff.mpr (.inl (decide_eq_true h))
  · refine Bool.or_eq_true_iff.mpr (.inr (decide_eq_true ?_))
    have h' : t.val + 1 < (cfgA (F := F) hG).grid.N := Nat.lt_of_le_of_ne t.isLt h
    refine ⟨h', (0 : Fin 2), ?_⟩
    show cc0_transform_4 (grid0.coords ⟨t.val + 1, h'⟩) 0 ≠ cc0_transform_4 (grid0.coords t) 0
    rw [out_index, out_index]
    show t.val + 1 ≠ t.val
    omega

/-- So a point's output buffer never holds anything the body stored before it. -/
theorem out_fresh (hG : Good T0 T1) (t : Fin (cfgA (F := F) hG).N) : (cfgA (F := F) hG).fresh (4 : Fin 5) t.val = true := by
  obtain ⟨n, hn⟩ := t
  cases n with
  | zero => rfl
  | succ n =>
    show (cfgA (F := F) hG).fresh (4 : Fin 5) (n + 1) = true
    rw [Pipeline.Cfg.fresh_succ _ _ _ (Nat.lt_of_succ_lt hn), out_flush, Bool.true_or]

theorem cond_zero : ¬ k0_cond1 0#32 = 1#1 ∧ k0_cond2 0#32 = 1#1 := by decide
theorem cond_one : k0_cond1 1#32 = 1#1 ∧ ¬ k0_cond2 1#32 = 1#1 := by decide

/-- Every point stores its tile. -/
theorem out_idle (hG : Good T0 T1) (i : (cfgA (F := F) hG).grid.Coords) : (cfgA (F := F) hG).idle (4 : Fin 5) i = false := by
  show (!(k0_cond1 ((held (F := F) T0 T1).atD 1 (k0_off1 i)) == 1#1) && !(k0_cond2 ((held (F := F) T0 T1).atD 1 (k0_off1 i)) == 1#1)) = false
  rw [atD_use]
  rcases hG.use (spot i) with e | e <;> rw [e] <;> decide

end Cert.Experts

end
-- ==== Proof.ExpertRun.lean ====
/- The experts call run whole: it ends, no argument changes, no counter stays raised, and the output array is the blocks the points wrote. -/
module

public import proofs.«01_k».proof.Proof.ExpertTables
public import Idealize.ShloMosaic.Adequacy
public import Idealize.ShloMosaic.Init

@[expose] public section

set_option maxRecDepth 16384

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

variable {T0 T1 : S204.Idx → BitVec 32} (hG : Good T0 T1)
variable (m : (ℓ : Loc nD τ sig) → Buf (Elt F) ℓ) (ρ : Dev nD → PrngReg)

/-- The tables of the launch memory are these. -/
def Tabled (T0 T1 : S204.Idx → BitVec 32) (m : (ℓ : Loc nD τ sig) → Buf (Elt F) ℓ) : Prop :=
  (∀ c : Dev nD, m ((c : Thread nD τ).loc main_arg1) = T0) ∧ (∀ c : Dev nD, m ((c : Thread nD τ).loc main_arg2) = T1)

abbrev crd (t : Fin (cfgA (F := F) hG).N) : (cfgA (F := F) hG).grid.Coords := (cfgA (F := F) hG).grid.coords t

/-- Each window's staging buffer at a point, and that it is a whole buffer. -/
abbrev st0 (t : Fin (cfgA (F := F) hG).N) : Memref sig .tc .vmem S512x1024 .f32 := spec0_0.stage ((cfgA (F := F) hG).slots t (0 : Fin 5))
abbrev hst0 (t : Fin (cfgA (F := F) hG).N) : (st0 hG t).IsWhole := hstage0_0 (((cfgA (F := F) hG).slots t (0 : Fin 5)).cast nbuf0_0)
abbrev st1 (t : Fin (cfgA (F := F) hG).N) : Memref sig .tc .vmem S1x1x1024x512 .f32 := spec0_1.stage ((cfgA (F := F) hG).slots t (1 : Fin 5))
abbrev hst1 (t : Fin (cfgA (F := F) hG).N) : (st1 hG t).IsWhole := hstage0_1 (((cfgA (F := F) hG).slots t (1 : Fin 5)).cast nbuf0_1)
abbrev st2 (t : Fin (cfgA (F := F) hG).N) : Memref sig .tc .vmem S1x1x1024x512 .f32 := spec0_2.stage ((cfgA (F := F) hG).slots t (2 : Fin 5))
abbrev hst2 (t : Fin (cfgA (F := F) hG).N) : (st2 hG t).IsWhole := hstage0_2 (((cfgA (F := F) hG).slots t (2 : Fin 5)).cast nbuf0_2)
abbrev st3 (t : Fin (cfgA (F := F) hG).N) : Memref sig .tc .vmem S1x1x512x1024 .f32 := spec0_3.stage ((cfgA (F := F) hG).slots t (3 : Fin 5))
abbrev hst3 (t : Fin (cfgA (F := F) hG).N) : (st3 hG t).IsWhole := hstage0_3 (((cfgA (F := F) hG).slots t (3 : Fin 5)).cast nbuf0_3)
abbrev st4 (t : Fin (cfgA (F := F) hG).N) : Memref sig .tc .vmem S512x1024 .f32 := spec0_4.stage ((cfgA (F := F) hG).slots t (4 : Fin 5))
abbrev hst4 (t : Fin (cfgA (F := F) hG).N) : (st4 hG t).IsWhole := hstage0_4 (((cfgA (F := F) hG).slots t (4 : Fin 5)).cast nbuf0_4)

/-- A window's block at a point, read off the launch memory. -/
def blkAt (c : Dev nD) (w : Fin (cfgA (F := F) hG).W) (t : Fin (cfgA (F := F) hG).N) :
    (((cfgA (F := F) hG).win w).xblock (crd hG t)).Idx → Elt F ((cfgA (F := F) hG).win w).elt :=
  (((cfgA (F := F) hG).win w).blk t).view.read (Elt F) ((s₀ m ρ).mem (((cfgA (F := F) hG).win w).arr.view.loc (c : Thread nD τ)))

/-- What a point writes: the expert's product if its tile is in use, zeros if not. -/
def tileOut (c : Dev nD) (t : Fin (cfgA (F := F) hG).N) : S512x1024.Idx → Elt F .f32 :=
  if T1 (spot (crd hG t)) = 1#32 then
    k0_pay1 (blkAt hG m ρ c (0 : Fin 5) t) (blkAt hG m ρ c (1 : Fin 5) t) (blkAt hG m ρ c (2 : Fin 5) t) (blkAt hG m ρ c (3 : Fin 5) t)
  else k0_pay2 (F := F)

/-- Between points the body holds its half of each table. -/
def halves (T0 T1 : S204.Idx → BitVec 32) (c : Dev nD) : sProp 𝕄 :=
  iprop(((owners).view.loc (c : Thread nD τ) ↦{fullShare.right} (T0 : S204.Idx → Elt F .i32))
    ∗ ((inUse).view.loc (c : Thread nD τ) ↦{fullShare.right} (T1 : S204.Idx → Elt F .i32)))

/-- The pipeline's data: inputs keep their blocks, the output's buffer ends a point at `tileOut`. -/
def dats (_ : Fin 1) (c : Dev nD) : Dat τ (Elt F) Unit ℕ (UR sig nD τ) ℕ (cfgA (F := F) hG) c where
  A w := (s₀ m ρ).mem (((cfgA (F := F) hG).win w).arr.view.loc (c : Thread nD τ))
  after w t := match w with
    | ⟨0, _⟩ => blkAt hG m ρ c (0 : Fin 5) t
    | ⟨1, _⟩ => blkAt hG m ρ c (1 : Fin 5) t
    | ⟨2, _⟩ => blkAt hG m ρ c (2 : Fin 5) t
    | ⟨3, _⟩ => blkAt hG m ρ c (3 : Fin 5) t
    | ⟨4, _⟩ => tileOut hG m ρ c t
  Φ _ := halves T0 T1 c
  q _ := fullShare
  owed _ := 0

theorem after_0 (c : Dev nD) (t : Fin (cfgA (F := F) hG).N) : (dats hG m ρ 0 c).after (0 : Fin 5) t = blkAt hG m ρ c (0 : Fin 5) t := rfl
theorem after_1 (c : Dev nD) (t : Fin (cfgA (F := F) hG).N) : (dats hG m ρ 0 c).after (1 : Fin 5) t = blkAt hG m ρ c (1 : Fin 5) t := rfl
theorem after_2 (c : Dev nD) (t : Fin (cfgA (F := F) hG).N) : (dats hG m ρ 0 c).after (2 : Fin 5) t = blkAt hG m ρ c (2 : Fin 5) t := rfl
theorem after_3 (c : Dev nD) (t : Fin (cfgA (F := F) hG).N) : (dats hG m ρ 0 c).after (3 : Fin 5) t = blkAt hG m ρ c (3 : Fin 5) t := rfl
theorem after_4 (c : Dev nD) (t : Fin (cfgA (F := F) hG).N) : (dats hG m ρ 0 c).after (4 : Fin 5) t = tileOut hG m ρ c t := rfl

/-- An input's buffer holds its block whenever the body runs. -/
theorem before_0 (c : Dev nD) (t : Fin (cfgA (F := F) hG).N) (d) : (dats hG m ρ 0 c).before (0 : Fin 5) t d = blkAt hG m ρ c (0 : Fin 5) t :=
  ((dats hG m ρ 0 c).before_in_eq_fetched (0 : Fin 5) rfl (fun _ => rfl) (fun _ _ _ => rfl) (fun t => by rw [after_0]; unfold Dat.blockOf blkAt; rfl) t d).trans
    (by unfold Dat.fetched Dat.blockOf blkAt; rfl)
theorem before_1 (c : Dev nD) (t : Fin (cfgA (F := F) hG).N) (d) : (dats hG m ρ 0 c).before (1 : Fin 5) t d = blkAt hG m ρ c (1 : Fin 5) t :=
  ((dats hG m ρ 0 c).before_in_eq_fetched (1 : Fin 5) rfl (fun _ => rfl) (fun _ _ _ => rfl) (fun t => by rw [after_1]; unfold Dat.blockOf blkAt; rfl) t d).trans
    (by unfold Dat.fetched Dat.blockOf blkAt; rfl)
theorem before_2 (c : Dev nD) (t : Fin (cfgA (F := F) hG).N) (d) : (dats hG m ρ 0 c).before (2 : Fin 5) t d = blkAt hG m ρ c (2 : Fin 5) t :=
  ((dats hG m ρ 0 c).before_in_eq_fetched (2 : Fin 5) rfl (fun _ => rfl) (fun _ _ _ => rfl) (fun t => by rw [after_2]; unfold Dat.blockOf blkAt; rfl) t d).trans
    (by unfold Dat.fetched Dat.blockOf blkAt; rfl)
theorem before_3 (c : Dev nD) (t : Fin (cfgA (F := F) hG).N) (d) : (dats hG m ρ 0 c).before (3 : Fin 5) t d = blkAt hG m ρ c (3 : Fin 5) t :=
  ((dats hG m ρ 0 c).before_in_eq_fetched (3 : Fin 5) rfl (fun _ => rfl) (fun _ _ _ => rfl) (fun t => by rw [after_3]; unfold Dat.blockOf blkAt; rfl) t d).trans
    (by unfold Dat.fetched Dat.blockOf blkAt; rfl)

/-- The body at a point, on that point's staging buffers. -/
abbrev bodyAt (t : Fin (cfgA (F := F) hG).N) : Prog (TpuEff nD τ sig (Elt F) Λ₀ .tc) PUnit :=
  cc0_moe_experts (crd hG t) owners (Memref.isWhole_whole _) inUse (Memref.isWhole_whole _) (st0 hG t) (hst0 hG t) (st1 hG t) (hst1 hG t)
    (st2 hG t) (hst2 hG t) (st3 hG t) (hst3 hG t) (st4 hG t) (hst4 hG t)

set_option maxHeartbeats 4000000 in
/-- Whichever the tile, the body ends with `tileOut` in the output's buffer. -/
theorem tile_run (c : Dev nD) (t : Fin (cfgA (F := F) hG).N) (K : PUnit → sProp 𝕄) :
    Kept c (st0 hG t) (st1 hG t) (st2 hG t) (st3 hG t) (F := F) T0 T1 (blkAt hG m ρ c (0 : Fin 5) t) (blkAt hG m ρ c (1 : Fin 5) t)
        (blkAt hG m ρ c (2 : Fin 5) t) (blkAt hG m ρ c (3 : Fin 5) t) iprop((∃ d, owns (c : Thread nD τ) (st4 hG t) fullShare d)
      ∗ (Kept c (st0 hG t) (st1 hG t) (st2 hG t) (st3 hG t) (F := F) T0 T1 (blkAt hG m ρ c (0 : Fin 5) t) (blkAt hG m ρ c (1 : Fin 5) t)
        (blkAt hG m ρ c (2 : Fin 5) t) (blkAt hG m ρ c (3 : Fin 5) t) iprop(owns (c : Thread nD τ) (st4 hG t) fullShare (tileOut hG m ρ c t)) -∗ K ⟨⟩))
    ⊢ wp frame (wpE (defs₀ (F := F)) Variants.none c none) Set.univ (bodyAt hG t) K := by
  have hw : useWord (F := F) T1 (crd hG t) = T1 (spot (crd hG t)) := useWord_eq (F := F) T1 (crd hG t)
  unfold tileOut
  by_cases h : T1 (spot (crd hG t)) = 1#32
  · rw [if_pos h]
    have e := hw.trans h
    exact tile_used c (crd hG t) _ _ _ _ _ _ _ _ _ _ T0 T1 _ _ _ _ (e ▸ cond_one.1) (e ▸ cond_one.2) K
  · rw [if_neg h]
    have e := hw.trans ((hG.use (spot (crd hG t))).resolve_right h)
    exact tile_idle c (crd hG t) _ _ _ _ _ _ _ _ _ _ T0 T1 _ _ _ _ (e ▸ cond_zero.1) (e ▸ cond_zero.2) K

set_option maxHeartbeats 4000000 in
/-- What the pipeline asks of the body at a point. -/
theorem sound (c : Dev nD) (t : Fin (cfgA (F := F) hG).N) :
    iprop((dats hG m ρ 0 c).Φ t.castSucc ∗ (dats hG m ρ 0 c).owesAt () t.castSucc
        ∗ (∃ d, owns (c : Thread nD τ) (st0 hG t) fullShare ((dats hG m ρ 0 c).before (0 : Fin 5) t d))
        ∗ (∃ d, owns (c : Thread nD τ) (st1 hG t) fullShare ((dats hG m ρ 0 c).before (1 : Fin 5) t d))
        ∗ (∃ d, owns (c : Thread nD τ) (st2 hG t) fullShare ((dats hG m ρ 0 c).before (2 : Fin 5) t d))
        ∗ (∃ d, owns (c : Thread nD τ) (st3 hG t) fullShare ((dats hG m ρ 0 c).before (3 : Fin 5) t d))
        ∗ (∃ d, owns (c : Thread nD τ) (st4 hG t) fullShare ((dats hG m ρ 0 c).before (4 : Fin 5) t d)))
      ⊢ wp frame (wpE (defs₀ (F := F)) Variants.none c none) Set.univ (bodyAt hG t) fun _ =>
          iprop((dats hG m ρ 0 c).Φ t.succ ∗ (dats hG m ρ 0 c).owesAt () t.succ
            ∗ bigSep Finset.univ fun w : Fin (cfgA (F := F) hG).W =>
                match (cfgA (F := F) hG).idle w ((cfgA (F := F) hG).grid.coords t) with
                | true =>
                  match ((cfgA (F := F) hG).win w).flush t with
                  | false => iprop(∃ d, owns (c : Thread nD τ) (((cfgA (F := F) hG).win w).stage ((cfgA (F := F) hG).slots t w)) fullShare ((dats hG m ρ 0 c).before w t d))
                  | true => owns (c : Thread nD τ) (((cfgA (F := F) hG).win w).stage ((cfgA (F := F) hG).slots t w)) fullShare ((dats hG m ρ 0 c).after w t)
                | false => owns (c : Thread nD τ) (((cfgA (F := F) hG).win w).stage ((cfgA (F := F) hG).slots t w)) fullShare ((dats hG m ρ 0 c).after w t)) := by
  rw [bigSep_W0]
  rewrite [out_idle hG (crd hG t)]
  simp only [before_0, before_1, before_2, before_3, after_0, after_1, after_2, after_3, after_4]
  rewrite [show (dats hG m ρ 0 c).Φ t.succ = halves T0 T1 c from rfl, show (dats hG m ρ 0 c).Φ t.castSucc = halves T0 T1 c from rfl,
    show (dats hG m ρ 0 c).owesAt () t.succ = (dats hG m ρ 0 c).owesAt () t.castSucc from rfl]
  unfold halves
  iintro ⟨⟨HT0, HT1⟩, Ho, ⟨%d0, H0⟩, ⟨%d1, H1⟩, ⟨%d2, H2⟩, ⟨%d3, H3⟩, ⟨%d4, H4⟩⟩
  iapply (tile_run hG m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem obligation (c : Dev nD) : BodyObligation (dats hG m ρ 0 c) (defs₀ (F := F)) Variants.none () Set.univ := fun t => by
  rw [bigSep_W0]
  exact sound hG m ρ c t

/-! ## The launch -/

def u₀ : UR sig nD τ :=
  initOf (Pipeline.cells (pcs (F := F) hG) ((launch0 (F := F)).cellOf_inj fun _ => adm hG))
    (Pipeline.launchToks (pcs (F := F) hG) ((launch0 (F := F)).cellOf_inj fun _ => adm hG))

theorem share_full (c : Dev nD) (w : Fin (cfgA (F := F) hG).W) : (dats hG m ρ 0 c).share w = fullShare := by unfold Dat.share; split <;> rfl

/-- The launch hands over the tables one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm (F := F) hG).1 ∗ Pipeline.scopedRest spec0 c) ⊢ (dats hG m ρ 0 c).Φ 0 := by
  rw [tables_held, scopedRest0_eq, show (dats hG m ρ 0 c).Φ 0 = halves T0 T1 c from rfl]
  unfold halves
  iintro ⟨-, ⟨HT0, HT1⟩, -⟩
  isplitl [HT0]
  · iexact HT0
  iexact HT1

theorem leave (c : Dev nD) : (dats hG m ρ 0 c).Φ (Fin.last (cfgA (F := F) hG).N) ⊢ iprop(BI.emp ∗ Pipeline.scopedRest spec0 c) := by
  rw [scopedRest0_eq, show (dats hG m ρ 0 c).Φ (Fin.last (cfgA (F := F) hG).N) = halves T0 T1 c from rfl]
  unfold halves
  iintro ⟨-, -⟩
  isplitr; · iempintro
  iempintro

/-- At the end every array is what the points left of it, and the tables are as they were. -/
def Ends : PUnit × MemSt nD τ sig (Elt F) → Prop := fun r =>
  ∀ c : Dev nD, (∀ w : Fin (cfgA (F := F) hG).W, r.2.mem (((cfgA (F := F) hG).win w).arr.view.loc (c : Thread nD τ)) = (dats hG m ρ 0 c).arrAt w (cfgA (F := F) hG).N)
    ∧ ∀ j, r.2.mem ((c : Thread nD τ).loc (pre0.ref j)) = (adm (F := F) hG).1 j

theorem tabled_at (hp : Tabled T0 T1 m) (c : Dev nD) (j : Fin 2) : m ((c : Thread nD τ).loc (pre0.ref j)) = (adm (F := F) hG).1 j := by
  fin_cases j
  · exact hp.1 c
  · exact hp.2 c

set_option backward.isDefEq.respectTransparency.types false in
set_option maxHeartbeats 4000000 in
theorem run_all (hp : Tabled T0 T1 m) :
    θ_run (defs (F := F)) (onTc (τ := τ) (main (F := F))) (s₀ m ρ) (fun r => Ends hG m ρ r ∧ r.2.sem = fun _ => 0) :=
  Pipeline.θ_run_region_noSem_pf_quiescent pcfgs (fun _ => adm hG) (dats hG m ρ) () ((launch0 (F := F)).cellOf_inj fun _ => adm hG) (0 : Fin 1)
    (launch0 (F := F)).win.to₀ (launch0 (F := F)).pre EP defs₀ Variants.none m ρ main
    (hbody := fun c => (obligation hG m ρ c).loose) (hne := (launch0 (F := F)).block_pos)
    (harr := (launch0 (F := F)).arr_whole) (hstage := (launch0 (F := F)).stage_whole) (howed := fun _ _ => rfl)
    (u₀ := u₀ (F := F) hG) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) hG) (dats hG m ρ) 0 (launch0 (F := F)).win.arr_inj c (launch0 (F := F)).arr_whole
      (share_full hG m ρ c) _ _ fun _ => rfl)
    (hpf := tabled_at hG m hp)
    (X := fun _ => iprop(emp)) (Y := fun _ => iprop(emp)) (Z := fun _ => iprop(emp))
    (hX := fun c => by rw [unscopedRestP0_eq]; iintro -; isplitr <;> iempintro)
    (hin := enter hG m ρ)
    (hout := leave hG m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output array at the end. -/
def outArr (c : Dev nD) : Buf (Elt F) ((c.tc : Thread nD τ).loc main_v0) := (dats hG m ρ 0 c).arrAt (4 : Fin 5) (cfgA (F := F) hG).N

/-- The run: the output array, the arguments unchanged, every counter at zero. -/
theorem run (hp : Tabled T0 T1 m) :
    θ_run (defs (F := F)) (onTc (τ := τ) (main (F := F))) ⟨m, fun _ => 0, ρ⟩ (fun r => (∀ c : Dev nD,
      r.2.mem ((c.tc : Thread nD τ).loc main_v0) = outArr hG m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
      ((h.1 c).1 (0 : Fin 5)).trans ((dats hG m ρ 0 c).arrAt_in (0 : Fin 5) rfl _),
      ((h.1 c).2 0).trans (hp.1 c).symm, ((h.1 c).2 1).trans (hp.2 c).symm,
      ((h.1 c).1 (1 : Fin 5)).trans ((dats hG m ρ 0 c).arrAt_in (1 : Fin 5) rfl _),
      ((h.1 c).1 (2 : Fin 5)).trans ((dats hG m ρ 0 c).arrAt_in (2 : Fin 5) rfl _),
      ((h.1 c).1 (3 : Fin 5)).trans ((dats hG m ρ 0 c).arrAt_in (3 : Fin 5) rfl _)⟩, h.2⟩) (run_all hG m ρ hp)

end Cert.Experts

end
-- ==== Proof.ExpertPre.lean ====
/- The precondition of the experts call: every owner is one of the sixteen experts, every in-use word is zero or one. -/
module

public import proofs.«01_k».proof.Proof.ExpertRun
public import proofs.«01_k».proof.Proof.Gen.Pre_routed
public import Idealize.ShloMosaic.Lib.ReduceAll
public import Idealize.ShloMosaic.Lib.Affine

@[expose] public section

set_option maxRecDepth 16384

noncomputable section

namespace Cert.Experts.Pre

open Cert.Pre_routed Idealize.ShloMosaic Idealize.SL.Sem

variable {F : FTy → Type} [FloatOps F]

instance : Subsingleton S_.Idx := ⟨fun a b => funext fun i => i.elim0⟩

theorem of_bit {b : Bool} (h : BitVec.ofBool b = 1#1) : b = true := by
  revert h
  cases b <;> decide

theorem owner_lt {x : BitVec 32} (h0 : IntOp.cmpi .sge x 0#32 = 1#1) (h1 : IntOp.cmpi .slt x 16#32 = 1#1) : x.toNat < 16 := by
  have a : (0#32).sle x = true := of_bit h0
  have b : x.slt 16#32 = true := of_bit h1
  simp only [BitVec.sle, BitVec.slt, decide_eq_true_eq] at a b
  have e : (16#32 : BitVec 32).toInt = 16 := rfl
  have z : (0#32 : BitVec 32).toInt = 0 := rfl
  rw [e] at b
  rw [z] at a
  have := BitVec.toInt_eq_toNat_cond x
  split at this <;> omega

theorem use_bit {x : BitVec 32} (h0 : IntOp.cmpi .sge x 0#32 = 1#1) (h1 : IntOp.cmpi .slt x 2#32 = 1#1) : x = 0#32 ∨ x = 1#32 := by
  have a : (0#32).sle x = true := of_bit h0
  have b : x.slt 2#32 = true := of_bit h1
  simp only [BitVec.sle, BitVec.slt, decide_eq_true_eq] at a b
  have e : (2#32 : BitVec 32).toInt = 2 := rfl
  have z : (0#32 : BitVec 32).toInt = 0 := rfl
  rw [e] at b
  rw [z] at a
  have := BitVec.toInt_eq_toNat_cond x
  have l : x.toNat = 0 ∨ x.toNat = 1 := by split at this <;> omega
  exact l.imp (fun h => BitVec.eq_of_toNat_eq h) (fun h => BitVec.eq_of_toNat_eq h)

theorem good (x0 : FVec F S104448x1024 .f32) (x1 x2 : IVec S204 32) (x3 x4 : FVec F S2x16x1024x512 .f32) (x5 : FVec F S2x16x512x1024 .f32)
    (h : ∀ j, fn (F := F) x0 x1 x2 x3 x4 x5 j = 1#1) : Good x1 x2 := by
  have j : S_.Idx := fun i => i.elim0
  have hh := IntOp.andi_eq_one.1 (h j)
  refine ⟨fun i => ?_, fun i => ?_⟩
  · have hi := IntOp.andi_eq_one.1 (Host.reduce_andi_all _ _ _ _ j hh.1 i)
    exact owner_lt hi.1 hi.2
  · have hi := IntOp.andi_eq_one.1 (Host.reduce_andi_all _ _ _ _ j hh.2 i)
    exact use_bit hi.1 hi.2

end Cert.Experts.Pre

end
-- ==== Proof.ExpertValue.lean ====
/- What the experts call leaves in its output, row by row. -/
module

public import proofs.«01_k».proof.Proof.ExpertRun
public import Idealize.ShloMosaic.Lib.Pointwise
public import Idealize.ShloMosaic.Lib.Pipeline.ValueKit

@[expose] public section

set_option maxRecDepth 16384

noncomputable section

namespace Cert.Experts

open Cert.Kernel2Ideal Cert.Kernel2Ideal.Gen Idealize.ShloMosaic Idealize.ShloMosaic.TcCoe Idealize.SL.Sem

/-- One expert on one row: the gated product of the row with its weights, at one of the features it returns. -/
def expert (x : Fin 1024 → EReal) (g u : Fin 1024 → Fin 512 → EReal) (d : Fin 512 → EReal) : EReal :=
  ∑ f : Fin 512, ((∑ k, x k * g k f) * Ideal.logistic (∑ k, x k * g k f) * ∑ k, x k * u k f) * d f

theorem used_apply (x0 : FVec Ideal S512x1024 .f32) (x1 x2 : FVec Ideal S1x1x1024x512 .f32) (x3 : FVec Ideal S1x1x512x1024 .f32) (y : Fin 512) (o : Fin 1024) :
    (k0_pay1 (F := Ideal) x0 x1 x2 x3 : S512x1024.Idx → EReal) (ix2 y o)
      = expert (fun k => x0 (ix2 y k)) (fun k f => x1 (ix4 0 0 k f)) (fun k f => x2 (ix4 0 0 k f)) (fun f => x3 (ix4 0 0 f o)) := by
  pointwise [k0_pay1]
  rfl

theorem idle_apply (y : S512x1024.Idx) : (k0_pay2 (F := Ideal) : S512x1024.Idx → EReal) y = 0 := by
  pointwise [k0_pay2]

/-- The arrays' tile of a row. -/
def tileOf (r : Fin 104448) : S204.Idx := ix1 ⟨r.val / 512, by omega⟩

/-- The expert of a tile, as a number below sixteen. -/
def ownerOf (T0 : S204.Idx → BitVec 32) (r : Fin 104448) : Fin 16 := ⟨(T0 (tileOf r)).toNat % 16, Nat.mod_lt _ (by decide)⟩

/-- The output: a row of a tile in use is its expert's, any other row is zero. -/
def routedRow (T0 T1 : S204.Idx → BitVec 32) (x : S104448x1024.Idx → EReal) (g u : S2x16x1024x512.Idx → EReal) (d : S2x16x512x1024.Idx → EReal)
    (r : Fin 104448) (o : Fin 1024) : EReal :=
  if T1 (tileOf r) = 1#32 then
    expert (fun k => x (ix2 r k)) (fun k f => g (ix4 0 (ownerOf T0 r) k f)) (fun k f => u (ix4 0 (ownerOf T0 r) k f)) (fun f => d (ix4 0 (ownerOf T0 r) f o))
  else 0

variable {T0 T1 : S204.Idx → BitVec 32} (hG : Good T0 T1)
variable (m : (ℓ : Loc nD τ sig) → Buf (Elt Ideal) ℓ) (ρ : Dev nD → PrngReg) (c : Dev nD)

/-- Row `y` of tile `t`. -/
def rowAt (t : Fin (cfgA (F := Ideal) hG).N) (y : Fin 512) : Fin 104448 := ⟨t.val * 512 + y.val, by
  have h : t.val < 204 := t.isLt
  omega⟩

theorem spot_row (t : Fin (cfgA (F := Ideal) hG).N) (y : Fin 512) : spot (crd hG t) = tileOf (rowAt hG t y) := by
  funext a
  fin_cases a
  refine Fin.ext ?_
  show (grid0.coords t 0).val = (t.val * 512 + y.val) / 512
  rw [coord_val]
  omega

theorem rows_read (t : Fin (cfgA (F := Ideal) hG).N) (hu : T1 (spot (crd hG t)) = 1#32) (y : Fin 512) (k : Fin 1024) :
    (blkAt hG m ρ c (0 : Fin 5) t : S512x1024.Idx → EReal) (ix2 y k) = (m ((c.tc : Thread nD τ).loc main_arg0) : S104448x1024.Idx → EReal) (ix2 (rowAt hG t y) k) := by
  have e := rows_index (F := Ideal) T0 T1 (crd hG t)
  have hc : (crd hG t 0).val = t.val := coord_val t
  have ht : t.val < 204 := t.isLt
  rw [hu, hc] at e
  have e0 : cc0_transform_0 k0_off1_inb numel1_S1 (held (F := Ideal) T0 T1) (crd hG t) 0 = t.val := by
    rw [e]
    show (BitVec.ofNat 32 t.val * 1#32).toNat = t.val
    rw [BitVec.mul_one, BitVec.toNat_ofNat]
    omega
  have e1 : cc0_transform_0 k0_off1_inb numel1_S1 (held (F := Ideal) T0 T1) (crd hG t) 1 = 0 := by rw [e]; rfl
  refine congrArg (m ((c.tc : Thread nD τ).loc main_arg0) : S104448x1024.Idx → EReal) (funext fun a => Fin.ext ?_)
  fin_cases a
  · show cc0_transform_0 k0_off1_inb numel1_S1 (held (F := Ideal) T0 T1) (crd hG t) 0 * 512 + 1 * y.val = t.val * 512 + y.val
    omega
  · show cc0_transform_0 k0_off1_inb numel1_S1 (held (F := Ideal) T0 T1) (crd hG t) 1 * 1024 + 1 * k.val = k.val
    omega

include hG in
theorem owner_val (t : Fin (cfgA (F := Ideal) hG).N) (y : Fin 512) : (ownerOf T0 (rowAt hG t y)).val = (T0 (spot (crd hG t))).toNat := by
  rw [spot_row hG t y]
  exact Nat.mod_eq_of_lt (hG.owner _)

theorem gate_read (t : Fin (cfgA (F := Ideal) hG).N) (y : Fin 512) (k : Fin 1024) (f : Fin 512) :
    (blkAt hG m ρ c (1 : Fin 5) t : S1x1x1024x512.Idx → EReal) (ix4 0 0 k f)
      = (m ((c.tc : Thread nD τ).loc main_arg3) : S2x16x1024x512.Idx → EReal) (ix4 0 (ownerOf T0 (rowAt hG t y)) k f) := by
  have e := gate_index (F := Ideal) T0 T1 (crd hG t)
  have ho := owner_val hG t y
  refine congrArg (m ((c.tc : Thread nD τ).loc main_arg3) : S2x16x1024x512.Idx → EReal) (funext fun a => Fin.ext ?_)
  have ea := congrFun e a
  fin_cases a
  · show cc0_transform_1 k0_off1_inb numel1_S1 (held (F := Ideal) T0 T1) (crd hG t) 0 * 1 + 1 * 0 = 0
    exact (congrArg (· * 1 + 1 * 0) ea).trans rfl
  · show cc0_transform_1 k0_off1_inb numel1_S1 (held (F := Ideal) T0 T1) (crd hG t) 1 * 1 + 1 * 0 = (ownerOf T0 (rowAt hG t y)).val
    rw [ho]
    exact (congrArg (· * 1 + 1 * 0) ea).trans (by show (T0 (spot (crd hG t))).toNat * 1 + 1 * 0 = _; omega)
  · show cc0_transform_1 k0_off1_inb numel1_S1 (held (F := Ideal) T0 T1) (crd hG t) 2 * 1024 + 1 * k.val = k.val
    exact (congrArg (· * 1024 + 1 * k.val) ea).trans (by show 0 * 1024 + 1 * k.val = _; omega)
  · show cc0_transform_1 k0_off1_inb numel1_S1 (held (F := Ideal) T0 T1) (crd hG t) 3 * 512 + 1 * f.val = f.val
    exact (congrArg (· * 512 + 1 * f.val) ea).trans (by show 0 * 512 + 1 * f.val = _; omega)

theorem up_read (t : Fin (cfgA (F := Ideal) hG).N) (y : Fin 512) (k : Fin 1024) (f : Fin 512) :
    (blkAt hG m ρ c (2 : Fin 5) t : S1x1x1024x512.Idx → EReal) (ix4 0 0 k f)
      = (m ((c.tc : Thread nD τ).loc main_arg4) : S2x16x1024x512.Idx → EReal) (ix4 0 (ownerOf T0 (rowAt hG t y)) k f) := by
  have e := up_index (F := Ideal) T0 T1 (crd hG t)
  have ho := owner_val hG t y
  refine congrArg (m ((c.tc : Thread nD τ).loc main_arg4) : S2x16x1024x512.Idx → EReal) (funext fun a => Fin.ext ?_)
  have ea := congrFun e a
  fin_cases a
  · show cc0_transform_2 k0_off1_inb numel1_S1 (held (F := Ideal) T0 T1) (crd hG t) 0 * 1 + 1 * 0 = 0
    exact (congrArg (· * 1 + 1 * 0) ea).trans rfl
  · show cc0_transform_2 k0_off1_inb numel1_S1 (held (F := Ideal) T0 T1) (crd hG t) 1 * 1 + 1 * 0 = (ownerOf T0 (rowAt hG t y)).val
    rw [ho]
    exact (congrArg (· * 1 + 1 * 0) ea).trans (by show (T0 (spot (crd hG t))).toNat * 1 + 1 * 0 = _; omega)
  · show cc0_transform_2 k0_off1_inb numel1_S1 (held (F := Ideal) T0 T1) (crd hG t) 2 * 1024 + 1 * k.val = k.val
    exact (congrArg (· * 1024 + 1 * k.val) ea).trans (by show 0 * 1024 + 1 * k.val = _; omega)
  · show cc0_transform_2 k0_off1_inb numel1_S1 (held (F := Ideal) T0 T1) (crd hG t) 3 * 512 + 1 * f.val = f.val
    exact (congrArg (· * 512 + 1 * f.val) ea).trans (by show 0 * 512 + 1 * f.val = _; omega)

theorem down_read (t : Fin (cfgA (F := Ideal) hG).N) (y : Fin 512) (f : Fin 512) (o : Fin 1024) :
    (blkAt hG m ρ c (3 : Fin 5) t : S1x1x512x1024.Idx → EReal) (ix4 0 0 f o)
      = (m ((c.tc : Thread nD τ).loc main_arg5) : S2x16x512x1024.Idx → EReal) (ix4 0 (ownerOf T0 (rowAt hG t y)) f o) := by
  have e := down_index (F := Ideal) T0 T1 (crd hG t)
  have ho := owner_val hG t y
  refine congrArg (m ((c.tc : Thread nD τ).loc main_arg5) : S2x16x512x1024.Idx → EReal) (funext fun a => Fin.ext ?_)
  have ea := congrFun e a
  fin_cases a
  · show cc0_transform_3 k0_off1_inb numel1_S1 (held (F := Ideal) T0 T1) (crd hG t) 0 * 1 + 1 * 0 = 0
    exact (congrArg (· * 1 + 1 * 0) ea).trans rfl
  · show cc0_transform_3 k0_off1_inb numel1_S1 (held (F := Ideal) T0 T1) (crd hG t) 1 * 1 + 1 * 0 = (ownerOf T0 (rowAt hG t y)).val
    rw [ho]
    exact (congrArg (· * 1 + 1 * 0) ea).trans (by show (T0 (spot (crd hG t))).toNat * 1 + 1 * 0 = _; omega)
  · show cc0_transform_3 k0_off1_inb numel1_S1 (held (F := Ideal) T0 T1) (crd hG t) 2 * 512 + 1 * f.val = f.val
    exact (congrArg (· * 512 + 1 * f.val) ea).trans (by show 0 * 512 + 1 * f.val = _; omega)
  · show cc0_transform_3 k0_off1_inb numel1_S1 (held (F := Ideal) T0 T1) (crd hG t) 3 * 1024 + 1 * o.val = o.val
    exact (congrArg (· * 1024 + 1 * o.val) ea).trans (by show 0 * 1024 + 1 * o.val = _; omega)

/-- The output array, from the arrays the program is started on. -/
def rows (T0 T1 : S204.Idx → BitVec 32) : S104448x1024.Idx → EReal := fun i =>
  routedRow T0 T1 (m ((c.tc : Thread nD τ).loc main_arg0)) (m ((c.tc : Thread nD τ).loc main_arg3)) (m ((c.tc : Thread nD τ).loc main_arg4)) (m ((c.tc : Thread nD τ).loc main_arg5)) (i 0) (i 1)

/-- A point's tile is those rows of it. -/
theorem tile_value (t : Fin (cfgA (F := Ideal) hG).N) (y : Fin 512) (o : Fin 1024) :
    (tileOut hG m ρ c t : S512x1024.Idx → EReal) (ix2 y o) = rows m c T0 T1 (ix2 (rowAt hG t y) o) := by
  show _ = routedRow T0 T1 _ _ _ _ (rowAt hG t y) o
  unfold tileOut routedRow
  rw [← spot_row hG t y]
  by_cases h : T1 (spot (crd hG t)) = 1#32
  · rw [if_pos h, if_pos h]
    refine (used_apply _ _ _ _ y o).trans ?_
    congr 1
    · exact funext fun k => rows_read hG m ρ c t h y k
    · exact funext fun k => funext fun f => gate_read hG m ρ c t y k f
    · exact funext fun k => funext fun f => up_read hG m ρ c t y k f
    · exact funext fun f => down_read hG m ρ c t y f o
  · rw [if_neg h, if_neg h]
    exact idle_apply _

/-- Where an entry of a tile lies in the array. -/
theorem out_at (t : Fin (cfgA (F := Ideal) hG).N) (y : S512x1024.Idx) :
    ((((cfgA (F := Ideal) hG).win (4 : Fin 5)).blk t).view.emb y : S104448x1024.Idx) = ix2 (rowAt hG t (y 0)) (y 1) := by
  have e := out_index t
  funext a
  refine Fin.ext ?_
  fin_cases a
  · show cc0_transform_4 (grid0.coords t) 0 * 512 + 1 * (y 0).val = t.val * 512 + (y 0).val
    rw [e]; omega
  · show 0 * 1024 + 1 * (y 1).val = (y 1).val
    omega

theorem out_value : (outArr hG m ρ c : S104448x1024.Idx → EReal) = rows m c T0 T1 := by
  refine (dats hG m ρ 0 c).arrAt_eq_of_emb (4 : Fin 5) (rows m c T0 T1) (fun t _ y => ?_) (fun i => ?_)
  · refine Eq.trans ?_ (congrArg (rows m c T0 T1) (out_at hG t y)).symm
    refine Eq.trans ?_ (tile_value hG m ρ c t (y 0) (y 1))
    show (tileOut hG m ρ c t : S512x1024.Idx → EReal) _ = _
    congr 1
    funext a
    fin_cases a <;> rfl
  · have h0 : (i 0).val < 104448 := (i 0).isLt
    obtain ⟨t, ht⟩ : ∃ t : Fin (cfgA (F := Ideal) hG).N, t.val = (i 0).val / 512 := ⟨⟨(i 0).val / 512, by show _ < 204; omega⟩, rfl⟩
    obtain ⟨y, hy⟩ : ∃ y : Fin 512, y.val = (i 0).val % 512 := ⟨⟨(i 0).val % 512, Nat.mod_lt _ (by decide)⟩, rfl⟩
    refine ⟨t, out_flush hG t, ?_⟩
    have he : (((cfgA (F := Ideal) hG).win (4 : Fin 5)).blk t).view.emb (ix2 y (i 1) : S512x1024.Idx) = i := by
      refine (out_at hG t _).trans ?_
      funext a
      refine Fin.ext ?_
      fin_cases a
      · show t.val * 512 + y.val = (i 0).val
        omega
      · rfl
    exact Eq.mp (congrArg (fun j => j ∈ (((cfgA (F := Ideal) hG).win (4 : Fin 5)).blk t).view.set) he)
      ((((cfgA (F := Ideal) hG).win (4 : Fin 5)).blk t).view.emb_mem_set (ix2 y (i 1) : S512x1024.Idx))

end Cert.Experts

end
-- ==== Proof.ExpertRef.lean ====
/- The plain mathematics' result, row by row: the sum over the experts has one term that is not zero. -/
module

public import proofs.«01_k».proof.Proof.ExpertValue
public import proofs.«01_k».proof.Proof.Gen.Reference2Ideal.Run

@[expose] public section

set_option maxRecDepth 16384

noncomputable section

namespace Cert.Experts.Ref

open Cert.Reference2Ideal Cert.Reference2Ideal.Gen Idealize.ShloMosaic Idealize.SL.Sem

variable (x : FVec Ideal S104448x1024 .f32) (ow us : IVec S204 32) (g u : FVec Ideal S2x16x1024x512 .f32) (d : FVec Ideal S2x16x512x1024 .f32)

/-- Which expert a tile's rows go to: a one where the owner is, zeros elsewhere. -/
def chosen : FVec Ideal S204x16 .f32 :=
  select (broadcastInDim S204x16 ![0, 1] bcast_S204x1_S204x16_0_1 (cmpi .sgt (broadcastInDim S204x1 ![0] bcast_S204_S204x1_0 us) (broadcastInDim S204x1 ![] bcast_S_S204x1 (constantI S_ 32 0#32))))
    (uitofp .f32 (cmpi .eq (broadcastInDim S204x16 ![0, 1] bcast_S204x1_S204x16_0_1 (broadcastInDim S204x1 ![0] bcast_S204_S204x1_0 ow)) (broadcastInDim S204x16 ![0, 1] bcast_S1x16_S204x16_0_1 (iotaInDim S1x16 32 1))))
    (broadcastInDim S204x16 ![] bcast_S_S204x16 (id (constant S_ .f32 0x00000000#32)))

def proj (w : FVec Ideal S2x16x1024x512 .f32) : FVec Ideal S16x104448x512 .f32 :=
  transpose S16x104448x512 [0, 2, 1] (Host.dotGeneral dot_S16x1024x512_S104448x1024_S16x512x104448_1_1_02_0_n_n none
    (shapeCast _ (extractStridedSlice S1x16x1024x512 ![0, 0, 0, 0] w slices_S2x16x1024x512_S1x16x1024x512_0_0_0_0) shapeCasts_S1x16x1024x512_S16x1024x512) x)
    transposes_S16x512x104448_S16x104448x512_0_2_1

theorem proj_apply (w : FVec Ideal S2x16x1024x512 .f32) (e : Fin 16) (r : Fin 104448) (f : Fin 512) :
    (proj x w : S16x104448x512.Idx → EReal) (ix3 e r f) = ∑ k : Fin 1024, x (ix2 r k) * w (ix4 0 e k f) := by
  pointwise [proj]
  exact Finset.sum_congr rfl fun k _ => mul_comm _ _

/-- A tile in use has a one at its owner; everything else is zero. -/
theorem chosen_apply (hG : Good ow us) (i : Fin 204) (e : Fin 16) :
    (chosen ow us : S204x16.Idx → EReal) (ix2 i e) = if us (ix1 i) = 1#32 ∧ e.val = (ow (ix1 i)).toNat then 1 else 0 := by
  pointwise [chosen]
  have ho := hG.owner (ix1 i)
  have hz : (id (constant (F := Ideal) S_ FTy.f32 0#32) ix0 : EReal) = 0 := by
    show Ideal.ofBits .f32 0#32 = 0
    pointwise
  rcases hG.use (ix1 i) with h | h
  · rw [h, if_neg (by rintro ⟨h', -⟩; exact absurd h' (by decide))]
    exact (if_neg (by decide)).trans hz
  · rw [h]
    refine (if_pos (by decide)).trans ?_
    by_cases he : e.val = (ow (ix1 i)).toNat
    · rw [if_pos ⟨rfl, he⟩]
      have hw : ow (ix1 i) = BitVec.ofNat 32 e.val := by rw [he, BitVec.ofNat_toNat, BitVec.setWidth_eq]
      rw [hw]
      show (((BitVec.ofBool (BitVec.ofNat 32 e.val == BitVec.ofNat 32 e.val)).toNat : ℝ) : EReal) = 1
      simp
    · rw [if_neg fun h' => he h'.2]
      have hw : (ow (ix1 i) == BitVec.ofNat 32 e.val) = false := by
        refine beq_eq_false_iff_ne.mpr fun hc => he ?_
        rw [hc, BitVec.toNat_ofNat]
        omega
      show (((BitVec.ofBool (ow (ix1 i) == BitVec.ofNat 32 e.val)).toNat : ℝ) : EReal) = 0
      rw [hw]
      simp

/-- The chosen experts of the rows. -/
def combine : FVec Ideal S104448x16 .f32 :=
  shapeCast _ (broadcastInDim S204x512x16 ![0, 1, 2] bcast_S204x1x16_S204x512x16_0_1_2 (broadcastInDim S204x1x16 ![0, 2] bcast_S204x16_S204x1x16_0_2 (chosen ow us))) shapeCasts_S204x512x16_S104448x16

theorem combine_apply (r : Fin 104448) (e : Fin 16) :
    (combine ow us : S104448x16.Idx → EReal) (ix2 r e) = (chosen ow us : S204x16.Idx → EReal) (ix2 ⟨r.val / 512, by omega⟩ e) := by
  pointwise [combine]

/-- Every expert on every row. -/
def hidden : FVec Ideal S16x104448x512 .f32 :=
  mulf (mulf (proj x g) (Host.divf (broadcastInDim S16x104448x512 ![] bcast_S_S16x104448x512 (constant S_ .f32 0x3F800000#32))
    (addf (broadcastInDim S16x104448x512 ![] bcast_S_S16x104448x512 (constant S_ .f32 0x3F800000#32)) (Host.exp (Host.negf (proj x g)))))) (proj x u)

theorem hidden_apply (e : Fin 16) (r : Fin 104448) (f : Fin 512) :
    (hidden x g u : S16x104448x512.Idx → EReal) (ix3 e r f)
      = (proj x g : S16x104448x512.Idx → EReal) (ix3 e r f) * Ideal.logistic ((proj x g : S16x104448x512.Idx → EReal) (ix3 e r f)) * (proj x u : S16x104448x512.Idx → EReal) (ix3 e r f) := by
  pointwise [hidden]
  rfl

def each : FVec Ideal S16x104448x1024 .f32 :=
  Host.dotGeneral dot_S16x104448x512_S16x512x1024_S16x104448x1024_2_1_1_2_0_0 none (hidden x g u)
    (shapeCast _ (extractStridedSlice S1x16x512x1024 ![0, 0, 0, 0] d slices_S2x16x512x1024_S1x16x512x1024_0_0_0_0) shapeCasts_S1x16x512x1024_S16x512x1024)

theorem each_apply (e : Fin 16) (r : Fin 104448) (o : Fin 1024) :
    (each x g u d : S16x104448x1024.Idx → EReal) (ix3 e r o)
      = expert (fun k => x (ix2 r k)) (fun k f => g (ix4 0 e k f)) (fun k f => u (ix4 0 e k f)) (fun f => d (ix4 0 e f o)) := by
  have h : (each x g u d : S16x104448x1024.Idx → EReal) (ix3 e r o) = ∑ f : Fin 512, (hidden x g u : S16x104448x512.Idx → EReal) (ix3 e r f) * d (ix4 0 e f o) := by
    pointwise [each]
  refine h.trans (Finset.sum_congr rfl fun f _ => ?_)
  rw [hidden_apply, proj_apply, proj_apply]

def result : FVec Ideal S104448x1024 .f32 :=
  Host.dotGeneral dot_S104448x16_S16x104448x1024_S104448x1024_1_0_n_2_0_1 none (combine ow us) (each x g u d)

theorem result_apply (hG : Good ow us) (r : Fin 104448) (o : Fin 1024) :
    (result x ow us g u d : S104448x1024.Idx → EReal) (ix2 r o) = routedRow ow us x g u d r o := by
  have h : (result x ow us g u d : S104448x1024.Idx → EReal) (ix2 r o)
      = ∑ e : Fin 16, (combine ow us : S104448x16.Idx → EReal) (ix2 r e) * (each x g u d : S16x104448x1024.Idx → EReal) (ix3 e r o) := by
    pointwise [result]
  refine h.trans ?_
  have ho : (ownerOf ow r).val = (ow (tileOf r)).toNat := Nat.mod_eq_of_lt (hG.owner _)
  unfold routedRow
  by_cases hu : us (tileOf r) = 1#32
  · rw [if_pos hu, Finset.sum_eq_single (ownerOf ow r)]
    · rw [combine_apply, chosen_apply ow us hG, if_pos ⟨hu, ho⟩, one_mul, each_apply]
    · intro e _ he
      rw [combine_apply, chosen_apply ow us hG, if_neg (fun h' => he (Fin.ext (h'.2.trans ho.symm))), zero_mul]
    · exact fun hn => absurd (Finset.mem_univ _) hn
  · rw [if_neg hu]
    refine Finset.sum_eq_zero fun e _ => ?_
    rw [combine_apply, chosen_apply ow us hG, if_neg (fun h' => hu h'.1), zero_mul]

end Cert.Experts.Ref

end
-- ==== Proof.ExpertMain.lean ====
/- The experts call under its precondition: the run of either program, and the result of the plain mathematics. -/
module

public import proofs.«01_k».proof.Proof.ExpertPre
public import proofs.«01_k».proof.Proof.ExpertRef

@[expose] public section

set_option maxRecDepth 16384

noncomputable section

namespace Cert.Experts

open Idealize.ShloMosaic Idealize.ShloMosaic.TcCoe Idealize.SL.Sem

section
open Cert.Kernel2Ideal Cert.Kernel2Ideal.Gen
variable {F : FTy → Type} [FloatOps F] (m : (ℓ : Loc nD τ sig) → Buf (Elt F) ℓ)

/-- The precondition on the launch memory, whatever the floats are. -/
def Routed : Prop := ∀ c : Dev nD, Cert.Pre_routed.fn (F := F) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) = fun _ => 1#1

/-- The two tables, as the one device holds them. -/
abbrev own : S204.Idx → BitVec 32 := m (((0 : Dev nD).tc : Thread nD τ).loc main_arg1)
abbrev used : S204.Idx → BitVec 32 := m (((0 : Dev nD).tc : Thread nD τ).loc main_arg2)

variable {m}

theorem Routed.good (h : Routed m) : Good (own m) (used m) :=
  Pre.good _ _ _ _ _ _ fun j => congrFun (h 0) j

theorem tabled : Tabled (own m) (used m) m :=
  ⟨fun c => by obtain rfl : c = 0 := Subsingleton.elim _ _; rfl, fun c => by obtain rfl : c = 0 := Subsingleton.elim _ _; rfl⟩

/-- Every argument is unchanged and every counter at zero. -/
theorem frame_of (ρ : Dev nD → PrngReg) (h : Routed m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ e => ⟨fun c => (e.1 c).2, e.2⟩) (run h.good m ρ tabled)

end

/-- The plain mathematics ends with the rows the kernel leaves. -/
theorem result_eq (m : (ℓ : Loc Cert.Kernel2Ideal.nD Cert.Kernel2Ideal.τ Cert.Kernel2Ideal.sig) → Buf (Elt Ideal) ℓ)
    (x : FVec Ideal Cert.Reference2Ideal.S104448x1024 .f32) (ow us : IVec Cert.Reference2Ideal.S204 32) (g u : FVec Ideal Cert.Reference2Ideal.S2x16x1024x512 .f32)
    (d : FVec Ideal Cert.Reference2Ideal.S2x16x512x1024 .f32) (c : Dev Cert.Kernel2Ideal.nD) (h : Routed m)
    (e0 : x = m ((c.tc : Thread Cert.Kernel2Ideal.nD Cert.Kernel2Ideal.τ).loc Cert.Kernel2Ideal.main_arg0))
    (e1 : ow = m ((c.tc : Thread Cert.Kernel2Ideal.nD Cert.Kernel2Ideal.τ).loc Cert.Kernel2Ideal.main_arg1))
    (e2 : us = m ((c.tc : Thread Cert.Kernel2Ideal.nD Cert.Kernel2Ideal.τ).loc Cert.Kernel2Ideal.main_arg2))
    (e3 : g = m ((c.tc : Thread Cert.Kernel2Ideal.nD Cert.Kernel2Ideal.τ).loc Cert.Kernel2Ideal.main_arg3))
    (e4 : u = m ((c.tc : Thread Cert.Kernel2Ideal.nD Cert.Kernel2Ideal.τ).loc Cert.Kernel2Ideal.main_arg4))
    (e5 : d = m ((c.tc : Thread Cert.Kernel2Ideal.nD Cert.Kernel2Ideal.τ).loc Cert.Kernel2Ideal.main_arg5)) :
    (Ref.result x ow us g u d : Cert.Kernel2Ideal.S104448x1024.Idx → EReal) = rows m c (own m) (used m) := by
  have f1 : ow = own m := e1.trans (tabled.1 c)
  have f2 : us = used m := e2.trans (tabled.2 c)
  funext i
  have hi : i = ix2 (i 0) (i 1) := by
    funext a
    fin_cases a <;> rfl
  rw [hi, f1, f2]
  refine (Ref.result_apply x _ _ g u d h.good (i 0) (i 1)).trans ?_
  rw [e0, e3, e4, e5]
  rfl

end Cert.Experts

end
-- ==== Proof.ExpertBits.lean ====
/- The experts call on machine words: its program is the idealized one's, so its run is too. -/
module

public import proofs.«01_k».proof.Proof.ExpertMain
public import proofs.«01_k».proof.Proof.Gen.Kernel2
public import proofs.«01_k».proof.Defs

@[expose] public section

set_option maxRecDepth 16384

noncomputable section

namespace Cert.Experts.Word

open Idealize.ShloMosaic Idealize.SL.Sem

set_option maxHeartbeats 2000000 in
/-- The kernel's body is the same program. -/
theorem body_eq : Cert.Kernel2.cc0_moe_experts (F := Bits) = Cert.Kernel2Ideal.cc0_moe_experts (F := Bits) := by
  delta Cert.Kernel2.cc0_moe_experts Cert.Kernel2Ideal.cc0_moe_experts
  rfl

set_option maxHeartbeats 2000000 in
theorem table_eq : Cert.Kernel2.defs₀ (F := Bits) = Cert.Kernel2Ideal.defs₀ (F := Bits) := by
  refine congrArg (Defs.onTc (nD := Cert.Kernel2.nD) (τ := Cert.Kernel2.τ) (sig := Cert.Kernel2.sig)) ?_
  funext l p
  obtain ⟨l, hl⟩ := l
  cases l with
  | zero => exact congrFun (congrFun (congrFun (congrFun (congrFun (congrFun (congrFun (congrFun (congrFun (congrFun (congrFun (congrFun (congrFun (congrFun (congrFun body_eq _) _) _) _) _) _) _) _) _) _) _) _) _) _) _
  | succ n => exact absurd hl (by omega)

theorem calls_eq : Cert.Kernel2.pcfgs (F := Bits) = Cert.Kernel2Ideal.pcfgs (F := Bits) := rfl

theorem defs_eq : Cert.Kernel2.defs (F := Bits) = Cert.Kernel2Ideal.defs (F := Bits) :=
  congrArg (Pipeline.defs (Cert.Kernel2Ideal.pcfgs (F := Bits))) table_eq

theorem main_eq : Cert.Kernel2.main (F := Bits) = Cert.Kernel2Ideal.main (F := Bits) := rfl

theorem frame (h : Cert.Kernel2.Facts) (p : Cert.Pre_routed.Facts) : Cert.quiescent_Kernel2 := fun m g hP => by
  have r := frame_of (F := Bits) (m := m) g hP
  rw [← defs_eq, ← main_eq] at r
  exact r

end Cert.Experts.Word

end
-- ==== Proof.lean ====
/- The claims: the programs end with no transfer outstanding and their arguments as they were, and each
   kernel's result is its reference's, number by number, under its precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_mixed
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Main
public import proofs.«01_k».proof.Proof.PostMain
public import proofs.«01_k».proof.Proof.SecondExpertBits
public import proofs.«01_k».proof.Proof.SecondProjMain
public import proofs.«01_k».proof.Proof.SecondPostMain
public import proofs.«01_k».proof.Proof.ProjMain
public import proofs.«01_k».proof.Proof.ExpertMain
public import proofs.«01_k».proof.Proof.ExpertBits
public import Idealize.ShloMosaic.Adequacy
public import Idealize.ShloMosaic.Init

@[expose] public section

noncomputable section

namespace Cert.Proof

open Idealize.ShloMosaic Idealize.SL.Sem

/-- The reference leaves its arguments alone and no counter raised: it has no semaphores. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- So does the experts call's. -/
theorem ref2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
        ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- And the input projection's. -/
theorem ref3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
        ∧ r.2.sem = fun _ => 0) :=
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m g)

/-- And that of the call after the mixers. -/
theorem ref4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
        ∧ r.2.sem = fun _ => 0) :=
  (θ_run Cert.Reference4Ideal.defs _ _).mono
    (fun r h => ⟨fun c => (h c).2.2, Idealize.ShloMosaic.sem_eq_zero_of_no_sems (by decide) r.2⟩)
    (Cert.Reference4Ideal.Value.run (F := Ideal) m g)

/-- And of the second layer: the experts call's. -/
theorem ref5_frame (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
        ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- The second layer's input projection's. -/
theorem ref6_frame (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
        ∧ r.2.sem = fun _ => 0) :=
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m g)

/-- And that of its call after the mixers. -/
theorem ref7_frame (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
        ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
        ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
        ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
        ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
        ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
        ∧ r.2.sem = fun _ => 0) :=
  (θ_run Cert.Reference7Ideal.defs _ _).mono
    (fun r h => ⟨fun c => (h c).2.2, Idealize.ShloMosaic.sem_eq_zero_of_no_sems (by decide) r.2⟩)
    (Cert.Reference7Ideal.Value.run (F := Ideal) m g)

theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Pre_finite.Gen.facts, Cert.Pre_routed.Gen.facts, Cert.Pre_mixed.Gen.facts, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · exact fun m g _ => ref_frame m g
  · exact fun m g _ => ref_frame m g
  · exact fun m g h => Cert.Experts.Word.frame _ _ m g h
  · exact fun m g h => Cert.Experts.frame_of (F := Ideal) g h
  · exact fun m g _ => ref2_frame m g
  · exact fun m g _ => ref2_frame m g
  · exact fun m g _ => Cert.Kernel3.Gen.frame m g
  · exact fun m g _ => Cert.Kernel3Ideal.Gen.frame m g
  · exact fun m g _ => ref3_frame m g
  · exact fun m g _ => Cert.Kernel4.Gen.frame m g
  · exact fun m g _ => Cert.Kernel4Ideal.Gen.frame m g
  · exact fun m g _ => Cert.Kernel4Ideal.Gen.frame m g
  · exact fun m g _ => ref4_frame m g
  · exact fun m g _ => ref4_frame m g
  · exact fun m g h => Cert.SecondExperts.Word.frame _ _ m g h
  · exact fun m g h => Cert.SecondExperts.frame_of (F := Ideal) g h
  · exact fun m g _ => ref5_frame m g
  · exact fun m g _ => ref5_frame m g
  · exact fun m g _ => Cert.Kernel6.Gen.frame m g
  · exact fun m g _ => Cert.Kernel6Ideal.Gen.frame m g
  · exact fun m g _ => ref6_frame m g
  · exact fun m g _ => Cert.Kernel7.Gen.frame m g
  · exact fun m g _ => Cert.Kernel7Ideal.Gen.frame m g
  · exact fun m g _ => Cert.Kernel7Ideal.Gen.frame m g
  · exact fun m g _ => ref7_frame m g
  · exact fun m g _ => ref7_frame m g
  · trivial
  · intro m g m' g' hP e
    refine ⟨fun c => Cert.KernelIdeal.Value.G9 m c, Cert.KernelIdeal.Value.run m g, ?_⟩
    refine (θ_run Cert.ReferenceIdeal.defs _ _).mono (fun r h c => ⟨(h c).1.trans ?_, (h c).2⟩) (Cert.ReferenceIdeal.Value.run (F := Ideal) m' g')
    exact Cert.Mlstm.value m m' c (Cert.Mlstm.ker_finite m hP c) (Cert.Mlstm.args_eq m m' c (e c))
  · trivial
  · intro m g m' g' hP e
    have h : Cert.Experts.Routed (F := Ideal) m := hP
    refine ⟨fun c => Cert.Experts.rows m c (Cert.Experts.own m) (Cert.Experts.used m), ?_, ?_⟩
    · exact (θ_run Cert.Kernel2Ideal.defs _ _).mono
        (fun r q c => ⟨((q.1 c).1).trans (Cert.Experts.out_value h.good m g c), (q.1 c).2⟩) (Cert.Experts.run h.good m g Cert.Experts.tabled)
    · refine (θ_run Cert.Reference2Ideal.defs _ _).mono (fun r q c => ⟨(q c).1.trans ?_, (q c).2⟩) (Cert.Reference2Ideal.Value.run (F := Ideal) m' g')
      exact Cert.Experts.result_eq m _ _ _ _ _ _ c h (e c).1 (e c).2.1 (e c).2.2.1 (e c).2.2.2.1 (e c).2.2.2.2.1 (e c).2.2.2.2.2
  · trivial
  · intro m g m' g' hP e
    refine ⟨fun c => Cert.Projection.left m g c 5, fun c => Cert.Projection.left m g c 6, fun c => Cert.Projection.left m g c 7, fun c => Cert.Projection.left m g c 8,
      Cert.Projection.run m g, ?_⟩
    refine (θ_run Cert.Reference3Ideal.defs _ _).mono (fun r q c => ?_) (Cert.Reference3Ideal.Value.run (F := Ideal) m' g')
    have h := Cert.Projection.ref_arrays m c m' (e c).1 (e c).2.1 (e c).2.2.1 (e c).2.2.2.1 (e c).2.2.2.2
    refine ⟨(q c).1.trans (Eq.trans ?_ (Cert.Projection.ml_eq m g c).symm), (q c).2.1.trans (Eq.trans ?_ (Cert.Projection.dil_eq m g c).symm),
      (q c).2.2.1.trans (Eq.trans ?_ (Cert.Projection.sb_eq m g c).symm), (q c).2.2.2.1.trans (Eq.trans ?_ (Cert.Projection.gate_eq m g c).symm), (q c).2.2.2.2⟩
    · exact congrArg Cert.Projection.Ref.padded h
    · exact congrArg Cert.Projection.Ref.dilated h
    · exact congrArg Cert.Projection.Ref.broken h
    · exact congrArg Cert.Projection.Ref.gates h
  · trivial
  · intro m g m' g' hP e
    refine ⟨fun c => Cert.Post.resid m c, fun c => Cert.Post.Ref.second (Cert.Post.inM m c) (Cert.Post.resid m c), ?_, ?_⟩
    · exact (θ_run Cert.Kernel4Ideal.defs _ _).mono
        (fun r q c => ⟨(q c).1.trans (Cert.Post.first_eq m c hP), (q c).2.1.trans (Cert.Post.second_eq m c hP), (q c).2.2.2.2⟩) (Cert.Kernel4Ideal.Value.run_blocks m g)
    · refine (θ_run Cert.Reference4Ideal.defs _ _).mono (fun r q c => ?_) (Cert.Reference4Ideal.Value.run (F := Ideal) m' g')
      have h := Cert.Post.ref_first m c m' (e c).1 (e c).2.1 (e c).2.2.1 (e c).2.2.2.1 (e c).2.2.2.2.1 (e c).2.2.2.2.2.1 (e c).2.2.2.2.2.2.1
      exact ⟨(q c).1.trans h.1, (q c).2.1.trans h.2, (q c).2.2⟩
  · trivial
  · intro m g m' g' hP e
    have h : Cert.SecondExperts.Routed (F := Ideal) m := hP
    refine ⟨fun c => Cert.SecondExperts.rows m c (Cert.SecondExperts.own m) (Cert.SecondExperts.used m), ?_, ?_⟩
    · exact (θ_run Cert.Kernel5Ideal.defs _ _).mono
        (fun r q c => ⟨((q.1 c).1).trans (Cert.SecondExperts.out_value h.good m g c), (q.1 c).2⟩) (Cert.SecondExperts.run h.good m g Cert.SecondExperts.tabled)
    · refine (θ_run Cert.Reference5Ideal.defs _ _).mono (fun r q c => ⟨(q c).1.trans ?_, (q c).2⟩) (Cert.Reference5Ideal.Value.run (F := Ideal) m' g')
      exact Cert.SecondExperts.result_eq m _ _ _ _ _ _ c h (e c).1 (e c).2.1 (e c).2.2.1 (e c).2.2.2.1 (e c).2.2.2.2.1 (e c).2.2.2.2.2
  · trivial
  · intro m g m' g' hP e
    refine ⟨fun c => Cert.SecondProjection.left m g c 5, fun c => Cert.SecondProjection.left m g c 6, fun c => Cert.SecondProjection.left m g c 7, fun c => Cert.SecondProjection.left m g c 8,
      Cert.SecondProjection.run m g, ?_⟩
    refine (θ_run Cert.Reference6Ideal.defs _ _).mono (fun r q c => ?_) (Cert.Reference6Ideal.Value.run (F := Ideal) m' g')
    have h := Cert.SecondProjection.ref_arrays m c m' (e c).1 (e c).2.1 (e c).2.2.1 (e c).2.2.2.1 (e c).2.2.2.2
    refine ⟨(q c).1.trans (Eq.trans ?_ (Cert.SecondProjection.ml_eq m g c).symm), (q c).2.1.trans (Eq.trans ?_ (Cert.SecondProjection.dil_eq m g c).symm),
      (q c).2.2.1.trans (Eq.trans ?_ (Cert.SecondProjection.sb_eq m g c).symm), (q c).2.2.2.1.trans (Eq.trans ?_ (Cert.SecondProjection.gate_eq m g c).symm), (q c).2.2.2.2⟩
    · exact congrArg Cert.SecondProjection.Ref.padded h
    · exact congrArg Cert.SecondProjection.Ref.dilated h
    · exact congrArg Cert.SecondProjection.Ref.broken h
    · exact congrArg Cert.SecondProjection.Ref.gates h
  · trivial
  · intro m g m' g' hP e
    refine ⟨fun c => Cert.SecondPost.resid m c, fun c => Cert.SecondPost.Ref.second (Cert.SecondPost.inM m c) (Cert.SecondPost.resid m c), ?_, ?_⟩
    · exact (θ_run Cert.Kernel7Ideal.defs _ _).mono
        (fun r q c => ⟨(q c).1.trans (Cert.SecondPost.first_eq m c hP), (q c).2.1.trans (Cert.SecondPost.second_eq m c hP), (q c).2.2.2.2⟩) (Cert.Kernel7Ideal.Value.run_blocks m g)
    · refine (θ_run Cert.Reference7Ideal.defs _ _).mono (fun r q c => ?_) (Cert.Reference7Ideal.Value.run (F := Ideal) m' g')
      have h := Cert.SecondPost.ref_first m c m' (e c).1 (e c).2.1 (e c).2.2.1 (e c).2.2.2.1 (e c).2.2.2.2.1 (e c).2.2.2.2.2.1 (e c).2.2.2.2.2.2.1
      exact ⟨(q c).1.trans h.1, (q c).2.1.trans h.2, (q c).2.2⟩

end Cert.Proof

end
